-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs [hPre_finite_inputs : Cert.Pre_finite_inputs.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.1 = (fun _ => 1#1)
    ∧ (Cert.Pre_finite_inputs.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs [hPre_finite_inputs : Cert.Pre_finite_inputs.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.1 = (fun _ => 1#1)
    ∧ (Cert.Pre_finite_inputs.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite_inputs [hKernel2Ideal : Cert.Kernel2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite_inputs [hReference2Ideal : Cert.Reference2Ideal.Facts] [hPre_finite_inputs : Cert.Pre_finite_inputs.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_inputs [hKernel2Ideal : Cert.Kernel2Ideal.Facts] [hReference2Ideal : Cert.Reference2Ideal.Facts] [hPre_finite_inputs : Cert.Pre_finite_inputs.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v137_0)) (v1 : (c : Dev Cert.Kernel2Ideal.nD) → Buf (Elt Ideal) ((c.tc : Thread Cert.Kernel2Ideal.nD Cert.Kernel2Ideal.τ).loc Cert.Kernel2Ideal.main_v137_1)) (v2 : (c : Dev Cert.Kernel2Ideal.nD) → Buf (Elt Ideal) ((c.tc : Thread Cert.Kernel2Ideal.nD Cert.Kernel2Ideal.τ).loc Cert.Kernel2Ideal.main_v137_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v137_0) = v0 c
          ∧ r.2.mem ((c.tc : Thread Cert.Kernel2Ideal.nD Cert.Kernel2Ideal.τ).loc Cert.Kernel2Ideal.main_v137_1) = v1 c
          ∧ r.2.mem ((c.tc : Thread Cert.Kernel2Ideal.nD Cert.Kernel2Ideal.τ).loc Cert.Kernel2Ideal.main_v137_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v242) = v0 c
          ∧ r.2.mem ((c.tc : Thread Cert.Reference2Ideal.nD Cert.Reference2Ideal.τ).loc Cert.Reference2Ideal.main_v240) = v1 c
          ∧ r.2.mem ((c.tc : Thread Cert.Reference2Ideal.nD Cert.Reference2Ideal.τ).loc Cert.Reference2Ideal.main_v248) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)) (v3 : (c : Dev Cert.Kernel3Ideal.nD) → Buf (Elt Ideal) ((c.tc : Thread Cert.Kernel3Ideal.nD Cert.Kernel3Ideal.τ).loc Cert.Kernel3Ideal.main_v13_3)) (v4 : (c : Dev Cert.Kernel3Ideal.nD) → Buf (Elt Ideal) ((c.tc : Thread Cert.Kernel3Ideal.nD Cert.Kernel3Ideal.τ).loc Cert.Kernel3Ideal.main_v13_4)) (v5 : (c : Dev Cert.Kernel3Ideal.nD) → Buf (Elt Ideal) ((c.tc : Thread Cert.Kernel3Ideal.nD Cert.Kernel3Ideal.τ).loc Cert.Kernel3Ideal.main_v13_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_v13_3) = v3 c
          ∧ r.2.mem ((c.tc : Thread Cert.Kernel3Ideal.nD Cert.Kernel3Ideal.τ).loc Cert.Kernel3Ideal.main_v13_4) = v4 c
          ∧ r.2.mem ((c.tc : Thread Cert.Kernel3Ideal.nD Cert.Kernel3Ideal.τ).loc Cert.Kernel3Ideal.main_v13_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v122) = v0 c
          ∧ r.2.mem ((c.tc : Thread Cert.Reference3Ideal.nD Cert.Reference3Ideal.τ).loc Cert.Reference3Ideal.main_v125) = v1 c
          ∧ r.2.mem ((c.tc : Thread Cert.Reference3Ideal.nD Cert.Reference3Ideal.τ).loc Cert.Reference3Ideal.main_v127) = v2 c
          ∧ r.2.mem ((c.tc : Thread Cert.Reference3Ideal.nD Cert.Reference3Ideal.τ).loc Cert.Reference3Ideal.main_v129) = v3 c
          ∧ r.2.mem ((c.tc : Thread Cert.Reference3Ideal.nD Cert.Reference3Ideal.τ).loc Cert.Reference3Ideal.main_v132) = v4 c
          ∧ r.2.mem ((c.tc : Thread Cert.Reference3Ideal.nD Cert.Reference3Ideal.τ).loc Cert.Reference3Ideal.main_v141) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def preserves_Kernel5_Kernel5Ideal : Prop :=
  True

def preserves_Kernel6_Kernel6Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_inputs : Cert.Pre_finite_inputs.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_inputs (hKernel2Ideal := hKernel2Ideal) (hPre_finite_inputs := hPre_finite_inputs)
    ∧ quiescent_Reference2Ideal (hReference2Ideal := hReference2Ideal)
    ∧ quiescent_Reference2Ideal_pre_finite_inputs (hReference2Ideal := hReference2Ideal) (hPre_finite_inputs := hPre_finite_inputs)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_inputs (hKernel2Ideal := hKernel2Ideal) (hReference2Ideal := hReference2Ideal) (hPre_finite_inputs := hPre_finite_inputs)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ preserves_Kernel5_Kernel5Ideal
    ∧ preserves_Kernel6_Kernel6Ideal
-- ==== Pre_finite_inputs.lean ====
abbrev S4096x3072 : Shape := ⟨2, ![4096, 3072]⟩
abbrev S4096x1024 : Shape := ⟨2, ![4096, 1024]⟩
abbrev S1x4x512 : Shape := ⟨3, ![1, 4, 512]⟩
abbrev S1x512 : Shape := ⟨2, ![1, 512]⟩
abbrev S1x8x64x64 : Shape := ⟨4, ![1, 8, 64, 64]⟩
abbrev S_ : Shape := ⟨0, ![]⟩
abbrev S4096x512 : Shape := ⟨2, ![4096, 512]⟩

class Facts : Prop where
  slices_S4096x3072_S4096x1024_0_0 : S4096x3072.Slices ![0, 0] S4096x1024
  bcast_S_S4096x1024 : S_.BroadcastsInDim S4096x1024 (![] : Fin 0 → Fin S4096x1024.rank)
  slices_S4096x1024_S4096x512_0_0 : S4096x1024.Slices ![0, 0] S4096x512
  bcast_S_S4096x512 : S_.BroadcastsInDim S4096x512 (![] : Fin 0 → Fin S4096x512.rank)
  bcast_S_S1x4x512 : S_.BroadcastsInDim S1x4x512 (![] : Fin 0 → Fin S1x4x512.rank)
  bcast_S_S1x512 : S_.BroadcastsInDim S1x512 (![] : Fin 0 → Fin S1x512.rank)
  bcast_S_S1x8x64x64 : S_.BroadcastsInDim S1x8x64x64 (![] : Fin 0 → Fin S1x8x64x64.rank)

variable [Facts]

def fn_part1 {F : FTy → Type} [FloatOps F] (main_arg8 : FVec F S1x512 .f32) (main_v3 : IVec S4096x1024 1) (main_v7 : IVec S4096x512 1) (main_v10 : IVec S1x4x512 1) (main_v13 : IVec S1x512 1) (main_v16 : IVec S1x8x64x64 1) (main_v17 : FVec F S1x8x64x64 .f32) (main_cst_4 : FVec F S_ .f32) : IVec S4096x1024 1 × IVec S4096x512 1 × IVec S1x4x512 1 × IVec S1x512 1 × IVec S1x8x64x64 1 × IVec S1x8x64x64 1 × IVec S1x512 1 :=
  let main_v18 : FVec F S1x8x64x64 .f32 := broadcastInDim S1x8x64x64 ![] bcast_S_S1x8x64x64 main_cst_4
  let main_v19 : IVec S1x8x64x64 1 := cmpf .olt main_v17 main_v18
  let main_v20 : FVec F S1x512 .f32 := Host.absf main_arg8
  let main_cst_5 : FVec F S_ .f32 := constant S_ .f32 0x7F800000#32
  let main_v21 : FVec F S1x512 .f32 := broadcastInDim S1x512 ![] bcast_S_S1x512 main_cst_5
  let main_v22 : IVec S1x512 1 := cmpf .olt main_v20 main_v21
  (main_v3, main_v7, main_v10, main_v13, main_v16, main_v19, main_v22)

def fn {F : FTy → Type} [FloatOps F] (main_arg0 : FVec F S4096x3072 .f32) (main_arg1 : FVec F S4096x1024 .f32) (main_arg2 : FVec F S1x4x512 .f32) (main_arg3 : FVec F S1x512 .f32) (main_arg4 : FVec F S1x8x64x64 .f32) (main_arg5 : FVec F S1x512 .f32) (main_arg6 : FVec F S1x8x64x64 .f32) (main_arg7 : FVec F S1x512 .f32) (main_arg8 : FVec F S1x512 .f32) : IVec S4096x1024 1 × IVec S4096x512 1 × IVec S1x4x512 1 × IVec S1x512 1 × IVec S1x8x64x64 1 × IVec S1x8x64x64 1 × IVec S1x512 1 :=
  let main_v0 : FVec F S4096x1024 .f32 := (extractStridedSlice S4096x1024 ![0, 0] · slices_S4096x3072_S4096x1024_0_0) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x512 .f32 := (extractStridedSlice S4096x512 ![0, 0] · slices_S4096x1024_S4096x512_0_0) main_arg1
  let main_v5 : FVec F S4096x512 .f32 := Host.absf main_v4
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_v8 : FVec F S1x4x512 .f32 := Host.absf main_arg2
  let main_cst_1 : FVec F S_ .f32 := constant S_ .f32 0x7F800000#32
  let main_v9 : FVec F S1x4x512 .f32 := broadcastInDim S1x4x512 ![] bcast_S_S1x4x512 main_cst_1
  let main_v10 : IVec S1x4x512 1 := cmpf .olt main_v8 main_v9
  let main_v11 : FVec F S1x512 .f32 := Host.absf main_arg3
  let main_cst_2 : FVec F S_ .f32 := constant S_ .f32 0x7F800000#32
  let main_v12 : FVec F S1x512 .f32 := broadcastInDim S1x512 ![] bcast_S_S1x512 main_cst_2
  let main_v13 : IVec S1x512 1 := cmpf .olt main_v11 main_v12
  let main_v14 : FVec F S1x8x64x64 .f32 := Host.absf main_arg4
  let main_cst_3 : FVec F S_ .f32 := constant S_ .f32 0x7F800000#32
  let main_v15 : FVec F S1x8x64x64 .f32 := broadcastInDim S1x8x64x64 ![] bcast_S_S1x8x64x64 main_cst_3
  let main_v16 : IVec S1x8x64x64 1 := cmpf .olt main_v14 main_v15
  let main_v17 : FVec F S1x8x64x64 .f32 := Host.absf main_arg6
  let main_cst_4 : FVec F S_ .f32 := constant S_ .f32 0x7F800000#32
  fn_part1 (F := F) main_arg8 main_v3 main_v7 main_v10 main_v13 main_v16 main_v17 main_cst_4
-- ==== Kernel.lean ====
abbrev S4096x1024 : Shape := ⟨2, ![4096, 1024]⟩
abbrev S4096x3072 : Shape := ⟨2, ![4096, 3072]⟩
abbrev S1x1024 : Shape := ⟨2, ![1, 1024]⟩
abbrev S1x1024x3072 : Shape := ⟨3, ![1, 1024, 3072]⟩
abbrev S1024x3072 : Shape := ⟨2, ![1024, 3072]⟩
abbrev S1024x4x768 : Shape := ⟨3, ![1024, 4, 768]⟩
abbrev S4x1024x768 : Shape := ⟨3, ![4, 1024, 768]⟩
abbrev S4096x2048 : Shape := ⟨2, ![4096, 2048]⟩
abbrev S_ : Shape := ⟨0, ![]⟩
abbrev S8x128 : Shape := ⟨2, ![8, 128]⟩
abbrev S8x1024 : Shape := ⟨2, ![8, 1024]⟩
abbrev S512x1024 : Shape := ⟨2, ![512, 1024]⟩
abbrev S512x2048 : Shape := ⟨2, ![512, 2048]⟩
abbrev S512x768 : Shape := ⟨2, ![512, 768]⟩
abbrev S1x1024x768 : Shape := ⟨3, ![1, 1024, 768]⟩
abbrev S1024x768 : Shape := ⟨2, ![1024, 768]⟩
abbrev S512x256 : Shape := ⟨2, ![512, 256]⟩
abbrev S512x512 : Shape := ⟨2, ![512, 512]⟩
abbrev S1x1024x256 : Shape := ⟨3, ![1, 1024, 256]⟩
abbrev S1024x256 : Shape := ⟨2, ![1024, 256]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 17
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x3072, .f32⟩
  | .hbm, ⟨3, _⟩ => ⟨S1x1024, .f32⟩
  | .hbm, ⟨4, _⟩ => ⟨S1x1024x3072, .f32⟩
  | .hbm, ⟨5, _⟩ => ⟨S1024x3072, .f32⟩
  | .hbm, ⟨6, _⟩ => ⟨S1024x4x768, .f32⟩
  | .hbm, ⟨7, _⟩ => ⟨S4x1024x768, .f32⟩
  | .hbm, ⟨8, _⟩ => ⟨S4x1024x768, .bf16⟩
  | .hbm, ⟨9, _⟩ => ⟨S4096x1024, .f32⟩
  | .hbm, ⟨10, _⟩ => ⟨S4096x1024, .bf16⟩
  | .hbm, ⟨11, _⟩ => ⟨S4096x2048, .f32⟩
  | .hbm, ⟨12, _⟩ => ⟨S4096x2048, .bf16⟩
  | .hbm, ⟨13, _⟩ => ⟨S_, .f32⟩
  | .hbm, ⟨14, _⟩ => ⟨S8x128, .f32⟩
  | .hbm, ⟨15, _⟩ => ⟨S4096x1024, .f32⟩
  | .hbm, ⟨16, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S4x1024x768, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4096x1024 : Shape := ⟨2, ![4096, 1024]⟩
abbrev S4096x3072 : Shape := ⟨2, ![4096, 3072]⟩
abbrev S1x1024 : Shape := ⟨2, ![1, 1024]⟩
abbrev S1x1024x3072 : Shape := ⟨3, ![1, 1024, 3072]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x3072 : Shape := ⟨2, ![1024, 3072]⟩
abbrev S7x1024 : Shape := ⟨2, ![7, 1024]⟩
abbrev S8x1024 : Shape := ⟨2, ![8, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x3072, .f32⟩
  | .hbm, ⟨3, _⟩ => ⟨S1x1024, .f32⟩
  | .hbm, ⟨4, _⟩ => ⟨S1x1024x3072, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x3072, .f32⟩
  | .hbm, ⟨27, _⟩ => ⟨S4096x3072, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S_, .f32⟩
  | .hbm, ⟨57, _⟩ => ⟨S7x1024, .f32⟩
  | .hbm, ⟨58, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel2.lean ====
abbrev S4096x3072 : Shape := ⟨2, ![4096, 3072]⟩
abbrev S4096x1024 : Shape := ⟨2, ![4096, 1024]⟩
abbrev S1x4x512 : Shape := ⟨3, ![1, 4, 512]⟩
abbrev S1x512 : Shape := ⟨2, ![1, 512]⟩
abbrev S1x8x64x64 : Shape := ⟨4, ![1, 8, 64, 64]⟩
abbrev S4096x512 : Shape := ⟨2, ![4096, 512]⟩
abbrev S4x512 : Shape := ⟨2, ![4, 512]⟩
abbrev S512 : Shape := ⟨1, ![512]⟩
abbrev S_ : Shape := ⟨0, ![]⟩
abbrev S3x512 : Shape := ⟨2, ![3, 512]⟩
abbrev S4099x512 : Shape := ⟨2, ![4099, 512]⟩
abbrev S8x64x64 : Shape := ⟨3, ![8, 64, 64]⟩
abbrev S4096x8x64 : Shape := ⟨3, ![4096, 8, 64]⟩
abbrev S4096x8x64x1 : Shape := ⟨4, ![4096, 8, 64, 1]⟩
abbrev S4096x8x64x64 : Shape := ⟨4, ![4096, 8, 64, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩
abbrev S1x4096x512 : Shape := ⟨3, ![1, 4096, 512]⟩
abbrev S4096x4096x512 : Shape := ⟨3, ![4096, 4096, 512]⟩
abbrev S4096x1x512 : Shape := ⟨3, ![4096, 1, 512]⟩
abbrev S4096x2048 : Shape := ⟨2, ![4096, 2048]⟩
abbrev S4x4x128 : Shape := ⟨3, ![4, 4, 128]⟩
abbrev S512x64 : Shape := ⟨2, ![512, 64]⟩
abbrev S4x4096x512 : Shape := ⟨3, ![4, 4096, 512]⟩
abbrev S8x128 : Shape := ⟨2, ![8, 128]⟩
abbrev S512x128 : Shape := ⟨2, ![512, 128]⟩
abbrev S8x512 : Shape := ⟨2, ![8, 512]⟩
abbrev S512x512 : Shape := ⟨2, ![512, 512]⟩
abbrev S4x512x512 : Shape := ⟨3, ![4, 512, 512]⟩
abbrev S512x1024 : Shape := ⟨2, ![512, 1024]⟩
abbrev S64x512 : Shape := ⟨2, ![64, 512]⟩
abbrev S1x1x128 : Shape := ⟨3, ![1, 1, 128]⟩
abbrev S1x128 : Shape := ⟨2, ![1, 128]⟩
abbrev S504x512 : Shape := ⟨2, ![504, 512]⟩
abbrev S1x512x512 : Shape := ⟨3, ![1, 512, 512]⟩
abbrev S64x8x512 : Shape := ⟨3, ![64, 8, 512]⟩

abbrev nBuf : Space → Nat
  | .hbm => 192
  | .vmem => 33
  | .smem => 0
  | _ => 0

abbrev hbmTy0_0 (i : Nat) : BufTy := match i % 128 with
  | 0 => ⟨S4096x3072, .f32⟩
  | 1 => ⟨S4096x1024, .f32⟩
  | 2 => ⟨S1x4x512, .f32⟩
  | 3 => ⟨S1x512, .f32⟩
  | 4 => ⟨S1x8x64x64, .f32⟩
  | 5 => ⟨S1x512, .f32⟩
  | 6 => ⟨S1x8x64x64, .f32⟩
  | 7 => ⟨S1x512, .f32⟩
  | 8 => ⟨S1x512, .f32⟩
  | 9 => ⟨S4096x512, .f32⟩
  | 10 => ⟨S4096x512, .f32⟩
  | 11 => ⟨S4096x512, .f32⟩
  | 12 => ⟨S4096x512, .f32⟩
  | 13 => ⟨S4096x512, .f32⟩
  | 14 => ⟨S4096x512, .f32⟩
  | 15 => ⟨S4x512, .f32⟩
  | 16 => ⟨S512, .f32⟩
  | 17 => ⟨S_, .f32⟩
  | 18 => ⟨S3x512, .f32⟩
  | 19 => ⟨S4099x512, .f32⟩
  | 20 => ⟨S4096x512, .f32⟩
  | 21 => ⟨S1x512, .f32⟩
  | 22 => ⟨S512, .f32⟩
  | 23 => ⟨S1x512, .f32⟩
  | 24 => ⟨S4096x512, .f32⟩
  | 25 => ⟨S4096x512, .f32⟩
  | 26 => ⟨S1x512, .f32⟩
  | 27 => ⟨S4096x512, .f32⟩
  | 28 => ⟨S4096x512, .f32⟩
  | 29 => ⟨S4096x512, .f32⟩
  | 30 => ⟨S1x512, .f32⟩
  | 31 => ⟨S512, .f32⟩
  | 32 => ⟨S1x512, .f32⟩
  | 33 => ⟨S4096x512, .f32⟩
  | 34 => ⟨S4096x512, .f32⟩
  | 35 => ⟨S4096x512, .f32⟩
  | 36 => ⟨S4096x512, .f32⟩
  | 37 => ⟨S1x512, .f32⟩
  | 38 => ⟨S512, .f32⟩
  | 39 => ⟨S1x512, .f32⟩
  | 40 => ⟨S4096x512, .f32⟩
  | 41 => ⟨S4096x512, .f32⟩
  | 42 => ⟨S4096x512, .f32⟩
  | 43 => ⟨S4096x512, .f32⟩
  | 44 => ⟨S1x512, .f32⟩
  | 45 => ⟨S512, .f32⟩
  | 46 => ⟨S1x512, .f32⟩
  | 47 => ⟨S4096x512, .f32⟩
  | 48 => ⟨S4096x512, .f32⟩
  | 49 => ⟨S4096x512, .f32⟩
  | 50 => ⟨S8x64x64, .f32⟩
  | 51 => ⟨S512, .f32⟩
  | 52 => ⟨S8x64x64, .f32⟩
  | 53 => ⟨S512, .f32⟩
  | 54 => ⟨S512, .f32⟩
  | 55 => ⟨S4096x8x64, .f32⟩
  | 56 => ⟨S4096x8x64x1, .f32⟩
  | 57 => ⟨S1x8x64x64, .f32⟩
  | 58 => ⟨S4096x8x64x64, .f32⟩
  | 59 => ⟨S4096x8x64x64, .f32⟩
  | 60 => ⟨S4096x8x64x64, .f32⟩
  | 61 => ⟨S_, .f32⟩
  | 62 => ⟨S4096x8x64, .f32⟩
  | 63 => ⟨S4096x512, .f32⟩
  | 64 => ⟨S1x512, .f32⟩
  | 65 => ⟨S4096x512, .f32⟩
  | 66 => ⟨S4096x512, .f32⟩
  | 67 => ⟨S4096x512, .f32⟩
  | 68 => ⟨S4096x512, .f32⟩
  | 69 => ⟨S_, .f32⟩
  | 70 => ⟨S4096x512, .f32⟩
  | 71 => ⟨S4096x512, .f32⟩
  | 72 => ⟨S_, .f32⟩
  | 73 => ⟨S4096x512, .f32⟩
  | 74 => ⟨S4096x512, .f32⟩
  | 75 => ⟨S4096x8x64x1, .f32⟩
  | 76 => ⟨S1x8x64x64, .f32⟩
  | 77 => ⟨S4096x8x64x64, .f32⟩
  | 78 => ⟨S4096x8x64x64, .f32⟩
  | 79 => ⟨S4096x8x64x64, .f32⟩
  | 80 => ⟨S_, .f32⟩
  | 81 => ⟨S4096x8x64, .f32⟩
  | 82 => ⟨S4096x512, .f32⟩
  | 83 => ⟨S1x512, .f32⟩
  | 84 => ⟨S4096x512, .f32⟩
  | 85 => ⟨S4096x512, .f32⟩
  | 86 => ⟨S4096x512, .f32⟩
  | 87 => ⟨S4096x512, .f32⟩
  | 88 => ⟨S_, .f32⟩
  | 89 => ⟨S4096x512, .f32⟩
  | 90 => ⟨S4096x512, .f32⟩
  | 91 => ⟨S_, .f32⟩
  | 92 => ⟨S4096x512, .f32⟩
  | 93 => ⟨S4096x512, .f32⟩
  | 94 => ⟨S_, .f32⟩
  | 95 => ⟨S4096x512, .f32⟩
  | 96 => ⟨S4096x512, .f32⟩
  | 97 => ⟨S512, .f32⟩
  | 98 => ⟨S_, .f32⟩
  | 99 => ⟨S512, .f32⟩
  | 100 => ⟨S512, .f32⟩
  | 101 => ⟨S512, .f32⟩
  | 102 => ⟨S512, .f32⟩
  | 103 => ⟨S512, .i1⟩
  | 104 => ⟨S512, .f32⟩
  | 105 => ⟨S512, .f32⟩
  | 106 => ⟨S512, .f32⟩
  | 107 => ⟨S512, .f32⟩
  | 108 => ⟨S512, .f32⟩
  | 109 => ⟨S512, .f32⟩
  | 110 => ⟨S512, .f32⟩
  | 111 => ⟨S512, .f32⟩
  | 112 => ⟨S1x512, .f32⟩
  | 113 => ⟨S4096x512, .f32⟩
  | 114 => ⟨S4096x512, .f32⟩
  | 115 => ⟨S4096x512, .f32⟩
  | 116 => ⟨S_, .f32⟩
  | 117 => ⟨S4096x512, .f32⟩
  | 118 => ⟨S4096x512, .f32⟩
  | 119 => ⟨S4096x512, .f32⟩
  | 120 => ⟨S4096x512, .f32⟩
  | 121 => ⟨S4096x512, .f32⟩
  | 122 => ⟨S4096, .i32⟩
  | 123 => ⟨S4096x1, .i32⟩
  | 124 => ⟨S_, .i32⟩
  | 125 => ⟨S4096x1, .i32⟩
  | 126 => ⟨S4096x1, .i1⟩
  | 127 => ⟨S_, .f32⟩
  | _ => ⟨S4096x3072, .f32⟩

abbrev hbmTy0_1 (i : Nat) : BufTy := match i % 128 with
  | 0 => ⟨S_, .f32⟩
  | 1 => ⟨S4096x512, .i1⟩
  | 2 => ⟨S4096x512, .f32⟩
  | 3 => ⟨S4096x512, .f32⟩
  | 4 => ⟨S4096x512, .f32⟩
  | 5 => ⟨S4096x512, .f32⟩
  | 6 => ⟨S4096, .i32⟩
  | 7 => ⟨S4096x1, .i32⟩
  | 8 => ⟨S4096, .i32⟩
  | 9 => ⟨S1x4096, .i32⟩
  | 10 => ⟨S4096x4096, .i32⟩
  | 11 => ⟨S4096x4096, .i32⟩
  | 12 => ⟨S4096x4096, .i1⟩
  | 13 => ⟨S4096x4096x1, .i1⟩
  | 14 => ⟨S1x4096x512, .f32⟩
  | 15 => ⟨S_, .f32⟩
  | 16 => ⟨S_, .f32⟩
  | 17 => ⟨S4096x4096x512, .i1⟩
  | 18 => ⟨S4096x4096x512, .f32⟩
  | 19 => ⟨S4096x4096x512, .f32⟩
  | 20 => ⟨S4096x4096x512, .f32⟩
  | 21 => ⟨S_, .f32⟩
  | 22 => ⟨S4096x512, .f32⟩
  | 23 => ⟨S4096x4096x1, .i1⟩
  | 24 => ⟨S4096x1x512, .f32⟩
  | 25 => ⟨S1x4096x512, .f32⟩
  | 26 => ⟨S4096x4096x512, .f32⟩
  | 27 => ⟨S4096x4096x512, .f32⟩
  | 28 => ⟨S4096x4096x512, .f32⟩
  | 29 => ⟨S_, .f32⟩
  | 30 => ⟨S_, .f32⟩
  | 31 => ⟨S4096x4096x512, .i1⟩
  | 32 => ⟨S4096x4096x512, .f32⟩
  | 33 => ⟨S4096x4096x512, .f32⟩
  | 34 => ⟨S4096x4096x1, .i1⟩
  | 35 => ⟨S4096x4096x512, .f32⟩
  | 36 => ⟨S_, .f32⟩
  | 37 => ⟨S_, .f32⟩
  | 38 => ⟨S4096x4096x512, .i1⟩
  | 39 => ⟨S4096x4096x512, .f32⟩
  | 40 => ⟨S4096x4096x512, .f32⟩
  | 41 => ⟨S1x4096x512, .f32⟩
  | 42 => ⟨S4096x4096x512, .f32⟩
  | 43 => ⟨S4096x4096x512, .f32⟩
  | 44 => ⟨S_, .f32⟩
  | 45 => ⟨S4096x512, .f32⟩
  | 46 => ⟨S4096x1024, .f32⟩
  | 47 => ⟨S4096x2048, .f32⟩
  | 48 => ⟨S4096x2048, .bf16⟩
  | 49 => ⟨S4x512, .f32⟩
  | 50 => ⟨S4x4x128, .f32⟩
  | 51 => ⟨S4x4x128, .f32⟩
  | 52 => ⟨S512x64, .f32⟩
  | 53 => ⟨S512x64, .f32⟩
  | 54 => ⟨S1x4096x512, .f32⟩
  | 55 => ⟨S1x4096x512, .f32⟩
  | 56 => ⟨S1x4096x512, .f32⟩
  | 57 => ⟨S1x4096x512, .f32⟩
  | 58 => ⟨S4x4096x512, .f32⟩
  | 59 => ⟨S_, .f32⟩
  | 60 => ⟨S8x128, .f32⟩
  | 61 => ⟨S4096x1024, .bf16⟩
  | 62 => ⟨S512x128, .f32⟩
  | 63 => ⟨S8x512, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S8x512, .f32⟩
  | .local _ .vmem, ⟨5, _⟩ => ⟨S8x512, .f32⟩
  | .local _ .vmem, ⟨6, _⟩ => ⟨S512x512, .f32⟩
  | .local _ .vmem, ⟨7, _⟩ => ⟨S512x512, .f32⟩
  | .local _ .vmem, ⟨8, _⟩ => ⟨S8x512, .f32⟩
  | .local _ .vmem, ⟨9, _⟩ => ⟨S8x512, .f32⟩
  | .local _ .vmem, ⟨10, _⟩ => ⟨S4x512x512, .f32⟩
  | .local _ .vmem, ⟨11, _⟩ => ⟨S4x512x512, .f32⟩
  | .local _ .vmem, ⟨12, _⟩ => ⟨S512x512, .f32⟩
  | .local _ .vmem, ⟨13, _⟩ => ⟨S512x512, .f32⟩
  | .local _ .vmem, ⟨14, _⟩ => ⟨S4x4x128, .f32⟩
  | .local _ .vmem, ⟨15, _⟩ => ⟨S1x512, .f32⟩
  | .local _ .vmem, ⟨16, _⟩ => ⟨S512x64, .f32⟩
  | .local _ .vmem, ⟨17, _⟩ => ⟨S1x512, .f32⟩
  | .local _ .vmem, ⟨18, _⟩ => ⟨S512x64, .f32⟩
  | .local _ .vmem, ⟨19, _⟩ => ⟨S1x512, .f32⟩
  | .local _ .vmem, ⟨20, _⟩ => ⟨S1x512, .f32⟩
  | .local _ .vmem, ⟨21, _⟩ => ⟨S512x1024, .bf16⟩
  | .local _ .vmem, ⟨22, _⟩ => ⟨S512x1024, .bf16⟩
  | .local _ .vmem, ⟨23, _⟩ => ⟨S512x128, .f32⟩
  | .local _ .vmem, ⟨24, _⟩ => ⟨S8x512, .f32⟩
  | .local _ .vmem, ⟨25, _⟩ => ⟨S512x512, .f32⟩
  | .local _ .vmem, ⟨26, _⟩ => ⟨S512x512, .f32⟩
  | .local _ .vmem, ⟨27, _⟩ => ⟨S8x512, .f32⟩
  | .local _ .vmem, ⟨28, _⟩ => ⟨S8x512, .f32⟩
  | .local _ .vmem, ⟨29, _⟩ => ⟨S512x512, .bf16⟩
  | .local _ .vmem, ⟨30, _⟩ => ⟨S512x512, .bf16⟩
  | .local _ .vmem, ⟨31, _⟩ => ⟨S512x512, .f32⟩
  | .local _ .vmem, ⟨32, _⟩ => ⟨S512x512, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_0 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_1 : Ref sig .tc := ⟨.hbm, 69, rfl⟩
abbrev main_v58 : Ref sig .tc := ⟨.hbm, 70, rfl⟩
abbrev main_v59 : Ref sig .tc := ⟨.hbm, 71, rfl⟩
abbrev main_cst_2 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_3 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_4 : Ref sig .tc := ⟨.hbm, 88, rfl⟩
abbrev main_v74 : Ref sig .tc := ⟨.hbm, 89, rfl⟩
abbrev main_v75 : Ref sig .tc := ⟨.hbm, 90, rfl⟩
abbrev main_cst_5 : Ref sig .tc := ⟨.hbm, 91, rfl⟩
abbrev main_v76 : Ref sig .tc := ⟨.hbm, 92, rfl⟩
abbrev main_v77 : Ref sig .tc := ⟨.hbm, 93, rfl⟩
abbrev main_cst_6 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_call0_cst : Ref sig .tc := ⟨.hbm, 98, rfl⟩
abbrev main_call0_v0 : Ref sig .tc := ⟨.hbm, 99, rfl⟩
abbrev main_call0_v1 : Ref sig .tc := ⟨.hbm, 100, rfl⟩
abbrev main_call0_v2 : Ref sig .tc := ⟨.hbm, 101, rfl⟩
abbrev main_call0_v3 : Ref sig .tc := ⟨.hbm, 102, rfl⟩
abbrev main_call0_v4 : Ref sig .tc := ⟨.hbm, 103, rfl⟩
abbrev main_call0_v5 : Ref sig .tc := ⟨.hbm, 104, rfl⟩
abbrev main_call0_v6 : Ref sig .tc := ⟨.hbm, 105, rfl⟩
abbrev main_call0_v7 : Ref sig .tc := ⟨.hbm, 106, rfl⟩
abbrev main_call0_v8 : Ref sig .tc := ⟨.hbm, 107, rfl⟩
abbrev main_call0_v9 : Ref sig .tc := ⟨.hbm, 108, rfl⟩
abbrev main_call0_v10 : Ref sig .tc := ⟨.hbm, 109, rfl⟩
abbrev main_call0_v11 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_7 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c : Ref sig .tc := ⟨.hbm, 124, rfl⟩
abbrev main_v93 : Ref sig .tc := ⟨.hbm, 125, rfl⟩
abbrev main_v94 : Ref sig .tc := ⟨.hbm, 126, rfl⟩
abbrev main_cst_8 : Ref sig .tc := ⟨.hbm, 127, rfl⟩
abbrev main_call1_v0 : Ref sig .tc := ⟨.hbm, 128, rfl⟩
abbrev main_call1_v1 : Ref sig .tc := ⟨.hbm, 129, rfl⟩
abbrev main_call1_v2 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_9 : Ref sig .tc := ⟨.hbm, 143, rfl⟩
abbrev main_call2_v0 : Ref sig .tc := ⟨.hbm, 144, rfl⟩
abbrev main_call2_v1 : Ref sig .tc := ⟨.hbm, 145, rfl⟩
abbrev main_call2_v2 : Ref sig .tc := ⟨.hbm, 146, rfl⟩
abbrev main_call2_v3 : Ref sig .tc := ⟨.hbm, 147, rfl⟩
abbrev main_v107 : Ref sig .tc := ⟨.hbm, 148, rfl⟩
abbrev main_cst_10 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_11 : Ref sig .tc := ⟨.hbm, 157, rfl⟩
abbrev main_call3_v0 : Ref sig .tc := ⟨.hbm, 158, rfl⟩
abbrev main_call3_v1 : Ref sig .tc := ⟨.hbm, 159, rfl⟩
abbrev main_call3_v2 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_cst_12 : Ref sig .tc := ⟨.hbm, 164, rfl⟩
abbrev main_call4_v0 : Ref sig .tc := ⟨.hbm, 165, rfl⟩
abbrev main_call4_v1 : Ref sig .tc := ⟨.hbm, 166, rfl⟩
abbrev main_call4_v2 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_13 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_cst_14 : Ref sig .tc := ⟨.hbm, 187, rfl⟩
abbrev main_v136 : Ref sig .tc := ⟨.hbm, 188, rfl⟩
abbrev main_v137_0 : Ref sig .tc := ⟨.hbm, 189, rfl⟩
abbrev main_v137_1 : Ref sig .tc := ⟨.hbm, 190, rfl⟩
abbrev main_v137_2 : Ref sig .tc := ⟨.hbm, 191, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem16_0 : DmaSem sig := 24

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_511 : BitVec 32 := 7#32
  let v1133 : BitVec 1 := Scalar.cmpi .eq arg0 c7_i32_511
  let v1134 : BitVec 32 := Scalar.extui v1133
  let c0_i32_512 : BitVec 32 := 0#32
  let v1135 : BitVec 1 := Scalar.cmpi .ne v1134 c0_i32_512
  v1135

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S512x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference2Ideal.lean ====
abbrev S4096x3072 : Shape := ⟨2, ![4096, 3072]⟩
abbrev S4096x1024 : Shape := ⟨2, ![4096, 1024]⟩
abbrev S1x4x512 : Shape := ⟨3, ![1, 4, 512]⟩
abbrev S1x512 : Shape := ⟨2, ![1, 512]⟩
abbrev S1x8x64x64 : Shape := ⟨4, ![1, 8, 64, 64]⟩
abbrev S4096x512 : Shape := ⟨2, ![4096, 512]⟩
abbrev S4x512 : Shape := ⟨2, ![4, 512]⟩
abbrev S512 : Shape := ⟨1, ![512]⟩
abbrev S8x64x64 : Shape := ⟨3, ![8, 64, 64]⟩
abbrev S_ : Shape := ⟨0, ![]⟩
abbrev S3x512 : Shape := ⟨2, ![3, 512]⟩
abbrev S4099x512 : Shape := ⟨2, ![4099, 512]⟩
abbrev S4096x8x64 : Shape := ⟨3, ![4096, 8, 64]⟩
abbrev S8x64x4096 : Shape := ⟨3, ![8, 64, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩
abbrev S1x4096x512 : Shape := ⟨3, ![1, 4096, 512]⟩
abbrev S4096x4096x512 : Shape := ⟨3, ![4096, 4096, 512]⟩
abbrev S4096x1x512 : Shape := ⟨3, ![4096, 1, 512]⟩
abbrev S8x4096x64 : Shape := ⟨3, ![8, 4096, 64]⟩
abbrev S8x64x128 : Shape := ⟨3, ![8, 64, 128]⟩
abbrev S512x128 : Shape := ⟨2, ![512, 128]⟩
abbrev S8x512 : Shape := ⟨2, ![8, 512]⟩

abbrev nBuf : Space → Nat
  | .hbm => 401
  | .vmem => 0
  | .smem => 0
  | _ => 0

abbrev hbmTy0_0 (i : Nat) : BufTy := match i % 128 with
  | 0 => ⟨S4096x3072, .f32⟩
  | 1 => ⟨S4096x1024, .f32⟩
  | 2 => ⟨S1x4x512, .f32⟩
  | 3 => ⟨S1x512, .f32⟩
  | 4 => ⟨S1x8x64x64, .f32⟩
  | 5 => ⟨S1x512, .f32⟩
  | 6 => ⟨S1x8x64x64, .f32⟩
  | 7 => ⟨S1x512, .f32⟩
  | 8 => ⟨S1x512, .f32⟩
  | 9 => ⟨S4096x512, .f32⟩
  | 10 => ⟨S4096x512, .f32⟩
  | 11 => ⟨S4x512, .f32⟩
  | 12 => ⟨S512, .f32⟩
  | 13 => ⟨S8x64x64, .f32⟩
  | 14 => ⟨S512, .f32⟩
  | 15 => ⟨S8x64x64, .f32⟩
  | 16 => ⟨S512, .f32⟩
  | 17 => ⟨S512, .f32⟩
  | 18 => ⟨S_, .f32⟩
  | 19 => ⟨S3x512, .f32⟩
  | 20 => ⟨S4099x512, .f32⟩
  | 21 => ⟨S_, .f32⟩
  | 22 => ⟨S3x512, .f32⟩
  | 23 => ⟨S4096x512, .f32⟩
  | 24 => ⟨S1x512, .f32⟩
  | 25 => ⟨S512, .f32⟩
  | 26 => ⟨S1x512, .f32⟩
  | 27 => ⟨S4096x512, .f32⟩
  | 28 => ⟨S4096x512, .f32⟩
  | 29 => ⟨S1x512, .f32⟩
  | 30 => ⟨S4096x512, .f32⟩
  | 31 => ⟨S4096x512, .f32⟩
  | 32 => ⟨S4096x512, .f32⟩
  | 33 => ⟨S1x512, .f32⟩
  | 34 => ⟨S512, .f32⟩
  | 35 => ⟨S1x512, .f32⟩
  | 36 => ⟨S4096x512, .f32⟩
  | 37 => ⟨S4096x512, .f32⟩
  | 38 => ⟨S4096x512, .f32⟩
  | 39 => ⟨S4096x512, .f32⟩
  | 40 => ⟨S1x512, .f32⟩
  | 41 => ⟨S512, .f32⟩
  | 42 => ⟨S1x512, .f32⟩
  | 43 => ⟨S4096x512, .f32⟩
  | 44 => ⟨S4096x512, .f32⟩
  | 45 => ⟨S4096x512, .f32⟩
  | 46 => ⟨S4096x512, .f32⟩
  | 47 => ⟨S1x512, .f32⟩
  | 48 => ⟨S512, .f32⟩
  | 49 => ⟨S1x512, .f32⟩
  | 50 => ⟨S4096x512, .f32⟩
  | 51 => ⟨S4096x512, .f32⟩
  | 52 => ⟨S4096x512, .f32⟩
  | 53 => ⟨S4096x8x64, .f32⟩
  | 54 => ⟨S8x64x4096, .f32⟩
  | 55 => ⟨S4096x8x64, .f32⟩
  | 56 => ⟨S4096x512, .f32⟩
  | 57 => ⟨S1x512, .f32⟩
  | 58 => ⟨S4096x512, .f32⟩
  | 59 => ⟨S4096x512, .f32⟩
  | 60 => ⟨S4096x512, .f32⟩
  | 61 => ⟨S4096x512, .f32⟩
  | 62 => ⟨S_, .f32⟩
  | 63 => ⟨S4096x512, .f32⟩
  | 64 => ⟨S4096x512, .f32⟩
  | 65 => ⟨S_, .f32⟩
  | 66 => ⟨S4096x512, .f32⟩
  | 67 => ⟨S4096x512, .f32⟩
  | 68 => ⟨S_, .f32⟩
  | 69 => ⟨S4096x512, .f32⟩
  | 70 => ⟨S4096x512, .f32⟩
  | 71 => ⟨S4096x512, .f32⟩
  | 72 => ⟨S8x64x4096, .f32⟩
  | 73 => ⟨S4096x8x64, .f32⟩
  | 74 => ⟨S4096x512, .f32⟩
  | 75 => ⟨S1x512, .f32⟩
  | 76 => ⟨S4096x512, .f32⟩
  | 77 => ⟨S4096x512, .f32⟩
  | 78 => ⟨S4096x512, .f32⟩
  | 79 => ⟨S4096x512, .f32⟩
  | 80 => ⟨S_, .f32⟩
  | 81 => ⟨S4096x512, .f32⟩
  | 82 => ⟨S4096x512, .f32⟩
  | 83 => ⟨S_, .f32⟩
  | 84 => ⟨S4096x512, .f32⟩
  | 85 => ⟨S4096x512, .f32⟩
  | 86 => ⟨S_, .f32⟩
  | 87 => ⟨S4096x512, .f32⟩
  | 88 => ⟨S4096x512, .f32⟩
  | 89 => ⟨S4096x512, .f32⟩
  | 90 => ⟨S_, .f32⟩
  | 91 => ⟨S4096x512, .f32⟩
  | 92 => ⟨S4096x512, .f32⟩
  | 93 => ⟨S512, .f32⟩
  | 94 => ⟨S_, .f32⟩
  | 95 => ⟨S512, .f32⟩
  | 96 => ⟨S512, .f32⟩
  | 97 => ⟨S512, .f32⟩
  | 98 => ⟨S512, .f32⟩
  | 99 => ⟨S512, .i1⟩
  | 100 => ⟨S512, .f32⟩
  | 101 => ⟨S512, .f32⟩
  | 102 => ⟨S512, .f32⟩
  | 103 => ⟨S512, .f32⟩
  | 104 => ⟨S512, .f32⟩
  | 105 => ⟨S512, .f32⟩
  | 106 => ⟨S512, .f32⟩
  | 107 => ⟨S512, .f32⟩
  | 108 => ⟨S_, .f32⟩
  | 109 => ⟨S512, .f32⟩
  | 110 => ⟨S512, .i1⟩
  | 111 => ⟨S_, .f32⟩
  | 112 => ⟨S512, .f32⟩
  | 113 => ⟨S512, .f32⟩
  | 114 => ⟨S_, .f32⟩
  | 115 => ⟨S512, .f32⟩
  | 116 => ⟨S512, .i1⟩
  | 117 => ⟨S_, .f32⟩
  | 118 => ⟨S512, .f32⟩
  | 119 => ⟨S512, .f32⟩
  | 120 => ⟨S512, .f32⟩
  | 121 => ⟨S512, .f32⟩
  | 122 => ⟨S_, .f32⟩
  | 123 => ⟨S_, .f32⟩
  | 124 => ⟨S_, .i1⟩
  | 125 => ⟨S_, .f32⟩
  | 126 => ⟨S_, .f32⟩
  | 127 => ⟨S_, .f32⟩
  | _ => ⟨S4096x3072, .f32⟩

abbrev hbmTy0_1 (i : Nat) : BufTy := match i % 128 with
  | 0 => ⟨S_, .f32⟩
  | 1 => ⟨S512, .f32⟩
  | 2 => ⟨S512, .i1⟩
  | 3 => ⟨S_, .f32⟩
  | 4 => ⟨S512, .f32⟩
  | 5 => ⟨S512, .f32⟩
  | 6 => ⟨S512, .f32⟩
  | 7 => ⟨S512, .f32⟩
  | 8 => ⟨S512, .f32⟩
  | 9 => ⟨S_, .f32⟩
  | 10 => ⟨S512, .f32⟩
  | 11 => ⟨S512, .f32⟩
  | 12 => ⟨S1x512, .f32⟩
  | 13 => ⟨S4096x512, .f32⟩
  | 14 => ⟨S4096x512, .f32⟩
  | 15 => ⟨S4096x512, .f32⟩
  | 16 => ⟨S_, .f32⟩
  | 17 => ⟨S4096x512, .f32⟩
  | 18 => ⟨S4096x512, .f32⟩
  | 19 => ⟨S4096x512, .f32⟩
  | 20 => ⟨S4096x512, .f32⟩
  | 21 => ⟨S4096x512, .f32⟩
  | 22 => ⟨S4096x512, .f32⟩
  | 23 => ⟨S_, .f32⟩
  | 24 => ⟨S4096x512, .f32⟩
  | 25 => ⟨S4096x512, .f32⟩
  | 26 => ⟨S4096, .i32⟩
  | 27 => ⟨S4096x1, .i32⟩
  | 28 => ⟨S_, .i32⟩
  | 29 => ⟨S4096x1, .i32⟩
  | 30 => ⟨S4096x1, .i1⟩
  | 31 => ⟨S_, .f32⟩
  | 32 => ⟨S_, .f32⟩
  | 33 => ⟨S4096x512, .i1⟩
  | 34 => ⟨S4096x512, .f32⟩
  | 35 => ⟨S4096x512, .f32⟩
  | 36 => ⟨S_, .f32⟩
  | 37 => ⟨S4096x512, .f32⟩
  | 38 => ⟨S4096x512, .f32⟩
  | 39 => ⟨S4096x512, .f32⟩
  | 40 => ⟨S4096, .i32⟩
  | 41 => ⟨S4096x1, .i32⟩
  | 42 => ⟨S4096, .i32⟩
  | 43 => ⟨S1x4096, .i32⟩
  | 44 => ⟨S4096x4096, .i32⟩
  | 45 => ⟨S4096x4096, .i32⟩
  | 46 => ⟨S4096x4096, .i1⟩
  | 47 => ⟨S4096x4096x1, .i1⟩
  | 48 => ⟨S1x4096x512, .f32⟩
  | 49 => ⟨S_, .f32⟩
  | 50 => ⟨S_, .f32⟩
  | 51 => ⟨S4096x4096x512, .i1⟩
  | 52 => ⟨S4096x4096x512, .f32⟩
  | 53 => ⟨S4096x4096x512, .f32⟩
  | 54 => ⟨S4096x4096x512, .f32⟩
  | 55 => ⟨S_, .f32⟩
  | 56 => ⟨S4096x4096x512, .f32⟩
  | 57 => ⟨S_, .f32⟩
  | 58 => ⟨S4096x512, .f32⟩
  | 59 => ⟨S4096x4096x1, .i1⟩
  | 60 => ⟨S4096x1x512, .f32⟩
  | 61 => ⟨S1x4096x512, .f32⟩
  | 62 => ⟨S4096x4096x512, .f32⟩
  | 63 => ⟨S4096x4096x512, .f32⟩
  | 64 => ⟨S4096x4096x512, .f32⟩
  | 65 => ⟨S_, .f32⟩
  | 66 => ⟨S_, .f32⟩
  | 67 => ⟨S4096x4096x512, .i1⟩
  | 68 => ⟨S4096x4096x512, .f32⟩
  | 69 => ⟨S4096x4096x512, .f32⟩
  | 70 => ⟨S_, .f32⟩
  | 71 => ⟨S4096x4096x512, .f32⟩
  | 72 => ⟨S4096x4096x1, .i1⟩
  | 73 => ⟨S4096x4096x512, .f32⟩
  | 74 => ⟨S_, .f32⟩
  | 75 => ⟨S_, .f32⟩
  | 76 => ⟨S4096x4096x512, .i1⟩
  | 77 => ⟨S4096x4096x512, .f32⟩
  | 78 => ⟨S4096x4096x512, .f32⟩
  | 79 => ⟨S_, .f32⟩
  | 80 => ⟨S4096x4096x512, .f32⟩
  | 81 => ⟨S1x4096x512, .f32⟩
  | 82 => ⟨S4096x4096x512, .f32⟩
  | 83 => ⟨S4096x4096x512, .f32⟩
  | 84 => ⟨S_, .f32⟩
  | 85 => ⟨S4096x512, .f32⟩
  | 86 => ⟨S4096x512, .f32⟩
  | 87 => ⟨S4096x512, .f32⟩
  | 88 => ⟨S_, .f32⟩
  | 89 => ⟨S4096x512, .f32⟩
  | 90 => ⟨S4096x512, .f32⟩
  | 91 => ⟨S_, .f32⟩
  | 92 => ⟨S4096x512, .f32⟩
  | 93 => ⟨S4096x512, .f32⟩
  | 94 => ⟨S_, .f32⟩
  | 95 => ⟨S4096x512, .f32⟩
  | 96 => ⟨S4096x512, .f32⟩
  | 97 => ⟨S4096x512, .f32⟩
  | 98 => ⟨S4096x512, .f32⟩
  | 99 => ⟨S4096x512, .f32⟩
  | 100 => ⟨S4096x512, .f32⟩
  | 101 => ⟨S4096x512, .f32⟩
  | 102 => ⟨S4096x512, .f32⟩
  | 103 => ⟨S4096x512, .f32⟩
  | 104 => ⟨S4096x512, .f32⟩
  | 105 => ⟨S4096x512, .f32⟩
  | 106 => ⟨S4096x512, .f32⟩
  | 107 => ⟨S4096x4096x512, .f32⟩
  | 108 => ⟨S4096x4096x512, .f32⟩
  | 109 => ⟨S_, .f32⟩
  | 110 => ⟨S4096x512, .f32⟩
  | 111 => ⟨S1x4096x512, .f32⟩
  | 112 => ⟨S4096x4096x512, .f32⟩
  | 113 => ⟨S4096x4096x512, .f32⟩
  | 114 => ⟨S_, .f32⟩
  | 115 => ⟨S4096x512, .f32⟩
  | 116 => ⟨S_, .f32⟩
  | 117 => ⟨S4096x4096x512, .f32⟩
  | 118 => ⟨S4096x4096x512, .f32⟩
  | 119 => ⟨S4096x4096x512, .f32⟩
  | 120 => ⟨S_, .f32⟩
  | 121 => ⟨S4096x4096x512, .f32⟩
  | 122 => ⟨S4096x4096x512, .f32⟩
  | 123 => ⟨S_, .f32⟩
  | 124 => ⟨S4096x512, .f32⟩
  | 125 => ⟨S4096x1x512, .f32⟩
  | 126 => ⟨S4096x4096x512, .f32⟩
  | 127 => ⟨S_, .f32⟩
  | _ => ⟨S4096x3072, .f32⟩

abbrev hbmTy0_2 (i : Nat) : BufTy := match i % 128 with
  | 0 => ⟨S4096x512, .f32⟩
  | 1 => ⟨S1x4096x512, .f32⟩
  | 2 => ⟨S_, .f32⟩
  | 3 => ⟨S4096x512, .f32⟩
  | 4 => ⟨S_, .f32⟩
  | 5 => ⟨S4096x512, .f32⟩
  | 6 => ⟨S4096x512, .f32⟩
  | 7 => ⟨S4096x4096x512, .f32⟩
  | 8 => ⟨S_, .f32⟩
  | 9 => ⟨S4096x4096x512, .f32⟩
  | 10 => ⟨S4096x4096x512, .f32⟩
  | 11 => ⟨S_, .f32⟩
  | 12 => ⟨S4096x512, .f32⟩
  | 13 => ⟨S1x4096x512, .f32⟩
  | 14 => ⟨S_, .f32⟩
  | 15 => ⟨S4096x512, .f32⟩
  | 16 => ⟨S4096x512, .f32⟩
  | 17 => ⟨S4096x512, .f32⟩
  | 18 => ⟨S4096x512, .f32⟩
  | 19 => ⟨S4096x512, .f32⟩
  | 20 => ⟨S_, .f32⟩
  | 21 => ⟨S4096x512, .f32⟩
  | 22 => ⟨S4096x512, .f32⟩
  | 23 => ⟨S4096x512, .f32⟩
  | 24 => ⟨S4096x512, .f32⟩
  | 25 => ⟨S4096x512, .f32⟩
  | 26 => ⟨S_, .f32⟩
  | 27 => ⟨S4096x512, .f32⟩
  | 28 => ⟨S4096x512, .f32⟩
  | 29 => ⟨S4096x512, .f32⟩
  | 30 => ⟨S4096x512, .f32⟩
  | 31 => ⟨S_, .f32⟩
  | 32 => ⟨S512, .f32⟩
  | 33 => ⟨S1x512, .f32⟩
  | 34 => ⟨S4096x512, .f32⟩
  | 35 => ⟨S4096x512, .f32⟩
  | 36 => ⟨S_, .f32⟩
  | 37 => ⟨S512, .f32⟩
  | 38 => ⟨S512, .f32⟩
  | 39 => ⟨S512, .f32⟩
  | 40 => ⟨S_, .f32⟩
  | 41 => ⟨S4096x512, .f32⟩
  | 42 => ⟨S4096x512, .f32⟩
  | 43 => ⟨S4096x512, .f32⟩
  | 44 => ⟨S_, .f32⟩
  | 45 => ⟨S512, .f32⟩
  | 46 => ⟨S1x512, .f32⟩
  | 47 => ⟨S_, .f32⟩
  | 48 => ⟨S512, .f32⟩
  | 49 => ⟨S4096x8x64, .f32⟩
  | 50 => ⟨S8x64x4096, .f32⟩
  | 51 => ⟨S8x4096x64, .f32⟩
  | 52 => ⟨S4096x8x64, .f32⟩
  | 53 => ⟨S8x64x64, .f32⟩
  | 54 => ⟨S8x64x64, .f32⟩
  | 55 => ⟨S4096x512, .f32⟩
  | 56 => ⟨S_, .f32⟩
  | 57 => ⟨S512, .f32⟩
  | 58 => ⟨S1x512, .f32⟩
  | 59 => ⟨S_, .f32⟩
  | 60 => ⟨S512, .f32⟩
  | 61 => ⟨S4096x8x64, .f32⟩
  | 62 => ⟨S8x64x4096, .f32⟩
  | 63 => ⟨S8x4096x64, .f32⟩
  | 64 => ⟨S4096x8x64, .f32⟩
  | 65 => ⟨S4096x8x64, .f32⟩
  | 66 => ⟨S8x64x64, .f32⟩
  | 67 => ⟨S8x64x64, .f32⟩
  | 68 => ⟨S4096x512, .f32⟩
  | 69 => ⟨S4096x512, .f32⟩
  | 70 => ⟨S4096x512, .f32⟩
  | 71 => ⟨S_, .f32⟩
  | 72 => ⟨S512, .f32⟩
  | 73 => ⟨S1x512, .f32⟩
  | 74 => ⟨S4096x512, .f32⟩
  | 75 => ⟨S4096x512, .f32⟩
  | 76 => ⟨S_, .f32⟩
  | 77 => ⟨S512, .f32⟩
  | 78 => ⟨S1x512, .f32⟩
  | 79 => ⟨S_, .f32⟩
  | 80 => ⟨S4x512, .f32⟩
  | 81 => ⟨S_, .f32⟩
  | 82 => ⟨S4099x512, .f32⟩
  | 83 => ⟨S4096x512, .f32⟩
  | 84 => ⟨S_, .f32⟩
  | 85 => ⟨S512, .f32⟩
  | 86 => ⟨S1x512, .f32⟩
  | 87 => ⟨S4096x512, .f32⟩
  | 88 => ⟨S4096x512, .f32⟩
  | 89 => ⟨S_, .f32⟩
  | 90 => ⟨S512, .f32⟩
  | 91 => ⟨S1x512, .f32⟩
  | 92 => ⟨S_, .f32⟩
  | 93 => ⟨S4x512, .f32⟩
  | 94 => ⟨S4x512, .f32⟩
  | 95 => ⟨S_, .f32⟩
  | 96 => ⟨S4099x512, .f32⟩
  | 97 => ⟨S4099x512, .f32⟩
  | 98 => ⟨S4096x512, .f32⟩
  | 99 => ⟨S_, .f32⟩
  | 100 => ⟨S512, .f32⟩
  | 101 => ⟨S1x512, .f32⟩
  | 102 => ⟨S4096x512, .f32⟩
  | 103 => ⟨S4096x512, .f32⟩
  | 104 => ⟨S_, .f32⟩
  | 105 => ⟨S512, .f32⟩
  | 106 => ⟨S1x512, .f32⟩
  | 107 => ⟨S_, .f32⟩
  | 108 => ⟨S4x512, .f32⟩
  | 109 => ⟨S4x512, .f32⟩
  | 110 => ⟨S_, .f32⟩
  | 111 => ⟨S4099x512, .f32⟩
  | 112 => ⟨S4099x512, .f32⟩
  | 113 => ⟨S_, .f32⟩
  | 114 => ⟨S512, .f32⟩
  | 115 => ⟨S1x512, .f32⟩
  | 116 => ⟨S_, .f32⟩
  | 117 => ⟨S512, .f32⟩
  | 118 => ⟨S4096x512, .f32⟩
  | 119 => ⟨S_, .f32⟩
  | 120 => ⟨S512, .f32⟩
  | 121 => ⟨S1x512, .f32⟩
  | 122 => ⟨S4096x512, .f32⟩
  | 123 => ⟨S4096x512, .f32⟩
  | 124 => ⟨S_, .f32⟩
  | 125 => ⟨S512, .f32⟩
  | 126 => ⟨S1x512, .f32⟩
  | 127 => ⟨S_, .f32⟩
  | _ => ⟨S4096x3072, .f32⟩

abbrev hbmTy0_3 (i : Nat) : BufTy := match i % 128 with
  | 0 => ⟨S4x512, .f32⟩
  | 1 => ⟨S4x512, .f32⟩
  | 2 => ⟨S_, .f32⟩
  | 3 => ⟨S4099x512, .f32⟩
  | 4 => ⟨S4099x512, .f32⟩
  | 5 => ⟨S3x512, .f32⟩
  | 6 => ⟨S4096x512, .f32⟩
  | 7 => ⟨S8x64x128, .f32⟩
  | 8 => ⟨S512x128, .f32⟩
  | 9 => ⟨S4096x1024, .f32⟩
  | 10 => ⟨S4096x1024, .bf16⟩
  | 11 => ⟨S1x512, .f32⟩
  | 12 => ⟨S1x512, .f32⟩
  | 13 => ⟨S1x512, .f32⟩
  | 14 => ⟨S1x512, .f32⟩
  | 15 => ⟨S4x512, .f32⟩
  | 16 => ⟨S8x512, .f32⟩
  | _ => ⟨S4096x3072, .f32⟩

abbrev hbmTy (i : Nat) : BufTy := match i / 128 with
  | 0 => hbmTy0_0 i
  | 1 => hbmTy0_1 i
  | 2 => hbmTy0_2 i
  | 3 => hbmTy0_3 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_1 : Ref sig .tc := ⟨.hbm, 62, rfl⟩
abbrev main_v51 : Ref sig .tc := ⟨.hbm, 63, rfl⟩
abbrev main_v52 : Ref sig .tc := ⟨.hbm, 64, rfl⟩
abbrev main_cst_2 : Ref sig .tc := ⟨.hbm, 65, rfl⟩
abbrev main_v53 : Ref sig .tc := ⟨.hbm, 66, rfl⟩
abbrev main_v54 : Ref sig .tc := ⟨.hbm, 67, rfl⟩
abbrev main_cst_3 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_4 : Ref sig .tc := ⟨.hbm, 80, rfl⟩
abbrev main_v66 : Ref sig .tc := ⟨.hbm, 81, rfl⟩
abbrev main_v67 : Ref sig .tc := ⟨.hbm, 82, rfl⟩
abbrev main_cst_5 : Ref sig .tc := ⟨.hbm, 83, rfl⟩
abbrev main_v68 : Ref sig .tc := ⟨.hbm, 84, rfl⟩
abbrev main_v69 : Ref sig .tc := ⟨.hbm, 85, rfl⟩
abbrev main_cst_6 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_7 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_call0_cst : Ref sig .tc := ⟨.hbm, 94, rfl⟩
abbrev main_call0_v0 : Ref sig .tc := ⟨.hbm, 95, rfl⟩
abbrev main_call0_v1 : Ref sig .tc := ⟨.hbm, 96, rfl⟩
abbrev main_call0_v2 : Ref sig .tc := ⟨.hbm, 97, rfl⟩
abbrev main_call0_v3 : Ref sig .tc := ⟨.hbm, 98, rfl⟩
abbrev main_call0_v4 : Ref sig .tc := ⟨.hbm, 99, rfl⟩
abbrev main_call0_v5 : Ref sig .tc := ⟨.hbm, 100, rfl⟩
abbrev main_call0_v6 : Ref sig .tc := ⟨.hbm, 101, rfl⟩
abbrev main_call0_v7 : Ref sig .tc := ⟨.hbm, 102, rfl⟩
abbrev main_call0_v8 : Ref sig .tc := ⟨.hbm, 103, rfl⟩
abbrev main_call0_v9 : Ref sig .tc := ⟨.hbm, 104, rfl⟩
abbrev main_call0_v10 : Ref sig .tc := ⟨.hbm, 105, rfl⟩
abbrev main_call0_v11 : Ref sig .tc := ⟨.hbm, 106, rfl⟩
abbrev main_v76_0 : Ref sig .tc := ⟨.hbm, 107, rfl⟩
abbrev main_call0_cst_0 : Ref sig .tc := ⟨.hbm, 108, rfl⟩
abbrev main_call0_v13 : Ref sig .tc := ⟨.hbm, 109, rfl⟩
abbrev main_call0_v14 : Ref sig .tc := ⟨.hbm, 110, rfl⟩
abbrev main_call0_cst_1 : Ref sig .tc := ⟨.hbm, 111, rfl⟩
abbrev main_call0_v15 : Ref sig .tc := ⟨.hbm, 112, rfl⟩
abbrev main_call0_v16 : Ref sig .tc := ⟨.hbm, 113, rfl⟩
abbrev main_call0_cst_2 : Ref sig .tc := ⟨.hbm, 114, rfl⟩
abbrev main_call0_v17 : Ref sig .tc := ⟨.hbm, 115, rfl⟩
abbrev main_call0_v18 : Ref sig .tc := ⟨.hbm, 116, rfl⟩
abbrev main_call0_cst_3 : Ref sig .tc := ⟨.hbm, 117, rfl⟩
abbrev main_call0_v19 : Ref sig .tc := ⟨.hbm, 118, rfl⟩
abbrev main_call0_v20 : Ref sig .tc := ⟨.hbm, 119, rfl⟩
abbrev main_call0_v21 : Ref sig .tc := ⟨.hbm, 120, rfl⟩
abbrev main_v76_1 : Ref sig .tc := ⟨.hbm, 121, rfl⟩
abbrev main_call0_cst_4 : Ref sig .tc := ⟨.hbm, 122, rfl⟩
abbrev main_call0_cst_5 : Ref sig .tc := ⟨.hbm, 123, rfl⟩
abbrev main_call0_v23 : Ref sig .tc := ⟨.hbm, 124, rfl⟩
abbrev main_call0_cst_6 : Ref sig .tc := ⟨.hbm, 125, rfl⟩
abbrev main_call0_cst_7 : Ref sig .tc := ⟨.hbm, 126, rfl⟩
abbrev main_call0_v24 : Ref sig .tc := ⟨.hbm, 127, rfl⟩
abbrev main_call0_cst_8 : Ref sig .tc := ⟨.hbm, 128, rfl⟩
abbrev main_call0_v25 : Ref sig .tc := ⟨.hbm, 129, rfl⟩
abbrev main_call0_v26 : Ref sig .tc := ⟨.hbm, 130, rfl⟩
abbrev main_call0_cst_9 : Ref sig .tc := ⟨.hbm, 131, rfl⟩
abbrev main_call0_v27 : Ref sig .tc := ⟨.hbm, 132, rfl⟩
abbrev main_call0_v28 : Ref sig .tc := ⟨.hbm, 133, rfl⟩
abbrev main_call0_v29 : Ref sig .tc := ⟨.hbm, 134, rfl⟩
abbrev main_call0_v30 : Ref sig .tc := ⟨.hbm, 135, rfl⟩
abbrev main_call0_v31 : Ref sig .tc := ⟨.hbm, 136, rfl⟩
abbrev main_call0_cst_10 : Ref sig .tc := ⟨.hbm, 137, rfl⟩
abbrev main_call0_v32 : Ref sig .tc := ⟨.hbm, 138, rfl⟩
abbrev main_v76_2 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_cst_8 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_cst_9 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_c : Ref sig .tc := ⟨.hbm, 156, rfl⟩
abbrev main_v91 : Ref sig .tc := ⟨.hbm, 157, rfl⟩
abbrev main_v92 : Ref sig .tc := ⟨.hbm, 158, rfl⟩
abbrev main_cst_10 : Ref sig .tc := ⟨.hbm, 159, rfl⟩
abbrev main_call1_v0 : Ref sig .tc := ⟨.hbm, 160, rfl⟩
abbrev main_v93_1 : Ref sig .tc := ⟨.hbm, 161, rfl⟩
abbrev main_call1_v2 : Ref sig .tc := ⟨.hbm, 162, rfl⟩
abbrev main_v93_0 : Ref sig .tc := ⟨.hbm, 163, rfl⟩
abbrev main_call1_cst : Ref sig .tc := ⟨.hbm, 164, rfl⟩
abbrev main_v93_2 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_cst_11 : Ref sig .tc := ⟨.hbm, 177, rfl⟩
abbrev main_call2_v0 : Ref sig .tc := ⟨.hbm, 178, rfl⟩
abbrev main_v105_1 : Ref sig .tc := ⟨.hbm, 179, rfl⟩
abbrev main_call2_v2 : Ref sig .tc := ⟨.hbm, 180, rfl⟩
abbrev main_call2_v3 : Ref sig .tc := ⟨.hbm, 181, rfl⟩
abbrev main_v105_0 : Ref sig .tc := ⟨.hbm, 182, rfl⟩
abbrev main_call2_cst : Ref sig .tc := ⟨.hbm, 183, rfl⟩
abbrev main_v105_2 : Ref sig .tc := ⟨.hbm, 184, rfl⟩
abbrev main_cst_12 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_cst_13 : Ref sig .tc := ⟨.hbm, 193, rfl⟩
abbrev main_call3_v0 : Ref sig .tc := ⟨.hbm, 194, rfl⟩
abbrev main_v113_1 : Ref sig .tc := ⟨.hbm, 195, rfl⟩
abbrev main_call3_v2 : Ref sig .tc := ⟨.hbm, 196, rfl⟩
abbrev main_v113_0 : Ref sig .tc := ⟨.hbm, 197, rfl⟩
abbrev main_call3_cst : Ref sig .tc := ⟨.hbm, 198, rfl⟩
abbrev main_v113_2 : Ref sig .tc := ⟨.hbm, 199, rfl⟩
abbrev main_v114 : Ref sig .tc := ⟨.hbm, 200, rfl⟩
abbrev main_v115 : Ref sig .tc := ⟨.hbm, 201, rfl⟩
abbrev main_cst_14 : Ref sig .tc := ⟨.hbm, 202, rfl⟩
abbrev main_call4_v0 : Ref sig .tc := ⟨.hbm, 203, rfl⟩
abbrev main_v116_1 : Ref sig .tc := ⟨.hbm, 204, rfl⟩
abbrev main_call4_v2 : Ref sig .tc := ⟨.hbm, 205, rfl⟩
abbrev main_v116_0 : Ref sig .tc := ⟨.hbm, 206, rfl⟩
abbrev main_call4_cst : Ref sig .tc := ⟨.hbm, 207, rfl⟩
abbrev main_v116_2 : Ref sig .tc := ⟨.hbm, 208, rfl⟩
abbrev main_v117 : Ref sig .tc := ⟨.hbm, 209, rfl⟩
abbrev main_v118 : Ref sig .tc := ⟨.hbm, 210, rfl⟩
abbrev main_v119 : Ref sig .tc := ⟨.hbm, 211, rfl⟩
abbrev main_cst_15 : Ref sig .tc := ⟨.hbm, 212, rfl⟩
abbrev main_v120 : Ref sig .tc := ⟨.hbm, 213, rfl⟩
abbrev main_call5_v0 : Ref sig .tc := ⟨.hbm, 214, rfl⟩
abbrev main_call5_v1 : Ref sig .tc := ⟨.hbm, 215, rfl⟩
abbrev main_call5_cst : Ref sig .tc := ⟨.hbm, 216, rfl⟩
abbrev main_call5_v2 : Ref sig .tc := ⟨.hbm, 217, rfl⟩
abbrev main_call5_v3 : Ref sig .tc := ⟨.hbm, 218, rfl⟩
abbrev main_call5_cst_0 : Ref sig .tc := ⟨.hbm, 219, rfl⟩
abbrev main_call5_v4 : Ref sig .tc := ⟨.hbm, 220, rfl⟩
abbrev main_v121_2 : Ref sig .tc := ⟨.hbm, 221, rfl⟩
abbrev main_call5_cst_1 : Ref sig .tc := ⟨.hbm, 222, rfl⟩
abbrev main_call5_v6 : Ref sig .tc := ⟨.hbm, 223, rfl⟩
abbrev main_call5_v7 : Ref sig .tc := ⟨.hbm, 224, rfl⟩
abbrev main_v121_1 : Ref sig .tc := ⟨.hbm, 225, rfl⟩
abbrev main_v121_0 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_v125 : Ref sig .tc := ⟨.hbm, 230, rfl⟩
abbrev main_call6_v0 : Ref sig .tc := ⟨.hbm, 231, rfl⟩
abbrev main_call6_v1 : Ref sig .tc := ⟨.hbm, 232, rfl⟩
abbrev main_call6_v2 : Ref sig .tc := ⟨.hbm, 233, rfl⟩
abbrev main_v126 : Ref sig .tc := ⟨.hbm, 234, rfl⟩
abbrev main_v127 : Ref sig .tc := ⟨.hbm, 235, rfl⟩
abbrev main_v128 : Ref sig .tc := ⟨.hbm, 236, rfl⟩
abbrev main_cst_16 : Ref sig .tc := ⟨.hbm, 237, rfl⟩
abbrev main_v129 : Ref sig .tc := ⟨.hbm, 238, rfl⟩
abbrev main_v130 : Ref sig .tc := ⟨.hbm, 239, rfl⟩
abbrev main_v131 : Ref sig .tc := ⟨.hbm, 240, rfl⟩
abbrev main_v132 : Ref sig .tc := ⟨.hbm, 241, rfl⟩
abbrev main_cst_17 : Ref sig .tc := ⟨.hbm, 242, rfl⟩
abbrev main_v133 : Ref sig .tc := ⟨.hbm, 243, rfl⟩
abbrev main_call7_cst : Ref sig .tc := ⟨.hbm, 244, rfl⟩
abbrev main_call7_v0 : Ref sig .tc := ⟨.hbm, 245, rfl⟩
abbrev main_v134 : Ref sig .tc := ⟨.hbm, 246, rfl⟩
abbrev main_v135 : Ref sig .tc := ⟨.hbm, 247, rfl⟩
abbrev main_call8_cst : Ref sig .tc := ⟨.hbm, 248, rfl⟩
abbrev main_call8_v0 : Ref sig .tc := ⟨.hbm, 249, rfl⟩
abbrev main_v136 : Ref sig .tc := ⟨.hbm, 250, rfl⟩
abbrev main_cst_18 : Ref sig .tc := ⟨.hbm, 251, rfl⟩
abbrev main_v137 : Ref sig .tc := ⟨.hbm, 252, rfl⟩
abbrev main_v138 : Ref sig .tc := ⟨.hbm, 253, rfl⟩
abbrev main_v139 : Ref sig .tc := ⟨.hbm, 254, rfl⟩
abbrev main_cst_19 : Ref sig .tc := ⟨.hbm, 255, rfl⟩
abbrev main_v140 : Ref sig .tc := ⟨.hbm, 256, rfl⟩
abbrev main_v141 : Ref sig .tc := ⟨.hbm, 257, rfl⟩
abbrev main_cst_20 : Ref sig .tc := ⟨.hbm, 258, rfl⟩
abbrev main_v142 : Ref sig .tc := ⟨.hbm, 259, rfl⟩
abbrev main_cst_21 : Ref sig .tc := ⟨.hbm, 260, rfl⟩
abbrev main_v143 : Ref sig .tc := ⟨.hbm, 261, rfl⟩
abbrev main_v144 : Ref sig .tc := ⟨.hbm, 262, rfl⟩
abbrev main_v145 : Ref sig .tc := ⟨.hbm, 263, rfl⟩
abbrev main_call9_cst : Ref sig .tc := ⟨.hbm, 264, rfl⟩
abbrev main_call9_v0 : Ref sig .tc := ⟨.hbm, 265, rfl⟩
abbrev main_call9_v1 : Ref sig .tc := ⟨.hbm, 266, rfl⟩
abbrev main_call9_cst_0 : Ref sig .tc := ⟨.hbm, 267, rfl⟩
abbrev main_call9_v2 : Ref sig .tc := ⟨.hbm, 268, rfl⟩
abbrev main_v146 : Ref sig .tc := ⟨.hbm, 269, rfl⟩
abbrev main_cst_22 : Ref sig .tc := ⟨.hbm, 270, rfl⟩
abbrev main_v147 : Ref sig .tc := ⟨.hbm, 271, rfl⟩
abbrev main_v148 : Ref sig .tc := ⟨.hbm, 272, rfl⟩
abbrev main_v149 : Ref sig .tc := ⟨.hbm, 273, rfl⟩
abbrev main_v150 : Ref sig .tc := ⟨.hbm, 274, rfl⟩
abbrev main_v151 : Ref sig .tc := ⟨.hbm, 275, rfl⟩
abbrev main_call10_cst : Ref sig .tc := ⟨.hbm, 276, rfl⟩
abbrev main_call10_v0 : Ref sig .tc := ⟨.hbm, 277, rfl⟩
abbrev main_v152 : Ref sig .tc := ⟨.hbm, 278, rfl⟩
abbrev main_v153 : Ref sig .tc := ⟨.hbm, 279, rfl⟩
abbrev main_v154 : Ref sig .tc := ⟨.hbm, 280, rfl⟩
abbrev main_v155 : Ref sig .tc := ⟨.hbm, 281, rfl⟩
abbrev main_cst_23 : Ref sig .tc := ⟨.hbm, 282, rfl⟩
abbrev main_v156 : Ref sig .tc := ⟨.hbm, 283, rfl⟩
abbrev main_v157 : Ref sig .tc := ⟨.hbm, 284, rfl⟩
abbrev main_v158 : Ref sig .tc := ⟨.hbm, 285, rfl⟩
abbrev main_v159 : Ref sig .tc := ⟨.hbm, 286, rfl⟩
abbrev main_cst_24 : Ref sig .tc := ⟨.hbm, 287, rfl⟩
abbrev main_v160 : Ref sig .tc := ⟨.hbm, 288, rfl⟩
abbrev main_v161 : Ref sig .tc := ⟨.hbm, 289, rfl⟩
abbrev main_v162 : Ref sig .tc := ⟨.hbm, 290, rfl⟩
abbrev main_v163 : Ref sig .tc := ⟨.hbm, 291, rfl⟩
abbrev main_cst_25 : Ref sig .tc := ⟨.hbm, 292, rfl⟩
abbrev main_v164 : Ref sig .tc := ⟨.hbm, 293, rfl⟩
abbrev main_v165 : Ref sig .tc := ⟨.hbm, 294, rfl⟩
abbrev main_v166 : Ref sig .tc := ⟨.hbm, 295, rfl⟩
abbrev main_cst_26 : Ref sig .tc := ⟨.hbm, 296, rfl⟩
abbrev main_v167 : Ref sig .tc := ⟨.hbm, 297, rfl⟩
abbrev main_v168 : Ref sig .tc := ⟨.hbm, 298, rfl⟩
abbrev main_v169 : Ref sig .tc := ⟨.hbm, 299, rfl⟩
abbrev main_cst_27 : Ref sig .tc := ⟨.hbm, 300, rfl⟩
abbrev main_v170 : Ref sig .tc := ⟨.hbm, 301, rfl⟩
abbrev main_v171 : Ref sig .tc := ⟨.hbm, 302, rfl⟩
abbrev main_cst_28 : Ref sig .tc := ⟨.hbm, 303, rfl⟩
abbrev main_v172 : Ref sig .tc := ⟨.hbm, 304, rfl⟩
abbrev main_v173 : Ref sig .tc := ⟨.hbm, 305, rfl⟩
abbrev main_v174 : Ref sig .tc := ⟨.hbm, 306, rfl⟩
abbrev main_v175 : Ref sig .tc := ⟨.hbm, 307, rfl⟩
abbrev main_v176 : Ref sig .tc := ⟨.hbm, 308, rfl⟩
abbrev main_v177 : Ref sig .tc := ⟨.hbm, 309, rfl⟩
abbrev main_v178 : Ref sig .tc := ⟨.hbm, 310, rfl⟩
abbrev main_v179 : Ref sig .tc := ⟨.hbm, 311, rfl⟩
abbrev main_cst_29 : Ref sig .tc := ⟨.hbm, 312, rfl⟩
abbrev main_v180 : Ref sig .tc := ⟨.hbm, 313, rfl⟩
abbrev main_v181 : Ref sig .tc := ⟨.hbm, 314, rfl⟩
abbrev main_cst_30 : Ref sig .tc := ⟨.hbm, 315, rfl⟩
abbrev main_v182 : Ref sig .tc := ⟨.hbm, 316, rfl⟩
abbrev main_v183 : Ref sig .tc := ⟨.hbm, 317, rfl⟩
abbrev main_v184 : Ref sig .tc := ⟨.hbm, 318, rfl⟩
abbrev main_v185 : Ref sig .tc := ⟨.hbm, 319, rfl⟩
abbrev main_v186 : Ref sig .tc := ⟨.hbm, 320, rfl⟩
abbrev main_v187 : Ref sig .tc := ⟨.hbm, 321, rfl⟩
abbrev main_v188 : Ref sig .tc := ⟨.hbm, 322, rfl⟩
abbrev main_v189 : Ref sig .tc := ⟨.hbm, 323, rfl⟩
abbrev main_v190 : Ref sig .tc := ⟨.hbm, 324, rfl⟩
abbrev main_v191 : Ref sig .tc := ⟨.hbm, 325, rfl⟩
abbrev main_v192 : Ref sig .tc := ⟨.hbm, 326, rfl⟩
abbrev main_cst_31 : Ref sig .tc := ⟨.hbm, 327, rfl⟩
abbrev main_v193 : Ref sig .tc := ⟨.hbm, 328, rfl⟩
abbrev main_v194 : Ref sig .tc := ⟨.hbm, 329, rfl⟩
abbrev main_v195 : Ref sig .tc := ⟨.hbm, 330, rfl⟩
abbrev main_v196 : Ref sig .tc := ⟨.hbm, 331, rfl⟩
abbrev main_cst_32 : Ref sig .tc := ⟨.hbm, 332, rfl⟩
abbrev main_v197 : Ref sig .tc := ⟨.hbm, 333, rfl⟩
abbrev main_v198 : Ref sig .tc := ⟨.hbm, 334, rfl⟩
abbrev main_cst_33 : Ref sig .tc := ⟨.hbm, 335, rfl⟩
abbrev main_v199 : Ref sig .tc := ⟨.hbm, 336, rfl⟩
abbrev main_cst_34 : Ref sig .tc := ⟨.hbm, 337, rfl⟩
abbrev main_v200 : Ref sig .tc := ⟨.hbm, 338, rfl⟩
abbrev main_v201 : Ref sig .tc := ⟨.hbm, 339, rfl⟩
abbrev main_cst_35 : Ref sig .tc := ⟨.hbm, 340, rfl⟩
abbrev main_v202 : Ref sig .tc := ⟨.hbm, 341, rfl⟩
abbrev main_v203 : Ref sig .tc := ⟨.hbm, 342, rfl⟩
abbrev main_v204 : Ref sig .tc := ⟨.hbm, 343, rfl⟩
abbrev main_v205 : Ref sig .tc := ⟨.hbm, 344, rfl⟩
abbrev main_cst_36 : Ref sig .tc := ⟨.hbm, 345, rfl⟩
abbrev main_v206 : Ref sig .tc := ⟨.hbm, 346, rfl⟩
abbrev main_v207 : Ref sig .tc := ⟨.hbm, 347, rfl⟩
abbrev main_cst_37 : Ref sig .tc := ⟨.hbm, 348, rfl⟩
abbrev main_v208 : Ref sig .tc := ⟨.hbm, 349, rfl⟩
abbrev main_v209 : Ref sig .tc := ⟨.hbm, 350, rfl⟩
abbrev main_cst_38 : Ref sig .tc := ⟨.hbm, 351, rfl⟩
abbrev main_v210 : Ref sig .tc := ⟨.hbm, 352, rfl⟩
abbrev main_v211 : Ref sig .tc := ⟨.hbm, 353, rfl⟩
abbrev main_v212 : Ref sig .tc := ⟨.hbm, 354, rfl⟩
abbrev main_cst_39 : Ref sig .tc := ⟨.hbm, 355, rfl⟩
abbrev main_v213 : Ref sig .tc := ⟨.hbm, 356, rfl⟩
abbrev main_v214 : Ref sig .tc := ⟨.hbm, 357, rfl⟩
abbrev main_v215 : Ref sig .tc := ⟨.hbm, 358, rfl⟩
abbrev main_v216 : Ref sig .tc := ⟨.hbm, 359, rfl⟩
abbrev main_cst_40 : Ref sig .tc := ⟨.hbm, 360, rfl⟩
abbrev main_v217 : Ref sig .tc := ⟨.hbm, 361, rfl⟩
abbrev main_v218 : Ref sig .tc := ⟨.hbm, 362, rfl⟩
abbrev main_cst_41 : Ref sig .tc := ⟨.hbm, 363, rfl⟩
abbrev main_v219 : Ref sig .tc := ⟨.hbm, 364, rfl⟩
abbrev main_v220 : Ref sig .tc := ⟨.hbm, 365, rfl⟩
abbrev main_cst_42 : Ref sig .tc := ⟨.hbm, 366, rfl⟩
abbrev main_v221 : Ref sig .tc := ⟨.hbm, 367, rfl⟩
abbrev main_v222 : Ref sig .tc := ⟨.hbm, 368, rfl⟩
abbrev main_cst_43 : Ref sig .tc := ⟨.hbm, 369, rfl⟩
abbrev main_v223 : Ref sig .tc := ⟨.hbm, 370, rfl⟩
abbrev main_v224 : Ref sig .tc := ⟨.hbm, 371, rfl⟩
abbrev main_cst_44 : Ref sig .tc := ⟨.hbm, 372, rfl⟩
abbrev main_v225 : Ref sig .tc := ⟨.hbm, 373, rfl⟩
abbrev main_v226 : Ref sig .tc := ⟨.hbm, 374, rfl⟩
abbrev main_cst_45 : Ref sig .tc := ⟨.hbm, 375, rfl⟩
abbrev main_v227 : Ref sig .tc := ⟨.hbm, 376, rfl⟩
abbrev main_v228 : Ref sig .tc := ⟨.hbm, 377, rfl⟩
abbrev main_v229 : Ref sig .tc := ⟨.hbm, 378, rfl⟩
abbrev main_v230 : Ref sig .tc := ⟨.hbm, 379, rfl⟩
abbrev main_cst_46 : Ref sig .tc := ⟨.hbm, 380, rfl⟩
abbrev main_v231 : Ref sig .tc := ⟨.hbm, 381, rfl⟩
abbrev main_v232 : Ref sig .tc := ⟨.hbm, 382, rfl⟩
abbrev main_cst_47 : Ref sig .tc := ⟨.hbm, 383, rfl⟩
abbrev main_v233 : Ref sig .tc := ⟨.hbm, 384, rfl⟩
abbrev main_v234 : Ref sig .tc := ⟨.hbm, 385, rfl⟩
abbrev main_cst_48 : Ref sig .tc := ⟨.hbm, 386, rfl⟩
abbrev main_v235 : Ref sig .tc := ⟨.hbm, 387, rfl⟩
abbrev main_v236 : Ref sig .tc := ⟨.hbm, 388, rfl⟩
abbrev main_v237 : Ref sig .tc := ⟨.hbm, 389, rfl⟩
abbrev main_v238 : Ref sig .tc := ⟨.hbm, 390, rfl⟩
abbrev main_v239 : Ref sig .tc := ⟨.hbm, 391, rfl⟩
abbrev main_v240 : Ref sig .tc := ⟨.hbm, 392, rfl⟩
abbrev main_v241 : Ref sig .tc := ⟨.hbm, 393, rfl⟩
abbrev main_v242 : Ref sig .tc := ⟨.hbm, 394, rfl⟩
abbrev main_v243 : Ref sig .tc := ⟨.hbm, 395, rfl⟩
abbrev main_v244 : Ref sig .tc := ⟨.hbm, 396, rfl⟩
abbrev main_v245 : Ref sig .tc := ⟨.hbm, 397, rfl⟩
abbrev main_v246 : Ref sig .tc := ⟨.hbm, 398, rfl⟩
abbrev main_v247 : Ref sig .tc := ⟨.hbm, 399, rfl⟩
abbrev main_v248 : Ref sig .tc := ⟨.hbm, 400, rfl⟩

abbrev nD : Nat := 1
abbrev τ : Topo := Topo.v7x

variable {F : FTy → Type} [FloatOps F]
-- ==== Kernel3.lean ====
abbrev S4096x1024 : Shape := ⟨2, ![4096, 1024]⟩
abbrev S4096x256 : Shape := ⟨2, ![4096, 256]⟩
abbrev S1x1024x1024 : Shape := ⟨3, ![1, 1024, 1024]⟩
abbrev S1x1024 : Shape := ⟨2, ![1, 1024]⟩
abbrev S1x256x1024 : Shape := ⟨3, ![1, 256, 1024]⟩
abbrev S1024 : Shape := ⟨1, ![1024]⟩
abbrev S4096x512 : Shape := ⟨2, ![4096, 512]⟩
abbrev S256x1024 : Shape := ⟨2, ![256, 1024]⟩
abbrev S256x4x256 : Shape := ⟨3, ![256, 4, 256]⟩
abbrev S4x256x256 : Shape := ⟨3, ![4, 256, 256]⟩
abbrev S1024x1024 : Shape := ⟨2, ![1024, 1024]⟩
abbrev S4x256x1024 : Shape := ⟨3, ![4, 256, 1024]⟩
abbrev S8x1024 : Shape := ⟨2, ![8, 1024]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩
abbrev S1 : Shape := ⟨1, ![1]⟩
abbrev S1x1 : Shape := ⟨2, ![1, 1]⟩

abbrev nBuf : Space → Nat
  | .hbm => 29
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x1024, .f32⟩
  | .hbm, ⟨3, _⟩ => ⟨S4096x1024, .f32⟩
  | .hbm, ⟨4, _⟩ => ⟨S1x1024x1024, .f32⟩
  | .hbm, ⟨5, _⟩ => ⟨S1x1024, .f32⟩
  | .hbm, ⟨6, _⟩ => ⟨S1x1024x1024, .f32⟩
  | .hbm, ⟨7, _⟩ => ⟨S1x1024, .f32⟩
  | .hbm, ⟨8, _⟩ => ⟨S1x256x1024, .f32⟩
  | .hbm, ⟨9, _⟩ => ⟨S1024, .f32⟩
  | .hbm, ⟨10, _⟩ => ⟨S4096x512, .f32⟩
  | .hbm, ⟨11, _⟩ => ⟨S4096x512, .bf16⟩
  | .hbm, ⟨12, _⟩ => ⟨S4096x512, .f32⟩
  | .hbm, ⟨13, _⟩ => ⟨S4096x512, .bf16⟩
  | .hbm, ⟨14, _⟩ => ⟨S256x1024, .f32⟩
  | .hbm, ⟨15, _⟩ => ⟨S256x4x256, .f32⟩
  | .hbm, ⟨16, _⟩ => ⟨S4x256x256, .f32⟩
  | .hbm, ⟨17, _⟩ => ⟨S4x256x256, .bf16⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4x256x1024, .bf16⟩
  | .hbm, ⟨26, _⟩ => ⟨S4x256x1024, .bf16⟩
  | .hbm, ⟨27, _⟩ => ⟨S4x256x256, .bf16⟩
  | .hbm, ⟨28, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1024x1024, .bf16⟩
  | .local _ .vmem, ⟨11, _⟩ => ⟨S1024x1024, .bf16⟩
  | .local _ .vmem, ⟨12, _⟩ => ⟨S4x256x256, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S4x256x1024, .bf16⟩
  | .local _ .vmem, ⟨21, _⟩ => ⟨S4x256x1024, .bf16⟩
  | .local _ .vmem, ⟨22, _⟩ => ⟨S4x256x256, .bf16⟩
  | .local _ .vmem, ⟨23, _⟩ => ⟨S8x1024, .f32⟩
  | .local _ .vmem, ⟨24, _⟩ => ⟨S1024x1024, .f32⟩
  | .local _ .vmem, ⟨25, _⟩ => ⟨S1024x1024, .f32⟩
  | .local _ .vmem, ⟨26, _⟩ => ⟨S4x256x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev main_v13_4 : Ref sig .tc := ⟨.hbm, 27, rfl⟩
abbrev main_v13_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem16_0 : DmaSem sig := 23

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v197 : BitVec 1 := Scalar.cmpi .eq arg0 c7_i32
  let v198 : BitVec 32 := Scalar.extui v197
  let c0_i32_124 : BitVec 32 := 0#32
  let v199 : BitVec 1 := Scalar.cmpi .ne v198 c0_i32_124
  v199

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference3Ideal.lean ====
abbrev S4096x1024 : Shape := ⟨2, ![4096, 1024]⟩
abbrev S4096x256 : Shape := ⟨2, ![4096, 256]⟩
abbrev S1x1024x1024 : Shape := ⟨3, ![1, 1024, 1024]⟩
abbrev S1x1024 : Shape := ⟨2, ![1, 1024]⟩
abbrev S1x256x1024 : Shape := ⟨3, ![1, 256, 1024]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1024x256 : Shape := ⟨2, ![1024, 256]⟩
abbrev S4x256x1024 : Shape := ⟨3, ![4, 256, 1024]⟩
abbrev S256x4x256 : Shape := ⟨3, ![256, 4, 256]⟩
abbrev S4x256x256 : Shape := ⟨3, ![4, 256, 256]⟩
abbrev S5x1024 : Shape := ⟨2, ![5, 1024]⟩
abbrev S3x1024 : Shape := ⟨2, ![3, 1024]⟩
abbrev S8x1024 : Shape := ⟨2, ![8, 1024]⟩

abbrev nBuf : Space → Nat
  | .hbm => 185
  | .vmem => 0
  | .smem => 0
  | _ => 0

abbrev hbmTy0_0 (i : Nat) : BufTy := match i % 128 with
  | 0 => ⟨S4096x1024, .f32⟩
  | 1 => ⟨S4096x256, .f32⟩
  | 2 => ⟨S4096x1024, .f32⟩
  | 3 => ⟨S4096x1024, .f32⟩
  | 4 => ⟨S1x1024x1024, .f32⟩
  | 5 => ⟨S1x1024, .f32⟩
  | 6 => ⟨S1x1024x1024, .f32⟩
  | 7 => ⟨S1x1024, .f32⟩
  | 8 => ⟨S1x256x1024, .f32⟩
  | 9 => ⟨S1024, .f32⟩
  | 10 => ⟨S1024x1024, .f32⟩
  | 11 => ⟨S1024, .f32⟩
  | 12 => ⟨S1024x1024, .f32⟩
  | 13 => ⟨S1024, .f32⟩
  | 14 => ⟨S256x1024, .f32⟩
  | 15 => ⟨S4096x1024, .f32⟩
  | 16 => ⟨S4096x1024, .f32⟩
  | 17 => ⟨S4096x1024, .f32⟩
  | 18 => ⟨S_, .f32⟩
  | 19 => ⟨S4096, .f32⟩
  | 20 => ⟨S4096x1, .f32⟩
  | 21 => ⟨S_, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x1, .f32⟩
  | 28 => ⟨S4096x1, .f32⟩
  | 29 => ⟨S_, .f32⟩
  | 30 => ⟨S4096x1, .f32⟩
  | 31 => ⟨S4096x1, .f32⟩
  | 32 => ⟨S4096x1024, .f32⟩
  | 33 => ⟨S4096x1024, .f32⟩
  | 34 => ⟨S1x1024, .f32⟩
  | 35 => ⟨S4096x1024, .f32⟩
  | 36 => ⟨S4096x1024, .f32⟩
  | 37 => ⟨S4096x1024, .f32⟩
  | 38 => ⟨S1x1024, .f32⟩
  | 39 => ⟨S4096x1024, .f32⟩
  | 40 => ⟨S4096x1024, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S_, .f32⟩
  | 58 => ⟨S4096, .f32⟩
  | 59 => ⟨S4096x1, .f32⟩
  | 60 => ⟨S_, .f32⟩
  | 61 => ⟨S4096x1, .f32⟩
  | 62 => ⟨S4096x1, .f32⟩
  | 63 => ⟨S_, .f32⟩
  | 64 => ⟨S4096x1, .f32⟩
  | 65 => ⟨S4096x1, .f32⟩
  | 66 => ⟨S4096x1, .f32⟩
  | 67 => ⟨S4096x1, .f32⟩
  | 68 => ⟨S_, .f32⟩
  | 69 => ⟨S4096x1, .f32⟩
  | 70 => ⟨S4096x1, .f32⟩
  | 71 => ⟨S4096x1024, .f32⟩
  | 72 => ⟨S4096x1024, .f32⟩
  | 73 => ⟨S1x1024, .f32⟩
  | 74 => ⟨S4096x1024, .f32⟩
  | 75 => ⟨S4096x1024, .f32⟩
  | 76 => ⟨S4096x1024, .f32⟩
  | 77 => ⟨S4096x1024, .f32⟩
  | 78 => ⟨S_, .f32⟩
  | 79 => ⟨S4096x1024, .f32⟩
  | 80 => ⟨S4096x1024, .f32⟩
  | 81 => ⟨S_, .f32⟩
  | 82 => ⟨S4096, .f32⟩
  | 83 => ⟨S_, .f32⟩
  | 84 => ⟨S4096, .f32⟩
  | 85 => ⟨S4096, .f32⟩
  | 86 => ⟨S_, .f32⟩
  | 87 => ⟨S_, .f32⟩
  | 88 => ⟨S_, .f32⟩
  | 89 => ⟨S_, .f32⟩
  | 90 => ⟨S_, .f32⟩
  | 91 => ⟨S1024, .f32⟩
  | 92 => ⟨S_, .f32⟩
  | 93 => ⟨S_, .f32⟩
  | 94 => ⟨S_, .f32⟩
  | 95 => ⟨S4096, .f32⟩
  | 96 => ⟨S_, .f32⟩
  | 97 => ⟨S4096, .f32⟩
  | 98 => ⟨S4096, .f32⟩
  | 99 => ⟨S4096x1024, .f32⟩
  | 100 => ⟨S4096x1024, .f32⟩
  | 101 => ⟨S4096x1024, .f32⟩
  | 102 => ⟨S_, .f32⟩
  | 103 => ⟨S1024, .f32⟩
  | 104 => ⟨S1x1024, .f32⟩
  | 105 => ⟨S4096x1024, .f32⟩
  | 106 => ⟨S4096x1024, .f32⟩
  | 107 => ⟨S_, .f32⟩
  | 108 => ⟨S1024, .f32⟩
  | 109 => ⟨S4096x1024, .f32⟩
  | 110 => ⟨S_, .f32⟩
  | 111 => ⟨S4096, .f32⟩
  | 112 => ⟨S4096x1, .f32⟩
  | 113 => ⟨S4096x1024, .f32⟩
  | 114 => ⟨S4096x1024, .f32⟩
  | 115 => ⟨S4096x1, .f32⟩
  | 116 => ⟨S_, .f32⟩
  | 117 => ⟨S4096x1, .f32⟩
  | 118 => ⟨S4096x1, .f32⟩
  | 119 => ⟨S_, .f32⟩
  | 120 => ⟨S4096, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S1024x256, .f32⟩
  | 1 => ⟨S256x1024, .f32⟩
  | 2 => ⟨S4096x1024, .f32⟩
  | 3 => ⟨S_, .f32⟩
  | 4 => ⟨S1024, .f32⟩
  | 5 => ⟨S1x1024, .f32⟩
  | 6 => ⟨S_, .f32⟩
  | 7 => ⟨S1024, .f32⟩
  | 8 => ⟨S1024x1024, .f32⟩
  | 9 => ⟨S1024x1024, .f32⟩
  | 10 => ⟨S4096x1024, .f32⟩
  | 11 => ⟨S4096x1024, .f32⟩
  | 12 => ⟨S_, .f32⟩
  | 13 => ⟨S1024, .f32⟩
  | 14 => ⟨S1x1024, .f32⟩
  | 15 => ⟨S4096x1024, .f32⟩
  | 16 => ⟨S4096x1024, .f32⟩
  | 17 => ⟨S_, .f32⟩
  | 18 => ⟨S1024, .f32⟩
  | 19 => ⟨S4096x1024, .f32⟩
  | 20 => ⟨S_, .f32⟩
  | 21 => ⟨S4096, .f32⟩
  | 22 => ⟨S4096x1, .f32⟩
  | 23 => ⟨S4096x1024, .f32⟩
  | 24 => ⟨S4096x1024, .f32⟩
  | 25 => ⟨S4096x1024, .f32⟩
  | 26 => ⟨S4096x1, .f32⟩
  | 27 => ⟨S_, .f32⟩
  | 28 => ⟨S4096x1, .f32⟩
  | 29 => ⟨S4096x1, .f32⟩
  | 30 => ⟨S_, .f32⟩
  | 31 => ⟨S4096, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S1024x1024, .f32⟩
  | 38 => ⟨S1024x1024, .f32⟩
  | 39 => ⟨S4096x1024, .f32⟩
  | 40 => ⟨S4x256x1024, .f32⟩
  | 41 => ⟨S4x256x1024, .bf16⟩
  | 42 => ⟨S4x256x1024, .f32⟩
  | 43 => ⟨S4x256x1024, .bf16⟩
  | 44 => ⟨S256x4x256, .f32⟩
  | 45 => ⟨S4x256x256, .f32⟩
  | 46 => ⟨S4x256x256, .bf16⟩
  | 47 => ⟨S1024, .f32⟩
  | 48 => ⟨S1x1024, .f32⟩
  | 49 => ⟨S1x1024, .f32⟩
  | 50 => ⟨S1x1024, .f32⟩
  | 51 => ⟨S1x1024, .f32⟩
  | 52 => ⟨S1x1024, .f32⟩
  | 53 => ⟨S5x1024, .f32⟩
  | 54 => ⟨S_, .f32⟩
  | 55 => ⟨S3x1024, .f32⟩
  | 56 => ⟨S8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_cst_13 : Ref sig .tc := ⟨.hbm, 86, rfl⟩
abbrev main_v62 : Ref sig .tc := ⟨.hbm, 87, rfl⟩
abbrev main_cst_14 : Ref sig .tc := ⟨.hbm, 88, rfl⟩
abbrev main_v63 : Ref sig .tc := ⟨.hbm, 89, rfl⟩
abbrev main_cst_15 : Ref sig .tc := ⟨.hbm, 90, rfl⟩
abbrev main_v64 : Ref sig .tc := ⟨.hbm, 91, rfl⟩
abbrev main_cst_16 : Ref sig .tc := ⟨.hbm, 92, rfl⟩
abbrev main_cst_17 : Ref sig .tc := ⟨.hbm, 93, rfl⟩
abbrev main_v65 : Ref sig .tc := ⟨.hbm, 94, rfl⟩
abbrev main_v66 : Ref sig .tc := ⟨.hbm, 95, rfl⟩
abbrev main_cst_18 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_19 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_20 : Ref sig .tc := ⟨.hbm, 107, rfl⟩
abbrev main_v76 : Ref sig .tc := ⟨.hbm, 108, rfl⟩
abbrev main_v77 : Ref sig .tc := ⟨.hbm, 109, rfl⟩
abbrev main_cst_21 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_22 : Ref sig .tc := ⟨.hbm, 116, rfl⟩
abbrev main_v83 : Ref sig .tc := ⟨.hbm, 117, rfl⟩
abbrev main_v84 : Ref sig .tc := ⟨.hbm, 118, rfl⟩
abbrev main_cst_23 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_24 : Ref sig .tc := ⟨.hbm, 131, rfl⟩
abbrev main_v96 : Ref sig .tc := ⟨.hbm, 132, rfl⟩
abbrev main_v97 : Ref sig .tc := ⟨.hbm, 133, rfl⟩
abbrev main_cst_25 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_26 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_27 : Ref sig .tc := ⟨.hbm, 145, rfl⟩
abbrev main_v107 : Ref sig .tc := ⟨.hbm, 146, rfl⟩
abbrev main_v108 : Ref sig .tc := ⟨.hbm, 147, rfl⟩
abbrev main_cst_28 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_29 : Ref sig .tc := ⟨.hbm, 155, rfl⟩
abbrev main_v115 : Ref sig .tc := ⟨.hbm, 156, rfl⟩
abbrev main_v116 : Ref sig .tc := ⟨.hbm, 157, rfl⟩
abbrev main_cst_30 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_cst_31 : Ref sig .tc := ⟨.hbm, 182, rfl⟩
abbrev main_v140 : Ref sig .tc := ⟨.hbm, 183, rfl⟩
abbrev main_v141 : Ref sig .tc := ⟨.hbm, 184, rfl⟩

abbrev nD : Nat := 1
abbrev τ : Topo := Topo.v7x

variable {F : FTy → Type} [FloatOps F]
-- ==== Kernel4.lean ====
abbrev S4096x3072 : Shape := ⟨2, ![4096, 3072]⟩
abbrev S4096x1024 : Shape := ⟨2, ![4096, 1024]⟩
abbrev S2x512 : Shape := ⟨2, ![2, 512]⟩
abbrev S1x128 : Shape := ⟨2, ![1, 128]⟩
abbrev S4096x512 : Shape := ⟨2, ![4096, 512]⟩
abbrev S4096x2048 : Shape := ⟨2, ![4096, 2048]⟩
abbrev S_ : Shape := ⟨0, ![]⟩
abbrev S512 : Shape := ⟨1, ![512]⟩
abbrev S1x512 : Shape := ⟨2, ![1, 512]⟩
abbrev S64x64x4x128 : Shape := ⟨4, ![64, 64, 4, 128]⟩
abbrev S4x64x64x128 : Shape := ⟨4, ![4, 64, 64, 128]⟩
abbrev S4x64x1x128 : Shape := ⟨4, ![4, 64, 1, 128]⟩
abbrev S4x64x128 : Shape := ⟨3, ![4, 64, 128]⟩
abbrev S4x64x64x64 : Shape := ⟨4, ![4, 64, 64, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x64x128x128 : Shape := ⟨4, ![4, 64, 128, 128]⟩
abbrev S1x64x64x1 : Shape := ⟨4, ![1, 64, 64, 1]⟩
abbrev S4x1x64x128 : Shape := ⟨4, ![4, 1, 64, 128]⟩
abbrev S4x128x128x64 : Shape := ⟨4, ![4, 128, 128, 64]⟩
abbrev S8x128 : Shape := ⟨2, ![8, 128]⟩
abbrev S8x512 : Shape := ⟨2, ![8, 512]⟩
abbrev S512x512 : Shape := ⟨2, ![512, 512]⟩
abbrev S4x8x128x128 : Shape := ⟨4, ![4, 8, 128, 128]⟩
abbrev S512x2048 : Shape := ⟨2, ![512, 2048]⟩
abbrev S4x128x128 : Shape := ⟨3, ![4, 128, 128]⟩
abbrev S32x64x64 : Shape := ⟨3, ![32, 64, 64]⟩
abbrev S32x128x128 : Shape := ⟨3, ![32, 128, 128]⟩
abbrev S64x512 : Shape := ⟨2, ![64, 512]⟩
abbrev S512x128 : Shape := ⟨2, ![512, 128]⟩
abbrev S512x1 : Shape := ⟨2, ![512, 1]⟩
abbrev S128 : Shape := ⟨1, ![128]⟩
abbrev S64x128 : Shape := ⟨2, ![64, 128]⟩
abbrev S1x64x64 : Shape := ⟨3, ![1, 64, 64]⟩
abbrev S128x128 : Shape := ⟨2, ![128, 128]⟩
abbrev S1x128x128 : Shape := ⟨3, ![1, 128, 128]⟩
abbrev S1x1x128x128 : Shape := ⟨4, ![1, 1, 128, 128]⟩

abbrev nBuf : Space → Nat
  | .hbm => 162
  | .vmem => 39
  | .smem => 0
  | _ => 0

abbrev hbmTy0_0 (i : Nat) : BufTy := match i % 128 with
  | 0 => ⟨S4096x3072, .f32⟩
  | 1 => ⟨S4096x1024, .f32⟩
  | 2 => ⟨S2x512, .f32⟩
  | 3 => ⟨S1x128, .f32⟩
  | 4 => ⟨S4096x512, .f32⟩
  | 5 => ⟨S4096x512, .f32⟩
  | 6 => ⟨S4096x512, .f32⟩
  | 7 => ⟨S4096x512, .f32⟩
  | 8 => ⟨S4096x512, .f32⟩
  | 9 => ⟨S4096x512, .f32⟩
  | 10 => ⟨S4096x1024, .f32⟩
  | 11 => ⟨S4096x2048, .f32⟩
  | 12 => ⟨S4096x2048, .bf16⟩
  | 13 => ⟨S_, .f32⟩
  | 14 => ⟨S512, .f32⟩
  | 15 => ⟨S_, .f32⟩
  | 16 => ⟨S512, .f32⟩
  | 17 => ⟨S512, .f32⟩
  | 18 => ⟨S1x512, .f32⟩
  | 19 => ⟨S2x512, .f32⟩
  | 20 => ⟨S2x512, .f32⟩
  | 21 => ⟨S2x512, .f32⟩
  | 22 => ⟨S_, .f32⟩
  | 23 => ⟨S512, .f32⟩
  | 24 => ⟨S1x512, .f32⟩
  | 25 => ⟨S2x512, .f32⟩
  | 26 => ⟨S2x512, .f32⟩
  | 27 => ⟨S_, .f32⟩
  | 28 => ⟨S_, .f32⟩
  | 29 => ⟨S2x512, .f32⟩
  | 30 => ⟨S1x512, .f32⟩
  | 31 => ⟨S512, .f32⟩
  | 32 => ⟨S_, .f32⟩
  | 33 => ⟨S512, .f32⟩
  | 34 => ⟨S512, .f32⟩
  | 35 => ⟨S4096x512, .f32⟩
  | 36 => ⟨S4096x512, .f32⟩
  | 37 => ⟨S_, .f32⟩
  | 38 => ⟨S4096x512, .f32⟩
  | 39 => ⟨S4096x512, .f32⟩
  | 40 => ⟨S_, .f32⟩
  | 41 => ⟨S4096x512, .f32⟩
  | 42 => ⟨S4096x512, .f32⟩
  | 43 => ⟨S1x512, .f32⟩
  | 44 => ⟨S4096x512, .f32⟩
  | 45 => ⟨S4096x512, .f32⟩
  | 46 => ⟨S1x512, .f32⟩
  | 47 => ⟨S4096x512, .f32⟩
  | 48 => ⟨S4096x512, .f32⟩
  | 49 => ⟨S_, .f32⟩
  | 50 => ⟨S512, .f32⟩
  | 51 => ⟨S512, .f32⟩
  | 52 => ⟨S4096x512, .f32⟩
  | 53 => ⟨S4096x512, .f32⟩
  | 54 => ⟨S4096x512, .f32⟩
  | 55 => ⟨S_, .f32⟩
  | 56 => ⟨S4096x512, .f32⟩
  | 57 => ⟨S4096x512, .f32⟩
  | 58 => ⟨S_, .f32⟩
  | 59 => ⟨S4096x512, .f32⟩
  | 60 => ⟨S4096x512, .f32⟩
  | 61 => ⟨S1x512, .f32⟩
  | 62 => ⟨S4096x512, .f32⟩
  | 63 => ⟨S4096x512, .f32⟩
  | 64 => ⟨S4096x512, .f32⟩
  | 65 => ⟨S4096x512, .f32⟩
  | 66 => ⟨S_, .f32⟩
  | 67 => ⟨S4096x512, .f32⟩
  | 68 => ⟨S4096x512, .f32⟩
  | 69 => ⟨S_, .f32⟩
  | 70 => ⟨S4096x512, .f32⟩
  | 71 => ⟨S4096x512, .f32⟩
  | 72 => ⟨S4096x512, .f32⟩
  | 73 => ⟨S_, .f32⟩
  | 74 => ⟨S4096x512, .f32⟩
  | 75 => ⟨S4096x512, .f32⟩
  | 76 => ⟨S4096x512, .f32⟩
  | 77 => ⟨S64x64x4x128, .f32⟩
  | 78 => ⟨S4x64x64x128, .f32⟩
  | 79 => ⟨S64x64x4x128, .f32⟩
  | 80 => ⟨S4x64x64x128, .f32⟩
  | 81 => ⟨S64x64x4x128, .f32⟩
  | 82 => ⟨S4x64x64x128, .f32⟩
  | 83 => ⟨S64x64x4x128, .f32⟩
  | 84 => ⟨S4x64x64x128, .f32⟩
  | 85 => ⟨S_, .f32⟩
  | 86 => ⟨S_, .f32⟩
  | 87 => ⟨S4x64x64x128, .f32⟩
  | 88 => ⟨S4x64x1x128, .f32⟩
  | 89 => ⟨S4x64x128, .f32⟩
  | 90 => ⟨S4x64x64x128, .f32⟩
  | 91 => ⟨S4x64x64x128, .f32⟩
  | 92 => ⟨S4x64x64x128, .f32⟩
  | 93 => ⟨S4x64x64x128, .f32⟩
  | 94 => ⟨S4x64x64x128, .f32⟩
  | 95 => ⟨S4x64x64x64, .f32⟩
  | 96 => ⟨S64, .i32⟩
  | 97 => ⟨S64x1, .i32⟩
  | 98 => ⟨S64, .i32⟩
  | 99 => ⟨S1x64, .i32⟩
  | 100 => ⟨S64x64, .i32⟩
  | 101 => ⟨S64x64, .i32⟩
  | 102 => ⟨S64x64, .i1⟩
  | 103 => ⟨S_, .f32⟩
  | 104 => ⟨S_, .f32⟩
  | 105 => ⟨S4x64x64x64, .i1⟩
  | 106 => ⟨S4x64x64x64, .f32⟩
  | 107 => ⟨S4x64x64x64, .f32⟩
  | 108 => ⟨S4x64x64x128, .f32⟩
  | 109 => ⟨S4x64x1x128, .f32⟩
  | 110 => ⟨S4x64x64x128, .f32⟩
  | 111 => ⟨S4x64x64x128, .f32⟩
  | 112 => ⟨S4x64x64x128, .f32⟩
  | 113 => ⟨S4x64x64x128, .f32⟩
  | 114 => ⟨S4x64x128x128, .f32⟩
  | 115 => ⟨S64, .i32⟩
  | 116 => ⟨S64x1, .i32⟩
  | 117 => ⟨S64, .i32⟩
  | 118 => ⟨S1x64, .i32⟩
  | 119 => ⟨S64x64, .i32⟩
  | 120 => ⟨S64x64, .i32⟩
  | 121 => ⟨S64x64, .i1⟩
  | 122 => ⟨S1x64x64x1, .i1⟩
  | 123 => ⟨S4x1x64x128, .f32⟩
  | 124 => ⟨S_, .f32⟩
  | 125 => ⟨S_, .f32⟩
  | 126 => ⟨S4x64x64x128, .i1⟩
  | 127 => ⟨S4x64x64x128, .f32⟩
  | _ => ⟨S4096x3072, .f32⟩

abbrev hbmTy0_1 (i : Nat) : BufTy := match i % 128 with
  | 0 => ⟨S4x64x64x128, .f32⟩
  | 1 => ⟨S4x64x64x128, .f32⟩
  | 2 => ⟨S_, .f32⟩
  | 3 => ⟨S4x64x128, .f32⟩
  | 4 => ⟨S1x64x64x1, .i1⟩
  | 5 => ⟨S4x64x1x128, .f32⟩
  | 6 => ⟨S4x64x128, .f32⟩
  | 7 => ⟨S4x1x64x128, .f32⟩
  | 8 => ⟨S4x64x64x128, .f32⟩
  | 9 => ⟨S4x64x64x128, .f32⟩
  | 10 => ⟨S4x64x64x128, .f32⟩
  | 11 => ⟨S_, .f32⟩
  | 12 => ⟨S_, .f32⟩
  | 13 => ⟨S4x64x64x128, .i1⟩
  | 14 => ⟨S4x64x64x128, .f32⟩
  | 15 => ⟨S4x64x64x128, .f32⟩
  | 16 => ⟨S1x64x64x1, .i1⟩
  | 17 => ⟨S4x64x64x128, .f32⟩
  | 18 => ⟨S_, .f32⟩
  | 19 => ⟨S_, .f32⟩
  | 20 => ⟨S4x64x64x128, .i1⟩
  | 21 => ⟨S4x64x64x128, .f32⟩
  | 22 => ⟨S4x64x64x128, .f32⟩
  | 23 => ⟨S4x128x128x64, .f32⟩
  | 24 => ⟨S4x64x128x128, .f32⟩
  | 25 => ⟨S4x64x64x128, .f32⟩
  | 26 => ⟨S4x64x64x128, .f32⟩
  | 27 => ⟨S64x64x4x128, .f32⟩
  | 28 => ⟨S4096x512, .f32⟩
  | 29 => ⟨S4x64x128x128, .f32⟩
  | 30 => ⟨S_, .f32⟩
  | 31 => ⟨S8x128, .f32⟩
  | 32 => ⟨S4096x2048, .bf16⟩
  | 33 => ⟨S8x512, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S4x8x128x128, .f32⟩
  | .local _ .vmem, ⟨11, _⟩ => ⟨S4x8x128x128, .f32⟩
  | .local _ .vmem, ⟨12, _⟩ => ⟨S512x512, .f32⟩
  | .local _ .vmem, ⟨13, _⟩ => ⟨S512x512, .f32⟩
  | .local _ .vmem, ⟨14, _⟩ => ⟨S2x512, .f32⟩
  | .local _ .vmem, ⟨15, _⟩ => ⟨S1x128, .f32⟩
  | .local _ .vmem, ⟨16, _⟩ => ⟨S512x2048, .bf16⟩
  | .local _ .vmem, ⟨17, _⟩ => ⟨S512x2048, .bf16⟩
  | .local _ .vmem, ⟨18, _⟩ => ⟨S8x512, .f32⟩
  | .local _ .vmem, ⟨19, _⟩ => ⟨S4x128x128, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S8x512, .f32⟩
  | .local _ .vmem, ⟨29, _⟩ => ⟨S8x512, .f32⟩
  | .local _ .vmem, ⟨30, _⟩ => ⟨S32x64x64, .bf16⟩
  | .local _ .vmem, ⟨31, _⟩ => ⟨S32x64x64, .bf16⟩
  | .local _ .vmem, ⟨32, _⟩ => ⟨S32x128x128, .f32⟩
  | .local _ .vmem, ⟨33, _⟩ => ⟨S32x128x128, .f32⟩
  | .local _ .vmem, ⟨34, _⟩ => ⟨S512x512, .f32⟩
  | .local _ .vmem, ⟨35, _⟩ => ⟨S512x512, .f32⟩
  | .local _ .vmem, ⟨36, _⟩ => ⟨S512x512, .f32⟩
  | .local _ .vmem, ⟨37, _⟩ => ⟨S512x512, .f32⟩
  | .local _ .vmem, ⟨38, _⟩ => ⟨S512x512, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_call0_cst : Ref sig .tc := ⟨.hbm, 27, rfl⟩
abbrev main_call0_call0_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call2_call0_cst : Ref sig .tc := ⟨.hbm, 85, rfl⟩
abbrev main_call2_call0_v0 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_9 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_10 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_call4_v3 : Ref sig .tc := ⟨.hbm, 128, rfl⟩
abbrev main_v94 : Ref sig .tc := ⟨.hbm, 129, rfl⟩
abbrev main_cst_11 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_12 : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_13 : Ref sig .tc := ⟨.hbm, 146, rfl⟩
abbrev main_call6_v0 : Ref sig .tc := ⟨.hbm, 147, rfl⟩
abbrev main_call6_v1 : Ref sig .tc := ⟨.hbm, 148, rfl⟩
abbrev main_call6_v2 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_14 : Ref sig .tc := ⟨.hbm, 158, rfl⟩
abbrev main_v114 : Ref sig .tc := ⟨.hbm, 159, rfl⟩
abbrev main_v115_0 : Ref sig .tc := ⟨.hbm, 160, rfl⟩
abbrev main_v115_1 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_scratch9 : Ref sig .tc := ⟨.vmem, 28, rfl⟩
abbrev cc0_scratch10 : Ref sig .tc := ⟨.vmem, 29, rfl⟩
abbrev cc0_scratch11 : Ref sig .tc := ⟨.vmem, 30, rfl⟩
abbrev cc0_scratch12 : Ref sig .tc := ⟨.vmem, 31, rfl⟩
abbrev cc0_scratch13 : Ref sig .tc := ⟨.vmem, 32, rfl⟩
abbrev cc0_scratch14 : Ref sig .tc := ⟨.vmem, 33, rfl⟩
abbrev cc0_scratch15 : Ref sig .tc := ⟨.vmem, 34, rfl⟩
abbrev cc0_scratch16 : Ref sig .tc := ⟨.vmem, 35, rfl⟩
abbrev cc0_scratch17 : Ref sig .tc := ⟨.vmem, 36, rfl⟩
abbrev cc0_scratch18 : Ref sig .tc := ⟨.vmem, 37, rfl⟩
abbrev cc0_scratch19 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference4Ideal.lean ====
abbrev S4096x3072 : Shape := ⟨2, ![4096, 3072]⟩
abbrev S4096x1024 : Shape := ⟨2, ![4096, 1024]⟩
abbrev S2x512 : Shape := ⟨2, ![2, 512]⟩
abbrev S1x128 : Shape := ⟨2, ![1, 128]⟩
abbrev S_ : Shape := ⟨0, ![]⟩
abbrev S512 : Shape := ⟨1, ![512]⟩
abbrev S1x512 : Shape := ⟨2, ![1, 512]⟩
abbrev S4096x512 : Shape := ⟨2, ![4096, 512]⟩
abbrev S128 : Shape := ⟨1, ![128]⟩
abbrev S64x64x4x128 : Shape := ⟨4, ![64, 64, 4, 128]⟩
abbrev S4x64x64x128 : Shape := ⟨4, ![4, 64, 64, 128]⟩
abbrev S4x64x1x128 : Shape := ⟨4, ![4, 64, 1, 128]⟩
abbrev S4x64x128 : Shape := ⟨3, ![4, 64, 128]⟩
abbrev S4x64x64x64 : Shape := ⟨4, ![4, 64, 64, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x64x128x128 : Shape := ⟨4, ![4, 64, 128, 128]⟩
abbrev S1x64x64x1 : Shape := ⟨4, ![1, 64, 64, 1]⟩
abbrev S4x1x64x128 : Shape := ⟨4, ![4, 1, 64, 128]⟩
abbrev S4x128x128x64 : Shape := ⟨4, ![4, 128, 128, 64]⟩
abbrev S4096x4x128 : Shape := ⟨3, ![4096, 4, 128]⟩
abbrev S4096x4 : Shape := ⟨2, ![4096, 4]⟩
abbrev S4096x4x1 : Shape := ⟨3, ![4096, 4, 1]⟩
abbrev S1x1x128 : Shape := ⟨3, ![1, 1, 128]⟩
abbrev S4x128x64x64 : Shape := ⟨4, ![4, 128, 64, 64]⟩
abbrev S4x64x128x64 : Shape := ⟨4, ![4, 64, 128, 64]⟩
abbrev S384 : Shape := ⟨1, ![384]⟩
abbrev S4x512 : Shape := ⟨2, ![4, 512]⟩
abbrev S4096x2048 : Shape := ⟨2, ![4096, 2048]⟩
abbrev S8x512 : Shape := ⟨2, ![8, 512]⟩

abbrev nBuf : Space → Nat
  | .hbm => 422
  | .vmem => 0
  | .smem => 0
  | _ => 0

abbrev hbmTy0_0 (i : Nat) : BufTy := match i % 128 with
  | 0 => ⟨S4096x3072, .f32⟩
  | 1 => ⟨S4096x1024, .f32⟩
  | 2 => ⟨S2x512, .f32⟩
  | 3 => ⟨S1x128, .f32⟩
  | 4 => ⟨S_, .f32⟩
  | 5 => ⟨S512, .f32⟩
  | 6 => ⟨S1x512, .f32⟩
  | 7 => ⟨S2x512, .f32⟩
  | 8 => ⟨S2x512, .i1⟩
  | 9 => ⟨S2x512, .f32⟩
  | 10 => ⟨S_, .f32⟩
  | 11 => ⟨S512, .f32⟩
  | 12 => ⟨S_, .f32⟩
  | 13 => ⟨S512, .f32⟩
  | 14 => ⟨S512, .f32⟩
  | 15 => ⟨S_, .f32⟩
  | 16 => ⟨S512, .f32⟩
  | 17 => ⟨S512, .i1⟩
  | 18 => ⟨S_, .f32⟩
  | 19 => ⟨S512, .f32⟩
  | 20 => ⟨S512, .i1⟩
  | 21 => ⟨S_, .f32⟩
  | 22 => ⟨S512, .f32⟩
  | 23 => ⟨S_, .f32⟩
  | 24 => ⟨S512, .f32⟩
  | 25 => ⟨S_, .f32⟩
  | 26 => ⟨S512, .f32⟩
  | 27 => ⟨S512, .f32⟩
  | 28 => ⟨S512, .f32⟩
  | 29 => ⟨S1x512, .f32⟩
  | 30 => ⟨S2x512, .f32⟩
  | 31 => ⟨S2x512, .f32⟩
  | 32 => ⟨S2x512, .f32⟩
  | 33 => ⟨S_, .f32⟩
  | 34 => ⟨S512, .f32⟩
  | 35 => ⟨S1x512, .f32⟩
  | 36 => ⟨S2x512, .f32⟩
  | 37 => ⟨S2x512, .f32⟩
  | 38 => ⟨S1x512, .f32⟩
  | 39 => ⟨S_, .f32⟩
  | 40 => ⟨S1x512, .f32⟩
  | 41 => ⟨S1x512, .f32⟩
  | 42 => ⟨S_, .f32⟩
  | 43 => ⟨S_, .f32⟩
  | 44 => ⟨S2x512, .f32⟩
  | 45 => ⟨S1x512, .f32⟩
  | 46 => ⟨S512, .f32⟩
  | 47 => ⟨S4096x512, .f32⟩
  | 48 => ⟨S4096x512, .f32⟩
  | 49 => ⟨S4096x512, .f32⟩
  | 50 => ⟨S4096x512, .f32⟩
  | 51 => ⟨S128, .f32⟩
  | 52 => ⟨S_, .f32⟩
  | 53 => ⟨S512, .f32⟩
  | 54 => ⟨S512, .f32⟩
  | 55 => ⟨S4096x512, .f32⟩
  | 56 => ⟨S4096x512, .f32⟩
  | 57 => ⟨S_, .f32⟩
  | 58 => ⟨S4096x512, .f32⟩
  | 59 => ⟨S4096x512, .f32⟩
  | 60 => ⟨S_, .f32⟩
  | 61 => ⟨S4096x512, .f32⟩
  | 62 => ⟨S4096x512, .f32⟩
  | 63 => ⟨S_, .f32⟩
  | 64 => ⟨S4096x512, .f32⟩
  | 65 => ⟨S4096x512, .f32⟩
  | 66 => ⟨S4096x512, .f32⟩
  | 67 => ⟨S1x512, .f32⟩
  | 68 => ⟨S4096x512, .f32⟩
  | 69 => ⟨S4096x512, .f32⟩
  | 70 => ⟨S1x512, .f32⟩
  | 71 => ⟨S4096x512, .f32⟩
  | 72 => ⟨S4096x512, .f32⟩
  | 73 => ⟨S_, .f32⟩
  | 74 => ⟨S512, .f32⟩
  | 75 => ⟨S512, .f32⟩
  | 76 => ⟨S4096x512, .f32⟩
  | 77 => ⟨S4096x512, .f32⟩
  | 78 => ⟨S4096x512, .f32⟩
  | 79 => ⟨S_, .f32⟩
  | 80 => ⟨S4096x512, .f32⟩
  | 81 => ⟨S4096x512, .f32⟩
  | 82 => ⟨S_, .f32⟩
  | 83 => ⟨S4096x512, .f32⟩
  | 84 => ⟨S4096x512, .f32⟩
  | 85 => ⟨S_, .f32⟩
  | 86 => ⟨S4096x512, .f32⟩
  | 87 => ⟨S4096x512, .f32⟩
  | 88 => ⟨S4096x512, .f32⟩
  | 89 => ⟨S1x512, .f32⟩
  | 90 => ⟨S4096x512, .f32⟩
  | 91 => ⟨S4096x512, .f32⟩
  | 92 => ⟨S4096x512, .f32⟩
  | 93 => ⟨S4096x512, .f32⟩
  | 94 => ⟨S_, .f32⟩
  | 95 => ⟨S4096x512, .f32⟩
  | 96 => ⟨S4096x512, .f32⟩
  | 97 => ⟨S_, .f32⟩
  | 98 => ⟨S4096x512, .f32⟩
  | 99 => ⟨S4096x512, .f32⟩
  | 100 => ⟨S_, .f32⟩
  | 101 => ⟨S4096x512, .f32⟩
  | 102 => ⟨S4096x512, .f32⟩
  | 103 => ⟨S4096x512, .f32⟩
  | 104 => ⟨S4096x512, .f32⟩
  | 105 => ⟨S_, .f32⟩
  | 106 => ⟨S4096x512, .f32⟩
  | 107 => ⟨S4096x512, .f32⟩
  | 108 => ⟨S4096x512, .f32⟩
  | 109 => ⟨S64x64x4x128, .f32⟩
  | 110 => ⟨S4x64x64x128, .f32⟩
  | 111 => ⟨S64x64x4x128, .f32⟩
  | 112 => ⟨S4x64x64x128, .f32⟩
  | 113 => ⟨S64x64x4x128, .f32⟩
  | 114 => ⟨S4x64x64x128, .f32⟩
  | 115 => ⟨S64x64x4x128, .f32⟩
  | 116 => ⟨S4x64x64x128, .f32⟩
  | 117 => ⟨S_, .f32⟩
  | 118 => ⟨S_, .f32⟩
  | 119 => ⟨S4x64x64x128, .f32⟩
  | 120 => ⟨S4x64x1x128, .f32⟩
  | 121 => ⟨S4x64x128, .f32⟩
  | 122 => ⟨S4x64x64x128, .f32⟩
  | 123 => ⟨S4x64x64x128, .f32⟩
  | 124 => ⟨S4x64x64x128, .f32⟩
  | 125 => ⟨S4x64x64x128, .f32⟩
  | 126 => ⟨S4x64x64x128, .f32⟩
  | 127 => ⟨S4x64x64x64, .f32⟩
  | _ => ⟨S4096x3072, .f32⟩

abbrev hbmTy0_1 (i : Nat) : BufTy := match i % 128 with
  | 0 => ⟨S64, .i32⟩
  | 1 => ⟨S64x1, .i32⟩
  | 2 => ⟨S64, .i32⟩
  | 3 => ⟨S1x64, .i32⟩
  | 4 => ⟨S64x64, .i32⟩
  | 5 => ⟨S64x64, .i32⟩
  | 6 => ⟨S64x64, .i1⟩
  | 7 => ⟨S_, .f32⟩
  | 8 => ⟨S_, .f32⟩
  | 9 => ⟨S4x64x64x64, .i1⟩
  | 10 => ⟨S4x64x64x64, .f32⟩
  | 11 => ⟨S4x64x64x64, .f32⟩
  | 12 => ⟨S_, .f32⟩
  | 13 => ⟨S4x64x64x64, .f32⟩
  | 14 => ⟨S4x64x64x128, .f32⟩
  | 15 => ⟨S4x64x1x128, .f32⟩
  | 16 => ⟨S4x64x64x128, .f32⟩
  | 17 => ⟨S4x64x64x128, .f32⟩
  | 18 => ⟨S4x64x64x128, .f32⟩
  | 19 => ⟨S4x64x64x128, .f32⟩
  | 20 => ⟨S4x64x128x128, .f32⟩
  | 21 => ⟨S64, .i32⟩
  | 22 => ⟨S64x1, .i32⟩
  | 23 => ⟨S64, .i32⟩
  | 24 => ⟨S1x64, .i32⟩
  | 25 => ⟨S64x64, .i32⟩
  | 26 => ⟨S64x64, .i32⟩
  | 27 => ⟨S64x64, .i1⟩
  | 28 => ⟨S1x64x64x1, .i1⟩
  | 29 => ⟨S4x1x64x128, .f32⟩
  | 30 => ⟨S_, .f32⟩
  | 31 => ⟨S_, .f32⟩
  | 32 => ⟨S4x64x64x128, .i1⟩
  | 33 => ⟨S4x64x64x128, .f32⟩
  | 34 => ⟨S4x64x64x128, .f32⟩
  | 35 => ⟨S4x64x64x128, .f32⟩
  | 36 => ⟨S_, .f32⟩
  | 37 => ⟨S4x64x64x128, .f32⟩
  | 38 => ⟨S_, .f32⟩
  | 39 => ⟨S4x64x128, .f32⟩
  | 40 => ⟨S1x64x64x1, .i1⟩
  | 41 => ⟨S4x64x1x128, .f32⟩
  | 42 => ⟨S4x64x128, .f32⟩
  | 43 => ⟨S4x1x64x128, .f32⟩
  | 44 => ⟨S4x64x64x128, .f32⟩
  | 45 => ⟨S4x64x64x128, .f32⟩
  | 46 => ⟨S4x64x64x128, .f32⟩
  | 47 => ⟨S_, .f32⟩
  | 48 => ⟨S_, .f32⟩
  | 49 => ⟨S4x64x64x128, .i1⟩
  | 50 => ⟨S4x64x64x128, .f32⟩
  | 51 => ⟨S4x64x64x128, .f32⟩
  | 52 => ⟨S_, .f32⟩
  | 53 => ⟨S4x64x64x128, .f32⟩
  | 54 => ⟨S1x64x64x1, .i1⟩
  | 55 => ⟨S4x64x64x128, .f32⟩
  | 56 => ⟨S_, .f32⟩
  | 57 => ⟨S_, .f32⟩
  | 58 => ⟨S4x64x64x128, .i1⟩
  | 59 => ⟨S4x64x64x128, .f32⟩
  | 60 => ⟨S4x64x64x128, .f32⟩
  | 61 => ⟨S_, .f32⟩
  | 62 => ⟨S4x64x64x128, .f32⟩
  | 63 => ⟨S4x128x128x64, .f32⟩
  | 64 => ⟨S4x64x128x128, .f32⟩
  | 65 => ⟨S4x64x64x128, .f32⟩
  | 66 => ⟨S4x64x64x128, .f32⟩
  | 67 => ⟨S64x64x4x128, .f32⟩
  | 68 => ⟨S4096x512, .f32⟩
  | 69 => ⟨S4096x4x128, .f32⟩
  | 70 => ⟨S4096x4x128, .f32⟩
  | 71 => ⟨S_, .f32⟩
  | 72 => ⟨S4096x4, .f32⟩
  | 73 => ⟨S4096x4x1, .f32⟩
  | 74 => ⟨S_, .f32⟩
  | 75 => ⟨S4096x4x1, .f32⟩
  | 76 => ⟨S4096x4x1, .f32⟩
  | 77 => ⟨S_, .f32⟩
  | 78 => ⟨S4096x4x1, .f32⟩
  | 79 => ⟨S4096x4x1, .f32⟩
  | 80 => ⟨S4096x4x1, .f32⟩
  | 81 => ⟨S4096x4x1, .f32⟩
  | 82 => ⟨S_, .f32⟩
  | 83 => ⟨S4096x4x1, .f32⟩
  | 84 => ⟨S4096x4x1, .f32⟩
  | 85 => ⟨S4096x4x128, .f32⟩
  | 86 => ⟨S4096x4x128, .f32⟩
  | 87 => ⟨S1x1x128, .f32⟩
  | 88 => ⟨S4096x4x128, .f32⟩
  | 89 => ⟨S4096x4x128, .f32⟩
  | 90 => ⟨S4096x512, .f32⟩
  | 91 => ⟨S4096x512, .f32⟩
  | 92 => ⟨S4096x512, .f32⟩
  | 93 => ⟨S_, .f32⟩
  | 94 => ⟨S4096x512, .f32⟩
  | 95 => ⟨S4096x512, .f32⟩
  | 96 => ⟨S_, .f32⟩
  | 97 => ⟨S4096x512, .f32⟩
  | 98 => ⟨S4096x512, .f32⟩
  | 99 => ⟨S_, .f32⟩
  | 100 => ⟨S4096x512, .f32⟩
  | 101 => ⟨S4096x512, .f32⟩
  | 102 => ⟨S4096x512, .f32⟩
  | 103 => ⟨S4096x512, .f32⟩
  | 104 => ⟨S4096x512, .f32⟩
  | 105 => ⟨S4096x512, .f32⟩
  | 106 => ⟨S4096x512, .f32⟩
  | 107 => ⟨S4096x512, .f32⟩
  | 108 => ⟨S4096x512, .f32⟩
  | 109 => ⟨S4096x512, .f32⟩
  | 110 => ⟨S4096x512, .f32⟩
  | 111 => ⟨S4096x512, .f32⟩
  | 112 => ⟨S4096x4x128, .f32⟩
  | 113 => ⟨S4096x4x128, .f32⟩
  | 114 => ⟨S_, .f32⟩
  | 115 => ⟨S128, .f32⟩
  | 116 => ⟨S1x1x128, .f32⟩
  | 117 => ⟨S4096x4x128, .f32⟩
  | 118 => ⟨S4096x4x128, .f32⟩
  | 119 => ⟨S_, .f32⟩
  | 120 => ⟨S128, .f32⟩
  | 121 => ⟨S4096x4x128, .f32⟩
  | 122 => ⟨S_, .f32⟩
  | 123 => ⟨S4096x4, .f32⟩
  | 124 => ⟨S4096x4x1, .f32⟩
  | 125 => ⟨S4096x4x128, .f32⟩
  | 126 => ⟨S4096x4x128, .f32⟩
  | 127 => ⟨S4096x4x1, .f32⟩
  | _ => ⟨S4096x3072, .f32⟩

abbrev hbmTy0_2 (i : Nat) : BufTy := match i % 128 with
  | 0 => ⟨S_, .f32⟩
  | 1 => ⟨S4096x4x1, .f32⟩
  | 2 => ⟨S4096x4x1, .f32⟩
  | 3 => ⟨S_, .f32⟩
  | 4 => ⟨S4096x4, .f32⟩
  | 5 => ⟨S4096x4x128, .f32⟩
  | 6 => ⟨S4096x4x128, .f32⟩
  | 7 => ⟨S4096x4x128, .f32⟩
  | 8 => ⟨S4096x4x128, .f32⟩
  | 9 => ⟨S4096x4x128, .f32⟩
  | 10 => ⟨S4096x512, .f32⟩
  | 11 => ⟨S64x64x4x128, .f32⟩
  | 12 => ⟨S4x64x64x128, .f32⟩
  | 13 => ⟨S4x64x128x128, .f32⟩
  | 14 => ⟨S4x64x128x128, .f32⟩
  | 15 => ⟨S4x64x64x128, .f32⟩
  | 16 => ⟨S4x128x128x64, .f32⟩
  | 17 => ⟨S4x128x64x64, .f32⟩
  | 18 => ⟨S4x64x64x128, .f32⟩
  | 19 => ⟨S4x128x128x64, .f32⟩
  | 20 => ⟨S4x64x128x128, .f32⟩
  | 21 => ⟨S_, .f32⟩
  | 22 => ⟨S4x64x64x128, .f32⟩
  | 23 => ⟨S4x64x64x128, .f32⟩
  | 24 => ⟨S4x64x64x128, .f32⟩
  | 25 => ⟨S_, .f32⟩
  | 26 => ⟨S4x64x64x128, .f32⟩
  | 27 => ⟨S4x64x64x128, .f32⟩
  | 28 => ⟨S_, .f32⟩
  | 29 => ⟨S4x64x128, .f32⟩
  | 30 => ⟨S4x64x1x128, .f32⟩
  | 31 => ⟨S4x64x64x128, .f32⟩
  | 32 => ⟨S_, .f32⟩
  | 33 => ⟨S4x64x128, .f32⟩
  | 34 => ⟨S4x1x64x128, .f32⟩
  | 35 => ⟨S_, .f32⟩
  | 36 => ⟨S4x64x128, .f32⟩
  | 37 => ⟨S_, .f32⟩
  | 38 => ⟨S4x64x128, .f32⟩
  | 39 => ⟨S4x64x128, .f32⟩
  | 40 => ⟨S4x64x64x128, .f32⟩
  | 41 => ⟨S_, .f32⟩
  | 42 => ⟨S4x64x64x128, .f32⟩
  | 43 => ⟨S4x64x64x128, .f32⟩
  | 44 => ⟨S_, .f32⟩
  | 45 => ⟨S4x64x128, .f32⟩
  | 46 => ⟨S4x1x64x128, .f32⟩
  | 47 => ⟨S_, .f32⟩
  | 48 => ⟨S4x64x128, .f32⟩
  | 49 => ⟨S4x64x128, .f32⟩
  | 50 => ⟨S4x64x128x64, .f32⟩
  | 51 => ⟨S4x64x64x128, .f32⟩
  | 52 => ⟨S4x64x128x64, .f32⟩
  | 53 => ⟨S4x64x64x128, .f32⟩
  | 54 => ⟨S4x64x64x128, .f32⟩
  | 55 => ⟨S4x64x64x128, .f32⟩
  | 56 => ⟨S4x64x64x128, .f32⟩
  | 57 => ⟨S_, .f32⟩
  | 58 => ⟨S4x64x128, .f32⟩
  | 59 => ⟨S4x64x1x128, .f32⟩
  | 60 => ⟨S4x64x64x128, .f32⟩
  | 61 => ⟨S_, .f32⟩
  | 62 => ⟨S4x64x128, .f32⟩
  | 63 => ⟨S4x64x128, .f32⟩
  | 64 => ⟨S4x64x128x64, .f32⟩
  | 65 => ⟨S4x64x64x128, .f32⟩
  | 66 => ⟨S4x64x64x128, .f32⟩
  | 67 => ⟨S4x64x64x64, .f32⟩
  | 68 => ⟨S_, .f32⟩
  | 69 => ⟨S4x64x64x64, .f32⟩
  | 70 => ⟨S4x64x64x64, .f32⟩
  | 71 => ⟨S4x64x64x128, .f32⟩
  | 72 => ⟨S4x64x64x128, .f32⟩
  | 73 => ⟨S4x64x64x128, .f32⟩
  | 74 => ⟨S4x64x64x128, .f32⟩
  | 75 => ⟨S4x64x64x128, .f32⟩
  | 76 => ⟨S4x64x64x128, .f32⟩
  | 77 => ⟨S4x64x64x128, .f32⟩
  | 78 => ⟨S4x64x64x128, .f32⟩
  | 79 => ⟨S4x64x64x128, .f32⟩
  | 80 => ⟨S4x64x64x128, .f32⟩
  | 81 => ⟨S4x64x64x128, .f32⟩
  | 82 => ⟨S4x64x64x128, .f32⟩
  | 83 => ⟨S4x64x64x128, .f32⟩
  | 84 => ⟨S4x64x1x128, .f32⟩
  | 85 => ⟨S_, .f32⟩
  | 86 => ⟨S4x64x64x128, .f32⟩
  | 87 => ⟨S4x64x64x128, .f32⟩
  | 88 => ⟨S_, .f32⟩
  | 89 => ⟨S_, .f32⟩
  | 90 => ⟨S4x64x64x128, .f32⟩
  | 91 => ⟨S64x64x4x128, .f32⟩
  | 92 => ⟨S4096x512, .f32⟩
  | 93 => ⟨S64x64x4x128, .f32⟩
  | 94 => ⟨S4096x512, .f32⟩
  | 95 => ⟨S64x64x4x128, .f32⟩
  | 96 => ⟨S4096x512, .f32⟩
  | 97 => ⟨S64x64x4x128, .f32⟩
  | 98 => ⟨S4096x512, .f32⟩
  | 99 => ⟨S4096x512, .f32⟩
  | 100 => ⟨S_, .f32⟩
  | 101 => ⟨S4096x512, .f32⟩
  | 102 => ⟨S4096x512, .f32⟩
  | 103 => ⟨S4096x512, .f32⟩
  | 104 => ⟨S4096x512, .f32⟩
  | 105 => ⟨S4096x512, .f32⟩
  | 106 => ⟨S4096x512, .f32⟩
  | 107 => ⟨S4096x512, .f32⟩
  | 108 => ⟨S4096x512, .f32⟩
  | 109 => ⟨S4096x512, .f32⟩
  | 110 => ⟨S_, .f32⟩
  | 111 => ⟨S512, .f32⟩
  | 112 => ⟨S1x512, .f32⟩
  | 113 => ⟨S_, .f32⟩
  | 114 => ⟨S512, .f32⟩
  | 115 => ⟨S4096x512, .f32⟩
  | 116 => ⟨S4096x512, .f32⟩
  | 117 => ⟨S512, .f32⟩
  | 118 => ⟨S_, .f32⟩
  | 119 => ⟨S512, .f32⟩
  | 120 => ⟨S1x512, .f32⟩
  | 121 => ⟨S_, .f32⟩
  | 122 => ⟨S512, .f32⟩
  | 123 => ⟨S512, .f32⟩
  | 124 => ⟨S4096x512, .f32⟩
  | 125 => ⟨S4096x512, .f32⟩
  | 126 => ⟨S4096x512, .f32⟩
  | 127 => ⟨S_, .f32⟩
  | _ => ⟨S4096x3072, .f32⟩

abbrev hbmTy0_3 (i : Nat) : BufTy := match i % 128 with
  | 0 => ⟨S512, .f32⟩
  | 1 => ⟨S1x512, .f32⟩
  | 2 => ⟨S_, .f32⟩
  | 3 => ⟨S512, .f32⟩
  | 4 => ⟨S4096x512, .f32⟩
  | 5 => ⟨S4096x512, .f32⟩
  | 6 => ⟨S512, .f32⟩
  | 7 => ⟨S512, .f32⟩
  | 8 => ⟨S1x512, .f32⟩
  | 9 => ⟨S_, .f32⟩
  | 10 => ⟨S2x512, .f32⟩
  | 11 => ⟨S_, .f32⟩
  | 12 => ⟨S_, .f32⟩
  | 13 => ⟨S2x512, .f32⟩
  | 14 => ⟨S2x512, .f32⟩
  | 15 => ⟨S2x512, .f32⟩
  | 16 => ⟨S2x512, .f32⟩
  | 17 => ⟨S_, .f32⟩
  | 18 => ⟨S512, .f32⟩
  | 19 => ⟨S1x512, .f32⟩
  | 20 => ⟨S1x512, .f32⟩
  | 21 => ⟨S2x512, .f32⟩
  | 22 => ⟨S2x512, .f32⟩
  | 23 => ⟨S_, .f32⟩
  | 24 => ⟨S512, .f32⟩
  | 25 => ⟨S2x512, .f32⟩
  | 26 => ⟨S2x512, .f32⟩
  | 27 => ⟨S2x512, .f32⟩
  | 28 => ⟨S1x512, .f32⟩
  | 29 => ⟨S_, .f32⟩
  | 30 => ⟨S384, .f32⟩
  | 31 => ⟨S512, .f32⟩
  | 32 => ⟨S1x512, .f32⟩
  | 33 => ⟨S_, .f32⟩
  | 34 => ⟨S4x512, .f32⟩
  | 35 => ⟨S4096x2048, .f32⟩
  | 36 => ⟨S4096x2048, .bf16⟩
  | 37 => ⟨S8x512, .f32⟩
  | _ => ⟨S4096x3072, .f32⟩

abbrev hbmTy (i : Nat) : BufTy := match i / 128 with
  | 0 => hbmTy0_0 i
  | 1 => hbmTy0_1 i
  | 2 => hbmTy0_2 i
  | 3 => hbmTy0_3 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_call0_call0_cst : Ref sig .tc := ⟨.hbm, 42, rfl⟩
abbrev main_call0_call0_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_13 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_14 : Ref sig .tc := ⟨.hbm, 79, rfl⟩
abbrev main_v58 : Ref sig .tc := ⟨.hbm, 80, rfl⟩
abbrev main_v59 : Ref sig .tc := ⟨.hbm, 81, rfl⟩
abbrev main_cst_15 : Ref sig .tc := ⟨.hbm, 82, rfl⟩
abbrev main_v60 : Ref sig .tc := ⟨.hbm, 83, rfl⟩
abbrev main_v61 : Ref sig .tc := ⟨.hbm, 84, rfl⟩
abbrev main_cst_16 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_call1_v0 : Ref sig .tc := ⟨.hbm, 92, rfl⟩
abbrev main_call1_v1 : Ref sig .tc := ⟨.hbm, 93, rfl⟩
abbrev main_call1_cst : Ref sig .tc := ⟨.hbm, 94, rfl⟩
abbrev main_call1_v2 : Ref sig .tc := ⟨.hbm, 95, rfl⟩
abbrev main_call1_v3 : Ref sig .tc := ⟨.hbm, 96, rfl⟩
abbrev main_call1_cst_0 : Ref sig .tc := ⟨.hbm, 97, rfl⟩
abbrev main_call1_v4 : Ref sig .tc := ⟨.hbm, 98, rfl⟩
abbrev main_v68_2 : Ref sig .tc := ⟨.hbm, 99, rfl⟩
abbrev main_call1_cst_1 : Ref sig .tc := ⟨.hbm, 100, rfl⟩
abbrev main_call1_v6 : Ref sig .tc := ⟨.hbm, 101, rfl⟩
abbrev main_call1_v7 : Ref sig .tc := ⟨.hbm, 102, rfl⟩
abbrev main_v68_1 : Ref sig .tc := ⟨.hbm, 103, rfl⟩
abbrev main_v68_0 : Ref sig .tc := ⟨.hbm, 104, rfl⟩
abbrev main_cst_17 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_call2_call0_cst : Ref sig .tc := ⟨.hbm, 117, rfl⟩
abbrev main_call2_call0_v0 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_18 : Ref sig .tc := ⟨.hbm, 135, rfl⟩
abbrev main_call3_v0 : Ref sig .tc := ⟨.hbm, 136, rfl⟩
abbrev main_v96_1 : Ref sig .tc := ⟨.hbm, 137, rfl⟩
abbrev main_call3_v2 : Ref sig .tc := ⟨.hbm, 138, rfl⟩
abbrev main_v96_0 : Ref sig .tc := ⟨.hbm, 139, rfl⟩
abbrev main_call3_cst : Ref sig .tc := ⟨.hbm, 140, rfl⟩
abbrev main_v96_2 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_19 : Ref sig .tc := ⟨.hbm, 158, rfl⟩
abbrev main_call4_v0 : Ref sig .tc := ⟨.hbm, 159, rfl⟩
abbrev main_v113_1 : Ref sig .tc := ⟨.hbm, 160, rfl⟩
abbrev main_call4_v2 : Ref sig .tc := ⟨.hbm, 161, rfl⟩
abbrev main_call4_v3 : Ref sig .tc := ⟨.hbm, 162, rfl⟩
abbrev main_v113_0 : Ref sig .tc := ⟨.hbm, 163, rfl⟩
abbrev main_call4_cst : Ref sig .tc := ⟨.hbm, 164, rfl⟩
abbrev main_v113_2 : Ref sig .tc := ⟨.hbm, 165, rfl⟩
abbrev main_cst_20 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_cst_21 : Ref sig .tc := ⟨.hbm, 175, rfl⟩
abbrev main_call5_v0 : Ref sig .tc := ⟨.hbm, 176, rfl⟩
abbrev main_v122_1 : Ref sig .tc := ⟨.hbm, 177, rfl⟩
abbrev main_call5_v2 : Ref sig .tc := ⟨.hbm, 178, rfl⟩
abbrev main_v122_0 : Ref sig .tc := ⟨.hbm, 179, rfl⟩
abbrev main_call5_cst : Ref sig .tc := ⟨.hbm, 180, rfl⟩
abbrev main_v122_2 : Ref sig .tc := ⟨.hbm, 181, rfl⟩
abbrev main_v123 : Ref sig .tc := ⟨.hbm, 182, rfl⟩
abbrev main_v124 : Ref sig .tc := ⟨.hbm, 183, rfl⟩
abbrev main_cst_22 : Ref sig .tc := ⟨.hbm, 184, rfl⟩
abbrev main_call6_v0 : Ref sig .tc := ⟨.hbm, 185, rfl⟩
abbrev main_v125_1 : Ref sig .tc := ⟨.hbm, 186, rfl⟩
abbrev main_call6_v2 : Ref sig .tc := ⟨.hbm, 187, rfl⟩
abbrev main_v125_0 : Ref sig .tc := ⟨.hbm, 188, rfl⟩
abbrev main_call6_cst : Ref sig .tc := ⟨.hbm, 189, rfl⟩
abbrev main_v125_2 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_cst_23 : Ref sig .tc := ⟨.hbm, 199, rfl⟩
abbrev main_v134 : Ref sig .tc := ⟨.hbm, 200, rfl⟩
abbrev main_v135 : Ref sig .tc := ⟨.hbm, 201, rfl⟩
abbrev main_cst_24 : Ref sig .tc := ⟨.hbm, 202, rfl⟩
abbrev main_v136 : Ref sig .tc := ⟨.hbm, 203, rfl⟩
abbrev main_v137 : Ref sig .tc := ⟨.hbm, 204, rfl⟩
abbrev main_cst_25 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_cst_26 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_call7_v0 : Ref sig .tc := ⟨.hbm, 219, rfl⟩
abbrev main_call7_v1 : Ref sig .tc := ⟨.hbm, 220, rfl⟩
abbrev main_call7_cst : Ref sig .tc := ⟨.hbm, 221, rfl⟩
abbrev main_call7_v2 : Ref sig .tc := ⟨.hbm, 222, rfl⟩
abbrev main_call7_v3 : Ref sig .tc := ⟨.hbm, 223, rfl⟩
abbrev main_call7_cst_0 : Ref sig .tc := ⟨.hbm, 224, rfl⟩
abbrev main_call7_v4 : Ref sig .tc := ⟨.hbm, 225, rfl⟩
abbrev main_v150_2 : Ref sig .tc := ⟨.hbm, 226, rfl⟩
abbrev main_call7_cst_1 : Ref sig .tc := ⟨.hbm, 227, rfl⟩
abbrev main_call7_v6 : Ref sig .tc := ⟨.hbm, 228, rfl⟩
abbrev main_call7_v7 : Ref sig .tc := ⟨.hbm, 229, rfl⟩
abbrev main_v150_1 : Ref sig .tc := ⟨.hbm, 230, rfl⟩
abbrev main_v150_0 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_call8_v0 : Ref sig .tc := ⟨.hbm, 236, rfl⟩
abbrev main_call8_v1 : Ref sig .tc := ⟨.hbm, 237, rfl⟩
abbrev main_call8_v2 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_cst_27 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_cst_28 : Ref sig .tc := ⟨.hbm, 247, rfl⟩
abbrev main_v162 : Ref sig .tc := ⟨.hbm, 248, rfl⟩
abbrev main_v163 : Ref sig .tc := ⟨.hbm, 249, rfl⟩
abbrev main_cst_29 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_v167 : Ref sig .tc := ⟨.hbm, 254, rfl⟩
abbrev main_v168 : Ref sig .tc := ⟨.hbm, 255, rfl⟩
abbrev main_cst_30 : Ref sig .tc := ⟨.hbm, 256, rfl⟩
abbrev main_v169 : Ref sig .tc := ⟨.hbm, 257, rfl⟩
abbrev main_v170 : Ref sig .tc := ⟨.hbm, 258, rfl⟩
abbrev main_cst_31 : Ref sig .tc := ⟨.hbm, 259, rfl⟩
abbrev main_v171 : Ref sig .tc := ⟨.hbm, 260, rfl⟩
abbrev main_v172 : Ref sig .tc := ⟨.hbm, 261, rfl⟩
abbrev main_v173 : Ref sig .tc := ⟨.hbm, 262, rfl⟩
abbrev main_v174 : Ref sig .tc := ⟨.hbm, 263, rfl⟩
abbrev main_v175 : Ref sig .tc := ⟨.hbm, 264, rfl⟩
abbrev main_v176 : Ref sig .tc := ⟨.hbm, 265, rfl⟩
abbrev main_v177 : Ref sig .tc := ⟨.hbm, 266, rfl⟩
abbrev main_v178 : Ref sig .tc := ⟨.hbm, 267, rfl⟩
abbrev main_v179 : Ref sig .tc := ⟨.hbm, 268, rfl⟩
abbrev main_v180 : Ref sig .tc := ⟨.hbm, 269, rfl⟩
abbrev main_v181 : Ref sig .tc := ⟨.hbm, 270, rfl⟩
abbrev main_v182 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_call9_cst : Ref sig .tc := ⟨.hbm, 277, rfl⟩
abbrev main_call9_v0 : Ref sig .tc := ⟨.hbm, 278, rfl⟩
abbrev main_v188 : Ref sig .tc := ⟨.hbm, 279, rfl⟩
abbrev main_v189 : Ref sig .tc := ⟨.hbm, 280, rfl⟩
abbrev main_call10_cst : Ref sig .tc := ⟨.hbm, 281, rfl⟩
abbrev main_call10_v0 : Ref sig .tc := ⟨.hbm, 282, rfl⟩
abbrev main_v190 : Ref sig .tc := ⟨.hbm, 283, rfl⟩
abbrev main_cst_32 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩
abbrev main_cst_33 : Ref sig .tc := ⟨.hbm, 288, rfl⟩
abbrev main_v194 : Ref sig .tc := ⟨.hbm, 289, rfl⟩
abbrev main_v195 : Ref sig .tc := ⟨.hbm, 290, rfl⟩
abbrev main_cst_34 : Ref sig .tc := ⟨.hbm, 291, rfl⟩
abbrev main_v196 : Ref sig .tc := ⟨.hbm, 292, rfl⟩
abbrev main_cst_35 : Ref sig .tc := ⟨.hbm, 293, rfl⟩
abbrev main_v197 : Ref sig .tc := ⟨.hbm, 294, rfl⟩
abbrev main_v198 : Ref sig .tc := ⟨.hbm, 295, rfl⟩
abbrev main_v199 : Ref sig .tc := ⟨.hbm, 296, rfl⟩
abbrev main_call11_cst : Ref sig .tc := ⟨.hbm, 297, rfl⟩
abbrev main_call11_v0 : Ref sig .tc := ⟨.hbm, 298, rfl⟩
abbrev main_call11_v1 : Ref sig .tc := ⟨.hbm, 299, rfl⟩
abbrev main_call11_cst_0 : Ref sig .tc := ⟨.hbm, 300, rfl⟩
abbrev main_call11_v2 : Ref sig .tc := ⟨.hbm, 301, rfl⟩
abbrev main_v200 : Ref sig .tc := ⟨.hbm, 302, rfl⟩
abbrev main_cst_36 : Ref sig .tc := ⟨.hbm, 303, rfl⟩
abbrev main_v201 : Ref sig .tc := ⟨.hbm, 304, rfl⟩
abbrev main_v202 : Ref sig .tc := ⟨.hbm, 305, rfl⟩
abbrev main_v203 : Ref sig .tc := ⟨.hbm, 306, rfl⟩
abbrev main_v204 : Ref sig .tc := ⟨.hbm, 307, rfl⟩
abbrev main_v205 : Ref sig .tc := ⟨.hbm, 308, rfl⟩
abbrev main_v206 : Ref sig .tc := ⟨.hbm, 309, rfl⟩
abbrev main_v207 : Ref sig .tc := ⟨.hbm, 310, rfl⟩
abbrev main_v208 : Ref sig .tc := ⟨.hbm, 311, rfl⟩
abbrev main_v209 : Ref sig .tc := ⟨.hbm, 312, rfl⟩
abbrev main_cst_37 : Ref sig .tc := ⟨.hbm, 313, rfl⟩
abbrev main_v210 : Ref sig .tc := ⟨.hbm, 314, rfl⟩
abbrev main_v211 : Ref sig .tc := ⟨.hbm, 315, rfl⟩
abbrev main_v212 : Ref sig .tc := ⟨.hbm, 316, rfl⟩
abbrev main_cst_38 : Ref sig .tc := ⟨.hbm, 317, rfl⟩
abbrev main_v213 : Ref sig .tc := ⟨.hbm, 318, rfl⟩
abbrev main_v214 : Ref sig .tc := ⟨.hbm, 319, rfl⟩
abbrev main_v215 : Ref sig .tc := ⟨.hbm, 320, rfl⟩
abbrev main_v216 : Ref sig .tc := ⟨.hbm, 321, rfl⟩
abbrev main_v217 : Ref sig .tc := ⟨.hbm, 322, rfl⟩
abbrev main_v218 : Ref sig .tc := ⟨.hbm, 323, rfl⟩
abbrev main_call12_cst : Ref sig .tc := ⟨.hbm, 324, rfl⟩
abbrev main_call12_v0 : Ref sig .tc := ⟨.hbm, 325, rfl⟩
abbrev main_v219 : Ref sig .tc := ⟨.hbm, 326, rfl⟩
abbrev main_v220 : Ref sig .tc := ⟨.hbm, 327, rfl⟩
abbrev main_v221 : Ref sig .tc := ⟨.hbm, 328, rfl⟩
abbrev main_v222 : Ref sig .tc := ⟨.hbm, 329, rfl⟩
abbrev main_v223 : Ref sig .tc := ⟨.hbm, 330, rfl⟩
abbrev main_v224 : Ref sig .tc := ⟨.hbm, 331, rfl⟩
abbrev main_v225 : Ref sig .tc := ⟨.hbm, 332, rfl⟩
abbrev main_v226 : Ref sig .tc := ⟨.hbm, 333, rfl⟩
abbrev main_v227 : Ref sig .tc := ⟨.hbm, 334, rfl⟩
abbrev main_v228 : Ref sig .tc := ⟨.hbm, 335, rfl⟩
abbrev main_v229 : Ref sig .tc := ⟨.hbm, 336, rfl⟩
abbrev main_v230 : Ref sig .tc := ⟨.hbm, 337, rfl⟩
abbrev main_v231 : Ref sig .tc := ⟨.hbm, 338, rfl⟩
abbrev main_v232 : Ref sig .tc := ⟨.hbm, 339, rfl⟩
abbrev main_v233 : Ref sig .tc := ⟨.hbm, 340, rfl⟩
abbrev main_cst_39 : Ref sig .tc := ⟨.hbm, 341, rfl⟩
abbrev main_v234 : Ref sig .tc := ⟨.hbm, 342, rfl⟩
abbrev main_v235 : Ref sig .tc := ⟨.hbm, 343, rfl⟩
abbrev main_call13_call0_cst : Ref sig .tc := ⟨.hbm, 344, rfl⟩
abbrev main_call13_call0_v0 : Ref sig .tc := ⟨.hbm, 345, rfl⟩
abbrev main_v236 : Ref sig .tc := ⟨.hbm, 346, rfl⟩
abbrev main_v237 : Ref sig .tc := ⟨.hbm, 347, rfl⟩
abbrev main_v238 : Ref sig .tc := ⟨.hbm, 348, rfl⟩
abbrev main_v239 : Ref sig .tc := ⟨.hbm, 349, rfl⟩
abbrev main_v240 : Ref sig .tc := ⟨.hbm, 350, rfl⟩
abbrev main_v241 : Ref sig .tc := ⟨.hbm, 351, rfl⟩
abbrev main_v242 : Ref sig .tc := ⟨.hbm, 352, rfl⟩
abbrev main_v243 : Ref sig .tc := ⟨.hbm, 353, rfl⟩
abbrev main_v244 : Ref sig .tc := ⟨.hbm, 354, rfl⟩
abbrev main_v245 : Ref sig .tc := ⟨.hbm, 355, rfl⟩
abbrev main_cst_40 : Ref sig .tc := ⟨.hbm, 356, rfl⟩
abbrev main_v246 : Ref sig .tc := ⟨.hbm, 357, rfl⟩
abbrev main_v247 : Ref sig .tc := ⟨.hbm, 358, rfl⟩
abbrev main_call14_v0 : Ref sig .tc := ⟨.hbm, 359, rfl⟩
abbrev main_call14_v1 : Ref sig .tc := ⟨.hbm, 360, rfl⟩
abbrev main_call14_v2 : Ref sig .tc := ⟨.hbm, 361, rfl⟩
abbrev main_v248 : Ref sig .tc := ⟨.hbm, 362, rfl⟩
abbrev main_v249 : Ref sig .tc := ⟨.hbm, 363, rfl⟩
abbrev main_v250 : Ref sig .tc := ⟨.hbm, 364, rfl⟩
abbrev main_v251 : Ref sig .tc := ⟨.hbm, 365, rfl⟩
abbrev main_cst_41 : Ref sig .tc := ⟨.hbm, 366, rfl⟩
abbrev main_v252 : Ref sig .tc := ⟨.hbm, 367, rfl⟩
abbrev main_v253 : Ref sig .tc := ⟨.hbm, 368, rfl⟩
abbrev main_cst_42 : Ref sig .tc := ⟨.hbm, 369, rfl⟩
abbrev main_v254 : Ref sig .tc := ⟨.hbm, 370, rfl⟩
abbrev main_v255 : Ref sig .tc := ⟨.hbm, 371, rfl⟩
abbrev main_v256 : Ref sig .tc := ⟨.hbm, 372, rfl⟩
abbrev main_v257 : Ref sig .tc := ⟨.hbm, 373, rfl⟩
abbrev main_cst_43 : Ref sig .tc := ⟨.hbm, 374, rfl⟩
abbrev main_v258 : Ref sig .tc := ⟨.hbm, 375, rfl⟩
abbrev main_v259 : Ref sig .tc := ⟨.hbm, 376, rfl⟩
abbrev main_cst_44 : Ref sig .tc := ⟨.hbm, 377, rfl⟩
abbrev main_v260 : Ref sig .tc := ⟨.hbm, 378, rfl⟩
abbrev main_v261 : Ref sig .tc := ⟨.hbm, 379, rfl⟩
abbrev main_v262 : Ref sig .tc := ⟨.hbm, 380, rfl⟩
abbrev main_v263 : Ref sig .tc := ⟨.hbm, 381, rfl⟩
abbrev main_v264 : Ref sig .tc := ⟨.hbm, 382, rfl⟩
abbrev main_cst_45 : Ref sig .tc := ⟨.hbm, 383, rfl⟩
abbrev main_v265 : Ref sig .tc := ⟨.hbm, 384, rfl⟩
abbrev main_v266 : Ref sig .tc := ⟨.hbm, 385, rfl⟩
abbrev main_cst_46 : Ref sig .tc := ⟨.hbm, 386, rfl⟩
abbrev main_v267 : Ref sig .tc := ⟨.hbm, 387, rfl⟩
abbrev main_v268 : Ref sig .tc := ⟨.hbm, 388, rfl⟩
abbrev main_v269 : Ref sig .tc := ⟨.hbm, 389, rfl⟩
abbrev main_v270 : Ref sig .tc := ⟨.hbm, 390, rfl⟩
abbrev main_v271 : Ref sig .tc := ⟨.hbm, 391, rfl⟩
abbrev main_v272 : Ref sig .tc := ⟨.hbm, 392, rfl⟩
abbrev main_cst_47 : Ref sig .tc := ⟨.hbm, 393, rfl⟩
abbrev main_v273 : Ref sig .tc := ⟨.hbm, 394, rfl⟩
abbrev main_call15_call0_cst : Ref sig .tc := ⟨.hbm, 395, rfl⟩
abbrev main_call15_call0_v0 : Ref sig .tc := ⟨.hbm, 396, rfl⟩
abbrev main_v274 : Ref sig .tc := ⟨.hbm, 397, rfl⟩
abbrev main_v275 : Ref sig .tc := ⟨.hbm, 398, rfl⟩
abbrev main_v276 : Ref sig .tc := ⟨.hbm, 399, rfl⟩
abbrev main_v277 : Ref sig .tc := ⟨.hbm, 400, rfl⟩
abbrev main_cst_48 : Ref sig .tc := ⟨.hbm, 401, rfl⟩
abbrev main_v278 : Ref sig .tc := ⟨.hbm, 402, rfl⟩
abbrev main_v279 : Ref sig .tc := ⟨.hbm, 403, rfl⟩
abbrev main_v280 : Ref sig .tc := ⟨.hbm, 404, rfl⟩
abbrev main_v281 : Ref sig .tc := ⟨.hbm, 405, rfl⟩
abbrev main_v282 : Ref sig .tc := ⟨.hbm, 406, rfl⟩
abbrev main_cst_49 : Ref sig .tc := ⟨.hbm, 407, rfl⟩
abbrev main_v283 : Ref sig .tc := ⟨.hbm, 408, rfl⟩
abbrev main_v284 : Ref sig .tc := ⟨.hbm, 409, rfl⟩
abbrev main_v285 : Ref sig .tc := ⟨.hbm, 410, rfl⟩
abbrev main_v286 : Ref sig .tc := ⟨.hbm, 411, rfl⟩
abbrev main_v287 : Ref sig .tc := ⟨.hbm, 412, rfl⟩
abbrev main_cst_50 : Ref sig .tc := ⟨.hbm, 413, rfl⟩
abbrev main_v288 : Ref sig .tc := ⟨.hbm, 414, rfl⟩
abbrev main_v289 : Ref sig .tc := ⟨.hbm, 415, rfl⟩
abbrev main_v290 : Ref sig .tc := ⟨.hbm, 416, rfl⟩
abbrev main_cst_51 : Ref sig .tc := ⟨.hbm, 417, rfl⟩
abbrev main_v291 : Ref sig .tc := ⟨.hbm, 418, rfl⟩
abbrev main_v292 : Ref sig .tc := ⟨.hbm, 419, rfl⟩
abbrev main_v293 : Ref sig .tc := ⟨.hbm, 420, rfl⟩
abbrev main_v294 : Ref sig .tc := ⟨.hbm, 421, rfl⟩

abbrev nD : Nat := 1
abbrev τ : Topo := Topo.v7x

variable {F : FTy → Type} [FloatOps F]
-- ==== Kernel5.lean ====
abbrev S4096x3072 : Shape := ⟨2, ![4096, 3072]⟩
abbrev S1x4x512 : Shape := ⟨3, ![1, 4, 512]⟩
abbrev S1x512 : Shape := ⟨2, ![1, 512]⟩
abbrev S1x8x64x64 : Shape := ⟨4, ![1, 8, 64, 64]⟩
abbrev S4096x512 : Shape := ⟨2, ![4096, 512]⟩
abbrev S4096x1024 : Shape := ⟨2, ![4096, 1024]⟩
abbrev S4096x2048 : Shape := ⟨2, ![4096, 2048]⟩
abbrev S4x512 : Shape := ⟨2, ![4, 512]⟩
abbrev S4x4x128 : Shape := ⟨3, ![4, 4, 128]⟩
abbrev S512x64 : Shape := ⟨2, ![512, 64]⟩
abbrev S_ : Shape := ⟨0, ![]⟩
abbrev S8x128 : Shape := ⟨2, ![8, 128]⟩
abbrev S4x4096x512 : Shape := ⟨3, ![4, 4096, 512]⟩
abbrev S512x512 : Shape := ⟨2, ![512, 512]⟩
abbrev S4x512x512 : Shape := ⟨3, ![4, 512, 512]⟩
abbrev S8x512 : Shape := ⟨2, ![8, 512]⟩
abbrev S64x512 : Shape := ⟨2, ![64, 512]⟩
abbrev S1x1x128 : Shape := ⟨3, ![1, 1, 128]⟩
abbrev S1x128 : Shape := ⟨2, ![1, 128]⟩
abbrev S504x512 : Shape := ⟨2, ![504, 512]⟩
abbrev S1x64x512 : Shape := ⟨3, ![1, 64, 512]⟩
abbrev S8x8x512 : Shape := ⟨3, ![8, 8, 512]⟩

abbrev nBuf : Space → Nat
  | .hbm => 27
  | .vmem => 23
  | .smem => 0
  | _ => 0

abbrev bufTy : (tb : Table) → Fin (tcTables nBuf tb) → BufTy
  | .hbm, ⟨0, _⟩ => ⟨S4096x3072, .f32⟩
  | .hbm, ⟨1, _⟩ => ⟨S1x4x512, .f32⟩
  | .hbm, ⟨2, _⟩ => ⟨S1x512, .f32⟩
  | .hbm, ⟨3, _⟩ => ⟨S1x8x64x64, .f32⟩
  | .hbm, ⟨4, _⟩ => ⟨S1x512, .f32⟩
  | .hbm, ⟨5, _⟩ => ⟨S1x8x64x64, .f32⟩
  | .hbm, ⟨6, _⟩ => ⟨S1x512, .f32⟩
  | .hbm, ⟨7, _⟩ => ⟨S1x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x1024, .f32⟩
  | .hbm, ⟨15, _⟩ => ⟨S4096x2048, .f32⟩
  | .hbm, ⟨16, _⟩ => ⟨S4096x2048, .bf16⟩
  | .hbm, ⟨17, _⟩ => ⟨S4x512, .f32⟩
  | .hbm, ⟨18, _⟩ => ⟨S4x4x128, .f32⟩
  | .hbm, ⟨19, _⟩ => ⟨S4x4x128, .f32⟩
  | .hbm, ⟨20, _⟩ => ⟨S512x64, .f32⟩
  | .hbm, ⟨21, _⟩ => ⟨S512x64, .f32⟩
  | .hbm, ⟨22, _⟩ => ⟨S_, .f32⟩
  | .hbm, ⟨23, _⟩ => ⟨S8x128, .f32⟩
  | .hbm, ⟨24, _⟩ => ⟨S4096x512, .f32⟩
  | .hbm, ⟨25, _⟩ => ⟨S4096x512, .bf16⟩
  | .hbm, ⟨26, _⟩ => ⟨S4x4096x512, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S4x4x128, .f32⟩
  | .local _ .vmem, ⟨5, _⟩ => ⟨S1x512, .f32⟩
  | .local _ .vmem, ⟨6, _⟩ => ⟨S512x64, .f32⟩
  | .local _ .vmem, ⟨7, _⟩ => ⟨S1x512, .f32⟩
  | .local _ .vmem, ⟨8, _⟩ => ⟨S512x64, .f32⟩
  | .local _ .vmem, ⟨9, _⟩ => ⟨S1x512, .f32⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S512x512, .bf16⟩
  | .local _ .vmem, ⟨15, _⟩ => ⟨S4x512x512, .f32⟩
  | .local _ .vmem, ⟨16, _⟩ => ⟨S4x512x512, .f32⟩
  | .local _ .vmem, ⟨17, _⟩ => ⟨S512x512, .f32⟩
  | .local _ .vmem, ⟨18, _⟩ => ⟨S512x512, .f32⟩
  | .local _ .vmem, ⟨19, _⟩ => ⟨S8x512, .f32⟩
  | .local _ .vmem, ⟨20, _⟩ => ⟨S8x512, .f32⟩
  | .local _ .vmem, ⟨21, _⟩ => ⟨S512x512, .bf16⟩
  | .local _ .vmem, ⟨22, _⟩ => ⟨S512x512, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S4096x3072 : Shape := ⟨2, ![4096, 3072]⟩
abbrev S1x4x512 : Shape := ⟨3, ![1, 4, 512]⟩
abbrev S1x512 : Shape := ⟨2, ![1, 512]⟩
abbrev S1x8x64x64 : Shape := ⟨4, ![1, 8, 64, 64]⟩
abbrev S4096x512 : Shape := ⟨2, ![4096, 512]⟩
abbrev S4x512 : Shape := ⟨2, ![4, 512]⟩
abbrev S512 : Shape := ⟨1, ![512]⟩
abbrev S_ : Shape := ⟨0, ![]⟩
abbrev S3x512 : Shape := ⟨2, ![3, 512]⟩
abbrev S4099x512 : Shape := ⟨2, ![4099, 512]⟩
abbrev S8x64x64 : Shape := ⟨3, ![8, 64, 64]⟩
abbrev S4096x8x64 : Shape := ⟨3, ![4096, 8, 64]⟩
abbrev S8x64x4096 : Shape := ⟨3, ![8, 64, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩
abbrev S1x4096x512 : Shape := ⟨3, ![1, 4096, 512]⟩
abbrev S4096x4096x512 : Shape := ⟨3, ![4096, 4096, 512]⟩
abbrev S4096x1x512 : Shape := ⟨3, ![4096, 1, 512]⟩
abbrev S4x4096x512 : Shape := ⟨3, ![4, 4096, 512]⟩

abbrev nBuf : Space → Nat
  | .hbm => 175
  | .vmem => 0
  | .smem => 0
  | _ => 0

abbrev hbmTy0_0 (i : Nat) : BufTy := match i % 128 with
  | 0 => ⟨S4096x3072, .f32⟩
  | 1 => ⟨S1x4x512, .f32⟩
  | 2 => ⟨S1x512, .f32⟩
  | 3 => ⟨S1x8x64x64, .f32⟩
  | 4 => ⟨S1x512, .f32⟩
  | 5 => ⟨S1x8x64x64, .f32⟩
  | 6 => ⟨S1x512, .f32⟩
  | 7 => ⟨S1x512, .f32⟩
  | 8 => ⟨S4096x512, .f32⟩
  | 9 => ⟨S4096x512, .f32⟩
  | 10 => ⟨S4x512, .f32⟩
  | 11 => ⟨S512, .f32⟩
  | 12 => ⟨S_, .f32⟩
  | 13 => ⟨S3x512, .f32⟩
  | 14 => ⟨S4099x512, .f32⟩
  | 15 => ⟨S4096x512, .f32⟩
  | 16 => ⟨S1x512, .f32⟩
  | 17 => ⟨S512, .f32⟩
  | 18 => ⟨S1x512, .f32⟩
  | 19 => ⟨S4096x512, .f32⟩
  | 20 => ⟨S4096x512, .f32⟩
  | 21 => ⟨S1x512, .f32⟩
  | 22 => ⟨S4096x512, .f32⟩
  | 23 => ⟨S4096x512, .f32⟩
  | 24 => ⟨S4096x512, .f32⟩
  | 25 => ⟨S1x512, .f32⟩
  | 26 => ⟨S512, .f32⟩
  | 27 => ⟨S1x512, .f32⟩
  | 28 => ⟨S4096x512, .f32⟩
  | 29 => ⟨S4096x512, .f32⟩
  | 30 => ⟨S4096x512, .f32⟩
  | 31 => ⟨S4096x512, .f32⟩
  | 32 => ⟨S1x512, .f32⟩
  | 33 => ⟨S512, .f32⟩
  | 34 => ⟨S1x512, .f32⟩
  | 35 => ⟨S4096x512, .f32⟩
  | 36 => ⟨S4096x512, .f32⟩
  | 37 => ⟨S4096x512, .f32⟩
  | 38 => ⟨S4096x512, .f32⟩
  | 39 => ⟨S1x512, .f32⟩
  | 40 => ⟨S512, .f32⟩
  | 41 => ⟨S1x512, .f32⟩
  | 42 => ⟨S4096x512, .f32⟩
  | 43 => ⟨S4096x512, .f32⟩
  | 44 => ⟨S4096x512, .f32⟩
  | 45 => ⟨S8x64x64, .f32⟩
  | 46 => ⟨S512, .f32⟩
  | 47 => ⟨S8x64x64, .f32⟩
  | 48 => ⟨S512, .f32⟩
  | 49 => ⟨S512, .f32⟩
  | 50 => ⟨S4096x8x64, .f32⟩
  | 51 => ⟨S8x64x4096, .f32⟩
  | 52 => ⟨S4096x8x64, .f32⟩
  | 53 => ⟨S4096x512, .f32⟩
  | 54 => ⟨S1x512, .f32⟩
  | 55 => ⟨S4096x512, .f32⟩
  | 56 => ⟨S4096x512, .f32⟩
  | 57 => ⟨S4096x512, .f32⟩
  | 58 => ⟨S4096x512, .f32⟩
  | 59 => ⟨S_, .f32⟩
  | 60 => ⟨S4096x512, .f32⟩
  | 61 => ⟨S4096x512, .f32⟩
  | 62 => ⟨S_, .f32⟩
  | 63 => ⟨S4096x512, .f32⟩
  | 64 => ⟨S4096x512, .f32⟩
  | 65 => ⟨S8x64x4096, .f32⟩
  | 66 => ⟨S4096x8x64, .f32⟩
  | 67 => ⟨S4096x512, .f32⟩
  | 68 => ⟨S1x512, .f32⟩
  | 69 => ⟨S4096x512, .f32⟩
  | 70 => ⟨S4096x512, .f32⟩
  | 71 => ⟨S4096x512, .f32⟩
  | 72 => ⟨S4096x512, .f32⟩
  | 73 => ⟨S_, .f32⟩
  | 74 => ⟨S4096x512, .f32⟩
  | 75 => ⟨S4096x512, .f32⟩
  | 76 => ⟨S_, .f32⟩
  | 77 => ⟨S4096x512, .f32⟩
  | 78 => ⟨S4096x512, .f32⟩
  | 79 => ⟨S_, .f32⟩
  | 80 => ⟨S4096x512, .f32⟩
  | 81 => ⟨S4096x512, .f32⟩
  | 82 => ⟨S512, .f32⟩
  | 83 => ⟨S_, .f32⟩
  | 84 => ⟨S512, .f32⟩
  | 85 => ⟨S512, .f32⟩
  | 86 => ⟨S512, .f32⟩
  | 87 => ⟨S512, .f32⟩
  | 88 => ⟨S512, .i1⟩
  | 89 => ⟨S512, .f32⟩
  | 90 => ⟨S512, .f32⟩
  | 91 => ⟨S512, .f32⟩
  | 92 => ⟨S512, .f32⟩
  | 93 => ⟨S512, .f32⟩
  | 94 => ⟨S512, .f32⟩
  | 95 => ⟨S512, .f32⟩
  | 96 => ⟨S512, .f32⟩
  | 97 => ⟨S1x512, .f32⟩
  | 98 => ⟨S4096x512, .f32⟩
  | 99 => ⟨S4096x512, .f32⟩
  | 100 => ⟨S4096x512, .f32⟩
  | 101 => ⟨S_, .f32⟩
  | 102 => ⟨S4096x512, .f32⟩
  | 103 => ⟨S4096x512, .f32⟩
  | 104 => ⟨S4096x512, .f32⟩
  | 105 => ⟨S4096x512, .f32⟩
  | 106 => ⟨S4096x512, .f32⟩
  | 107 => ⟨S4096, .i32⟩
  | 108 => ⟨S4096x1, .i32⟩
  | 109 => ⟨S_, .i32⟩
  | 110 => ⟨S4096x1, .i32⟩
  | 111 => ⟨S4096x1, .i1⟩
  | 112 => ⟨S_, .f32⟩
  | 113 => ⟨S_, .f32⟩
  | 114 => ⟨S4096x512, .i1⟩
  | 115 => ⟨S4096x512, .f32⟩
  | 116 => ⟨S4096x512, .f32⟩
  | 117 => ⟨S4096x512, .f32⟩
  | 118 => ⟨S4096x512, .f32⟩
  | 119 => ⟨S4096, .i32⟩
  | 120 => ⟨S4096x1, .i32⟩
  | 121 => ⟨S4096, .i32⟩
  | 122 => ⟨S1x4096, .i32⟩
  | 123 => ⟨S4096x4096, .i32⟩
  | 124 => ⟨S4096x4096, .i32⟩
  | 125 => ⟨S4096x4096, .i1⟩
  | 126 => ⟨S4096x4096x1, .i1⟩
  | 127 => ⟨S1x4096x512, .f32⟩
  | _ => ⟨S4096x3072, .f32⟩

abbrev hbmTy0_1 (i : Nat) : BufTy := match i % 128 with
  | 0 => ⟨S_, .f32⟩
  | 1 => ⟨S_, .f32⟩
  | 2 => ⟨S4096x4096x512, .i1⟩
  | 3 => ⟨S4096x4096x512, .f32⟩
  | 4 => ⟨S4096x4096x512, .f32⟩
  | 5 => ⟨S4096x4096x512, .f32⟩
  | 6 => ⟨S_, .f32⟩
  | 7 => ⟨S4096x512, .f32⟩
  | 8 => ⟨S4096x4096x1, .i1⟩
  | 9 => ⟨S4096x1x512, .f32⟩
  | 10 => ⟨S1x4096x512, .f32⟩
  | 11 => ⟨S4096x4096x512, .f32⟩
  | 12 => ⟨S4096x4096x512, .f32⟩
  | 13 => ⟨S4096x4096x512, .f32⟩
  | 14 => ⟨S_, .f32⟩
  | 15 => ⟨S_, .f32⟩
  | 16 => ⟨S4096x4096x512, .i1⟩
  | 17 => ⟨S4096x4096x512, .f32⟩
  | 18 => ⟨S4096x4096x512, .f32⟩
  | 19 => ⟨S4096x4096x1, .i1⟩
  | 20 => ⟨S4096x4096x512, .f32⟩
  | 21 => ⟨S_, .f32⟩
  | 22 => ⟨S_, .f32⟩
  | 23 => ⟨S4096x4096x512, .i1⟩
  | 24 => ⟨S4096x4096x512, .f32⟩
  | 25 => ⟨S4096x4096x512, .f32⟩
  | 26 => ⟨S1x4096x512, .f32⟩
  | 27 => ⟨S4096x4096x512, .f32⟩
  | 28 => ⟨S4096x4096x512, .f32⟩
  | 29 => ⟨S_, .f32⟩
  | 30 => ⟨S4096x512, .f32⟩
  | 31 => ⟨S4096x512, .f32⟩
  | 32 => ⟨S4096x512, .f32⟩
  | 33 => ⟨S_, .f32⟩
  | 34 => ⟨S4096x512, .f32⟩
  | 35 => ⟨S4096x512, .f32⟩
  | 36 => ⟨S_, .f32⟩
  | 37 => ⟨S4096x512, .f32⟩
  | 38 => ⟨S4096x512, .f32⟩
  | 39 => ⟨S4096x512, .f32⟩
  | 40 => ⟨S4096x512, .f32⟩
  | 41 => ⟨S4096x512, .bf16⟩
  | 42 => ⟨S1x4096x512, .f32⟩
  | 43 => ⟨S1x4096x512, .f32⟩
  | 44 => ⟨S1x4096x512, .f32⟩
  | 45 => ⟨S1x4096x512, .f32⟩
  | 46 => ⟨S4x4096x512, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_0 : Ref sig .tc := ⟨.hbm, 59, rfl⟩
abbrev main_v50 : Ref sig .tc := ⟨.hbm, 60, rfl⟩
abbrev main_v51 : Ref sig .tc := ⟨.hbm, 61, rfl⟩
abbrev main_cst_1 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_2 : Ref sig .tc := ⟨.hbm, 73, rfl⟩
abbrev main_v62 : Ref sig .tc := ⟨.hbm, 74, rfl⟩
abbrev main_v63 : Ref sig .tc := ⟨.hbm, 75, rfl⟩
abbrev main_cst_3 : Ref sig .tc := ⟨.hbm, 76, rfl⟩
abbrev main_v64 : Ref sig .tc := ⟨.hbm, 77, rfl⟩
abbrev main_v65 : Ref sig .tc := ⟨.hbm, 78, rfl⟩
abbrev main_cst_4 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_call0_cst : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_v5 : Ref sig .tc := ⟨.hbm, 89, rfl⟩
abbrev main_call0_v6 : Ref sig .tc := ⟨.hbm, 90, rfl⟩
abbrev main_call0_v7 : Ref sig .tc := ⟨.hbm, 91, rfl⟩
abbrev main_call0_v8 : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_5 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c : Ref sig .tc := ⟨.hbm, 109, rfl⟩
abbrev main_v81 : Ref sig .tc := ⟨.hbm, 110, rfl⟩
abbrev main_v82 : Ref sig .tc := ⟨.hbm, 111, rfl⟩
abbrev main_cst_6 : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_7 : Ref sig .tc := ⟨.hbm, 128, rfl⟩
abbrev main_call2_v0 : Ref sig .tc := ⟨.hbm, 129, rfl⟩
abbrev main_call2_v1 : Ref sig .tc := ⟨.hbm, 130, rfl⟩
abbrev main_call2_v2 : Ref sig .tc := ⟨.hbm, 131, rfl⟩
abbrev main_call2_v3 : Ref sig .tc := ⟨.hbm, 132, rfl⟩
abbrev main_v95 : Ref sig .tc := ⟨.hbm, 133, rfl⟩
abbrev main_cst_8 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_9 : Ref sig .tc := ⟨.hbm, 142, rfl⟩
abbrev main_call3_v0 : Ref sig .tc := ⟨.hbm, 143, rfl⟩
abbrev main_call3_v1 : Ref sig .tc := ⟨.hbm, 144, rfl⟩
abbrev main_call3_v2 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_10 : Ref sig .tc := ⟨.hbm, 149, rfl⟩
abbrev main_call4_v0 : Ref sig .tc := ⟨.hbm, 150, rfl⟩
abbrev main_call4_v1 : Ref sig .tc := ⟨.hbm, 151, rfl⟩
abbrev main_call4_v2 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_11 : Ref sig .tc := ⟨.hbm, 157, rfl⟩
abbrev main_v110 : Ref sig .tc := ⟨.hbm, 158, rfl⟩
abbrev main_call5_v0 : Ref sig .tc := ⟨.hbm, 159, rfl⟩
abbrev main_call5_v1 : Ref sig .tc := ⟨.hbm, 160, rfl⟩
abbrev main_call5_cst : Ref sig .tc := ⟨.hbm, 161, rfl⟩
abbrev main_call5_v2 : Ref sig .tc := ⟨.hbm, 162, rfl⟩
abbrev main_call5_v3 : Ref sig .tc := ⟨.hbm, 163, rfl⟩
abbrev main_call5_cst_0 : Ref sig .tc := ⟨.hbm, 164, rfl⟩
abbrev main_call5_v4 : Ref sig .tc := ⟨.hbm, 165, rfl⟩
abbrev main_call5_v5 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩

abbrev nD : Nat := 1
abbrev τ : Topo := Topo.v7x

variable {F : FTy → Type} [FloatOps F]
-- ==== Kernel6.lean ====
abbrev S4096x3072 : Shape := ⟨2, ![4096, 3072]⟩
abbrev S2x512 : Shape := ⟨2, ![2, 512]⟩
abbrev S1x128 : Shape := ⟨2, ![1, 128]⟩
abbrev S4096x512 : Shape := ⟨2, ![4096, 512]⟩
abbrev S4096x1024 : Shape := ⟨2, ![4096, 1024]⟩
abbrev S4096x2048 : Shape := ⟨2, ![4096, 2048]⟩
abbrev S4x64x128x128 : Shape := ⟨4, ![4, 64, 128, 128]⟩
abbrev S512x512 : Shape := ⟨2, ![512, 512]⟩
abbrev S4x8x128x128 : Shape := ⟨4, ![4, 8, 128, 128]⟩
abbrev S4x128x128 : Shape := ⟨3, ![4, 128, 128]⟩
abbrev S8x512 : Shape := ⟨2, ![8, 512]⟩
abbrev S32x64x64 : Shape := ⟨3, ![32, 64, 64]⟩
abbrev S32x128x128 : Shape := ⟨3, ![32, 128, 128]⟩
abbrev S1x512 : Shape := ⟨2, ![1, 512]⟩
abbrev S64x64 : Shape := ⟨2, ![64, 64]⟩
abbrev S64x512 : Shape := ⟨2, ![64, 512]⟩
abbrev S64x128 : Shape := ⟨2, ![64, 128]⟩
abbrev S1x64x64 : Shape := ⟨3, ![1, 64, 64]⟩
abbrev S128x128 : Shape := ⟨2, ![128, 128]⟩
abbrev S1x128x128 : Shape := ⟨3, ![1, 128, 128]⟩
abbrev S1x1x128x128 : Shape := ⟨4, ![1, 1, 128, 128]⟩
abbrev S512x128 : Shape := ⟨2, ![512, 128]⟩
abbrev S512 : Shape := ⟨1, ![512]⟩
abbrev S512x1 : Shape := ⟨2, ![512, 1]⟩

abbrev nBuf : Space → Nat
  | .hbm => 15
  | .vmem => 24
  | .smem => 0
  | _ => 0

abbrev bufTy : (tb : Table) → Fin (tcTables nBuf tb) → BufTy
  | .hbm, ⟨0, _⟩ => ⟨S4096x3072, .f32⟩
  | .hbm, ⟨1, _⟩ => ⟨S2x512, .f32⟩
  | .hbm, ⟨2, _⟩ => ⟨S1x128, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x1024, .f32⟩
  | .hbm, ⟨10, _⟩ => ⟨S4096x2048, .f32⟩
  | .hbm, ⟨11, _⟩ => ⟨S4096x2048, .bf16⟩
  | .hbm, ⟨12, _⟩ => ⟨S4096x512, .bf16⟩
  | .hbm, ⟨13, _⟩ => ⟨S4096x512, .f32⟩
  | .hbm, ⟨14, _⟩ => ⟨S4x64x128x128, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S2x512, .f32⟩
  | .local _ .vmem, ⟨9, _⟩ => ⟨S1x128, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S4x8x128x128, .f32⟩
  | .local _ .vmem, ⟨15, _⟩ => ⟨S4x8x128x128, .f32⟩
  | .local _ .vmem, ⟨16, _⟩ => ⟨S4x128x128, .f32⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S8x512, .f32⟩
  | .local _ .vmem, ⟨22, _⟩ => ⟨S32x64x64, .bf16⟩
  | .local _ .vmem, ⟨23, _⟩ => ⟨S32x128x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S4096x3072 : Shape := ⟨2, ![4096, 3072]⟩
abbrev S2x512 : Shape := ⟨2, ![2, 512]⟩
abbrev S1x128 : Shape := ⟨2, ![1, 128]⟩
abbrev S4096x512 : Shape := ⟨2, ![4096, 512]⟩
abbrev S_ : Shape := ⟨0, ![]⟩
abbrev S512 : Shape := ⟨1, ![512]⟩
abbrev S1x512 : Shape := ⟨2, ![1, 512]⟩
abbrev S64x64x4x128 : Shape := ⟨4, ![64, 64, 4, 128]⟩
abbrev S4x64x64x128 : Shape := ⟨4, ![4, 64, 64, 128]⟩
abbrev S4x64x1x128 : Shape := ⟨4, ![4, 64, 1, 128]⟩
abbrev S4x64x128 : Shape := ⟨3, ![4, 64, 128]⟩
abbrev S4x64x64x64 : Shape := ⟨4, ![4, 64, 64, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x64x128x128 : Shape := ⟨4, ![4, 64, 128, 128]⟩
abbrev S1x64x64x1 : Shape := ⟨4, ![1, 64, 64, 1]⟩
abbrev S4x1x64x128 : Shape := ⟨4, ![4, 1, 64, 128]⟩
abbrev S4x128x128x64 : Shape := ⟨4, ![4, 128, 128, 64]⟩
abbrev S4096x4x128 : Shape := ⟨3, ![4096, 4, 128]⟩
abbrev S4096x4 : Shape := ⟨2, ![4096, 4]⟩
abbrev S4096x4x1 : Shape := ⟨3, ![4096, 4, 1]⟩
abbrev S128 : Shape := ⟨1, ![128]⟩
abbrev S1x1x128 : Shape := ⟨3, ![1, 1, 128]⟩

abbrev nBuf : Space → Nat
  | .hbm => 182
  | .vmem => 0
  | .smem => 0
  | _ => 0

abbrev hbmTy0_0 (i : Nat) : BufTy := match i % 128 with
  | 0 => ⟨S4096x3072, .f32⟩
  | 1 => ⟨S2x512, .f32⟩
  | 2 => ⟨S1x128, .f32⟩
  | 3 => ⟨S4096x512, .f32⟩
  | 4 => ⟨S4096x512, .f32⟩
  | 5 => ⟨S4096x512, .f32⟩
  | 6 => ⟨S4096x512, .f32⟩
  | 7 => ⟨S_, .f32⟩
  | 8 => ⟨S512, .f32⟩
  | 9 => ⟨S_, .f32⟩
  | 10 => ⟨S512, .f32⟩
  | 11 => ⟨S512, .f32⟩
  | 12 => ⟨S1x512, .f32⟩
  | 13 => ⟨S2x512, .f32⟩
  | 14 => ⟨S2x512, .f32⟩
  | 15 => ⟨S2x512, .f32⟩
  | 16 => ⟨S_, .f32⟩
  | 17 => ⟨S512, .f32⟩
  | 18 => ⟨S1x512, .f32⟩
  | 19 => ⟨S2x512, .f32⟩
  | 20 => ⟨S2x512, .f32⟩
  | 21 => ⟨S_, .f32⟩
  | 22 => ⟨S_, .f32⟩
  | 23 => ⟨S2x512, .f32⟩
  | 24 => ⟨S1x512, .f32⟩
  | 25 => ⟨S512, .f32⟩
  | 26 => ⟨S_, .f32⟩
  | 27 => ⟨S512, .f32⟩
  | 28 => ⟨S512, .f32⟩
  | 29 => ⟨S4096x512, .f32⟩
  | 30 => ⟨S4096x512, .f32⟩
  | 31 => ⟨S_, .f32⟩
  | 32 => ⟨S4096x512, .f32⟩
  | 33 => ⟨S4096x512, .f32⟩
  | 34 => ⟨S_, .f32⟩
  | 35 => ⟨S4096x512, .f32⟩
  | 36 => ⟨S4096x512, .f32⟩
  | 37 => ⟨S1x512, .f32⟩
  | 38 => ⟨S4096x512, .f32⟩
  | 39 => ⟨S4096x512, .f32⟩
  | 40 => ⟨S1x512, .f32⟩
  | 41 => ⟨S4096x512, .f32⟩
  | 42 => ⟨S4096x512, .f32⟩
  | 43 => ⟨S_, .f32⟩
  | 44 => ⟨S512, .f32⟩
  | 45 => ⟨S512, .f32⟩
  | 46 => ⟨S4096x512, .f32⟩
  | 47 => ⟨S4096x512, .f32⟩
  | 48 => ⟨S4096x512, .f32⟩
  | 49 => ⟨S_, .f32⟩
  | 50 => ⟨S4096x512, .f32⟩
  | 51 => ⟨S4096x512, .f32⟩
  | 52 => ⟨S_, .f32⟩
  | 53 => ⟨S4096x512, .f32⟩
  | 54 => ⟨S4096x512, .f32⟩
  | 55 => ⟨S1x512, .f32⟩
  | 56 => ⟨S4096x512, .f32⟩
  | 57 => ⟨S4096x512, .f32⟩
  | 58 => ⟨S4096x512, .f32⟩
  | 59 => ⟨S4096x512, .f32⟩
  | 60 => ⟨S_, .f32⟩
  | 61 => ⟨S4096x512, .f32⟩
  | 62 => ⟨S4096x512, .f32⟩
  | 63 => ⟨S_, .f32⟩
  | 64 => ⟨S4096x512, .f32⟩
  | 65 => ⟨S4096x512, .f32⟩
  | 66 => ⟨S4096x512, .f32⟩
  | 67 => ⟨S_, .f32⟩
  | 68 => ⟨S4096x512, .f32⟩
  | 69 => ⟨S4096x512, .f32⟩
  | 70 => ⟨S4096x512, .f32⟩
  | 71 => ⟨S64x64x4x128, .f32⟩
  | 72 => ⟨S4x64x64x128, .f32⟩
  | 73 => ⟨S64x64x4x128, .f32⟩
  | 74 => ⟨S4x64x64x128, .f32⟩
  | 75 => ⟨S64x64x4x128, .f32⟩
  | 76 => ⟨S4x64x64x128, .f32⟩
  | 77 => ⟨S64x64x4x128, .f32⟩
  | 78 => ⟨S4x64x64x128, .f32⟩
  | 79 => ⟨S_, .f32⟩
  | 80 => ⟨S_, .f32⟩
  | 81 => ⟨S4x64x64x128, .f32⟩
  | 82 => ⟨S4x64x1x128, .f32⟩
  | 83 => ⟨S4x64x128, .f32⟩
  | 84 => ⟨S4x64x64x128, .f32⟩
  | 85 => ⟨S4x64x64x128, .f32⟩
  | 86 => ⟨S4x64x64x128, .f32⟩
  | 87 => ⟨S4x64x64x128, .f32⟩
  | 88 => ⟨S4x64x64x128, .f32⟩
  | 89 => ⟨S4x64x64x64, .f32⟩
  | 90 => ⟨S64, .i32⟩
  | 91 => ⟨S64x1, .i32⟩
  | 92 => ⟨S64, .i32⟩
  | 93 => ⟨S1x64, .i32⟩
  | 94 => ⟨S64x64, .i32⟩
  | 95 => ⟨S64x64, .i32⟩
  | 96 => ⟨S64x64, .i1⟩
  | 97 => ⟨S_, .f32⟩
  | 98 => ⟨S_, .f32⟩
  | 99 => ⟨S4x64x64x64, .i1⟩
  | 100 => ⟨S4x64x64x64, .f32⟩
  | 101 => ⟨S4x64x64x64, .f32⟩
  | 102 => ⟨S4x64x64x128, .f32⟩
  | 103 => ⟨S4x64x1x128, .f32⟩
  | 104 => ⟨S4x64x64x128, .f32⟩
  | 105 => ⟨S4x64x64x128, .f32⟩
  | 106 => ⟨S4x64x64x128, .f32⟩
  | 107 => ⟨S4x64x64x128, .f32⟩
  | 108 => ⟨S4x64x128x128, .f32⟩
  | 109 => ⟨S64, .i32⟩
  | 110 => ⟨S64x1, .i32⟩
  | 111 => ⟨S64, .i32⟩
  | 112 => ⟨S1x64, .i32⟩
  | 113 => ⟨S64x64, .i32⟩
  | 114 => ⟨S64x64, .i32⟩
  | 115 => ⟨S64x64, .i1⟩
  | 116 => ⟨S1x64x64x1, .i1⟩
  | 117 => ⟨S4x1x64x128, .f32⟩
  | 118 => ⟨S_, .f32⟩
  | 119 => ⟨S_, .f32⟩
  | 120 => ⟨S4x64x64x128, .i1⟩
  | 121 => ⟨S4x64x64x128, .f32⟩
  | 122 => ⟨S4x64x64x128, .f32⟩
  | 123 => ⟨S4x64x64x128, .f32⟩
  | 124 => ⟨S_, .f32⟩
  | 125 => ⟨S4x64x128, .f32⟩
  | 126 => ⟨S1x64x64x1, .i1⟩
  | 127 => ⟨S4x64x1x128, .f32⟩
  | _ => ⟨S4096x3072, .f32⟩

abbrev hbmTy0_1 (i : Nat) : BufTy := match i % 128 with
  | 0 => ⟨S4x64x128, .f32⟩
  | 1 => ⟨S4x1x64x128, .f32⟩
  | 2 => ⟨S4x64x64x128, .f32⟩
  | 3 => ⟨S4x64x64x128, .f32⟩
  | 4 => ⟨S4x64x64x128, .f32⟩
  | 5 => ⟨S_, .f32⟩
  | 6 => ⟨S_, .f32⟩
  | 7 => ⟨S4x64x64x128, .i1⟩
  | 8 => ⟨S4x64x64x128, .f32⟩
  | 9 => ⟨S4x64x64x128, .f32⟩
  | 10 => ⟨S1x64x64x1, .i1⟩
  | 11 => ⟨S4x64x64x128, .f32⟩
  | 12 => ⟨S_, .f32⟩
  | 13 => ⟨S_, .f32⟩
  | 14 => ⟨S4x64x64x128, .i1⟩
  | 15 => ⟨S4x64x64x128, .f32⟩
  | 16 => ⟨S4x64x64x128, .f32⟩
  | 17 => ⟨S4x128x128x64, .f32⟩
  | 18 => ⟨S4x64x128x128, .f32⟩
  | 19 => ⟨S4x64x64x128, .f32⟩
  | 20 => ⟨S4x64x64x128, .f32⟩
  | 21 => ⟨S64x64x4x128, .f32⟩
  | 22 => ⟨S4096x512, .f32⟩
  | 23 => ⟨S4096x4x128, .f32⟩
  | 24 => ⟨S4096x4x128, .f32⟩
  | 25 => ⟨S_, .f32⟩
  | 26 => ⟨S4096x4, .f32⟩
  | 27 => ⟨S4096x4x1, .f32⟩
  | 28 => ⟨S_, .f32⟩
  | 29 => ⟨S4096x4x1, .f32⟩
  | 30 => ⟨S4096x4x1, .f32⟩
  | 31 => ⟨S_, .f32⟩
  | 32 => ⟨S4096x4x1, .f32⟩
  | 33 => ⟨S4096x4x1, .f32⟩
  | 34 => ⟨S4096x4x1, .f32⟩
  | 35 => ⟨S4096x4x128, .f32⟩
  | 36 => ⟨S4096x4x128, .f32⟩
  | 37 => ⟨S128, .f32⟩
  | 38 => ⟨S1x1x128, .f32⟩
  | 39 => ⟨S4096x4x128, .f32⟩
  | 40 => ⟨S4096x4x128, .f32⟩
  | 41 => ⟨S4096x512, .f32⟩
  | 42 => ⟨S4096x512, .f32⟩
  | 43 => ⟨S4096x512, .f32⟩
  | 44 => ⟨S_, .f32⟩
  | 45 => ⟨S4096x512, .f32⟩
  | 46 => ⟨S4096x512, .f32⟩
  | 47 => ⟨S_, .f32⟩
  | 48 => ⟨S4096x512, .f32⟩
  | 49 => ⟨S4096x512, .f32⟩
  | 50 => ⟨S4096x512, .f32⟩
  | 51 => ⟨S4096x512, .f32⟩
  | 52 => ⟨S4096x512, .bf16⟩
  | 53 => ⟨S4x64x128x128, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_call0_cst : Ref sig .tc := ⟨.hbm, 21, rfl⟩
abbrev main_call0_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call2_call0_cst : Ref sig .tc := ⟨.hbm, 79, rfl⟩
abbrev main_call2_call0_v0 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_9 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_10 : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_call4_v3 : Ref sig .tc := ⟨.hbm, 122, rfl⟩
abbrev main_v89 : Ref sig .tc := ⟨.hbm, 123, rfl⟩
abbrev main_cst_11 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_12 : Ref sig .tc := ⟨.hbm, 133, rfl⟩
abbrev main_call5_v0 : Ref sig .tc := ⟨.hbm, 134, rfl⟩
abbrev main_call5_v1 : Ref sig .tc := ⟨.hbm, 135, rfl⟩
abbrev main_call5_v2 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_13 : Ref sig .tc := ⟨.hbm, 140, rfl⟩
abbrev main_call6_v0 : Ref sig .tc := ⟨.hbm, 141, rfl⟩
abbrev main_call6_v1 : Ref sig .tc := ⟨.hbm, 142, rfl⟩
abbrev main_call6_v2 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_14 : Ref sig .tc := ⟨.hbm, 153, rfl⟩
abbrev main_v110 : Ref sig .tc := ⟨.hbm, 154, rfl⟩
abbrev main_v111 : Ref sig .tc := ⟨.hbm, 155, rfl⟩
abbrev main_cst_15 : Ref sig .tc := ⟨.hbm, 156, rfl⟩
abbrev main_v112 : Ref sig .tc := ⟨.hbm, 157, rfl⟩
abbrev main_v113 : Ref sig .tc := ⟨.hbm, 158, rfl⟩
abbrev main_cst_16 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_call7_v0 : Ref sig .tc := ⟨.hbm, 170, rfl⟩
abbrev main_call7_v1 : Ref sig .tc := ⟨.hbm, 171, rfl⟩
abbrev main_call7_cst : Ref sig .tc := ⟨.hbm, 172, rfl⟩
abbrev main_call7_v2 : Ref sig .tc := ⟨.hbm, 173, rfl⟩
abbrev main_call7_v3 : Ref sig .tc := ⟨.hbm, 174, rfl⟩
abbrev main_call7_cst_0 : Ref sig .tc := ⟨.hbm, 175, rfl⟩
abbrev main_call7_v4 : Ref sig .tc := ⟨.hbm, 176, rfl⟩
abbrev main_call7_v5 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩

abbrev nD : Nat := 1
abbrev τ : Topo := Topo.v7x

variable {F : FTy → Type} [FloatOps F]
-- ==== Proof.RglruForward.Claims.lean ====
/- The three frames of the RG-LRU's forward call: the kernel over bits and over the extended reals, and the reference. -/
module

public import proofs.«01_k».proof.Defs
public import proofs.«01_k».proof.Proof.Gen.Kernel5
public import proofs.«01_k».proof.Proof.Gen.Kernel5Ideal.Frame
public import proofs.«01_k».proof.Proof.Gen.Reference5Ideal.Run

@[expose] public section

noncomputable section

namespace Cert.RglruForward

open Idealize.ShloMosaic Idealize.ShloMosaic.TcCoe Idealize.SL.Sem

/-- The kernel's text is the same over bits and over the extended reals, and so is its run. -/
theorem frame_kernel5 : Cert.quiescent_Kernel5 := fun m ρ _ =>
  cast (by sl_kernel_rfl) (Cert.Kernel5Ideal.Gen.frame (F := Bits) m ρ)

theorem frame_kernel5Ideal : Cert.quiescent_Kernel5Ideal := fun m ρ _ => Cert.Kernel5Ideal.Gen.frame m ρ

/-- Of the reference's run, that its arguments are kept and no semaphore is left raised. -/
theorem frame_reference5Ideal : Cert.quiescent_Reference5Ideal := fun m ρ _ =>
  (θ_run Cert.Reference5Ideal.defs _ _).mono
    (fun r h => ⟨fun c => (h c).2.2.2, sem_eq_zero_of_no_sems (by decide) r.2⟩)
    (Cert.Reference5Ideal.Value.run (F := Ideal) m ρ)

end Cert.RglruForward

end
-- ==== Proof.Hgrn2Forward.Claims.lean ====
/- The three frames of HGRN2's forward call: the kernel over bits and over the extended reals, and the reference. -/
module

public import proofs.«01_k».proof.Defs
public import proofs.«01_k».proof.Proof.Gen.Kernel6
public import proofs.«01_k».proof.Proof.Gen.Kernel6Ideal.Frame
public import proofs.«01_k».proof.Proof.Gen.Reference6Ideal.Run

@[expose] public section

noncomputable section

namespace Cert.Hgrn2Forward

open Idealize.ShloMosaic Idealize.ShloMosaic.TcCoe Idealize.SL.Sem

/-- The kernel's text is the same over bits and over the extended reals, and so is its run. -/
theorem frame_kernel6 : Cert.quiescent_Kernel6 := fun m ρ _ =>
  cast (by sl_kernel_rfl) (Cert.Kernel6Ideal.Gen.frame (F := Bits) m ρ)

theorem frame_kernel6Ideal : Cert.quiescent_Kernel6Ideal := fun m ρ _ => Cert.Kernel6Ideal.Gen.frame m ρ

/-- Of the reference's run, that its arguments are kept and no semaphore is left raised. -/
theorem frame_reference6Ideal : Cert.quiescent_Reference6Ideal := fun m ρ _ =>
  (θ_run Cert.Reference6Ideal.defs _ _).mono
    (fun r h => ⟨fun c => (h c).2.2.2, sem_eq_zero_of_no_sems (by decide) r.2⟩)
    (Cert.Reference6Ideal.Value.run (F := Ideal) m ρ)

end Cert.Hgrn2Forward

end
-- ==== Proof.Common.Pieces.lean ====
/- Reading back a buffer written piece by piece. A store through a rectangle of a rank-two buffer covers the elements
   whose row and column lie in the rectangle; every other element keeps what the earlier stores left. -/
module

public import Idealize.ShloMosaic.Lib.Pipeline.Value
public import Idealize.ShloMosaic.Lib.Pointwise

@[expose] public section

noncomputable section

namespace Cert.Common

open Idealize.ShloMosaic

variable {Val : EltTy → Type} [∀ e, Nonempty (Val e)] {e : EltTy} {m n : Nat}

/-- An element inside a rectangle is the rectangle's element at the offset coordinates. -/
theorem rect2_emb (a b h w : Nat) (inb : ∀ x, (![a, b] : Fin 2 → Nat) x + (![h, w] : Fin 2 → Nat) x ≤ (⟨2, ![m, n]⟩ : Shape).size x)
    (r : Fin m) (j : Fin n) (hc : (a ≤ r.val ∧ r.val < a + h) ∧ (b ≤ j.val ∧ j.val < b + w)) :
    (ix2 r j : (⟨2, ![m, n]⟩ : Shape).Idx) = (Rect.unit (s := (⟨2, ![m, n]⟩ : Shape)) ![a, b] ![h, w] inb).emb
      (ix2 (⟨r.val - a, by omega⟩ : Fin h) (⟨j.val - b, by omega⟩ : Fin w)) := by
  funext x
  apply Fin.ext
  match x with
  | ⟨0, _⟩ => show r.val = a + 1 * (r.val - a); omega
  | ⟨1, _⟩ => show j.val = b + 1 * (j.val - b); omega

/-- An element of a rectangle has its row and column in the rectangle's ranges. -/
theorem rect2_mem (a b h w : Nat) (inb : ∀ x, (![a, b] : Fin 2 → Nat) x + (![h, w] : Fin 2 → Nat) x ≤ (⟨2, ![m, n]⟩ : Shape).size x)
    (r : Fin m) (j : Fin n) (hm : ix2 r j ∈ (Rect.unit (s := (⟨2, ![m, n]⟩ : Shape)) ![a, b] ![h, w] inb).set) :
    (a ≤ r.val ∧ r.val < a + h) ∧ (b ≤ j.val ∧ j.val < b + w) :=
  have hm' := (Rect.mem_set_unit (s := (⟨2, ![m, n]⟩ : Shape)) (inb := inb)).mp hm
  ⟨hm' (0 : Fin 2), hm' (1 : Fin 2)⟩

/-- The contents after a list of stores, read at row `r` and column `j`: the last store's payload where its rectangle
    holds the element, otherwise what the earlier stores left. -/
theorem canon_rect2 (a b h w : Nat) (inb : ∀ x, (![a, b] : Fin 2 → Nat) x + (![h, w] : Fin 2 → Nat) x ≤ (⟨2, ![m, n]⟩ : Shape).size x)
    (P : (⟨2, ![h, w]⟩ : Shape).Idx → Val e) (L : List (View.Piece Val (⟨2, ![m, n]⟩ : Shape) e)) (r : Fin m) (j : Fin n) :
    View.canon ((⟨Rect.unit ![a, b] ![h, w] inb, P⟩ : View.Piece Val (⟨2, ![m, n]⟩ : Shape) e) :: L) (ix2 r j)
      = if hc : (a ≤ r.val ∧ r.val < a + h) ∧ (b ≤ j.val ∧ j.val < b + w) then
          P (ix2 ⟨r.val - a, by omega⟩ ⟨j.val - b, by omega⟩)
        else View.canon L (ix2 r j) := by
  by_cases hc : (a ≤ r.val ∧ r.val < a + h) ∧ (b ≤ j.val ∧ j.val < b + w)
  · rw [dif_pos hc, rect2_emb a b h w inb r j hc]
    exact View.canon_cons_emb (Val := Val) (e := e) (Rect.unit (s := (⟨2, ![m, n]⟩ : Shape)) ![a, b] ![h, w] inb) P L _
  · rw [dif_neg hc]
    exact View.canon_cons_of_not_mem _ L fun hm => hc (rect2_mem a b h w inb r j hm)

/-- The same over contents `f` already in the buffer. -/
theorem read_writes_rect2 {sig : RefSig} {κ : Kind} {sp : Space} (v : View sig κ sp (⟨2, ![m, n]⟩ : Shape) e) (f : v.ty.Contents Val)
    (a b h w : Nat) (inb : ∀ x, (![a, b] : Fin 2 → Nat) x + (![h, w] : Fin 2 → Nat) x ≤ (⟨2, ![m, n]⟩ : Shape).size x)
    (P : (⟨2, ![h, w]⟩ : Shape).Idx → Val e) (L : List (View.Piece Val (⟨2, ![m, n]⟩ : Shape) e)) (r : Fin m) (j : Fin n) :
    v.read Val (v.writes Val f ((⟨Rect.unit ![a, b] ![h, w] inb, P⟩ : View.Piece Val (⟨2, ![m, n]⟩ : Shape) e) :: L)) (ix2 r j)
      = if hc : (a ≤ r.val ∧ r.val < a + h) ∧ (b ≤ j.val ∧ j.val < b + w) then
          P (ix2 ⟨r.val - a, by omega⟩ ⟨j.val - b, by omega⟩)
        else v.read Val (v.writes Val f L) (ix2 r j) := by
  by_cases hc : (a ≤ r.val ∧ r.val < a + h) ∧ (b ≤ j.val ∧ j.val < b + w)
  · rw [dif_pos hc, rect2_emb a b h w inb r j hc]
    exact View.read_writes_cons_emb (Val := Val) v f (Rect.unit (s := (⟨2, ![m, n]⟩ : Shape)) ![a, b] ![h, w] inb) P L _
  · rw [dif_neg hc, View.writes_cons]
    refine View.read_slice_write_of_not_mem _ _ _ _ fun hm => hc (rect2_mem a b h w inb r j ?_)
    rwa [Rect.map_emb_univ] at hm

/-- A load through a rectangle of what a list of stores left. -/
theorem readCov_rect2 {sig : RefSig} {κ : Kind} {sp : Space} (v : View sig κ sp (⟨2, ![m, n]⟩ : Shape) e)
    (L : List (View.Piece Val (⟨2, ![m, n]⟩ : Shape) e)) (a b h w : Nat)
    (inb : ∀ x, (![a, b] : Fin 2 → Nat) x + (![h, w] : Fin 2 → Nat) x ≤ (⟨2, ![m, n]⟩ : Shape).size x)
    (r : Fin h) (j : Fin w) (hr : a + r.val < m) (hj : b + j.val < n) :
    v.readCov L (Rect.unit (s := (⟨2, ![m, n]⟩ : Shape)) ![a, b] ![h, w] inb).toLoadRect (ix2 r j)
      = View.canon L (ix2 ⟨a + r.val, hr⟩ ⟨b + j.val, hj⟩) := by
  rw [View.readCov_eq_canon']
  refine congrArg (View.canon L) ?_
  funext x
  apply Fin.ext
  match x with
  | ⟨0, _⟩ => show a + 1 * r.val = a + r.val; omega
  | ⟨1, _⟩ => show b + 1 * j.val = b + j.val; omega

/-- A load through a rectangle of given contents. -/
theorem ld_rect2 (X : (⟨2, ![m, n]⟩ : Shape).Idx → Val e) (a b h w : Nat)
    (inb : ∀ x, (![a, b] : Fin 2 → Nat) x + (![h, w] : Fin 2 → Nat) x ≤ (⟨2, ![m, n]⟩ : Shape).size x)
    (r : Fin h) (j : Fin w) (hr : a + r.val < m) (hj : b + j.val < n) :
    View.ld X (Rect.unit (s := (⟨2, ![m, n]⟩ : Shape)) ![a, b] ![h, w] inb) (ix2 r j) = X (ix2 ⟨a + r.val, hr⟩ ⟨b + j.val, hj⟩) := by
  refine congrArg X ?_
  funext x
  apply Fin.ext
  match x with
  | ⟨0, _⟩ => show a + 1 * r.val = a + r.val; omega
  | ⟨1, _⟩ => show b + 1 * j.val = b + j.val; omega

/-! ## One leading index of a rank-three buffer -/

variable {k : Nat}

/-- The contents after a list of stores whose last fills leading index `a` of a rank-three buffer. -/
theorem canon_slab (a : Nat) (inb : ∀ x, (![a, 0, 0] : Fin 3 → Nat) x + (![1, m, n] : Fin 3 → Nat) x ≤ (⟨3, ![k, m, n]⟩ : Shape).size x)
    (P : (⟨3, ![1, m, n]⟩ : Shape).Idx → Val e) (L : List (View.Piece Val (⟨3, ![k, m, n]⟩ : Shape) e)) (s : Fin k) (r : Fin m) (j : Fin n) :
    View.canon ((⟨Rect.unit ![a, 0, 0] ![1, m, n] inb, P⟩ : View.Piece Val (⟨3, ![k, m, n]⟩ : Shape) e) :: L) (ix3 s r j)
      = if s.val = a then P (ix3 0 r j) else View.canon L (ix3 s r j) := by
  by_cases hs : s.val = a
  · rw [if_pos hs]
    have he : (ix3 s r j : (⟨3, ![k, m, n]⟩ : Shape).Idx)
        = (Rect.unit (s := (⟨3, ![k, m, n]⟩ : Shape)) ![a, 0, 0] ![1, m, n] inb).emb (ix3 (0 : Fin 1) r j) := by
      funext x
      apply Fin.ext
      match x with
      | ⟨0, _⟩ => show s.val = a + 1 * 0; omega
      | ⟨1, _⟩ => show r.val = 0 + 1 * r.val; omega
      | ⟨2, _⟩ => show j.val = 0 + 1 * j.val; omega
    rw [he]
    exact View.canon_cons_emb (Val := Val) (e := e) (Rect.unit (s := (⟨3, ![k, m, n]⟩ : Shape)) ![a, 0, 0] ![1, m, n] inb) P L _
  · rw [if_neg hs]
    refine View.canon_cons_of_not_mem _ L fun hm => hs ?_
    have h0 : a ≤ s.val ∧ s.val < a + 1 := (Rect.mem_set_unit (s := (⟨3, ![k, m, n]⟩ : Shape)) (inb := inb)).mp hm (0 : Fin 3)
    omega

/-- A load of leading index `a` of what a list of stores left. -/
theorem readCov_slab {sig : RefSig} {κ : Kind} {sp : Space} (v : View sig κ sp (⟨3, ![k, m, n]⟩ : Shape) e)
    (L : List (View.Piece Val (⟨3, ![k, m, n]⟩ : Shape) e)) (a : Nat)
    (inb : ∀ x, (![a, 0, 0] : Fin 3 → Nat) x + (![1, m, n] : Fin 3 → Nat) x ≤ (⟨3, ![k, m, n]⟩ : Shape).size x)
    (ha : a < k) (r : Fin m) (j : Fin n) :
    v.readCov L (Rect.unit (s := (⟨3, ![k, m, n]⟩ : Shape)) ![a, 0, 0] ![1, m, n] inb).toLoadRect (ix3 0 r j)
      = View.canon L (ix3 ⟨a, ha⟩ r j) := by
  rw [View.readCov_eq_canon']
  refine congrArg (View.canon L) ?_
  funext x
  apply Fin.ext
  match x with
  | ⟨0, _⟩ => show a + 1 * 0 = a; omega
  | ⟨1, _⟩ => show 0 + 1 * r.val = r.val; omega
  | ⟨2, _⟩ => show 0 + 1 * j.val = j.val; omega

/-- A load of leading index `a` of given contents. -/
theorem ld_slab (X : (⟨3, ![k, m, n]⟩ : Shape).Idx → Val e) (a : Nat)
    (inb : ∀ x, (![a, 0, 0] : Fin 3 → Nat) x + (![1, m, n] : Fin 3 → Nat) x ≤ (⟨3, ![k, m, n]⟩ : Shape).size x)
    (ha : a < k) (r : Fin m) (j : Fin n) :
    View.ld X (Rect.unit (s := (⟨3, ![k, m, n]⟩ : Shape)) ![a, 0, 0] ![1, m, n] inb) (ix3 0 r j) = X (ix3 ⟨a, ha⟩ r j) := by
  refine congrArg X ?_
  funext x
  apply Fin.ext
  match x with
  | ⟨0, _⟩ => show a + 1 * 0 = a; omega
  | ⟨1, _⟩ => show 0 + 1 * r.val = r.val; omega
  | ⟨2, _⟩ => show 0 + 1 * j.val = j.val; omega

end Cert.Common
-- ==== Proof.Common.Consts.lean ====
/- The real number that a normal 32-bit float constant denotes. -/
module

public import Idealize.ShloMosaic.Lib.Pointwise

@[expose] public section

noncomputable section

namespace Cert.Common

open Idealize.ShloMosaic

/-- A normal pattern with sign `neg`, exponent field `ex` and fraction field `fr` denotes `± (2^23 + fr) 2^(ex - 150)`. -/
theorem f32_normal (b : BitVec 32) (neg : Bool) (ex fr : Nat) (hn : (b.extractLsb' 31 1 == 1#1) = neg)
    (he : (b.extractLsb' 23 8).toNat = ex) (hf : (b.extractLsb' 0 23).toNat = fr) (h0 : ex ≠ 255) (h1 : ex ≠ 0) :
    Ideal.ofBits .f32 b
      = (((if neg then -1 else 1) * (8388608 + fr : ℝ) * (2 : ℝ) ^ ((ex : ℤ) - 150) : ℝ) : EReal) := by
  subst hn he hf
  simp only [Ideal.ofBits, Ideal.ieee]
  rw [if_neg (by simpa using h0), if_neg h1]
  congr 1
  push_cast
  congr 1
  norm_num
  ring

theorem f32_1024 : Ideal.ofBits .f32 0x44800000#32 = ((1024 : ℝ) : EReal) := by
  rw [f32_normal 0x44800000#32 false 137 0 (by decide) (by decide) (by decide) (by decide) (by decide)]; norm_num

theorem f32_neg_half : Ideal.ofBits .f32 0xBF000000#32 = ((-(1 / 2) : ℝ) : EReal) := by
  rw [f32_normal 0xBF000000#32 true 126 0 (by decide) (by decide) (by decide) (by decide) (by decide)]; norm_num

theorem f32_half : Ideal.ofBits .f32 0x3F000000#32 = ((1 / 2 : ℝ) : EReal) := by
  rw [f32_normal 0x3F000000#32 false 126 0 (by decide) (by decide) (by decide) (by decide) (by decide)]; norm_num

theorem f32_one : Ideal.ofBits .f32 0x3F800000#32 = ((1 : ℝ) : EReal) := by
  rw [f32_normal 0x3F800000#32 false 127 0 (by decide) (by decide) (by decide) (by decide) (by decide)]; norm_num

theorem f32_two : Ideal.ofBits .f32 0x40000000#32 = ((2 : ℝ) : EReal) := by
  rw [f32_normal 0x40000000#32 false 128 0 (by decide) (by decide) (by decide) (by decide) (by decide)]; norm_num

theorem f32_inv_1024 : Ideal.ofBits .f32 0x3A800000#32 = ((1 / 1024 : ℝ) : EReal) := by
  rw [f32_normal 0x3A800000#32 false 117 0 (by decide) (by decide) (by decide) (by decide) (by decide)]; norm_num

theorem f32_inv_2048 : Ideal.ofBits .f32 0x3A000000#32 = ((1 / 2048 : ℝ) : EReal) := by
  rw [f32_normal 0x3A000000#32 false 116 0 (by decide) (by decide) (by decide) (by decide) (by decide)]; norm_num

/-- The float nearest 1e-6 is a positive real. -/
theorem f32_eps : ∃ e : ℝ, 0 < e ∧ Ideal.ofBits .f32 0x358637BD#32 = (e : EReal) := by
  rw [f32_normal 0x358637BD#32 false 107 407485 (by decide) (by decide) (by decide) (by decide) (by decide)]
  exact ⟨_, by norm_num, rfl⟩

end Cert.Common
-- ==== Proof.Norm.Row.lean ====
/- The arithmetic of one row of the RMS normalisation and of its gradient, over the extended reals.

   A row `x` of 1024 numbers is scaled by `s = 1 / sqrt (mean x² + ε)`. With the gradient `u` of the scaled row after the
   weights and the weights `w`, the gradient of the row has two spellings: the kernel's, `s (u w - x s mean (u w x s))`, and
   automatic differentiation's, `u w s + x c + c x` with `c = (∑ x u w) (-1/2 · s / (mean x² + ε)) / 1024`. They agree at
   every extended real, because `mean x² + ε` is a positive real or `+∞`, and in the second case `s` is zero. -/
module

public import proofs.«01_k».proof.Proof.Common.Consts

@[expose] public section

noncomputable section

namespace Cert.Norm

open Idealize.ShloMosaic

/-- The program's constant 1024. -/
abbrev len : EReal := Ideal.ofBits .f32 0x44800000#32
/-- The program's constant ε (1e-6 rounded). -/
abbrev eps : EReal := Ideal.ofBits .f32 0x358637BD#32
/-- The program's constant -1/2. -/
abbrev negHalf : EReal := Ideal.ofBits .f32 0xBF000000#32

/-- The mean of the squares of a row, plus ε. -/
def meanSq (x : Fin 1024 → EReal) : EReal := Ideal.div (∑ k, x k * x k) len + eps

/-- The factor a row is scaled by. -/
def scale (x : Fin 1024 → EReal) : EReal := Ideal.rsqrt (meanSq x)

/-- The kernel's gradient of a row at column `j`, added to `h`. -/
def rowGrad (x u w : Fin 1024 → EReal) (h : EReal) (j : Fin 1024) : EReal :=
  h + scale x * (u j * w j - x j * scale x * Ideal.div (∑ k, u k * w k * (x k * scale x)) len)

theorem len_eq : len = ((1024 : ℝ) : EReal) := Common.f32_1024

theorem negHalf_eq : negHalf = ((-(1 / 2) : ℝ) : EReal) := Common.f32_neg_half

theorem eps_pos : ∃ e : ℝ, 0 < e ∧ eps = (e : EReal) := Common.f32_eps

theorem div_len (y : EReal) : Ideal.div y len = y * ((1 / 1024 : ℝ) : EReal) := by
  rw [len_eq]
  unfold Ideal.div
  rw [if_neg (by exact_mod_cast (by norm_num : (1024 : ℝ) ≠ 0)), ← EReal.coe_inv]
  norm_num

/-- A square is never negative, at the infinities too. -/
theorem mul_self_nonneg' (x : EReal) : 0 ≤ x * x := by
  induction x with
  | bot => simp
  | top => simp
  | coe r => exact_mod_cast mul_self_nonneg r

/-- The mean of the squares plus ε is a positive real or `+∞`. -/
theorem meanSq_cases (x : Fin 1024 → EReal) : meanSq x = ⊤ ∨ ∃ v : ℝ, 0 < v ∧ meanSq x = (v : EReal) := by
  obtain ⟨e, he, hee⟩ := eps_pos
  unfold meanSq
  rw [div_len, hee]
  have hs : (0 : EReal) ≤ ∑ k, x k * x k := Finset.sum_nonneg fun k _ => mul_self_nonneg' (x k)
  generalize ∑ k, x k * x k = S at hs
  induction S with
  | bot => simp at hs
  | top =>
    left
    rw [EReal.top_mul_coe_of_pos (by norm_num)]
    rfl
  | coe r =>
    right
    have hr : 0 ≤ r := by exact_mod_cast hs
    refine ⟨r * (1 / 1024) + e, by positivity, by push_cast; rfl⟩

/-- A real factor distributes over a sum of extended reals when it is not negative. -/
theorem coe_mul_add {s : ℝ} (hs : 0 ≤ s) (a b : EReal) : (s : EReal) * (a + b) = s * a + s * b :=
  EReal.left_distrib_of_nonneg_of_ne_top (by exact_mod_cast hs) (EReal.coe_ne_top s) a b

theorem coe_mul_sum {s : ℝ} (hs : 0 ≤ s) {n : Nat} (f : Fin n → EReal) :
    (s : EReal) * ∑ k, f k = ∑ k, (s : EReal) * f k := by
  induction n with
  | zero => simp
  | succ n ih => rw [Fin.sum_univ_succ, Fin.sum_univ_succ, coe_mul_add hs, ih]

/-- Twice a real multiple, taken as a sum. -/
theorem mul_coe_add_self (z : EReal) (k : ℝ) : z * (k : EReal) + z * (k : EReal) = z * ((2 * k : ℝ) : EReal) := by
  induction z with
  | coe r => norm_cast; ring
  | top =>
    rcases lt_trichotomy k 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy k 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- Automatic differentiation's coefficient of the row in its own gradient. -/
def coeff (x u w : Fin 1024 → EReal) : EReal :=
  Ideal.div ((∑ k, x k * (u k * w k)) * (negHalf * Ideal.div (scale x) (meanSq x))) len

/-- The two spellings of the gradient of a row agree. -/
theorem rowGrad_eq (x u w : Fin 1024 → EReal) (h : EReal) (j : Fin 1024) :
    rowGrad x u w h j = h + u j * w j * scale x + x j * coeff x u w + coeff x u w * x j := by
  unfold rowGrad coeff
  rw [div_len, div_len]
  rcases meanSq_cases x with hv | ⟨v, hv, hve⟩
  · have hs : scale x = 0 := by unfold scale; rw [hv]; rfl
    have hd : Ideal.div (0 : EReal) ⊤ = 0 := by unfold Ideal.div; simp
    rw [hv, hs, hd]
    simp
  · have hsq : 0 < Real.sqrt v := Real.sqrt_pos.mpr hv
    have hs : scale x = (((Real.sqrt v)⁻¹ : ℝ) : EReal) := by
      unfold scale
      rw [hve]
      show (if v < 0 then ⊥ else if v = 0 then ⊤ else (((Real.sqrt v)⁻¹ : ℝ) : EReal)) = _
      rw [if_neg (not_lt.mpr hv.le), if_neg hv.ne']
    have hd : Ideal.div (((Real.sqrt v)⁻¹ : ℝ) : EReal) (v : EReal) = (((Real.sqrt v)⁻¹ * v⁻¹ : ℝ) : EReal) := by
      unfold Ideal.div
      rw [if_neg (by exact_mod_cast hv.ne'), ← EReal.coe_inv, EReal.coe_mul]
    rw [hve, hs, hd, negHalf_eq]
    set s : ℝ := (Real.sqrt v)⁻¹ with hsdef
    have hs0 : 0 ≤ s := (inv_pos.mpr hsq).le
    have hM : ∑ k, u k * w k * (x k * (s : EReal)) = (s : EReal) * ∑ k, x k * (u k * w k) := by
      rw [coe_mul_sum hs0]
      refine Finset.sum_congr rfl fun k _ => ?_
      rw [mul_comm (u k * w k), mul_comm (x k) (s : EReal), mul_assoc]
    rw [hM]
    generalize ∑ k, x k * (u k * w k) = M
    have hvs : v⁻¹ = s * s := by rw [hsdef, ← mul_inv, Real.mul_self_sqrt hv.le]
    have hneg : ∀ a b : EReal, a - b = a + b * ((-1 : ℝ) : EReal) := fun a b => by
      rw [sub_eq_add_neg]; congr 1; rw [EReal.coe_neg, EReal.coe_one, mul_neg, mul_one]
    rw [hneg, coe_mul_add hs0, add_assoc, add_assoc]
    congr 1
    rw [mul_comm (u j * w j), mul_comm _ (x j)]
    congr 1
    have e1 : x j * (M * (((-(1 / 2) : ℝ) : EReal) * ((s * v⁻¹ : ℝ) : EReal)) * ((1 / 1024 : ℝ) : EReal))
        = (x j * M) * ((-(1 / 2) * (s * v⁻¹) * (1 / 1024) : ℝ) : EReal) := by
      rw [EReal.coe_mul (-(1 / 2) * (s * v⁻¹)), EReal.coe_mul (-(1 / 2))]; ac_rfl
    have e2 : (s : EReal) * (x j * (s : EReal) * ((s : EReal) * M * ((1 / 1024 : ℝ) : EReal)) * ((-1 : ℝ) : EReal))
        = (x j * M) * ((s * s * s * (1 / 1024) * (-1) : ℝ) : EReal) := by
      rw [EReal.coe_mul, EReal.coe_mul, EReal.coe_mul, EReal.coe_mul]; ac_rfl
    rw [e1, e2, mul_coe_add_self, hvs]
    congr 2
    ring

end Cert.Norm
-- ==== Proof.Norm.Body.lean ====
/- What one grid point of the kernel leaves in its two output blocks, element by element.

   A point holds 512 rows. Of each row it forms the gradient `u` of the normalised row (five products, the columns of the
   incoming gradient against the four shards of the weights), then the row's own gradient (`Norm.rowGrad`); into row 0 of
   the second output it adds, per column, the sum over its rows of `u x s`. -/
module

public import proofs.«01_k».proof.Proof.Gen.KernelIdeal.Value
public import proofs.«01_k».proof.Proof.Common.Pieces
public import proofs.«01_k».proof.Proof.Norm.Row

@[expose] public section

set_option maxRecDepth 16384

noncomputable section

namespace Cert.KernelIdeal.Norm

open Cert.KernelIdeal Cert.KernelIdeal.Gen Idealize.ShloMosaic Idealize.ShloMosaic.TcCoe Idealize.SL.Sem
open Cert.Norm Cert.Common

theorem origin2 : (![0, 0] : Fin 2 → Nat) = fun _ => 0 := funext fun a => by fin_cases a <;> rfl

/-- The gradient of the normalised row `r` at column `j`: the row of incoming gradients, given in two parts, against the
    four shards of the weights. -/
def blockGrad (a : Vec Ideal S512x1024 .bf16) (b : Vec Ideal S512x2048 .bf16) (w : Vec Ideal S4x1024x768 .bf16)
    (r : Fin 512) (j : Fin 1024) : EReal :=
  ∑ k : Fin 768, a (ix2 r ⟨k, by omega⟩) * w (ix3 0 j k) + ∑ k : Fin 256, a (ix2 r ⟨768 + k, by omega⟩) * w (ix3 1 j ⟨k, by omega⟩)
    + ∑ k : Fin 512, b (ix2 r ⟨k, by omega⟩) * w (ix3 1 j ⟨256 + k, by omega⟩)
    + ∑ k : Fin 768, b (ix2 r ⟨512 + k, by omega⟩) * w (ix3 2 j k) + ∑ k : Fin 768, b (ix2 r ⟨1280 + k, by omega⟩) * w (ix3 3 j k)

/-- Row `r` of a block. -/
abbrev row (x : Vec Ideal S512x1024 .f32) (r : Fin 512) : Fin 1024 → EReal := fun k => x (ix2 r k)

/-- What a point adds to row 0 of the second output at column `j`. -/
def blockSum (x : Vec Ideal S512x1024 .f32) (a : Vec Ideal S512x1024 .bf16) (b : Vec Ideal S512x2048 .bf16)
    (w : Vec Ideal S4x1024x768 .bf16) (j : Fin 1024) : EReal :=
  ∑ r : Fin 512, blockGrad a b w r j * (x (ix2 r j) * scale (row x r))

/-- Case A's first output: the gradient of each row. -/
theorem out_A_6 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x2048 .bf16) (harg4 : arg4.IsWhole) (arg5 : Memref sig .tc .vmem S4x1024x768 .bf16) (harg5 : arg5.IsWhole) (arg6 : Memref sig .tc .vmem S1x1024 .f32) (harg6 : arg6.IsWhole) (arg8 : Memref sig .tc .vmem S512x1024 .f32) (harg8 : arg8.IsWhole) (arg9 : Memref sig .tc .vmem S8x1024 .f32) (harg9 : arg9.IsWhole) (hc : cond0_0 i)
    (x0 : Vec Ideal S512x1024 .f32) (x1 : Vec Ideal S512x1024 .f32) (x2 : Vec Ideal S512x1024 .bf16) (x3 : Vec Ideal S512x2048 .bf16) (x4 : Vec Ideal S4x1024x768 .bf16) (x5 : Vec Ideal S1x1024 .f32) (r : Fin 512) (j : Fin 1024) :
    out0_A_6 c i arg1 harg1 arg2 harg2 arg3 harg3 arg4 harg4 arg5 harg5 arg6 harg6 arg8 harg8 arg9 harg9 hc x0 x1 x2 x3 x4 x5 (ix2 r j)
      = rowGrad (row x0 r) (blockGrad x2 x3 x4 r) (fun k => x5 (ix2 0 k)) (x1 (ix2 r j)) j := by
  unfold out0_A_6 rowGrad scale meanSq blockGrad
  rw [View.read_writes_junk_eq_canon]
  unfold kernelRun0_A
  dsimp only
  sl_unfold_words
  rw [View.canon_unit_zero origin2]
  simp only [View.readAt_eq_ld, harg1.read_unread, harg2.read_unread, harg3.read_unread, harg4.read_unread, harg5.read_unread, harg6.read_unread, harg9.read_unread, View.ld_unit_zero (S := S512x1024) origin2, View.ld_unit_zero (S := S1x1024) origin2, shapeCast_self]
  unfold_payloads
  pointwise []

/-- Case A's second output: row 0 is the point's column sums, the other rows are zero. -/
theorem out_A_7 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x2048 .bf16) (harg4 : arg4.IsWhole) (arg5 : Memref sig .tc .vmem S4x1024x768 .bf16) (harg5 : arg5.IsWhole) (arg6 : Memref sig .tc .vmem S1x1024 .f32) (harg6 : arg6.IsWhole) (arg8 : Memref sig .tc .vmem S512x1024 .f32) (harg8 : arg8.IsWhole) (arg9 : Memref sig .tc .vmem S8x1024 .f32) (harg9 : arg9.IsWhole) (hc : cond0_0 i)
    (x0 : Vec Ideal S512x1024 .f32) (x1 : Vec Ideal S512x1024 .f32) (x2 : Vec Ideal S512x1024 .bf16) (x3 : Vec Ideal S512x2048 .bf16) (x4 : Vec Ideal S4x1024x768 .bf16) (x5 : Vec Ideal S1x1024 .f32) (r : Fin 8) (j : Fin 1024) :
    out0_A_7 c i arg1 harg1 arg2 harg2 arg3 harg3 arg4 harg4 arg5 harg5 arg6 harg6 arg8 harg8 arg9 harg9 hc x0 x1 x2 x3 x4 x5 (ix2 r j)
      = if r.val = 0 then blockSum x0 x2 x3 x4 j else 0 := by
  unfold out0_A_7
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg9.read_unread, View.ld_unit_zero (S := S512x1024) origin2, View.ld_unit_zero (S := S1x1024) origin2, shapeCast_self]
  rw [canon_rect2, View.canon_unit_zero origin2]
  unfold blockSum scale meanSq blockGrad
  by_cases hr : r.val = 0
  · rw [dif_pos ⟨⟨by omega, by omega⟩, by omega, by omega⟩, if_pos hr]
    unfold_payloads
    pointwise [View.readCov_eq_canon']
    rw [View.canon_unit_zero origin2]
    exact zero_add _
  · rw [dif_neg (by omega), if_neg hr]
    unfold_payloads
    pointwise []

/-- Case B's first output: the gradient of each row. -/
theorem out_B_6 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x2048 .bf16) (harg4 : arg4.IsWhole) (arg5 : Memref sig .tc .vmem S4x1024x768 .bf16) (harg5 : arg5.IsWhole) (arg6 : Memref sig .tc .vmem S1x1024 .f32) (harg6 : arg6.IsWhole) (arg8 : Memref sig .tc .vmem S512x1024 .f32) (harg8 : arg8.IsWhole) (arg9 : Memref sig .tc .vmem S8x1024 .f32) (harg9 : arg9.IsWhole) (hc : ¬cond0_0 i)
    (x0 : Vec Ideal S512x1024 .f32) (x1 : Vec Ideal S512x1024 .f32) (x2 : Vec Ideal S512x1024 .bf16) (x3 : Vec Ideal S512x2048 .bf16) (x4 : Vec Ideal S4x1024x768 .bf16) (x5 : Vec Ideal S1x1024 .f32) (x7 : Vec Ideal S8x1024 .f32) (r : Fin 512) (j : Fin 1024) :
    out0_B_6 c i arg1 harg1 arg2 harg2 arg3 harg3 arg4 harg4 arg5 harg5 arg6 harg6 arg8 harg8 arg9 harg9 hc x0 x1 x2 x3 x4 x5 x7 (ix2 r j)
      = rowGrad (row x0 r) (blockGrad x2 x3 x4 r) (fun k => x5 (ix2 0 k)) (x1 (ix2 r j)) j := by
  unfold out0_B_6 rowGrad scale meanSq blockGrad
  rw [View.read_writes_junk_eq_canon]
  unfold kernelRun0_B
  dsimp only
  sl_unfold_words
  rw [View.canon_unit_zero origin2]
  simp only [View.readAt_eq_ld, harg1.read_unread, harg2.read_unread, harg3.read_unread, harg4.read_unread, harg5.read_unread, harg6.read_unread, harg9.read_unread, View.ld_unit_zero (S := S512x1024) origin2, View.ld_unit_zero (S := S1x1024) origin2, shapeCast_self]
  unfold_payloads
  pointwise []

/-- Case B's second output: row 0 grows by the point's column sums, the other rows are kept. -/
theorem out_B_7 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x2048 .bf16) (harg4 : arg4.IsWhole) (arg5 : Memref sig .tc .vmem S4x1024x768 .bf16) (harg5 : arg5.IsWhole) (arg6 : Memref sig .tc .vmem S1x1024 .f32) (harg6 : arg6.IsWhole) (arg8 : Memref sig .tc .vmem S512x1024 .f32) (harg8 : arg8.IsWhole) (arg9 : Memref sig .tc .vmem S8x1024 .f32) (harg9 : arg9.IsWhole) (hc : ¬cond0_0 i)
    (x0 : Vec Ideal S512x1024 .f32) (x1 : Vec Ideal S512x1024 .f32) (x2 : Vec Ideal S512x1024 .bf16) (x3 : Vec Ideal S512x2048 .bf16) (x4 : Vec Ideal S4x1024x768 .bf16) (x5 : Vec Ideal S1x1024 .f32) (x7 : Vec Ideal S8x1024 .f32) (r : Fin 8) (j : Fin 1024) :
    out0_B_7 c i arg1 harg1 arg2 harg2 arg3 harg3 arg4 harg4 arg5 harg5 arg6 harg6 arg8 harg8 arg9 harg9 hc x0 x1 x2 x3 x4 x5 x7 (ix2 r j)
      = x7 (ix2 r j) + if r.val = 0 then blockSum x0 x2 x3 x4 j else 0 := by
  unfold out0_B_7
  unfold kernelRun0_B
  dsimp only
  sl_unfold_words
  simp only [View.readAt_eq_ld, harg1.read_unread, harg2.read_unread, harg3.read_unread, harg4.read_unread, harg5.read_unread, harg6.read_unread, harg9.read_unread, View.ld_unit_zero (S := S512x1024) origin2, View.ld_unit_zero (S := S1x1024) origin2, shapeCast_self]
  rw [read_writes_rect2, View.writes_nil, harg9.read_unread]
  unfold blockSum scale meanSq blockGrad
  by_cases hr : r.val = 0
  · rw [dif_pos ⟨⟨by omega, by omega⟩, by omega, by omega⟩, if_pos hr]
    obtain rfl : r = 0 := Fin.ext hr
    unfold_payloads
    pointwise []
  · rw [dif_neg (by omega), if_neg hr, add_zero]

end Cert.KernelIdeal.Norm
-- ==== Proof.Norm.Arrays.lean ====
/- What the kernel of the norm's gradient leaves in its two result arrays, as functions of its arguments.

   A grid point `t` works on rows `512 t … 512 t + 511`. Its five partial products, over the shards of the weights, are one
   sum over the 3072 columns of the incoming gradient. The second array is a running sum over the points. -/
module

public import proofs.«01_k».proof.Proof.Norm.Body
public import proofs.«01_k».proof.Proof.Gen.KernelIdeal.Value
public import Idealize.ShloMosaic.Lib.Pipeline.ValueKit

@[expose] public section

noncomputable section

namespace Cert.KernelIdeal.Norm

open Cert.KernelIdeal Cert.KernelIdeal.Gen Cert.Norm Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Point `t`'s block of a row-tiled window is block `(t, 0)`. -/
theorem tiled (t : Fin cfg0.N) : win0_0.index t = ![t.val, 0] ∧ win0_1.index t = ![t.val, 0] ∧ win0_2.index t = ![t.val, 0]
    ∧ win0_3.index t = ![t.val, 0] ∧ win0_4.index t = ![0, 0, 0] ∧ win0_5.index t = ![0, 0] ∧ win0_6.index t = ![t.val, 0]
    ∧ win0_7.index t = ![0, 0] :=
  (by decide +kernel : ∀ t : Fin grid0.N, win0_0.index t = ![t.val, 0] ∧ win0_1.index t = ![t.val, 0]
    ∧ win0_2.index t = ![t.val, 0] ∧ win0_3.index t = ![t.val, 0] ∧ win0_4.index t = ![0, 0, 0] ∧ win0_5.index t = ![0, 0]
    ∧ win0_6.index t = ![t.val, 0] ∧ win0_7.index t = ![0, 0]) t

/-- Row `r` of point `t`'s tile. -/
def tileRow (t : Fin cfg0.N) (r : Fin 512) : Fin 4096 := ⟨512 * t.val + r.val, by have := t.isLt; have : cfg0.N = 8 := N_0; omega⟩

theorem blk_x (c : Dev nD) (t : Fin cfg0.N) (r : Fin 512) (j : Fin 1024) :
    (iblk m c 0 t : Vec Ideal S512x1024 .f32) (ix2 r j) = m ((c : Thread nD τ).loc main_arg0) (ix2 (tileRow t r) j) := by
  obtain ⟨e, -⟩ := tiled t
  unfold tileRow
  blk_ext! [iblk, V, e]

theorem blk_h (c : Dev nD) (t : Fin cfg0.N) (r : Fin 512) (j : Fin 1024) :
    (iblk m c 1 t : Vec Ideal S512x1024 .f32) (ix2 r j) = m ((c : Thread nD τ).loc main_arg1) (ix2 (tileRow t r) j) := by
  obtain ⟨-, e, -⟩ := tiled t
  unfold tileRow
  blk_ext! [iblk, V, e]

theorem blk_a (c : Dev nD) (t : Fin cfg0.N) (r : Fin 512) (j : Fin 1024) :
    (iblk m c 2 t : Vec Ideal S512x1024 .bf16) (ix2 r j)
      = m ((c : Thread nD τ).loc main_arg2) (ix2 (tileRow t r) (⟨j.val, by omega⟩ : Fin 3072)) := by
  obtain ⟨-, -, e, -⟩ := tiled t
  unfold tileRow
  blk_ext! [iblk, V, e]

theorem blk_b (c : Dev nD) (t : Fin cfg0.N) (r : Fin 512) (j : Fin 2048) :
    (iblk m c 3 t : Vec Ideal S512x2048 .bf16) (ix2 r j)
      = m ((c : Thread nD τ).loc main_arg2) (ix2 (tileRow t r) (⟨1024 + j.val, by omega⟩ : Fin 3072)) := by
  obtain ⟨-, -, -, e, -⟩ := tiled t
  unfold tileRow
  blk_ext! [iblk, V, e]

theorem blk_w (c : Dev nD) (t : Fin cfg0.N) (s : Fin 4) (j : Fin 1024) (k : Fin 768) :
    (iblk m c 4 t : Vec Ideal S4x1024x768 .bf16) (ix3 s j k)
      = m ((c : Thread nD τ).loc main_arg4) (ix3 (0 : Fin 1) j (⟨768 * s.val + k.val, by omega⟩ : Fin 3072)) := by
  obtain ⟨-, -, -, -, e, -⟩ := tiled t
  blk_ext! [iblk, V, e]

theorem blk_nw (c : Dev nD) (t : Fin cfg0.N) (k : Fin 1024) :
    (iblk m c 5 t : Vec Ideal S1x1024 .f32) (ix2 0 k) = m ((c : Thread nD τ).loc main_arg3) (ix2 0 k) := by
  obtain ⟨-, -, -, -, -, e, -⟩ := tiled t
  blk_ext! [iblk, V, e]

/-- A sum over the 3072 columns, cut where the shards of the weights and the two parts of the gradient are cut. -/
theorem sum_cut (f : Fin 3072 → EReal) : ∑ k, f k
    = ∑ k : Fin 768, f ⟨k, by omega⟩ + ∑ k : Fin 256, f ⟨768 + k, by omega⟩ + ∑ k : Fin 512, f ⟨1024 + k, by omega⟩
      + ∑ k : Fin 768, f ⟨1536 + k, by omega⟩ + ∑ k : Fin 768, f ⟨2304 + k, by omega⟩ := by
  rw [show (∑ k, f k) = ∑ k : Fin (768 + 256 + 512 + 768 + 768), f k from rfl]
  simp only [Fin.sum_univ_add]
  rfl

/-- The gradient of the normalised row `r` at column `j`: row `r` of the incoming gradient against row `j` of the weights. -/
def grad (p : Vec Ideal S4096x3072 .f32) (w : Vec Ideal S1x1024x3072 .f32) (r : Fin 4096) (j : Fin 1024) : EReal :=
  ∑ k : Fin 3072, p (ix2 r k) * w (ix3 0 j k)

theorem blockGrad_eq (c : Dev nD) (t : Fin cfg0.N) (r : Fin 512) :
    blockGrad (iblk m c 2 t) (iblk m c 3 t) (iblk m c 4 t) r
      = grad (m ((c : Thread nD τ).loc main_arg2)) (m ((c : Thread nD τ).loc main_arg4)) (tileRow t r) := by
  funext j
  unfold blockGrad grad
  rw [sum_cut]
  simp only [blk_a, blk_b, blk_w]
  congr 1

/-- The first result: the gradient of the input. -/
def gradX (x h : Vec Ideal S4096x1024 .f32) (p : Vec Ideal S4096x3072 .f32) (nw : Vec Ideal S1x1024 .f32)
    (w : Vec Ideal S1x1024x3072 .f32) : Vec Ideal S4096x1024 .f32 := fun i =>
  rowGrad (fun k => x (ix2 (i 0) k)) (grad p w (i 0)) (fun k => nw (ix2 0 k)) (h i) (i 1)

/-- What row `r` adds to the gradient of the norm's weight at column `j`. -/
def rowTerm (x : Vec Ideal S4096x1024 .f32) (p : Vec Ideal S4096x3072 .f32) (w : Vec Ideal S1x1024x3072 .f32)
    (r : Fin 4096) (j : Fin 1024) : EReal :=
  grad p w r j * (x (ix2 r j) * scale fun k => x (ix2 r k))

/-- The second result: the gradient of the norm's weight in row 0, zeros in the other rows. -/
def gradW (x : Vec Ideal S4096x1024 .f32) (p : Vec Ideal S4096x3072 .f32) (w : Vec Ideal S1x1024x3072 .f32) :
    Vec Ideal S8x1024 .f32 := fun i => if (i 0).val = 0 then ∑ r, rowTerm x p w r (i 1) else 0

theorem row_x (c : Dev nD) (t : Fin cfg0.N) (r : Fin 512) :
    row (iblk m c 0 t) r = fun k => m ((c : Thread nD τ).loc main_arg0) (ix2 (tileRow t r) k) :=
  funext fun k => blk_x m c t r k

theorem blockSum_eq (c : Dev nD) (t : Fin cfg0.N) (j : Fin 1024) :
    blockSum (iblk m c 0 t) (iblk m c 2 t) (iblk m c 3 t) (iblk m c 4 t) j
      = ∑ r : Fin 512, rowTerm (m ((c : Thread nD τ).loc main_arg0)) (m ((c : Thread nD τ).loc main_arg2))
          (m ((c : Thread nD τ).loc main_arg4)) (tileRow t r) j := by
  unfold blockSum rowTerm
  simp only [blockGrad_eq, blk_x, row_x]

theorem outs_6 (c : Dev nD) (t : Fin cfg0.N) (r : Fin 512) (j : Fin 1024) :
    (outsAt0 m c t.val t.isLt).1 (ix2 r j)
      = gradX (m ((c : Thread nD τ).loc main_arg0)) (m ((c : Thread nD τ).loc main_arg1)) (m ((c : Thread nD τ).loc main_arg2))
          (m ((c : Thread nD τ).loc main_arg3)) (m ((c : Thread nD τ).loc main_arg4)) (ix2 (tileRow t r) j) := by
  by_cases h0 : t.val % 8 = 0
  · rw [outsAt0_A m c t h0]
    dsimp only
    rw [out_A_6, blockGrad_eq, blk_h, row_x]
    simp only [blk_nw]
    rfl
  · rw [outsAt0_B m c t h0]
    dsimp only
    rw [out_B_6, blockGrad_eq, blk_h, row_x]
    simp only [blk_nw]
    rfl

theorem outs_7_A (c : Dev nD) (t : Fin cfg0.N) (h0 : t.val % 8 = 0) (r : Fin 8) (j : Fin 1024) :
    (outsAt0 m c t.val t.isLt).2 (ix2 r j) = if r.val = 0 then ∑ l : Fin 512, rowTerm (m ((c : Thread nD τ).loc main_arg0))
      (m ((c : Thread nD τ).loc main_arg2)) (m ((c : Thread nD τ).loc main_arg4)) (tileRow t l) j else 0 := by
  rw [outsAt0_A m c t h0]
  dsimp only
  rw [out_A_7, blockSum_eq]

theorem outs_7_B (c : Dev nD) (t : Fin cfg0.N) (h0 : ¬t.val % 8 = 0) (r : Fin 8) (j : Fin 1024) :
    (outsAt0 m c t.val t.isLt).2 (ix2 r j) = (outsAt0 m c (t.val - 1) (Nat.lt_of_le_of_lt (Nat.sub_le _ _) t.isLt)).2 (ix2 r j)
      + if r.val = 0 then ∑ l : Fin 512, rowTerm (m ((c : Thread nD τ).loc main_arg0))
      (m ((c : Thread nD τ).loc main_arg2)) (m ((c : Thread nD τ).loc main_arg4)) (tileRow t l) j else 0 := by
  rw [outsAt0_B m c t h0]
  dsimp only
  rw [out_B_7, blockSum_eq]

/-- After point `n` the second output holds the sum of the first `n + 1` points in row 0. -/
theorem outs_7 (c : Dev nD) (r : Fin 8) (j : Fin 1024) : ∀ (n : ℕ) (hn : n < cfg0.N),
    (outsAt0 m c n hn).2 (ix2 r j) = if r.val = 0 then ∑ s : Fin (n + 1), ∑ l : Fin 512,
      rowTerm (m ((c : Thread nD τ).loc main_arg0)) (m ((c : Thread nD τ).loc main_arg2))
          (m ((c : Thread nD τ).loc main_arg4)) (tileRow ⟨s, by omega⟩ l) j else 0
  | 0, hn => (outs_7_A m c ⟨0, hn⟩ rfl r j).trans (by simp)
  | n + 1, hn => by
    have hN : cfg0.N = 8 := N_0
    refine (outs_7_B m c ⟨n + 1, hn⟩ (by dsimp only; omega) r j).trans ?_
    simp only [Nat.add_sub_cancel]
    rw [outs_7 c r j n]
    by_cases hr : r.val = 0
    · simp only [hr, if_true]
      rw [Fin.sum_univ_castSucc (n := n + 1)]
      rfl
    · simp only [hr, if_false, add_zero]

theorem arr_6 (c : Dev nD) : (dats m 0 c).arrAt 6 cfg0.N
    = gradX (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t hf y => ?_
  obtain ⟨-, -, -, -, -, -, e, -⟩ := tiled t
  rw [after0_6]
  blk_simp [e]
  obtain ⟨r, j, rfl⟩ : ∃ (r : Fin 512) (j : Fin 1024), y = ix2 r j := ⟨y 0, y 1, by funext a; fin_cases a <;> rfl⟩
  refine (outs_6 m c t r j).trans ?_
  unfold tileRow
  blk_ext [e]

theorem arr_7 (c : Dev nD) : (dats m 0 c).arrAt 7 cfg0.N
    = gradW (m ((c : Thread nD τ).loc main_arg0)) (m ((c : Thread nD τ).loc main_arg2)) (m ((c : Thread nD τ).loc main_arg4)) := by
  refine (dats m 0 c).arrAt_eq_of_after_last 7 t0_7 (by decide +kernel) _ fun y => ?_
  rw [after0_7]
  blk_simp []
  obtain ⟨r, j, rfl⟩ : ∃ (r : Fin 8) (j : Fin 1024), y = ix2 r j := ⟨y 0, y 1, by funext a; fin_cases a <;> rfl⟩
  refine (outs_7 m c r j 7 t0_7.isLt).trans ?_
  show _ = if r.val = 0 then _ else _
  congr 1
  refine Eq.trans ?_ (Fin.sum_mul_add_fin 8 (n := 512) (fun q => rowTerm _ _ _ q j))
  refine Finset.sum_congr rfl fun s _ => Finset.sum_congr rfl fun l _ => congrArg (fun q => rowTerm _ _ _ q j) (Fin.ext ?_)
  show 512 * s.val + l.val = s.val * 512 + l.val
  omega

/-- The run: both results as functions of the arguments, the arguments unchanged. -/
theorem run : θ_run defs (onTc (τ := τ) (main (F := Ideal))) ⟨m, fun _ => 0, ρ⟩ fun r => ∀ c : Dev nD,
      r.2.mem ((c : Thread nD τ).loc main_v9_0)
        = gradX (m ((c : Thread nD τ).loc main_arg0)) (m ((c : Thread nD τ).loc main_arg1)) (m ((c : Thread nD τ).loc main_arg2))
          (m ((c : Thread nD τ).loc main_arg3)) (m ((c : Thread nD τ).loc main_arg4))
      ∧ r.2.mem ((c : Thread nD τ).loc main_v9_1)
        = gradW (m ((c : Thread nD τ).loc main_arg0)) (m ((c : Thread nD τ).loc main_arg2)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  simp only [← arr_6 m, ← arr_7 m]
  exact Value.run_blocks m ρ

end Cert.KernelIdeal.Norm

end
-- ==== Proof.Norm.Ref.lean ====
/- The reference of the norm's gradient: what automatic differentiation computes, read at an index. -/
module

public import proofs.«01_k».proof.Proof.Norm.Row
public import proofs.«01_k».proof.Proof.Gen.ReferenceIdeal.Read
public import Idealize.ShloMosaic.Lib.Pointwise

@[expose] public section

noncomputable section

namespace Cert.ReferenceIdeal.Norm

open Cert.ReferenceIdeal Cert.ReferenceIdeal.Gen Cert.ReferenceIdeal.Read Cert.Norm Idealize.ShloMosaic Idealize.ShloMosaic.TcCoe Idealize.SL.Sem

/-- The first result is the gradient of the input. -/
theorem first (x0 x1 : Vec Ideal S4096x1024 .f32) (x2 : Vec Ideal S4096x3072 .f32) (x3 : Vec Ideal S1x1024 .f32)
    (x4 : Vec Ideal S1x1024x3072 .f32) (r : Fin 4096) (j : Fin 1024) :
    val_main_v40 x0 x1 x2 x3 x4 (ix2 r j)
      = rowGrad (fun k => x0 (ix2 r k)) (fun j => ∑ k : Fin 3072, x2 (ix2 r k) * x4 (ix3 0 j k)) (fun k => x3 (ix2 0 k))
          (x1 (ix2 r j)) j := by
  rw [rowGrad_eq]
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_v20, val_main_cst_3, val_main_v21, val_main_v22, val_main_v23, val_main_v24, val_main_cst_4, val_main_v25, val_main_v26, val_main_cst_5, val_main_v27, val_main_v28, val_main_v29, val_main_v30, val_main_v31, val_main_v32, val_main_cst_6, val_main_v33, val_main_v34, val_main_cst_7, val_main_v35, val_main_v36, val_main_v37, val_main_v38, val_main_v39, val_main_v40, val_main_cst_8]
  simp only [Fin.sum_univ_one]
  rfl

/-- The second result is the gradient of the norm's weight above seven rows of zeros. -/
theorem second (x0 : Vec Ideal S4096x1024 .f32) (x2 : Vec Ideal S4096x3072 .f32)
    (x4 : Vec Ideal S1x1024x3072 .f32) (r : Fin 8) (j : Fin 1024) :
    val_main_v43 x0 x2 x4 (ix2 r j)
      = if r.val = 0 then ∑ r : Fin 4096, (∑ k : Fin 3072, x2 (ix2 r k) * x4 (ix3 0 j k)) * (x0 (ix2 r j) * scale (fun k => x0 (ix2 r k))) else 0 := by
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_v18, val_main_v19, val_main_v20, val_main_cst_3, val_main_v21, val_main_v22, val_main_v23, val_main_v24, val_main_cst_4, val_main_v25, val_main_v26, val_main_cst_5, val_main_v27, val_main_v28, val_main_v29, val_main_v30, val_main_v31, val_main_v32, val_main_cst_6, val_main_v33, val_main_v34, val_main_cst_7, val_main_v35, val_main_v36, val_main_v37, val_main_v38, val_main_v39, val_main_v41, val_main_cst_8, val_main_v42, val_main_v43]
  by_cases hr : r.val = 0
  · rw [dif_pos (by omega), if_pos hr, Fin.sum_univ_one]
    exact Finset.sum_congr rfl fun q _ => mul_comm _ _
  · rw [dif_neg (by omega), if_neg hr]

end Cert.ReferenceIdeal.Norm

end
-- ==== Proof.Norm.Agree.lean ====
/- The claims about the gradient of the first norm: the three frames, and the kernel's two results equal to the
   reference's over the extended reals. -/
module

public import proofs.«01_k».proof.Defs
public import proofs.«01_k».proof.Proof.Gen.Kernel.Frame
public import proofs.«01_k».proof.Proof.Norm.Arrays
public import proofs.«01_k».proof.Proof.Norm.Ref

@[expose] public section

noncomputable section

namespace Cert.Norm

open Idealize.ShloMosaic Idealize.ShloMosaic.TcCoe Idealize.SL.Sem

theorem frame_kernel : Cert.quiescent_Kernel := fun m ρ _ => Cert.Kernel.Gen.frame m ρ

theorem frame_kernelIdeal : Cert.quiescent_KernelIdeal := fun m ρ _ => Cert.KernelIdeal.Gen.frame m ρ

theorem frame_referenceIdeal : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The reference's first result is the kernel's function of the arguments. -/
theorem first_eq (x h : Vec Ideal Cert.KernelIdeal.S4096x1024 .f32) (p : Vec Ideal Cert.KernelIdeal.S4096x3072 .f32)
    (nw : Vec Ideal Cert.KernelIdeal.S1x1024 .f32) (w : Vec Ideal Cert.KernelIdeal.S1x1024x3072 .f32) :
    Cert.ReferenceIdeal.Read.val_main_v40 (F := Ideal) x h p nw w = Cert.KernelIdeal.Norm.gradX x h p nw w := by
  funext i
  obtain ⟨r, j, rfl⟩ : ∃ (r : Fin 4096) (j : Fin 1024), i = ix2 r j := ⟨i 0, i 1, by funext a; fin_cases a <;> rfl⟩
  exact Cert.ReferenceIdeal.Norm.first x h p nw w r j

/-- The reference's second result is the kernel's function of the arguments. -/
theorem second_eq (x : Vec Ideal Cert.KernelIdeal.S4096x1024 .f32) (p : Vec Ideal Cert.KernelIdeal.S4096x3072 .f32)
    (w : Vec Ideal Cert.KernelIdeal.S1x1024x3072 .f32) :
    Cert.ReferenceIdeal.Read.val_main_v43 (F := Ideal) x p w = Cert.KernelIdeal.Norm.gradW x p w := by
  funext i
  obtain ⟨r, j, rfl⟩ : ∃ (r : Fin 8) (j : Fin 1024), i = ix2 r j := ⟨i 0, i 1, by funext a; fin_cases a <;> rfl⟩
  exact Cert.ReferenceIdeal.Norm.second x p w r j

theorem agree : Cert.algebraic_KernelIdeal_ReferenceIdeal := by
  intro m ρ m' ρ' _ hag
  refine ⟨_, _, Cert.KernelIdeal.Norm.run m ρ, (θ_run Cert.ReferenceIdeal.defs _ _).mono (fun r h c => ?_)
    (Cert.ReferenceIdeal.Value.run (F := Ideal) m' ρ')⟩
  obtain ⟨h1, h2, hkept⟩ := h c
  obtain ⟨e0, e1, e2, e3, e4⟩ := hag c
  refine ⟨h1.trans ?_, h2.trans ?_, hkept⟩
  · rw [Cert.ReferenceIdeal.Read.val_main_v40_eq, e0, e1, e2, e3, e4]
    exact first_eq _ _ _ _ _
  · rw [Cert.ReferenceIdeal.Read.val_main_v43_eq, e0, e2, e4]
    exact second_eq _ _ _

end Cert.Norm

end
-- ==== Proof.Rglru.Frame.lean ====
/- The frame of the RG-LRU backward call, by hand over the runs of the body: what the body leaves after each of the eight grid
   points, as one record carried from point to point, and the launch. The runs of the body in its three cases (the first
   point, a middle one, the last) come from the generated modules; this file states what they leave and that the pipeline's
   invariant holds. -/
module

public import proofs.«01_k».proof.Proof.Gen.Kernel2Ideal.Frame.RunA
public import proofs.«01_k».proof.Proof.Gen.Kernel2Ideal.Frame.RunB
public import proofs.«01_k».proof.Proof.Gen.Kernel2Ideal.Frame.RunC
public import Idealize.ShloMosaic.Lib.Claim

@[expose] public section

set_option maxRecDepth 16384

noncomputable section

namespace Cert.Rglru

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves: the block of [dxa, dga], the packed block gradients, the eight summed rows, and the buffers carried
    to the next point (the carry of the reversed recurrence, the first rows of dxc, the two dense maps, their gradients). -/
structure Left (F : FTy → Type) where
  out : Vec F S512x1024 .bf16
  rg : Vec F S512x128 .f32
  sm : Vec F S8x512 .f32
  cg : Vec F S8x512 .f32
  nx : Vec F S8x512 .f32
  wa : Vec F S512x512 .bf16
  wx : Vec F S512x512 .bf16
  dwa : Vec F S512x512 .f32
  dwx : Vec F S512x512 .f32

/-- A whole buffer over which pieces covering it were written is owned at what the pieces say. -/
theorem owns_written {sh : Shape} {e : EltTy} (c : Dev nD) (mr : Memref sig .tc .vmem sh e) (V : View sig .tc .vmem sh e)
    (L : List (View.Piece (Elt F) sh e)) (h : ∀ y : sh.Idx, ∃ pc ∈ L, y ∈ pc.1.set) :
    iprop(∃ f, mr.view.loc (c : Thread nD τ) ↦[mr.view.set]{fullShare} mr.view.writes (Elt F) f L)
      ⊢ (owns (c : Thread nD τ) mr fullShare (V.read (Elt F) (V.writes (Elt F) V.junk L)) : sProp 𝕄) := by
  iintro ⟨%f, H⟩
  unfold owns; iexists _; isplitr
  swap; · iexact H
  ipureintro; exact View.read_writes_of_cover _ _ _ _ _ h

/-- A buffer written over known contents is owned at what it then reads. -/
theorem owns_over {sh : Shape} {e : EltTy} (c : Dev nD) (mr : Memref sig .tc .vmem sh e) (f) :
    (mr.view.loc (c : Thread nD τ) ↦[mr.view.set]{fullShare} f : sProp 𝕄)
      ⊢ owns (c : Thread nD τ) mr fullShare (mr.view.read (Elt F) f) := by
  iintro H
  unfold owns; iexists _; isplitr
  swap; · iexact H
  ipureintro; rfl

/-- A buffer written over some contents is owned at something. -/
theorem owns_some {sh : Shape} {e : EltTy} (c : Dev nD) (mr : Memref sig .tc .vmem sh e) (L : List (View.Piece (Elt F) sh e)) :
    iprop(∃ f, mr.view.loc (c : Thread nD τ) ↦[mr.view.set]{fullShare} mr.view.writes (Elt F) f L)
      ⊢ (iprop(∃ d, owns (c : Thread nD τ) mr fullShare d) : sProp 𝕄) := by
  iintro ⟨%f, H⟩
  iexists _; unfold owns; iexists _; isplitr
  swap; · iexact H
  ipureintro; rfl

/-- The run of the body at a first point, on the point's blocks. -/
abbrev runA (c : Dev nD) (t : Fin cfg0.N) (h0 : t.val % 8 = 0) (h1 : ¬t.val % 8 = 7) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
    scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _)
    ((hcond0_0 t).mpr h0) (fun h => h1 ((hcond0_1 t).mp h))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

theorem coverA_out (c : Dev nD) (t : Fin cfg0.N) (h0 : t.val % 8 = 0) (h1 : ¬t.val % 8 = 7) (y : S512x1024.Idx) :
    ∃ pc ∈ (runA m c t h0 h1).1, y ∈ pc.1.set :=
  View.cover_of_tiledL (runA m c t h0 h1).1 S512x512.size (by sl_kernel_rfl) y

theorem coverA_sm (c : Dev nD) (t : Fin cfg0.N) (h0 : t.val % 8 = 0) (h1 : ¬t.val % 8 = 7) (y : S8x512.Idx) :
    ∃ pc ∈ (runA m c t h0 h1).2.2.1, y ∈ pc.1.set :=
  View.cover_of_tiledBy (runA m c t h0 h1).2.2.1 ![1, 512] (by sl_kernel_rfl) y

theorem coverA_cg (c : Dev nD) (t : Fin cfg0.N) (h0 : t.val % 8 = 0) (h1 : ¬t.val % 8 = 7) (y : S8x512.Idx) :
    ∃ pc ∈ (runA m c t h0 h1).2.2.2.1, y ∈ pc.1.set :=
  View.cover_of_wholeMem (runA m c t h0 h1).2.2.2.1 (by sl_whole_mem) y

theorem coverA_nx (c : Dev nD) (t : Fin cfg0.N) (h0 : t.val % 8 = 0) (h1 : ¬t.val % 8 = 7) (y : S8x512.Idx) :
    ∃ pc ∈ (runA m c t h0 h1).2.2.2.2.1, y ∈ pc.1.set :=
  View.cover_of_tiledL (runA m c t h0 h1).2.2.2.2.1 S8x512.size (by sl_kernel_rfl) y

theorem coverA_wa (c : Dev nD) (t : Fin cfg0.N) (h0 : t.val % 8 = 0) (h1 : ¬t.val % 8 = 7) (y : S512x512.Idx) :
    ∃ pc ∈ (runA m c t h0 h1).2.2.2.2.2.1, y ∈ pc.1.set :=
  View.cover_of_tiledL (runA m c t h0 h1).2.2.2.2.2.1 S512x512.size (by sl_kernel_rfl) y

theorem coverA_wx (c : Dev nD) (t : Fin cfg0.N) (h0 : t.val % 8 = 0) (h1 : ¬t.val % 8 = 7) (y : S512x512.Idx) :
    ∃ pc ∈ (runA m c t h0 h1).2.2.2.2.2.2.1, y ∈ pc.1.set :=
  View.cover_of_tiledL (runA m c t h0 h1).2.2.2.2.2.2.1 S512x512.size (by sl_kernel_rfl) y

theorem coverA_dwa (c : Dev nD) (t : Fin cfg0.N) (h0 : t.val % 8 = 0) (h1 : ¬t.val % 8 = 7) (y : S512x512.Idx) :
    ∃ pc ∈ (runA m c t h0 h1).2.2.2.2.2.2.2.1, y ∈ pc.1.set :=
  View.cover_of_tiledL (runA m c t h0 h1).2.2.2.2.2.2.2.1 S512x512.size (by sl_kernel_rfl) y

theorem coverA_dwx (c : Dev nD) (t : Fin cfg0.N) (h0 : t.val % 8 = 0) (h1 : ¬t.val % 8 = 7) (y : S512x512.Idx) :
    ∃ pc ∈ (runA m c t h0 h1).2.2.2.2.2.2.2.2.1, y ∈ pc.1.set :=
  View.cover_of_tiledL (runA m c t h0 h1).2.2.2.2.2.2.2.2.1 S512x512.size (by sl_kernel_rfl) y

/-- What the body leaves at a first point. -/
def leaveA (c : Dev nD) (t : Fin cfg0.N) (h0 : t.val % 8 = 0) (h1 : ¬t.val % 8 = 7) : Left F where
  out := VO0_14.read (Elt F) (VO0_14.writes (Elt F) VO0_14.junk (runA m c t h0 h1).1)
  rg := VO0_15.read (Elt F) (VO0_15.writes (Elt F) VO0_15.junk (runA m c t h0 h1).2.1)
  sm := VO0_16.read (Elt F) (VO0_16.writes (Elt F) VO0_16.junk (runA m c t h0 h1).2.2.1)
  cg := VS0_2.read (Elt F) (VS0_2.writes (Elt F) VS0_2.junk (runA m c t h0 h1).2.2.2.1)
  nx := VS0_3.read (Elt F) (VS0_3.writes (Elt F) VS0_3.junk (runA m c t h0 h1).2.2.2.2.1)
  wa := VS0_4.read (Elt F) (VS0_4.writes (Elt F) VS0_4.junk (runA m c t h0 h1).2.2.2.2.2.1)
  wx := VS0_5.read (Elt F) (VS0_5.writes (Elt F) VS0_5.junk (runA m c t h0 h1).2.2.2.2.2.2.1)
  dwa := VS0_6.read (Elt F) (VS0_6.writes (Elt F) VS0_6.junk (runA m c t h0 h1).2.2.2.2.2.2.2.1)
  dwx := VS0_7.read (Elt F) (VS0_7.writes (Elt F) VS0_7.junk (runA m c t h0 h1).2.2.2.2.2.2.2.2.1)

/-- The run of the body at a middle point, on the point's blocks and what the point before left. -/
abbrev runB (c : Dev nD) (t : Fin cfg0.N) (h0 : ¬t.val % 8 = 0) (h1 : ¬t.val % 8 = 7) (p : Left F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
    scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _)
    (fun h => h0 ((hcond0_0 t).mp h)) (fun h => h1 ((hcond0_1 t).mp h))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.sm p.cg p.nx p.wa p.wx p.dwa p.dwx

theorem coverB_out (c : Dev nD) (t : Fin cfg0.N) (h0 : ¬t.val % 8 = 0) (h1 : ¬t.val % 8 = 7) (p : Left F) (y : S512x1024.Idx) :
    ∃ pc ∈ (runB m c t h0 h1 p).1, y ∈ pc.1.set :=
  View.cover_of_tiledL (runB m c t h0 h1 p).1 S512x512.size (by sl_kernel_rfl) y

theorem coverB_sm (c : Dev nD) (t : Fin cfg0.N) (h0 : ¬t.val % 8 = 0) (h1 : ¬t.val % 8 = 7) (p : Left F) (y : S8x512.Idx) :
    ∃ pc ∈ (runB m c t h0 h1 p).2.2.1, y ∈ pc.1.set :=
  View.cover_of_tiledL (runB m c t h0 h1 p).2.2.1 S1x512.size (by sl_kernel_rfl) y

theorem coverB_nx (c : Dev nD) (t : Fin cfg0.N) (h0 : ¬t.val % 8 = 0) (h1 : ¬t.val % 8 = 7) (p : Left F) (y : S8x512.Idx) :
    ∃ pc ∈ (runB m c t h0 h1 p).2.2.2.2.1, y ∈ pc.1.set :=
  View.cover_of_tiledL (runB m c t h0 h1 p).2.2.2.2.1 S8x512.size (by sl_kernel_rfl) y

theorem coverB_dwa (c : Dev nD) (t : Fin cfg0.N) (h0 : ¬t.val % 8 = 0) (h1 : ¬t.val % 8 = 7) (p : Left F) (y : S512x512.Idx) :
    ∃ pc ∈ (runB m c t h0 h1 p).2.2.2.2.2.2.2.1, y ∈ pc.1.set :=
  View.cover_of_tiledL (runB m c t h0 h1 p).2.2.2.2.2.2.2.1 S512x512.size (by sl_kernel_rfl) y

theorem coverB_dwx (c : Dev nD) (t : Fin cfg0.N) (h0 : ¬t.val % 8 = 0) (h1 : ¬t.val % 8 = 7) (p : Left F) (y : S512x512.Idx) :
    ∃ pc ∈ (runB m c t h0 h1 p).2.2.2.2.2.2.2.2.1, y ∈ pc.1.set :=
  View.cover_of_tiledL (runB m c t h0 h1 p).2.2.2.2.2.2.2.2.1 S512x512.size (by sl_kernel_rfl) y

/-- What the body leaves at a middle point. -/
def leaveB (c : Dev nD) (t : Fin cfg0.N) (h0 : ¬t.val % 8 = 0) (h1 : ¬t.val % 8 = 7) (p : Left F) : Left F where
  out := VO0_14.read (Elt F) (VO0_14.writes (Elt F) VO0_14.junk (runB m c t h0 h1 p).1)
  rg := VO0_15.read (Elt F) (VO0_15.writes (Elt F) VO0_15.junk (runB m c t h0 h1 p).2.1)
  sm := VO0_16.read (Elt F) (VO0_16.writes (Elt F) VO0_16.junk (runB m c t h0 h1 p).2.2.1)
  cg := scM0_2.view.read (Elt F) (scM0_2.view.writes (Elt F) ((Memref.isWhole_whole cc0_scratch2).unread p.cg) (runB m c t h0 h1 p).2.2.2.1)
  nx := VS0_3.read (Elt F) (VS0_3.writes (Elt F) VS0_3.junk (runB m c t h0 h1 p).2.2.2.2.1)
  wa := p.wa
  wx := p.wx
  dwa := VS0_6.read (Elt F) (VS0_6.writes (Elt F) VS0_6.junk (runB m c t h0 h1 p).2.2.2.2.2.2.2.1)
  dwx := VS0_7.read (Elt F) (VS0_7.writes (Elt F) VS0_7.junk (runB m c t h0 h1 p).2.2.2.2.2.2.2.2.1)

/-- The run of the body at a last point, on the point's blocks and what the point before left. -/
abbrev runC (c : Dev nD) (t : Fin cfg0.N) (h0 : ¬t.val % 8 = 0) (h1 : t.val % 8 = 7) (p : Left F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
    scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _)
    (fun h => h0 ((hcond0_0 t).mp h)) ((hcond0_1 t).mpr h1)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.sm p.cg p.nx p.wa p.wx p.dwa p.dwx

theorem coverC_out (c : Dev nD) (t : Fin cfg0.N) (h0 : ¬t.val % 8 = 0) (h1 : t.val % 8 = 7) (p : Left F) (y : S512x1024.Idx) :
    ∃ pc ∈ (runC m c t h0 h1 p).1, y ∈ pc.1.set :=
  View.cover_of_tiledL (runC m c t h0 h1 p).1 S512x512.size (by sl_kernel_rfl) y

theorem coverC_rg (c : Dev nD) (t : Fin cfg0.N) (h0 : ¬t.val % 8 = 0) (h1 : t.val % 8 = 7) (p : Left F) (y : S512x128.Idx) :
    ∃ pc ∈ (runC m c t h0 h1 p).2.1, y ∈ pc.1.set :=
  View.cover_of_tiledL (runC m c t h0 h1 p).2.1 S512x128.size (by sl_kernel_rfl) y

theorem coverC_sm (c : Dev nD) (t : Fin cfg0.N) (h0 : ¬t.val % 8 = 0) (h1 : t.val % 8 = 7) (p : Left F) (y : S8x512.Idx) :
    ∃ pc ∈ (runC m c t h0 h1 p).2.2.1, y ∈ pc.1.set :=
  View.cover_of_tiledL (runC m c t h0 h1 p).2.2.1 S1x512.size (by sl_kernel_rfl) y

theorem coverC_nx (c : Dev nD) (t : Fin cfg0.N) (h0 : ¬t.val % 8 = 0) (h1 : t.val % 8 = 7) (p : Left F) (y : S8x512.Idx) :
    ∃ pc ∈ (runC m c t h0 h1 p).2.2.2.2.1, y ∈ pc.1.set :=
  View.cover_of_tiledL (runC m c t h0 h1 p).2.2.2.2.1 S8x512.size (by sl_kernel_rfl) y

theorem coverC_dwa (c : Dev nD) (t : Fin cfg0.N) (h0 : ¬t.val % 8 = 0) (h1 : t.val % 8 = 7) (p : Left F) (y : S512x512.Idx) :
    ∃ pc ∈ (runC m c t h0 h1 p).2.2.2.2.2.2.2.1, y ∈ pc.1.set :=
  View.cover_of_tiledL (runC m c t h0 h1 p).2.2.2.2.2.2.2.1 S512x512.size (by sl_kernel_rfl) y

theorem coverC_dwx (c : Dev nD) (t : Fin cfg0.N) (h0 : ¬t.val % 8 = 0) (h1 : t.val % 8 = 7) (p : Left F) (y : S512x512.Idx) :
    ∃ pc ∈ (runC m c t h0 h1 p).2.2.2.2.2.2.2.2.1, y ∈ pc.1.set :=
  View.cover_of_tiledL (runC m c t h0 h1 p).2.2.2.2.2.2.2.2.1 S512x512.size (by sl_kernel_rfl) y

/-- What the body leaves at a last point. -/
def leaveC (c : Dev nD) (t : Fin cfg0.N) (h0 : ¬t.val % 8 = 0) (h1 : t.val % 8 = 7) (p : Left F) : Left F where
  out := VO0_14.read (Elt F) (VO0_14.writes (Elt F) VO0_14.junk (runC m c t h0 h1 p).1)
  rg := VO0_15.read (Elt F) (VO0_15.writes (Elt F) VO0_15.junk (runC m c t h0 h1 p).2.1)
  sm := VO0_16.read (Elt F) (VO0_16.writes (Elt F) VO0_16.junk (runC m c t h0 h1 p).2.2.1)
  cg := scM0_2.view.read (Elt F) (scM0_2.view.writes (Elt F) ((Memref.isWhole_whole cc0_scratch2).unread p.cg) (runC m c t h0 h1 p).2.2.2.1)
  nx := VS0_3.read (Elt F) (VS0_3.writes (Elt F) VS0_3.junk (runC m c t h0 h1 p).2.2.2.2.1)
  wa := p.wa
  wx := p.wx
  dwa := VS0_6.read (Elt F) (VS0_6.writes (Elt F) VS0_6.junk (runC m c t h0 h1 p).2.2.2.2.2.2.2.1)
  dwx := VS0_7.read (Elt F) (VS0_7.writes (Elt F) VS0_7.junk (runC m c t h0 h1 p).2.2.2.2.2.2.2.2.1)

/-- What the body leaves at point `t` over what the point before left. -/
def leave (c : Dev nD) (t : Fin cfg0.N) (p : Left F) : Left F :=
  if h0 : t.val % 8 = 0 then leaveA m c t h0 (by omega)
  else if h1 : t.val % 8 = 7 then leaveC m c t h0 h1 p else leaveB m c t h0 h1 p

/-- What stands after point `n`. -/
def after (c : Dev nD) : (n : ℕ) → n < cfg0.N → Left F
  | 0, h => leaveA m c ⟨0, h⟩ (Nat.zero_mod _) (show ¬0 % 8 = 7 by decide)
  | n + 1, h => leave m c ⟨n + 1, h⟩ (after c n (Nat.lt_of_succ_lt h))

/-- What stands before point `n`, for a point that is not the first. -/
def before (c : Dev nD) (t : Fin cfg0.N) : Left F := after m c (t.val - 1) (Nat.lt_of_le_of_lt (Nat.sub_le _ _) t.isLt)

theorem after_A (c : Dev nD) (t : Fin cfg0.N) (h0 : t.val % 8 = 0) (h1 : ¬t.val % 8 = 7) :
    after m c t.val t.isLt = leaveA m c t h0 h1 := by
  obtain ⟨n, hn⟩ := t
  cases n with
  | zero => rfl
  | succ n => exact dif_pos h0

theorem after_B (c : Dev nD) (t : Fin cfg0.N) (h0 : ¬t.val % 8 = 0) (h1 : ¬t.val % 8 = 7) :
    after m c t.val t.isLt = leaveB m c t h0 h1 (before m c t) := by
  obtain ⟨n, hn⟩ := t
  cases n with
  | zero => exact absurd (Nat.zero_mod _) h0
  | succ n => exact (dif_neg h0).trans (dif_neg h1)

theorem after_C (c : Dev nD) (t : Fin cfg0.N) (h0 : ¬t.val % 8 = 0) (h1 : t.val % 8 = 7) :
    after m c t.val t.isLt = leaveC m c t h0 h1 (before m c t) := by
  obtain ⟨n, hn⟩ := t
  cases n with
  | zero => exact absurd (Nat.zero_mod _) h0
  | succ n => exact (dif_neg h0).trans (dif_pos h1)

/-- The scratch buffers after a point: the two the point fills for itself at anything, the carried ones at what was left. -/
def held (c : Dev nD) (p : Left F) : sProp 𝕄 :=
  iprop(iprop((∃ d, owns (c : Thread nD τ) scM0_0 fullShare d) ∗ (∃ d, owns (c : Thread nD τ) scM0_1 fullShare d)
    ∗ owns (c : Thread nD τ) scM0_2 fullShare p.cg ∗ owns (c : Thread nD τ) scM0_3 fullShare p.nx
    ∗ owns (c : Thread nD τ) scM0_4 fullShare p.wa ∗ owns (c : Thread nD τ) scM0_5 fullShare p.wx
    ∗ owns (c : Thread nD τ) scM0_6 fullShare p.dwa ∗ owns (c : Thread nD τ) scM0_7 fullShare p.dwx) ∗ (∃ r, prngReg c r))

/-- The invariant before point `n`. -/
def inv (c : Dev nD) : (n : ℕ) → n ≤ cfg0.N → sProp 𝕄
  | 0, _ => Pipeline.ΦA spec0 c
  | n + 1, h => held c (after m c n h)

theorem inv_pos (c : Dev nD) (t : Fin cfg0.N) (h : t.val ≠ 0) :
    inv m c t.val (Nat.le_of_lt t.isLt) = held c (before m c t) := by
  obtain ⟨n, hn⟩ := t
  cases n with
  | zero => exact absurd rfl h
  | succ n => rfl

/-- The pipeline's data: the arrays as the region finds them, each input's buffer at its block, each output's at what was left. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (after m c t.val t.isLt).out
    | ⟨15, _⟩ => (after m c t.val t.isLt).rg
    | ⟨16, _⟩ => (after m c t.val t.isLt).sm
    | ⟨_ + 17, h⟩ => absurd h (Nat.not_lt.2 (Nat.le_add_left _ _))
  Φ t := inv m c t.val (Nat.le_of_lt_succ t.isLt)
  q w := Pipeline.shareOf spec0 w
  owed _ := 0

theorem data_A (c : Dev nD) (w : Fin cfg0.W) : (data m 0 c).A w = V m c (Pipeline.arrRef spec0 w) := by
  dsimp only [data]

theorem inv_castSucc (c : Dev nD) (t : Fin cfg0.N) :
    (data m 0 c).Φ t.castSucc = inv m c t.val (Nat.le_of_lt t.isLt) := by
  dsimp only [data]; exact Pipeline.Dat.Φ_castSucc (inv m c) t

/-- After a middle point or the last, the summed rows' buffer still holds what the point before left. -/
theorem before_sm (c : Dev nD) (t : Fin cfg0.N) (h0 : ¬t.val % 8 = 0) (d) :
    (data m 0 c).before 16 t d = (before m c t).sm := by
  have hN : t.val < 8 := lt_of_lt_of_eq t.isLt (show cfg0.N = 8 from N_0)
  rw [Dat.before_out_kept _ 16 rfl t (by omega) (Bool.eq_false_iff.mpr fun h => by have := (flush0_16 _).mp h; dsimp only at this; omega)
    (fun _ => rfl) (fun _ _ => rfl)]
  dsimp only [data]; rfl

/-- What the body is called with at point `t`, and what it returns. -/
def pre (c : Dev nD) (t : Fin cfg0.N) : sProp 𝕄 :=
  iprop((data m 0 c).Φ t.castSucc ∗ (data m 0 c).owesAt () t.castSucc
    ∗ (∃ d, owns (c : Thread nD τ) (ms0_0 t) fullShare ((data m 0 c).before 0 t d))
    ∗ (∃ d, owns (c : Thread nD τ) (ms0_1 t) fullShare ((data m 0 c).before 1 t d))
    ∗ (∃ d, owns (c : Thread nD τ) (ms0_2 t) fullShare ((data m 0 c).before 2 t d))
    ∗ (∃ d, owns (c : Thread nD τ) (ms0_3 t) fullShare ((data m 0 c).before 3 t d))
    ∗ (∃ d, owns (c : Thread nD τ) (ms0_4 t) fullShare ((data m 0 c).before 4 t d))
    ∗ (∃ d, owns (c : Thread nD τ) (ms0_5 t) fullShare ((data m 0 c).before 5 t d))
    ∗ (∃ d, owns (c : Thread nD τ) (ms0_6 t) fullShare ((data m 0 c).before 6 t d))
    ∗ (∃ d, owns (c : Thread nD τ) (ms0_7 t) fullShare ((data m 0 c).before 7 t d))
    ∗ (∃ d, owns (c : Thread nD τ) (ms0_8 t) fullShare ((data m 0 c).before 8 t d))
    ∗ (∃ d, owns (c : Thread nD τ) (ms0_9 t) fullShare ((data m 0 c).before 9 t d))
    ∗ (∃ d, owns (c : Thread nD τ) (ms0_10 t) fullShare ((data m 0 c).before 10 t d))
    ∗ (∃ d, owns (c : Thread nD τ) (ms0_11 t) fullShare ((data m 0 c).before 11 t d))
    ∗ (∃ d, owns (c : Thread nD τ) (ms0_12 t) fullShare ((data m 0 c).before 12 t d))
    ∗ (∃ d, owns (c : Thread nD τ) (ms0_13 t) fullShare ((data m 0 c).before 13 t d))
    ∗ (∃ d, owns (c : Thread nD τ) (ms0_14 t) fullShare ((data m 0 c).before 14 t d))
    ∗ (∃ d, owns (c : Thread nD τ) (ms0_15 t) fullShare ((data m 0 c).before 15 t d))
    ∗ (∃ d, owns (c : Thread nD τ) (ms0_16 t) fullShare ((data m 0 c).before 16 t d)))

def post (c : Dev nD) (t : Fin cfg0.N) : sProp 𝕄 :=
  iprop((data m 0 c).Φ t.succ ∗ (data m 0 c).owesAt () t.succ
    ∗ (data m 0 c).leavesExact 0 t
    ∗ (data m 0 c).leavesExact 1 t
    ∗ (data m 0 c).leavesExact 2 t
    ∗ (data m 0 c).leavesExact 3 t
    ∗ (data m 0 c).leavesExact 4 t
    ∗ (data m 0 c).leavesExact 5 t
    ∗ (data m 0 c).leavesExact 6 t
    ∗ (data m 0 c).leavesExact 7 t
    ∗ (data m 0 c).leavesExact 8 t
    ∗ (data m 0 c).leavesExact 9 t
    ∗ (data m 0 c).leavesExact 10 t
    ∗ (data m 0 c).leavesExact 11 t
    ∗ (data m 0 c).leavesExact 12 t
    ∗ (data m 0 c).leavesExact 13 t
    ∗ (data m 0 c).leavesExact 14 t
    ∗ (data m 0 c).leavesExact 15 t
    ∗ (data m 0 c).leavesExact 16 t)

/-- A live window is left at what the data say. -/
theorem left_live (c : Dev nD) (w : Fin cfg0.W) (t : Fin cfg0.N) (x) (hl : cfg0.idle w (grid0.coords t) = false)
    (hx : (data m 0 c).after w t = x) :
    (data m 0 c).leavesExact w t = owns (c : Thread nD τ) ((cfg0.win w).stage (cfg0.slots t w)) fullShare x := by
  unfold Dat.leavesExact; rw [hl, hx]

theorem phi_succ (c : Dev nD) (t : Fin cfg0.N) : (data m 0 c).Φ t.succ = held c (after m c t.val t.isLt) := rfl

theorem owes_succ (c : Dev nD) (t : Fin cfg0.N) : (data m 0 c).owesAt () t.succ = (data m 0 c).owesAt () t.castSucc := rfl

/-- The inputs' buffers hold their blocks. -/
theorem in_0 (c : Dev nD) (t : Fin cfg0.N) (d) : (data m 0 c).before 0 t d = iblk m c 0 t :=
  before0_0_of m (data m 0 c) (data_A m c 0) (fun _ => by dsimp only [data]) t d
theorem in_1 (c : Dev nD) (t : Fin cfg0.N) (d) : (data m 0 c).before 1 t d = iblk m c 1 t :=
  before0_1_of m (data m 0 c) (data_A m c 1) (fun _ => by dsimp only [data]) t d
theorem in_2 (c : Dev nD) (t : Fin cfg0.N) (d) : (data m 0 c).before 2 t d = iblk m c 2 t :=
  before0_2_of m (data m 0 c) (data_A m c 2) (fun _ => by dsimp only [data]) t d
theorem in_3 (c : Dev nD) (t : Fin cfg0.N) (d) : (data m 0 c).before 3 t d = iblk m c 3 t :=
  before0_3_of m (data m 0 c) (data_A m c 3) (fun _ => by dsimp only [data]) t d
theorem in_4 (c : Dev nD) (t : Fin cfg0.N) (d) : (data m 0 c).before 4 t d = iblk m c 4 t :=
  before0_4_of m (data m 0 c) (data_A m c 4) (fun _ => by dsimp only [data]) t d
theorem in_5 (c : Dev nD) (t : Fin cfg0.N) (d) : (data m 0 c).before 5 t d = iblk m c 5 t :=
  before0_5_of m (data m 0 c) (data_A m c 5) (fun _ => by dsimp only [data]) t d
theorem in_6 (c : Dev nD) (t : Fin cfg0.N) (d) : (data m 0 c).before 6 t d = iblk m c 6 t :=
  before0_6_of m (data m 0 c) (data_A m c 6) (fun _ => by dsimp only [data]) t d
theorem in_7 (c : Dev nD) (t : Fin cfg0.N) (d) : (data m 0 c).before 7 t d = iblk m c 7 t :=
  before0_7_of m (data m 0 c) (data_A m c 7) (fun _ => by dsimp only [data]) t d
theorem in_8 (c : Dev nD) (t : Fin cfg0.N) (d) : (data m 0 c).before 8 t d = iblk m c 8 t :=
  before0_8_of m (data m 0 c) (data_A m c 8) (fun _ => by dsimp only [data]) t d
theorem in_9 (c : Dev nD) (t : Fin cfg0.N) (d) : (data m 0 c).before 9 t d = iblk m c 9 t :=
  before0_9_of m (data m 0 c) (data_A m c 9) (fun _ => by dsimp only [data]) t d
theorem in_10 (c : Dev nD) (t : Fin cfg0.N) (d) : (data m 0 c).before 10 t d = iblk m c 10 t :=
  before0_10_of m (data m 0 c) (data_A m c 10) (fun _ => by dsimp only [data]) t d
theorem in_11 (c : Dev nD) (t : Fin cfg0.N) (d) : (data m 0 c).before 11 t d = iblk m c 11 t :=
  before0_11_of m (data m 0 c) (data_A m c 11) (fun _ => by dsimp only [data]) t d
theorem in_12 (c : Dev nD) (t : Fin cfg0.N) (d) : (data m 0 c).before 12 t d = iblk m c 12 t :=
  before0_12_of m (data m 0 c) (data_A m c 12) (fun _ => by dsimp only [data]) t d
theorem in_13 (c : Dev nD) (t : Fin cfg0.N) (d) : (data m 0 c).before 13 t d = iblk m c 13 t :=
  before0_13_of m (data m 0 c) (data_A m c 13) (fun _ => by dsimp only [data]) t d
set_option maxHeartbeats 4000000 in
theorem body_first (c : Dev nD) (t : Fin cfg0.N) (h0 : t.val % 8 = 0) (h1 : ¬t.val % 8 = 7) :
    pre m c t ⊢ wp frame (wpE (defs₀ (F := F)) Variants.none c none) Set.univ (bodyAt0 t) (fun _ => post m c t) := by
  unfold pre post bodyAt0
  simp only [in_0, in_1, in_2, in_3, in_4, in_5, in_6, in_7, in_8, in_9, in_10, in_11, in_12, in_13]
  rw [owes_succ, phi_succ, inv_castSucc, after_A m c t h0 h1,
    left_live m c 0 t (iblk m c 0 t) (liveAt0_0 t) (by dsimp only [data]),
    left_live m c 1 t (iblk m c 1 t) (liveAt0_1 t) (by dsimp only [data]),
    left_live m c 2 t (iblk m c 2 t) (liveAt0_2 t) (by dsimp only [data]),
    left_live m c 3 t (iblk m c 3 t) (liveAt0_3 t) (by dsimp only [data]),
    left_live m c 4 t (iblk m c 4 t) (liveAt0_4 t) (by dsimp only [data]),
    left_live m c 5 t (iblk m c 5 t) (liveAt0_5 t) (by dsimp only [data]),
    left_live m c 6 t (iblk m c 6 t) (liveAt0_6 t) (by dsimp only [data]),
    left_live m c 7 t (iblk m c 7 t) (liveAt0_7 t) (by dsimp only [data]),
    left_live m c 8 t (iblk m c 8 t) (liveAt0_8 t) (by dsimp only [data]),
    left_live m c 9 t (iblk m c 9 t) (liveAt0_9 t) (by dsimp only [data]),
    left_live m c 10 t (iblk m c 10 t) (liveAt0_10 t) (by dsimp only [data]),
    left_live m c 11 t (iblk m c 11 t) (liveAt0_11 t) (by dsimp only [data]),
    left_live m c 12 t (iblk m c 12 t) (liveAt0_12 t) (by dsimp only [data]),
    left_live m c 13 t (iblk m c 13 t) (liveAt0_13 t) (by dsimp only [data]),
    left_live m c 14 t (leaveA m c t h0 h1).out (liveAt0_14 t) (congrArg Left.out (after_A m c t h0 h1)),
    Dat.leavesExact_idle (data m 0 c) 15 t (idleAt0_15_A t ((hcond0_0 t).mpr h0) (fun h => h1 ((hcond0_1 t).mp h))) (noFlush0_15_A t ((hcond0_0 t).mpr h0) (fun h => h1 ((hcond0_1 t).mp h))),
    left_live m c 16 t (leaveA m c t h0 h1).sm (liveAt0_16 t) (congrArg Left.sm (after_A m c t h0 h1))]
  have hz : t.val = 0 := by have hN : t.val < 8 := lt_of_lt_of_eq t.isLt (show cfg0.N = 8 from N_0); omega
  rw [show inv m c t.val (Nat.le_of_lt t.isLt) = Pipeline.ΦA spec0 c from by obtain ⟨n, hn⟩ := t; cases hz; rfl, PhiA0_eq]
  unfold held
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runA m c t h0 h1).2.2.2.2.2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexact H15
  isplitl [H16]; · iexists _; iexact H16
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, H12, H13, H14, H15, H16, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iapply (owns_some c scM0_0 _); iexact HS0
      isplitl [HS1]; · iapply (owns_some c scM0_1 _); iexact HS1
      isplitl [HS2]; · iapply (owns_written c scM0_2 VS0_2 _ (coverA_cg m c t h0 h1)); iexact HS2
      isplitl [HS3]; · iapply (owns_written c scM0_3 VS0_3 _ (coverA_nx m c t h0 h1)); iexact HS3
      isplitl [HS4]; · iapply (owns_written c scM0_4 VS0_4 _ (coverA_wa m c t h0 h1)); iexact HS4
      isplitl [HS5]; · iapply (owns_written c scM0_5 VS0_5 _ (coverA_wx m c t h0 h1)); iexact HS5
      isplitl [HS6]; · iapply (owns_written c scM0_6 VS0_6 _ (coverA_dwa m c t h0 h1)); iexact HS6
      iapply (owns_written c scM0_7 VS0_7 _ (coverA_dwx m c t h0 h1)); iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply (owns_written c (ms0_14 t) VO0_14 _ (coverA_out m c t h0 h1)); iexact H14
  isplitl [H15]; · iexists _; iexact H15
  iapply (owns_written c (ms0_16 t) VO0_16 _ (coverA_sm m c t h0 h1)); iexact H16

set_option maxHeartbeats 4000000 in
theorem body_middle (c : Dev nD) (t : Fin cfg0.N) (h0 : ¬t.val % 8 = 0) (h1 : ¬t.val % 8 = 7) :
    pre m c t ⊢ wp frame (wpE (defs₀ (F := F)) Variants.none c none) Set.univ (bodyAt0 t) (fun _ => post m c t) := by
  unfold pre post bodyAt0
  simp only [in_0, in_1, in_2, in_3, in_4, in_5, in_6, in_7, in_8, in_9, in_10, in_11, in_12, in_13]
  rw [owes_succ, phi_succ, inv_castSucc, after_B m c t h0 h1,
    left_live m c 0 t (iblk m c 0 t) (liveAt0_0 t) (by dsimp only [data]),
    left_live m c 1 t (iblk m c 1 t) (liveAt0_1 t) (by dsimp only [data]),
    left_live m c 2 t (iblk m c 2 t) (liveAt0_2 t) (by dsimp only [data]),
    left_live m c 3 t (iblk m c 3 t) (liveAt0_3 t) (by dsimp only [data]),
    left_live m c 4 t (iblk m c 4 t) (liveAt0_4 t) (by dsimp only [data]),
    left_live m c 5 t (iblk m c 5 t) (liveAt0_5 t) (by dsimp only [data]),
    left_live m c 6 t (iblk m c 6 t) (liveAt0_6 t) (by dsimp only [data]),
    left_live m c 7 t (iblk m c 7 t) (liveAt0_7 t) (by dsimp only [data]),
    left_live m c 8 t (iblk m c 8 t) (liveAt0_8 t) (by dsimp only [data]),
    left_live m c 9 t (iblk m c 9 t) (liveAt0_9 t) (by dsimp only [data]),
    left_live m c 10 t (iblk m c 10 t) (liveAt0_10 t) (by dsimp only [data]),
    left_live m c 11 t (iblk m c 11 t) (liveAt0_11 t) (by dsimp only [data]),
    left_live m c 12 t (iblk m c 12 t) (liveAt0_12 t) (by dsimp only [data]),
    left_live m c 13 t (iblk m c 13 t) (liveAt0_13 t) (by dsimp only [data]),
    left_live m c 14 t (leaveB m c t h0 h1 (before m c t)).out (liveAt0_14 t) (congrArg Left.out (after_B m c t h0 h1)),
    Dat.leavesExact_idle (data m 0 c) 15 t (idleAt0_15_B t (fun h => h0 ((hcond0_0 t).mp h)) (fun h => h1 ((hcond0_1 t).mp h))) (noFlush0_15_B t (fun h => h0 ((hcond0_0 t).mp h)) (fun h => h1 ((hcond0_1 t).mp h))),
    left_live m c 16 t (leaveB m c t h0 h1 (before m c t)).sm (liveAt0_16 t) (congrArg Left.sm (after_B m c t h0 h1))]
  rw [inv_pos m c t (fun h => h0 (by rw [h]))]
  simp only [before_sm m c t h0]
  unfold held
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runB m c t h0 h1 (before m c t)).2.2.2.2.2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexact H15
  isplitl [H16]; · iexact H16
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, H12, H13, H14, H15, H16, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iapply (owns_some c scM0_0 _); iexact HS0
      isplitl [HS1]; · iapply (owns_some c scM0_1 _); iexact HS1
      isplitl [HS2]; · iapply (owns_over c scM0_2 _); iexact HS2
      isplitl [HS3]; · iapply (owns_written c scM0_3 VS0_3 _ (coverB_nx m c t h0 h1 (before m c t))); iexact HS3
      isplitl [HS4]; · iexact HS4
      isplitl [HS5]; · iexact HS5
      isplitl [HS6]; · iapply (owns_written c scM0_6 VS0_6 _ (coverB_dwa m c t h0 h1 (before m c t))); iexact HS6
      iapply (owns_written c scM0_7 VS0_7 _ (coverB_dwx m c t h0 h1 (before m c t))); iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply (owns_written c (ms0_14 t) VO0_14 _ (coverB_out m c t h0 h1 (before m c t))); iexact H14
  isplitl [H15]; · iexists _; iexact H15
  iapply (owns_written c (ms0_16 t) VO0_16 _ (coverB_sm m c t h0 h1 (before m c t))); iexact H16

set_option maxHeartbeats 4000000 in
theorem body_last (c : Dev nD) (t : Fin cfg0.N) (h0 : ¬t.val % 8 = 0) (h1 : t.val % 8 = 7) :
    pre m c t ⊢ wp frame (wpE (defs₀ (F := F)) Variants.none c none) Set.univ (bodyAt0 t) (fun _ => post m c t) := by
  unfold pre post bodyAt0
  simp only [in_0, in_1, in_2, in_3, in_4, in_5, in_6, in_7, in_8, in_9, in_10, in_11, in_12, in_13]
  rw [owes_succ, phi_succ, inv_castSucc, after_C m c t h0 h1,
    left_live m c 0 t (iblk m c 0 t) (liveAt0_0 t) (by dsimp only [data]),
    left_live m c 1 t (iblk m c 1 t) (liveAt0_1 t) (by dsimp only [data]),
    left_live m c 2 t (iblk m c 2 t) (liveAt0_2 t) (by dsimp only [data]),
    left_live m c 3 t (iblk m c 3 t) (liveAt0_3 t) (by dsimp only [data]),
    left_live m c 4 t (iblk m c 4 t) (liveAt0_4 t) (by dsimp only [data]),
    left_live m c 5 t (iblk m c 5 t) (liveAt0_5 t) (by dsimp only [data]),
    left_live m c 6 t (iblk m c 6 t) (liveAt0_6 t) (by dsimp only [data]),
    left_live m c 7 t (iblk m c 7 t) (liveAt0_7 t) (by dsimp only [data]),
    left_live m c 8 t (iblk m c 8 t) (liveAt0_8 t) (by dsimp only [data]),
    left_live m c 9 t (iblk m c 9 t) (liveAt0_9 t) (by dsimp only [data]),
    left_live m c 10 t (iblk m c 10 t) (liveAt0_10 t) (by dsimp only [data]),
    left_live m c 11 t (iblk m c 11 t) (liveAt0_11 t) (by dsimp only [data]),
    left_live m c 12 t (iblk m c 12 t) (liveAt0_12 t) (by dsimp only [data]),
    left_live m c 13 t (iblk m c 13 t) (liveAt0_13 t) (by dsimp only [data]),
    left_live m c 14 t (leaveC m c t h0 h1 (before m c t)).out (liveAt0_14 t) (congrArg Left.out (after_C m c t h0 h1)),
    left_live m c 15 t (leaveC m c t h0 h1 (before m c t)).rg (liveAt0_15_C t (fun h => h0 ((hcond0_0 t).mp h)) ((hcond0_1 t).mpr h1)) (congrArg Left.rg (after_C m c t h0 h1)),
    left_live m c 16 t (leaveC m c t h0 h1 (before m c t)).sm (liveAt0_16 t) (congrArg Left.sm (after_C m c t h0 h1))]
  rw [inv_pos m c t (fun h => h0 (by rw [h]))]
  simp only [before_sm m c t h0]
  unfold held
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runC m c t h0 h1 (before m c t)).2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexact H16
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, H12, H13, H14, H15, H16, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iapply (owns_some c scM0_0 _); iexact HS0
      isplitl [HS1]; · iapply (owns_some c scM0_1 _); iexact HS1
      isplitl [HS2]; · iapply (owns_over c scM0_2 _); iexact HS2
      isplitl [HS3]; · iapply (owns_written c scM0_3 VS0_3 _ (coverC_nx m c t h0 h1 (before m c t))); iexact HS3
      isplitl [HS4]; · iexact HS4
      isplitl [HS5]; · iexact HS5
      isplitl [HS6]; · iapply (owns_written c scM0_6 VS0_6 _ (coverC_dwa m c t h0 h1 (before m c t))); iexact HS6
      iapply (owns_written c scM0_7 VS0_7 _ (coverC_dwx m c t h0 h1 (before m c t))); iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply (owns_written c (ms0_14 t) VO0_14 _ (coverC_out m c t h0 h1 (before m c t))); iexact H14
  isplitl [H15]; · iapply (owns_written c (ms0_15 t) VO0_15 _ (coverC_rg m c t h0 h1 (before m c t))); iexact H15
  iapply (owns_written c (ms0_16 t) VO0_16 _ (coverC_sm m c t h0 h1 (before m c t))); iexact H16

theorem body_any (c : Dev nD) (t : Fin cfg0.N) :
    pre m c t ⊢ wp frame (wpE (defs₀ (F := F)) Variants.none c none) Set.univ (bodyAt0 t) (fun _ => post m c t) := by
  by_cases h0 : t.val % 8 = 0
  · exact body_first m c t h0 (by omega)
  · by_cases h1 : t.val % 8 = 7
    · exact body_last m c t h0 h1
    · exact body_middle m c t h0 h1

theorem body_row (t : Fin cfg0.N) : defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ := fun t => by
  rw [bigSep_W0, bigSep_W0, body_row]
  exact triple_restated (body_any m c t) rfl .rfl fun _ => .rfl

theorem enter (c : Dev nD) : Pipeline.ΦA spec0 c ⊢ (data m 0 c).Φ 0 := by
  rw [show (data m 0 c).Φ 0 = Pipeline.ΦA spec0 c from rfl]

/-- After the last point the carried contents are forgotten. -/
theorem leave_out (c : Dev nD) : (data m 0 c).Φ (Fin.last cfg0.N) ⊢ Pipeline.ΦA spec0 c := by
  rw [show (data m 0 c).Φ (Fin.last cfg0.N) = held c (after m c 7 (by decide)) from rfl, PhiA0_eq]
  unfold held
  iintro ⟨⟨HS0, HS1, HS2, HS3, HS4, HS5, HS6, HS7⟩, Hg⟩
  isplitl [HS0 HS1 HS2 HS3 HS4 HS5 HS6 HS7]
  · isplitl [HS0]; · iexact HS0
    isplitl [HS1]; · iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    iexists _; iexact HS7
  iexact Hg

set_option backward.isDefEq.respectTransparency.types false in
/-- The launch: every execution terminates with the arrays at what the data say, and every counter at zero. -/
theorem launch : θ_run defs (onTc (τ := τ) (main (F := F))) (s₀ m ρ)
    (fun r => Pipeline.FramePost cfgs (data m) 0 (V m) r ∧ r.2.sem = fun _ => 0) :=
  Pipeline.θ_run_frame_track_shared (Q' := _) cfgs (data m) (0 : Fin 1) launch₀0 defs₀ Variants.none m ρ main
    (hbody := fun c => (obligation m c).loose) (hq := fun _ _ _ => rfl)
    (howed := fun _ _ => rfl) (V := V m) (hmain := hmain m Variants.none) (hA := data_A m) (hin := enter m) (hout := leave_out m)

/-- The argument arrays end as they were and every counter at zero. -/
theorem kernel_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (data m) (data_A m) ((θ_run defs _ _).mono (fun _ h => h.1) (launch m ρ)))
    ((θ_run defs _ _).mono (fun _ h => h.2) (launch m ρ))

end Cert.Rglru

end
-- ==== Proof.Rglru.Claims.lean ====
/- The three frames of the RG-LRU's backward call: the kernel over bits and over the extended reals, and the reference. -/
module

public import proofs.«01_k».proof.Defs
public import proofs.«01_k».proof.Proof.Gen.Kernel2
public import proofs.«01_k».proof.Proof.Gen.Reference2Ideal.Run
public import proofs.«01_k».proof.Proof.Rglru.Frame

@[expose] public section

noncomputable section

namespace Cert.Rglru

open Idealize.ShloMosaic Idealize.ShloMosaic.TcCoe Idealize.SL.Sem

/-- The kernel's text is the same over bits and over the extended reals, and so is its run. -/
theorem frame_kernel2 : Cert.quiescent_Kernel2 := fun m ρ _ => cast (by sl_kernel_rfl) (kernel_run (F := Bits) m ρ)

theorem frame_kernel2Ideal : Cert.quiescent_Kernel2Ideal := fun m ρ _ => kernel_run m ρ

theorem frame_reference2Ideal : Cert.quiescent_Reference2Ideal := fun m ρ _ =>
  (θ_run Cert.Reference2Ideal.defs _ _).mono
    (fun r h => ⟨fun c => (h c).2.2.2, sem_eq_zero_of_no_sems (by decide) r.2⟩)
    (Cert.Reference2Ideal.Value.run (F := Ideal) m ρ)

end Cert.Rglru

end
-- ==== Proof.Rglru.Scan.lean ====
/- The linear recurrence h_t = a_t h_{t-1} + u_t over 4096 steps in closed form, and its gradient: the reversed recurrence that
   the kernel runs, and the gradient with respect to the logarithms of the decays. -/
module

public import Mathlib.Analysis.SpecialFunctions.Exp
public import Mathlib.Algebra.BigOperators.Intervals
public import Mathlib.Algebra.BigOperators.Ring.Finset
public import Mathlib.Tactic.Ring
public import Mathlib.Tactic.Linarith

@[expose] public section

noncomputable section

namespace Cert.Rglru

open Finset

variable (l u ct : ℕ → ℝ)

/-- The sum of the logarithms of the decays up to step `t`. -/
def total (t : ℕ) : ℝ := ∑ s ∈ range 4096, if s ≤ t then l s else 0

/-- The state after step `t`. -/
def state (t : ℕ) : ℝ := ∑ s ∈ range 4096, (if s ≤ t then Real.exp (total l t - total l s) else 0) * u s

/-- The gradient with respect to the input of step `s`, for the cotangents `ct` of the states. -/
def adj (s : ℕ) : ℝ := ∑ t ∈ range 4096, (if s ≤ t then Real.exp (total l t - total l s) else 0) * ct t

/-- The term of the pair of steps `s ≤ t`. -/
def pair (t s : ℕ) : ℝ := if s ≤ t then ct t * u s * Real.exp (total l t - total l s) else 0

theorem total_eq {t : ℕ} (ht : t < 4096) : total l t = ∑ s ∈ range (t + 1), l s := by
  unfold total
  rw [← sum_filter]
  refine sum_congr (Finset.ext fun s => ?_) fun _ _ => rfl
  simp only [mem_filter, mem_range]; omega

theorem total_succ {t : ℕ} (ht : t + 1 < 4096) : total l (t + 1) = total l t + l (t + 1) := by
  rw [total_eq l ht, total_eq l (by omega), sum_range_succ]

theorem adj_eq {s : ℕ} : adj l ct s = ∑ t ∈ Ico s 4096, Real.exp (total l t - total l s) * ct t := by
  unfold adj
  have : (∑ t ∈ range 4096, (if s ≤ t then Real.exp (total l t - total l s) else 0) * ct t)
      = ∑ t ∈ range 4096, if s ≤ t then Real.exp (total l t - total l s) * ct t else 0 :=
    sum_congr rfl fun t _ => by split_ifs <;> simp
  rw [this, ← sum_filter]
  refine sum_congr (Finset.ext fun t => ?_) fun _ _ => rfl
  simp only [mem_filter, mem_range, mem_Ico]; omega

theorem state_eq {t : ℕ} (ht : t < 4096) : state l u t = ∑ s ∈ range (t + 1), Real.exp (total l t - total l s) * u s := by
  unfold state
  have : (∑ s ∈ range 4096, (if s ≤ t then Real.exp (total l t - total l s) else 0) * u s)
      = ∑ s ∈ range 4096, if s ≤ t then Real.exp (total l t - total l s) * u s else 0 :=
    sum_congr rfl fun t _ => by split_ifs <;> simp
  rw [this, ← sum_filter]
  refine sum_congr (Finset.ext fun s => ?_) fun _ _ => rfl
  simp only [mem_filter, mem_range]; omega

/-- The gradient runs backwards: what step `s` gets is its own cotangent and the decayed gradient of the step after it. -/
theorem adj_step {s : ℕ} (hs : s + 1 < 4096) : adj l ct s = ct s + Real.exp (l (s + 1)) * adj l ct (s + 1) := by
  rw [adj_eq, adj_eq, sum_eq_sum_Ico_succ_bot (by omega : s < 4096), sub_self, Real.exp_zero, one_mul, mul_sum]
  refine congrArg (ct s + ·) (sum_congr rfl fun t _ => ?_)
  rw [← mul_assoc, ← Real.exp_add, total_succ l hs,
    show l (s + 1) + (total l t - (total l s + l (s + 1))) = total l t - total l s by ring]

theorem adj_last : adj l ct 4095 = ct 4095 := by
  have e : Ico 4095 4096 = {4095} := Finset.ext fun t => by simp only [mem_Ico, mem_singleton]; omega
  rw [adj_eq, e, sum_singleton, sub_self, Real.exp_zero, one_mul]

/-- The gradient with respect to the logarithm of decay `j`: of the pairs of steps the two sums leave those on both sides of `j`. -/
theorem pairs_across {j : ℕ} (hj : j < 4096) :
    (∑ t ∈ range 4096, if j ≤ t then -(∑ t' ∈ range 4096, pair l u ct t' t) + ∑ s ∈ range 4096, pair l u ct t s else 0)
      = ∑ t ∈ Ico j 4096, ∑ s ∈ range j, pair l u ct t s := by
  have e1 : (∑ t ∈ range 4096, if j ≤ t then -(∑ t' ∈ range 4096, pair l u ct t' t) + ∑ s ∈ range 4096, pair l u ct t s else 0)
      = ∑ t ∈ Ico j 4096, (-(∑ t' ∈ range 4096, pair l u ct t' t) + ∑ s ∈ range 4096, pair l u ct t s) := by
    rw [← sum_filter]
    refine sum_congr (Finset.ext fun t => ?_) fun _ _ => rfl
    simp only [mem_filter, mem_range, mem_Ico]; omega
  have e2 : ∀ t ∈ Ico j 4096, ∑ s ∈ range 4096, pair l u ct t s
      = ∑ s ∈ range j, pair l u ct t s + ∑ s ∈ Ico j 4096, pair l u ct t s := fun t _ => by
    rw [range_eq_Ico, range_eq_Ico, sum_Ico_consecutive _ (Nat.zero_le _) (by omega)]
  have e3 : ∀ t ∈ Ico j 4096, ∑ t' ∈ range 4096, pair l u ct t' t = ∑ t' ∈ Ico j 4096, pair l u ct t' t := fun t ht => by
    rw [range_eq_Ico, ← sum_Ico_consecutive _ (Nat.zero_le j) (by omega : j ≤ 4096)]
    rw [sum_eq_zero (s := Ico 0 j) fun t' ht' => ?_, zero_add]
    rw [mem_Ico] at ht ht'
    exact if_neg (by omega)
  rw [e1, sum_add_distrib, sum_neg_distrib, sum_congr rfl e2, sum_congr rfl e3, sum_add_distrib,
    sum_comm (s := Ico j 4096) (t := Ico j 4096)]
  ring

/-- The gradient with respect to the logarithm of a decay that is not the first. -/
theorem pairs_succ {j : ℕ} (hj : j + 1 < 4096) :
    (∑ t ∈ range 4096, if j + 1 ≤ t then -(∑ t' ∈ range 4096, pair l u ct t' t) + ∑ s ∈ range 4096, pair l u ct t s else 0)
      = adj l ct (j + 1) * state l u j * Real.exp (l (j + 1)) := by
  rw [pairs_across l u ct hj, adj_eq, state_eq l u (by omega), sum_mul, sum_mul]
  refine sum_congr rfl fun t ht => ?_
  rw [mul_sum, sum_mul]
  refine sum_congr rfl fun s hs => ?_
  rw [mem_Ico] at ht; rw [mem_range] at hs
  unfold pair
  rw [if_pos (by omega), show total l t - total l s = (total l t - total l (j + 1)) + ((total l j - total l s) + l (j + 1)) by
    rw [total_succ l hj]; ring, Real.exp_add, Real.exp_add]
  ring

/-- The first decay multiplies nothing. -/
theorem pairs_zero :
    (∑ t ∈ range 4096, if 0 ≤ t then -(∑ t' ∈ range 4096, pair l u ct t' t) + ∑ s ∈ range 4096, pair l u ct t s else 0) = 0 := by
  rw [pairs_across l u ct (by omega)]
  simp only [range_zero, sum_empty, sum_const_zero]

end Cert.Rglru

end
-- ==== Proof.Rglru.Real.lean ====
/- The gated branch over the reals: causal convolution, gates, decays, states, and the gradients of everything that goes in,
   one device's 4096 rows and 512 channels. -/
module

public import proofs.«01_k».proof.Proof.Rglru.Scan
public import Mathlib.Analysis.SpecialFunctions.Log.Basic
public import Mathlib.Analysis.SpecialFunctions.Pow.Real

@[expose] public section

noncomputable section

namespace Cert.Rglru

/-- The inputs of the branch and the cotangent of its result. The two biases may be infinite. -/
structure Data where
  x : ℕ → ℕ → ℝ
  ga : ℕ → ℕ → ℝ
  dy : ℕ → ℕ → ℝ
  cw : ℕ → ℕ → ℝ
  cb : ℕ → ℝ
  wa : ℕ → ℕ → ℕ → ℝ
  ba : ℕ → EReal
  wx : ℕ → ℕ → ℕ → ℝ
  bx : ℕ → EReal
  lam : ℕ → ℝ

namespace Data

variable (D : Data)

/-- The row that tap `k` of the convolution reads at row `t`; rows before the first are zero. -/
def tap (k t c : ℕ) : ℝ := if t + k < 3 then 0 else D.x (t + k - 3) c

def conv (t c : ℕ) : ℝ := D.cb c + D.tap 0 t c * D.cw 0 c + D.tap 1 t c * D.cw 1 c + D.tap 2 t c * D.cw 2 c + D.tap 3 t c * D.cw 3 c

def sig (z : ℝ) : ℝ := 1 / (1 + Real.exp (-z))

/-- The sigmoid of `z` and a bias, which may be infinite. -/
def gate (z : ℝ) (b : EReal) : ℝ := if b = ⊤ then 1 else if b = ⊥ then 0 else sig (z + b.toReal)

/-- A block-diagonal map: channel `c` reads the 64 channels of its block. -/
def blockMap (w : ℕ → ℕ → ℕ → ℝ) (y : ℕ → ℝ) (c : ℕ) : ℝ := ∑ i : Fin 64, w (c / 64) i (c % 64) * y (c / 64 * 64 + i)

/-- The transpose of a block-diagonal map. -/
def blockBack (w : ℕ → ℕ → ℕ → ℝ) (y : ℕ → ℝ) (c : ℕ) : ℝ := ∑ j : Fin 64, y (c / 64 * 64 + j) * w (c / 64) (c % 64) j

def r (t c : ℕ) : ℝ := gate (blockMap D.wa (D.conv t) c) (D.ba c)

def ig (t c : ℕ) : ℝ := gate (blockMap D.wx (D.conv t) c) (D.bx c)

def sp (c : ℕ) : ℝ := max (-D.lam c) 0 + Real.log (1 + Real.exp (-|D.lam c|))

/-- The logarithm of the decay. -/
def la (t c : ℕ) : ℝ := -8 * D.r t c * D.sp c

def a (t c : ℕ) : ℝ := Real.exp (D.la t c)

def mult (t c : ℕ) : ℝ := if t = 0 then 1 else Real.sqrt (-(Real.exp (2 * D.la t c) - 1))

def u (t c : ℕ) : ℝ := D.mult t c * (D.ig t c * D.conv t c)

def h (t c : ℕ) : ℝ := state (fun t => D.la t c) (fun t => D.u t c) t

def silu (t c : ℕ) : ℝ := D.ga t c * sig (D.ga t c)

/-- The cotangent of the state. -/
def ct (t c : ℕ) : ℝ := D.dy t c * D.silu t c

/-- The gradient of the recurrence's input. -/
def g (t c : ℕ) : ℝ := adj (fun t => D.la t c) (fun t => D.ct t c) t

def dga (t c : ℕ) : ℝ := D.dy t c * D.h t c * (sig (D.ga t c) * (1 + D.ga t c * (1 - sig (D.ga t c))))

def hBefore (t c : ℕ) : ℝ := if t = 0 then 0 else D.h (t - 1) c

/-- The gradient of the logarithm of the decay. -/
def dla (t c : ℕ) : ℝ := D.g t c * D.hBefore t c * D.a t c
  + if t = 0 then 0 else D.g t c * (D.ig t c * D.conv t c) * (-(D.a t c * D.a t c) / D.mult t c)

def dpr (t c : ℕ) : ℝ := D.dla t c * (-8 * D.sp c) * D.r t c * (1 - D.r t c)

def dpi (t c : ℕ) : ℝ := D.g t c * D.mult t c * D.conv t c * D.ig t c * (1 - D.ig t c)

/-- The gradient of the convolution's result. -/
def dxc (t c : ℕ) : ℝ := D.g t c * D.mult t c * D.ig t c + blockBack D.wa (D.dpr t) c + blockBack D.wx (D.dpi t) c

/-- What row `t` gets from the row that reads it `d` rows later. -/
def later (d t c : ℕ) : ℝ := if t + d < 4096 then D.dxc (t + d) c * D.cw (3 - d) c else 0

def dxa (t c : ℕ) : ℝ := D.later 0 t c + D.later 1 t c + D.later 2 t c + D.later 3 t c

def dlam (c : ℕ) : ℝ := (∑ t : Fin 4096, D.dla t c * (-8 * D.r t c)) * -sig (-D.lam c)

theorem sig_pos (z : ℝ) : 0 < sig z := by unfold sig; positivity

theorem sp_pos (c : ℕ) : 0 < D.sp c := by
  unfold sp
  have h : 0 < Real.log (1 + Real.exp (-|D.lam c|)) := Real.log_pos (by linarith [Real.exp_pos (-|D.lam c|)])
  linarith [le_max_right (-D.lam c) 0]

theorem exp_sub_sp (c : ℕ) : Real.exp (-D.lam c - D.sp c) = sig (-D.lam c) := by
  have h1 : 0 < 1 + Real.exp (-|D.lam c|) := by positivity
  unfold sp sig
  rw [neg_neg, Real.exp_sub, Real.exp_add, Real.exp_log h1, div_eq_div_iff (by positivity) (by positivity), one_mul]
  rcases le_total 0 (D.lam c) with h | h
  · rw [abs_of_nonneg h, max_eq_right (by linarith), Real.exp_zero, one_mul, mul_add, mul_one, ← Real.exp_add, neg_add_cancel,
      Real.exp_zero, add_comm]
  · rw [abs_of_nonpos h, max_eq_left (by linarith), neg_neg]

theorem gate_nonneg (z : ℝ) (b : EReal) : 0 ≤ gate z b := by
  unfold gate
  split_ifs
  exacts [zero_le_one, le_refl _, (sig_pos _).le]

theorem r_nonneg (t c : ℕ) : 0 ≤ D.r t c := gate_nonneg _ _

theorem gap_nonneg (t c : ℕ) : 0 ≤ -(Real.exp (2 * D.la t c) - 1) := by
  have : Real.exp (2 * D.la t c) ≤ 1 := by
    rw [← Real.exp_zero]
    refine Real.exp_le_exp.mpr ?_
    unfold la
    linarith [mul_nonneg (D.r_nonneg t c) (D.sp_pos c).le]
  linarith

/-- An open gate leaves the decay below one. -/
theorem gap_pos {t c : ℕ} (hr : D.r t c ≠ 0) : 0 < -(Real.exp (2 * D.la t c) - 1) := by
  have : Real.exp (2 * D.la t c) < 1 := by
    rw [← Real.exp_zero]
    refine Real.exp_lt_exp.mpr ?_
    unfold la
    linarith [mul_pos (lt_of_le_of_ne (D.r_nonneg t c) hr.symm) (D.sp_pos c)]
  linarith

theorem mult_pos {t c : ℕ} (hr : D.r t c ≠ 0) : 0 < D.mult t c := by
  unfold mult
  split_ifs
  · exact one_pos
  · exact Real.sqrt_pos.mpr (D.gap_pos hr)

end Data

end Cert.Rglru

end
-- ==== Proof.Rglru.Coe.lean ====
/- The operations of the extended reals at real numbers. -/
module

public import proofs.«01_k».proof.Proof.Common.Consts

@[expose] public section

noncomputable section

namespace Cert.Rglru

open Idealize.ShloMosaic

theorem exp_coe (x : ℝ) : Ideal.exp (x : EReal) = ((Real.exp x : ℝ) : EReal) := rfl

theorem sqrt_coe {x : ℝ} (h : 0 ≤ x) : Ideal.sqrt (x : EReal) = ((Real.sqrt x : ℝ) : EReal) := by
  show (if x < 0 then (⊥ : EReal) else _) = _
  rw [if_neg (not_lt.mpr h)]

theorem log1p_coe {x : ℝ} (h : 0 < 1 + x) : Ideal.log1p (x : EReal) = ((Real.log (1 + x) : ℝ) : EReal) := by
  show Ideal.log (((1 : ℝ) : EReal) + (x : EReal)) = _
  rw [← EReal.coe_add]
  show (if 1 + x ≤ 0 then (⊥ : EReal) else _) = _
  rw [if_neg (not_le.mpr h)]

theorem div_coe (x : ℝ) {y : ℝ} (h : y ≠ 0) : Ideal.div (x : EReal) (y : EReal) = ((x / y : ℝ) : EReal) := by
  rw [Ideal.div, if_neg (EReal.coe_ne_zero.mpr h), ← EReal.coe_inv, ← EReal.coe_mul, div_eq_mul_inv]

theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum over the 4096 rows as a sum over numbers. -/
theorem sum_rows (f : ℕ → ℝ) : ∑ t : Fin 4096, (f t.val : EReal) = ((∑ t ∈ Finset.range 4096, f t : ℝ) : EReal) := by
  rw [sum_coe Finset.univ fun t : Fin 4096 => f t.val, Fin.sum_univ_eq_sum_range]

theorem ite_coe (p : Prop) [Decidable p] (x y : ℝ) : (if p then (x : EReal) else (y : EReal)) = ((if p then x else y : ℝ) : EReal) := by
  split_ifs <;> rfl

theorem max_coe (x y : ℝ) : max (x : EReal) (y : EReal) = ((max x y : ℝ) : EReal) :=
  (EReal.coe_strictMono.monotone.map_max).symm

theorem f32_zero : Ideal.ofBits .f32 0x00000000#32 = ((0 : ℝ) : EReal) := by
  rw [Ideal.ofBits_zero_f32]; rfl

theorem f32_neg_eight : Ideal.ofBits .f32 0xC1000000#32 = ((-8 : ℝ) : EReal) := by
  rw [Cert.Common.f32_normal 0xC1000000#32 true 130 0 (by decide) (by decide) (by decide) (by decide) (by decide)]; norm_num

theorem f32_two : Ideal.ofBits .f32 0x40000000#32 = ((2 : ℝ) : EReal) := Cert.Common.f32_two

theorem f32_half : Ideal.ofBits .f32 0x3F000000#32 = ((1 / 2 : ℝ) : EReal) := Cert.Common.f32_half

theorem f32_top : Ideal.ofBits .f32 0x7F800000#32 = ⊤ := by simp [Ideal.ofBits, Ideal.ieee]

theorem toInt_small {t : ℕ} (ht : t < 4096) : (BitVec.ofNat 32 t).toInt = t := by
  rw [BitVec.toInt_eq_toNat_of_lt (by rw [BitVec.toNat_ofNat]; omega), BitVec.toNat_ofNat, Nat.mod_eq_of_lt (by omega)]

/-- The mask of the rows not after `t`. -/
theorem select_sge {α : Type} {t s : ℕ} (ht : t < 4096) (hs : s < 4096) (x y : α) :
    Scalar.select (IntOp.cmpi .sge (BitVec.ofNat 32 t) (BitVec.ofNat 32 s)) x y = if s ≤ t then x else y := by
  have h : IntOp.cmpi .sge (BitVec.ofNat 32 t) (BitVec.ofNat 32 s) = BitVec.ofBool (decide (s ≤ t)) := by
    show BitVec.ofBool ((BitVec.ofNat 32 s).sle (BitVec.ofNat 32 t)) = _
    rw [BitVec.sle, toInt_small ht, toInt_small hs]
    congr 1
    exact decide_eq_decide.mpr (by omega)
  rw [h]
  by_cases hle : s ≤ t
  · rw [if_pos hle, decide_eq_true hle]; rfl
  · rw [if_neg hle, decide_eq_false hle]; rfl

/-- The mask of the first row. -/
theorem select_first {α : Type} {t : ℕ} (ht : t < 4096) (x y : α) :
    Scalar.select (IntOp.cmpi .eq (BitVec.ofNat 32 t) 0#32) x y = if t = 0 then x else y := by
  by_cases h0 : t = 0
  · subst h0; rfl
  · rw [if_neg h0]
    have h : IntOp.cmpi .eq (BitVec.ofNat 32 t) 0#32 = 0#1 := by
      show BitVec.ofBool (BitVec.ofNat 32 t == 0#32) = _
      rw [beq_eq_false_iff_ne.mpr]
      · rfl
      · intro e
        have := congrArg BitVec.toNat e
        rw [BitVec.toNat_ofNat, Nat.mod_eq_of_lt (by omega)] at this
        exact h0 this
    rw [h]; rfl

end Cert.Rglru

end
-- ==== Proof.Rglru.RefForward.lean ====
/- The reference's forward lines, read at an index where the arguments are real: every stage is the value of the same name in
   `Rglru.Real`. -/
module

public import proofs.«01_k».proof.Proof.Rglru.Real
public import proofs.«01_k».proof.Proof.Rglru.Coe
public import proofs.«01_k».proof.Proof.Gen.Reference2Ideal.Read
public import Idealize.ShloMosaic.Lib.Pointwise

@[expose] public section

noncomputable section

namespace Cert.Reference2Ideal.Rglru

open Cert.Reference2Ideal Cert.Reference2Ideal.Gen Cert.Reference2Ideal.Read Cert.Rglru Idealize.ShloMosaic
open Idealize.ShloMosaic.TcCoe Idealize.SL.Sem

/-- The arguments hold the real numbers `D`. -/
structure Holds (x0 : Vec Ideal S4096x3072 .f32) (x1 : Vec Ideal S4096x1024 .f32) (x2 : Vec Ideal S1x4x512 .f32)
    (x3 : Vec Ideal S1x512 .f32) (x4 : Vec Ideal S1x8x64x64 .f32) (x5 : Vec Ideal S1x512 .f32) (x6 : Vec Ideal S1x8x64x64 .f32)
    (x7 x8 : Vec Ideal S1x512 .f32) (D : Data) : Prop where
  x : ∀ (t : Fin 4096) (c : Fin 512), x0 (ix2 t ⟨c.val, by have := c.isLt; omega⟩) = (D.x t c : EReal)
  ga : ∀ (t : Fin 4096) (c : Fin 512), x0 (ix2 t ⟨512 + c.val, by have := c.isLt; omega⟩) = (D.ga t c : EReal)
  dy : ∀ (t : Fin 4096) (c : Fin 512), x1 (ix2 t ⟨c.val, by have := c.isLt; omega⟩) = (D.dy t c : EReal)
  cw : ∀ (k : Fin 4) (c : Fin 512), x2 (ix3 0 k c) = (D.cw k c : EReal)
  cb : ∀ c : Fin 512, x3 (ix2 0 c) = (D.cb c : EReal)
  wa : ∀ (b : Fin 8) (i j : Fin 64), x4 (ix4 0 b i j) = (D.wa b i j : EReal)
  ba : ∀ c : Fin 512, x5 (ix2 0 c) = D.ba c
  wx : ∀ (b : Fin 8) (i j : Fin 64), x6 (ix4 0 b i j) = (D.wx b i j : EReal)
  bx : ∀ c : Fin 512, x7 (ix2 0 c) = D.bx c
  lam : ∀ c : Fin 512, x8 (ix2 0 c) = (D.lam c : EReal)

variable {x0 : Vec Ideal S4096x3072 .f32} {x1 : Vec Ideal S4096x1024 .f32} {x2 : Vec Ideal S1x4x512 .f32}
  {x3 : Vec Ideal S1x512 .f32} {x4 : Vec Ideal S1x8x64x64 .f32} {x5 : Vec Ideal S1x512 .f32} {x6 : Vec Ideal S1x8x64x64 .f32}
  {x7 x8 : Vec Ideal S1x512 .f32} {D : Data} (H : Holds x0 x1 x2 x3 x4 x5 x6 x7 x8 D)

include H

theorem v10_at (t : Fin 4099) (c : Fin 512) :
    val_main_v10 (F := Ideal) x0 (ix2 t c) = ((if t.val < 3 then 0 else D.x (t - 3) c : ℝ) : EReal) := by
  pointwise [val_main_v10, val_main_v9, val_main_cst, val_main_v0]
  split_ifs with h
  · rfl
  all_goals first | rfl | exact H.x ⟨t - 3, by have := t.isLt; omega⟩ c

theorem v41_at (t : Fin 4096) (c : Fin 512) :
    val_main_v41 (F := Ideal) x0 x2 x3 (ix2 t c) = ((D.conv t c : ℝ) : EReal) := by
  pointwise [val_main_v41, val_main_v40, val_main_v39, val_main_v38, val_main_v37, val_main_v36, val_main_v35, val_main_v34,
    val_main_v33, val_main_v32, val_main_v31, val_main_v30, val_main_v29, val_main_v28, val_main_v27, val_main_v26,
    val_main_v25, val_main_v24, val_main_v23, val_main_v22, val_main_v21, val_main_v20, val_main_v19, val_main_v18,
    val_main_v17, val_main_v16, val_main_v15, val_main_v14, val_main_v13, val_main_v12, val_main_v3, val_main_v2]
  simp only [v10_at H, H.cw, H.cb, ← EReal.coe_mul, ← EReal.coe_add]
  simp only [Data.conv, Data.tap, Nat.add_comm _ t.val, Nat.add_zero]
  rfl

theorem v48_at (t : Fin 4096) (c : Fin 512) :
    val_main_v48 (F := Ideal) x0 x2 x3 x4 x5 (ix2 t c) = ((Data.blockMap D.wa (D.conv t) c : ℝ) : EReal) + D.ba c := by
  pointwise [val_main_v48, val_main_v47, val_main_v46, val_main_v45, val_main_v44, val_main_v43, val_main_v42, val_main_v4, val_main_v5]
  simp only [v41_at H, H.wa, H.ba, ← EReal.coe_mul, sum_coe]
  rfl

theorem v63_at (t : Fin 4096) (c : Fin 512) :
    val_main_v63 (F := Ideal) x0 x2 x3 x6 x7 (ix2 t c) = ((Data.blockMap D.wx (D.conv t) c : ℝ) : EReal) + D.bx c := by
  pointwise [val_main_v63, val_main_v62, val_main_v61, val_main_v60, val_main_v59, val_main_v58, val_main_v42, val_main_v6, val_main_v7]
  simp only [v41_at H, H.wx, H.bx, ← EReal.coe_mul, sum_coe]
  rfl

omit H in
theorem zero2_at : val_main_call2_v0 (F := Ideal) ix0 = ((0 : ℝ) : EReal) := f32_zero

omit H in
theorem zero3_at : val_main_call3_v0 (F := Ideal) ix0 = ((0 : ℝ) : EReal) := f32_zero

omit H in
theorem zero4_at : val_main_call4_v0 (F := Ideal) ix0 = ((0 : ℝ) : EReal) := f32_zero

omit H in
theorem sig_coe (z : ℝ) : Ideal.div 1 (1 + Ideal.exp (-(z : EReal))) = ((Data.sig z : ℝ) : EReal) := by
  rw [← EReal.coe_neg, exp_coe, ← EReal.coe_one, ← EReal.coe_add, div_coe _ (by positivity)]
  rfl

omit H in
theorem gate_coe (z : ℝ) (b : EReal) : Ideal.div 1 (1 + Ideal.exp (-((z : EReal) + b))) = ((Data.gate z b : ℝ) : EReal) := by
  unfold Data.gate
  induction b with
  | top =>
    rw [if_pos rfl, EReal.coe_add_top, EReal.neg_top]
    show Ideal.div 1 (1 + 0) = _
    rw [add_zero, ← EReal.coe_one, div_coe _ one_ne_zero, div_one]
  | bot =>
    rw [if_neg bot_ne_top, if_pos rfl, EReal.add_bot, EReal.neg_bot]
    show Ideal.div 1 (1 + ⊤) = _
    rw [← EReal.coe_one, EReal.coe_add_top, Ideal.div, if_neg EReal.top_ne_zero, EReal.inv_top, mul_zero, EReal.coe_zero]
  | coe y =>
    rw [if_neg (EReal.coe_ne_top _), if_neg (EReal.coe_ne_bot _), ← EReal.coe_add, sig_coe, EReal.toReal_coe]

theorem v54_at (t : Fin 4096) (c : Fin 512) :
    val_main_v54 (F := Ideal) x0 x2 x3 x4 x5 (ix2 t c) = ((D.r t c : ℝ) : EReal) := by
  pointwise [val_main_v54, val_main_v53, val_main_v52, val_main_v51, val_main_v50, val_main_v49, val_main_cst_1, val_main_cst_2]
  rw [v48_at H, gate_coe]
  rfl

theorem v69_at (t : Fin 4096) (c : Fin 512) :
    val_main_v69 (F := Ideal) x0 x2 x3 x6 x7 (ix2 t c) = ((D.ig t c : ℝ) : EReal) := by
  pointwise [val_main_v69, val_main_v68, val_main_v67, val_main_v66, val_main_v65, val_main_v64, val_main_cst_4, val_main_cst_5]
  rw [v63_at H, gate_coe]
  rfl

theorem v57_at (t : Fin 4096) (c : Fin 512) :
    val_main_v57 (F := Ideal) x0 x2 x3 x4 x5 (ix2 t c) = ((D.r t c * (1 - D.r t c) : ℝ) : EReal) := by
  pointwise [val_main_v57, val_main_v56, val_main_v55, val_main_cst_3]
  rw [v54_at H]
  norm_cast

theorem v72_at (t : Fin 4096) (c : Fin 512) :
    val_main_v72 (F := Ideal) x0 x2 x3 x6 x7 (ix2 t c) = ((D.ig t c * (1 - D.ig t c) : ℝ) : EReal) := by
  pointwise [val_main_v72, val_main_v71, val_main_v70, val_main_cst_6]
  rw [v69_at H]
  norm_cast

theorem sp_at (c : Fin 512) : val_main_v76_0 (F := Ideal) x8 (ix1 c) = ((D.sp c : ℝ) : EReal) := by
  pointwise [val_main_v76_0, val_main_call0_v4, val_main_call0_v6, val_main_call0_v11, val_main_call0_v3, val_main_call0_v2,
    val_main_call0_v5, val_main_call0_v7, val_main_call0_v8, val_main_call0_v9, val_main_call0_v10, val_main_call0_v1,
    val_main_call0_v0, val_main_call0_cst, val_main_v75, val_main_v8]
  rw [if_neg (not_not.mpr rfl), H.lam]
  have e : FloatOps.absf (F := Ideal) (φ := .f32) (-(D.lam c : EReal)) = ((|D.lam c| : ℝ) : EReal) := by
    show max (-(D.lam c : EReal)) (- -(D.lam c : EReal)) = _
    rw [neg_neg, ← EReal.coe_neg, max_coe, max_comm]; rfl
  rw [e, ← EReal.coe_neg, ← EReal.coe_neg, exp_coe, log1p_coe (by positivity), ← EReal.coe_zero, max_coe, ← EReal.coe_add]
  rfl

theorem dsp_at (c : Fin 512) : val_main_v76_1 (F := Ideal) x8 (ix1 c) = ((Data.sig (-D.lam c) : ℝ) : EReal) := by
  pointwise [val_main_v76_1, val_main_call0_v21, val_main_call0_v20, val_main_call0_v19, val_main_call0_cst_3, val_main_call0_v18,
    val_main_call0_v17, val_main_call0_cst_2, val_main_call0_v16, val_main_call0_v15, val_main_call0_cst_1, val_main_call0_v14,
    val_main_call0_v13, val_main_call0_cst_0, val_main_v75, val_main_v8]
  rw [sp_at H, H.lam, f32_top, ← EReal.coe_neg, if_neg (EReal.coe_ne_top _), if_neg (EReal.coe_ne_top _), ← EReal.coe_sub, exp_coe]
  rw [D.exp_sub_sp c]

theorem v79_at (t : Fin 4096) (c : Fin 512) :
    val_main_v79 (F := Ideal) x0 x2 x3 x4 x5 x8 (ix2 t c) = ((D.la t c : ℝ) : EReal) := by
  pointwise [val_main_v79, val_main_v78, val_main_v77, val_main_v74, val_main_v73, val_main_cst_7]
  rw [v54_at H, sp_at H, f32_neg_eight, ← EReal.coe_mul, ← EReal.coe_mul]
  rfl

theorem v84_at (t : Fin 4096) (c : Fin 512) :
    val_main_v84 (F := Ideal) x0 x2 x3 x4 x5 x8 (ix2 t c) = ((Real.exp (2 * D.la t c) : ℝ) : EReal) := by
  pointwise [val_main_v84, val_main_v82, val_main_v81, val_main_cst_8]
  rw [v79_at H, f32_two, ← EReal.coe_mul, exp_coe]

theorem v86_at (t : Fin 4096) (c : Fin 512) :
    val_main_v86 (F := Ideal) x0 x2 x3 x4 x5 x8 (ix2 t c) = ((Real.sqrt (-(Real.exp (2 * D.la t c) - 1)) : ℝ) : EReal) := by
  pointwise [val_main_v86, val_main_v85, val_main_v83, val_main_v82, val_main_v81, val_main_cst_8]
  rw [v79_at H, f32_two, ← EReal.coe_mul, exp_coe, ← EReal.coe_one, ← EReal.coe_sub, ← EReal.coe_neg, sqrt_coe (D.gap_nonneg t c)]

theorem v93_at (t : Fin 4096) (c : Fin 512) :
    val_main_v93_0 (F := Ideal) x0 x2 x3 x4 x5 x8 (ix2 t c) = ((D.mult t c : ℝ) : EReal) := by
  pointwise [val_main_v93_0, val_main_v93_1, val_main_call1_v2, val_main_call1_v0, val_main_cst_10, val_main_v92, val_main_v91, val_main_c,
    val_main_v90, val_main_v89]
  rw [v86_at H, select_first t.isLt]
  show (if _ then Ideal.ofBits .f32 0x3F800000#32 else _) = _
  rw [Cert.Common.f32_one, ite_coe]
  rfl

theorem v95_at (t : Fin 4096) (c : Fin 512) :
    val_main_v95 (F := Ideal) x0 x2 x3 x4 x5 x6 x7 x8 (ix2 t c) = ((D.u t c : ℝ) : EReal) := by
  pointwise [val_main_v95, val_main_v94]
  rw [v93_at H, v69_at H, v41_at H, ← EReal.coe_mul, ← EReal.coe_mul]
  rfl

theorem v106_at (t : Fin 4096) (c : Fin 512) :
    val_main_v106 (F := Ideal) x0 x2 x3 x4 x5 x8 (ix2 t c) = ((total (fun t => D.la t c) t : ℝ) : EReal) := by
  pointwise [val_main_v106, val_main_cst_12, val_main_v105_0, val_main_v105_1, val_main_call2_v2, val_main_call2_v3,
    val_main_v104, val_main_v103, val_main_v102, val_main_v101, val_main_v100, val_main_v99, val_main_v98,
    val_main_v97, val_main_v96]
  simp only [v79_at H, select_sge t.isLt (Fin.isLt _), zero2_at]
  simp only [ite_coe]
  rw [sum_rows fun s => if s ≤ t.val then D.la s c else 0]
  rfl

theorem v116_at (t s : Fin 4096) (c : Fin 512) :
    val_main_v116_0 (F := Ideal) x0 x2 x3 x4 x5 x8 (ix3 t s c)
      = ((if s.val ≤ t.val then Real.exp (total (fun t => D.la t c) t - total (fun t => D.la t c) s) else 0 : ℝ) : EReal) := by
  pointwise [val_main_v116_0, val_main_v116_1, val_main_call4_v2, val_main_v115, val_main_v114,
    val_main_v113_0, val_main_v113_1, val_main_v112, val_main_v111, val_main_v110, val_main_v109, val_main_v108, val_main_v107,
    val_main_call3_v2, val_main_v102, val_main_v101, val_main_v100, val_main_v99, val_main_v98,
    val_main_v97, val_main_v96]
  rw [v106_at H, v106_at H]
  simp only [select_sge t.isLt s.isLt, zero3_at, zero4_at, ← EReal.coe_sub, ite_coe, exp_coe]
  split_ifs <;> rfl

theorem v120_at (t : Fin 4096) (c : Fin 512) :
    val_main_v120 (F := Ideal) x0 x2 x3 x4 x5 x6 x7 x8 (ix2 t c) = ((D.h t c : ℝ) : EReal) := by
  pointwise [val_main_v120, val_main_v119, val_main_v118, val_main_v117, val_main_cst_15]
  simp only [v116_at H, v95_at H, ← EReal.coe_mul]
  rw [sum_rows fun s => (if s ≤ t.val then Real.exp (total (fun t => D.la t c) t - total (fun t => D.la t c) s) else 0) * D.u s c]
  rfl

theorem v121_2_at (t : Fin 4096) (c : Fin 512) :
    val_main_v121_2 (F := Ideal) x0 (ix2 t c) = ((Data.sig (D.ga t c) : ℝ) : EReal) := by
  pointwise [val_main_v121_2, val_main_call5_v4, val_main_call5_v3, val_main_call5_v2, val_main_call5_v1, val_main_call5_v0, val_main_v1,
    val_main_call5_cst, val_main_call5_cst_0]
  rw [H.ga, sig_coe]

theorem v125_at (t : Fin 4096) (c : Fin 512) :
    val_main_v125 (F := Ideal) x0 x1 (ix2 t c) = ((D.ct t c : ℝ) : EReal) := by
  pointwise [val_main_v125, val_main_v123, val_main_v121_0, val_main_v1]
  rw [v121_2_at H, H.ga, H.dy, ← EReal.coe_mul, ← EReal.coe_mul]
  rfl

theorem v126_at (t : Fin 4096) (c : Fin 512) :
    val_main_v126 (F := Ideal) x0 x1 x2 x3 x4 x5 x6 x7 x8 (ix2 t c) = ((D.dga t c : ℝ) : EReal) := by
  pointwise [val_main_v126, val_main_call6_v2, val_main_call6_v1, val_main_call6_v0, val_main_v124, val_main_v123, val_main_v121_1,
    val_main_call5_v7, val_main_call5_v6, val_main_call5_cst_1, val_main_v1]
  rw [v121_2_at H, H.ga, H.dy, v120_at H]
  simp only [← EReal.coe_one, ← EReal.coe_sub, ← EReal.coe_mul, ← EReal.coe_add]
  congr 1
  unfold Data.dga
  ring

end Cert.Reference2Ideal.Rglru

end
-- ==== Proof.Rglru.RefBackward.lean ====
/- The reference's backward lines, read at an index where the arguments are real: every stage is the value of the same name in
   `Rglru.Real`. -/
module

public import proofs.«01_k».proof.Proof.Rglru.RefForward

@[expose] public section

noncomputable section

namespace Cert.Reference2Ideal.Rglru

open Cert.Reference2Ideal Cert.Reference2Ideal.Gen Cert.Reference2Ideal.Read Cert.Rglru Idealize.ShloMosaic
open Idealize.ShloMosaic.TcCoe Idealize.SL.Sem

variable {x0 : Vec Ideal S4096x3072 .f32} {x1 : Vec Ideal S4096x1024 .f32} {x2 : Vec Ideal S1x4x512 .f32}
  {x3 : Vec Ideal S1x512 .f32} {x4 : Vec Ideal S1x8x64x64 .f32} {x5 : Vec Ideal S1x512 .f32} {x6 : Vec Ideal S1x8x64x64 .f32}
  {x7 x8 : Vec Ideal S1x512 .f32} {D : Data} (H : Holds x0 x1 x2 x3 x4 x5 x6 x7 x8 D)

include H

theorem v133_at (s : Fin 4096) (c : Fin 512) :
    val_main_v133 (F := Ideal) x0 x1 x2 x3 x4 x5 x8 (ix2 s c) = ((D.g s c : ℝ) : EReal) := by
  pointwise [val_main_v133, val_main_cst_17, val_main_v130, val_main_v129, val_main_cst_16, val_main_v128, val_main_v127]
  simp only [Fin.sum_univ_one, v116_at H, v125_at H, ← EReal.coe_mul]
  rw [sum_rows fun t => (if s.val ≤ t then Real.exp (total (fun t => D.la t c) t - total (fun t => D.la t c) s) else 0) * D.ct t c]
  rfl

theorem v115_at (t s : Fin 4096) (c : Fin 512) :
    val_main_v115 (F := Ideal) x0 x2 x3 x4 x5 x8 (ix3 t s c)
      = ((Real.exp (if s.val ≤ t.val then total (fun t => D.la t c) t - total (fun t => D.la t c) s else 0) : ℝ) : EReal) := by
  pointwise [val_main_v115, val_main_v113_0, val_main_v113_1, val_main_v112, val_main_v111, val_main_v110, val_main_v109, val_main_v108,
    val_main_v107, val_main_call3_v2, val_main_v102, val_main_v101, val_main_v100, val_main_v99, val_main_v98,
    val_main_v97, val_main_v96]
  rw [v106_at H, v106_at H]
  simp only [select_sge t.isLt s.isLt, zero3_at, ← EReal.coe_sub, ite_coe, exp_coe]

/-- The term of a pair of rows. -/
abbrev term (D : Data) (c t s : ℕ) : ℝ := pair (fun t => D.la t c) (fun t => D.u t c) (fun t => D.ct t c) t s

theorem v136_at (t s : Fin 4096) (c : Fin 512) :
    val_main_v136 (F := Ideal) x0 x1 x2 x3 x4 x5 x6 x7 x8 (ix3 t s c) = ((term D c t s : ℝ) : EReal) := by
  pointwise [val_main_v136, val_main_v113_1, val_main_v107, val_main_v102, val_main_v101, val_main_v100, val_main_v99, val_main_v98,
    val_main_v97, val_main_v96, val_main_call8_v0, val_main_call8_cst, val_main_v135, val_main_v134, val_main_v116_1, val_main_v114,
    val_main_call7_v0, val_main_call7_cst, val_main_v132, val_main_v131, val_main_v127, val_main_v117]
  rw [v115_at H, v125_at H, v95_at H, select_sge t.isLt s.isLt, select_sge t.isLt s.isLt]
  unfold term pair
  split_ifs
  · rw [← EReal.coe_mul, ← EReal.coe_mul]
  · rfl

theorem v144_at (t : Fin 4096) (c : Fin 512) :
    val_main_v144 (F := Ideal) x0 x1 x2 x3 x4 x5 x6 x7 x8 (ix2 t c)
      = ((-(∑ p ∈ Finset.range 4096, term D c p t) + ∑ s ∈ Finset.range 4096, term D c t s : ℝ) : EReal) := by
  pointwise [val_main_v144, val_main_v143, val_main_v142, val_main_v141, val_main_v140, val_main_v139, val_main_v138, val_main_v137,
    val_main_cst_18, val_main_cst_19, val_main_cst_20, val_main_cst_21]
  simp only [Fin.sum_univ_one, v136_at H, ← EReal.coe_neg]
  rw [sum_rows fun p => -term D c p t, sum_rows fun s => term D c t s, ← EReal.coe_add, Finset.sum_neg_distrib]

theorem v147_at (t : Fin 4096) (c : Fin 512) :
    val_main_v147 (F := Ideal) x0 x1 x2 x3 x4 x5 x6 x7 x8 (ix2 t c) = ((D.g t c * D.hBefore t c * D.a t c : ℝ) : EReal) := by
  pointwise [val_main_v147, val_main_cst_22, val_main_v146, val_main_call9_v2, val_main_call9_cst_0, val_main_call9_v1, val_main_call9_v0,
    val_main_call9_cst, val_main_v145, val_main_v105_1, val_main_v103, val_main_v102, val_main_v101, val_main_v100, val_main_v99, val_main_v98,
    val_main_v97, val_main_v96]
  simp only [Fin.sum_univ_one, v144_at H, select_sge (Fin.isLt _) t.isLt, ← EReal.coe_zero, ite_coe]
  rw [sum_rows fun j => if t.val ≤ j then -(∑ p ∈ Finset.range 4096, term D c p j) + ∑ s ∈ Finset.range 4096, term D c j s else 0]
  obtain ⟨t, ht⟩ := t
  rcases t with _ | j
  · rw [show (∑ j ∈ Finset.range 4096, if (⟨0, ht⟩ : Fin 4096).val ≤ j then -(∑ p ∈ Finset.range 4096, term D c p j) + ∑ s ∈ Finset.range 4096, term D c j s else 0) = 0 from pairs_zero _ _ _]
    unfold Data.hBefore
    rw [if_pos rfl, mul_zero, zero_mul]
  · refine congrArg _ ((pairs_succ _ _ _ ht).trans ?_)
    unfold Data.hBefore
    rw [if_neg (Nat.succ_ne_zero j)]
    rfl

/-- The gradient of the logarithm of the decay; where the gate is shut the lines divide by zero, and what they get is later
    multiplied by zero. -/
theorem v158_at (t : Fin 4096) (c : Fin 512) :
    D.r t c = 0 ∨ val_main_v158 (F := Ideal) x0 x1 x2 x3 x4 x5 x6 x7 x8 (ix2 t c) = ((D.dla t c : ℝ) : EReal) := by
  refine or_iff_not_imp_left.mpr fun hr => ?_
  pointwise [val_main_v158, val_main_v157, val_main_v156, val_main_cst_23, val_main_v155, val_main_v154, val_main_v153, val_main_v152,
    val_main_v93_1, val_main_v92, val_main_v91, val_main_c, val_main_v90, val_main_v89, val_main_call10_v0, val_main_call10_cst, val_main_v149,
    val_main_v94, val_main_v88, val_main_v87, val_main_cst_9]
  rw [v147_at H, v133_at H, v69_at H, v41_at H, v86_at H, v84_at H, f32_two, f32_half, select_first t.isLt, div_coe _ (Real.sqrt_pos.mpr (D.gap_pos hr)).ne']
  simp only [← EReal.coe_mul, ← EReal.coe_neg, ← EReal.coe_zero, ite_coe, ← EReal.coe_add]
  congr 1
  unfold Data.dla
  congr 1
  by_cases h0 : t.val = 0
  · rw [if_pos h0, if_pos h0]; ring
  · rw [if_neg h0, if_neg h0]
    have hm : D.mult t c = Real.sqrt (-(Real.exp (2 * D.la t c) - 1)) := if_neg h0
    have ha : Real.exp (2 * D.la t c) = D.a t c * D.a t c := by unfold Data.a; rw [← Real.exp_add, two_mul]
    rw [← hm, ha]
    field_simp

theorem v179_at (t : Fin 4096) (c : Fin 512) :
    val_main_v179 (F := Ideal) x0 x1 x2 x3 x4 x5 x6 x7 x8 (ix2 t c) = ((D.dpr t c : ℝ) : EReal) := by
  pointwise [val_main_v179, val_main_v168, val_main_v167, val_main_cst_26, val_main_v163, val_main_v162, val_main_v77]
  rcases v158_at H t c with h | h
  · rw [v57_at H, h, zero_mul, EReal.coe_zero, mul_zero]
    unfold Data.dpr
    rw [h, mul_zero, zero_mul, EReal.coe_zero]
  rw [h, v57_at H, sp_at H, f32_neg_eight]
  simp only [← EReal.coe_mul]
  congr 1
  unfold Data.dpr
  ring

theorem v169_at (t : Fin 4096) (c : Fin 512) :
    val_main_v169 (F := Ideal) x0 x1 x2 x3 x4 x5 x6 x7 x8 (ix2 t c) = ((D.dpi t c : ℝ) : EReal) := by
  pointwise [val_main_v169, val_main_v151, val_main_v148]
  rw [v133_at H, v93_at H, v72_at H, v41_at H]
  simp only [← EReal.coe_mul]
  congr 1
  unfold Data.dpi
  ring

theorem v191_at (t : Fin 4096) (c : Fin 512) :
    val_main_v191 (F := Ideal) x0 x1 x2 x3 x4 x5 x6 x7 x8 (ix2 t c) = ((D.dxc t c : ℝ) : EReal) := by
  pointwise [val_main_v191, val_main_v190, val_main_v187, val_main_v186, val_main_v185, val_main_v184, val_main_v183, val_main_v176,
    val_main_v175, val_main_v174, val_main_v173, val_main_v150, val_main_v148, val_main_v4, val_main_v6]
  simp only [v133_at H, v93_at H, v69_at H, v179_at H, v169_at H, H.wa, H.wx, ← EReal.coe_mul, sum_coe, ← EReal.coe_add]
  congr 1
  unfold Data.dxc Data.blockBack
  ring

theorem v160_at (c : Fin 512) : val_main_v160 (F := Ideal) x0 x1 x2 x3 x4 x5 x6 x7 x8 (ix1 c)
    = ((∑ t : Fin 4096, D.dla t c * (-8 * D.r t c) : ℝ) : EReal) := by
  pointwise [val_main_v160, val_main_cst_24, val_main_v159, val_main_v74, val_main_v73, val_main_cst_7]
  have h : ∀ t : Fin 4096, (((-8 : ℝ) : EReal) * ((D.r t c : ℝ) : EReal)) * val_main_v158 (F := Ideal) x0 x1 x2 x3 x4 x5 x6 x7 x8 (ix2 t c)
      = ((D.dla t c * (-8 * D.r t c) : ℝ) : EReal) := fun t => by
    rw [mul_comm]
    rcases v158_at H t c with h | h
    · rw [h, EReal.coe_zero, mul_zero, mul_zero, mul_zero, mul_zero, EReal.coe_zero]
    · rw [h, ← EReal.coe_mul, ← EReal.coe_mul]
  simp only [v54_at H, f32_neg_eight, h, sum_coe]

theorem v166_at (c : Fin 512) : val_main_v166 (F := Ideal) x0 x1 x2 x3 x4 x5 x6 x7 x8 (ix1 c) = ((D.dlam c : ℝ) : EReal) := by
  pointwise [val_main_v166, val_main_v165, val_main_v164, val_main_cst_25, val_main_v161]
  simp only [Fin.sum_univ_one, v160_at H, dsp_at H, ← EReal.coe_mul, ← EReal.coe_neg]
  refine congrArg _ ?_
  unfold Data.dlam
  rw [mul_neg]

theorem v126r_at (t : Fin 4096) (c : Fin 512) : val_main_v242 (F := Ideal) x0 x1 x2 x3 x4 x5 x6 x7 x8 (ix2 t ⟨512 + c.val, by have := c.isLt; omega⟩) = ((D.dga t c : ℝ) : EReal) := by
  pointwise [val_main_v242, val_main_v241]
  exact v126_at H t c

theorem dxa_at (t : Fin 4096) (c : Fin 512) : val_main_v242 (F := Ideal) x0 x1 x2 x3 x4 x5 x6 x7 x8 (ix2 t ⟨c.val, by have := c.isLt; omega⟩) = ((D.dxa t c : ℝ) : EReal) := by
  pointwise [val_main_v242, val_main_v241, val_main_v238, val_main_v236, val_main_v235, val_main_cst_48, val_main_v230, val_main_v229, val_main_v222,
    val_main_v221, val_main_cst_42, val_main_v216, val_main_v215, val_main_v211, val_main_v210, val_main_cst_38, val_main_v205, val_main_v204, val_main_v200,
    val_main_cst_34, val_main_v196, val_main_v195, val_main_v38, val_main_v37, val_main_v36, val_main_v31, val_main_v30, val_main_v29, val_main_v24, val_main_v23,
    val_main_v22, val_main_v15, val_main_v14, val_main_v13, val_main_v2]
  simp only [v191_at H, H.cw, ← EReal.coe_mul, ← EReal.coe_zero, dite_eq_ite, ite_coe, ← EReal.coe_add]
  congr 1
  unfold Data.dxa Data.later
  have h0 : t.val + 0 < 4096 := t.isLt
  rw [if_pos h0, show (3 + t.val - 2) = t.val + 1 by omega, show (3 + t.val - 1) = t.val + 2 by omega, show 3 + t.val = t.val + 3 by omega]
  simp only [show (2 ≤ t.val + 3 ∧ t.val + 1 < 4096) ↔ t.val + 1 < 4096 by omega, show (1 ≤ t.val + 3 ∧ t.val + 2 < 4096) ↔ t.val + 2 < 4096 by omega]
  rfl

theorem sm0_at (c : Fin 512) : val_main_v248 (F := Ideal) x0 x1 x2 x3 x4 x5 x6 x7 x8 (ix2 0 c) = ((∑ t : Fin 4096, D.dxc t c : ℝ) : EReal) := by
  pointwise [val_main_v248, val_main_v247, val_main_v243, val_main_v225, val_main_cst_44, val_main_v224, val_main_v223, val_main_cst_43]
  simp only [Fin.sum_univ_one, v191_at H, sum_coe]

theorem sm1_at (c : Fin 512) : val_main_v248 (F := Ideal) x0 x1 x2 x3 x4 x5 x6 x7 x8 (ix2 1 c) = ((∑ t : Fin 4096, D.dpr t c : ℝ) : EReal) := by
  pointwise [val_main_v248, val_main_v247, val_main_v244, val_main_v182, val_main_cst_30, val_main_v181, val_main_v180, val_main_cst_29]
  simp only [Fin.sum_univ_one, v179_at H, sum_coe]

theorem sm2_at (c : Fin 512) : val_main_v248 (F := Ideal) x0 x1 x2 x3 x4 x5 x6 x7 x8 (ix2 2 c) = ((∑ t : Fin 4096, D.dpi t c : ℝ) : EReal) := by
  pointwise [val_main_v248, val_main_v247, val_main_v245, val_main_v172, val_main_cst_28, val_main_v171, val_main_v170, val_main_cst_27]
  simp only [Fin.sum_univ_one, v169_at H, sum_coe]

theorem sm3_at (c : Fin 512) : val_main_v248 (F := Ideal) x0 x1 x2 x3 x4 x5 x6 x7 x8 (ix2 3 c) = ((D.dlam c : ℝ) : EReal) := by
  pointwise [val_main_v248, val_main_v247, val_main_v246]
  rw [v166_at H]

theorem smk_at (k : Fin 4) (c : Fin 512) : val_main_v248 (F := Ideal) x0 x1 x2 x3 x4 x5 x6 x7 x8 (ix2 ⟨4 + k.val, by have := k.isLt; omega⟩ c) = ((∑ t : Fin 4096, D.dxc t c * D.tap k t c : ℝ) : EReal) := by
  fin_cases k
  all_goals
    pointwise [val_main_v248, val_main_v234, val_main_v233, val_main_v232, val_main_v231, val_main_v228, val_main_v227, val_main_v226, val_main_cst_45,
      val_main_cst_46, val_main_cst_47, val_main_v220, val_main_v219, val_main_v218, val_main_v217, val_main_v214, val_main_v213, val_main_v212, val_main_cst_39,
      val_main_cst_40, val_main_cst_41, val_main_v209, val_main_v208, val_main_v207, val_main_v206, val_main_v203, val_main_v202, val_main_v201, val_main_cst_35,
      val_main_cst_36, val_main_cst_37, val_main_v199, val_main_v198, val_main_v197, val_main_v194, val_main_v193, val_main_v192, val_main_cst_31, val_main_cst_32,
      val_main_cst_33, val_main_v35, val_main_v28, val_main_v21, val_main_v12]
    simp only [Fin.sum_univ_one, v191_at H, v10_at H, sum_coe, ← EReal.coe_mul]
    refine congrArg _ (Finset.sum_congr rfl fun t _ => ?_)
    unfold Data.tap
    first | (rw [mul_comm, Nat.add_comm]; done) | exact mul_comm _ _

theorem rga_at (b : Fin 8) (i j : Fin 64) : val_main_v240 (F := Ideal) x0 x1 x2 x3 x4 x5 x6 x7 x8 (ix2 ⟨b.val * 64 + i.val, by have := b.isLt; have := i.isLt; omega⟩ ⟨j.val, by have := j.isLt; omega⟩)
      = ((∑ t : Fin 4096, D.conv t (b * 64 + i) * D.dpr t (b * 64 + j) : ℝ) : EReal) := by
  pointwise [val_main_v240, val_main_v239, val_main_v189, val_main_v188, val_main_v184, val_main_v183, val_main_v42]
  simp only [v179_at H, v41_at H, sum_coe, ← EReal.coe_mul]
  exact congrArg _ (Finset.sum_congr rfl fun t _ => mul_comm _ _)

theorem rgx_at (b : Fin 8) (i j : Fin 64) : val_main_v240 (F := Ideal) x0 x1 x2 x3 x4 x5 x6 x7 x8 (ix2 ⟨b.val * 64 + i.val, by have := b.isLt; have := i.isLt; omega⟩ ⟨64 + j.val, by have := j.isLt; omega⟩)
      = ((∑ t : Fin 4096, D.conv t (b * 64 + i) * D.dpi t (b * 64 + j) : ℝ) : EReal) := by
  pointwise [val_main_v240, val_main_v239, val_main_v178, val_main_v177, val_main_v174, val_main_v173, val_main_v42]
  simp only [v169_at H, v41_at H, sum_coe, ← EReal.coe_mul]
  exact congrArg _ (Finset.sum_congr rfl fun t _ => mul_comm _ _)

end Cert.Reference2Ideal.Rglru

end
-- ==== Proof.Rglru.HostGates.lean ====
/- What the lines before the kernel compute, first part: the convolution and the two gates. -/
module

public import proofs.«01_k».proof.Proof.Rglru.RefForward
public import proofs.«01_k».proof.Proof.Gen.Kernel2Ideal.Launch
public import Idealize.ShloMosaic.Lib.StableHlo.ReadAt

@[expose] public section

set_option maxRecDepth 16384

noncomputable section

namespace Cert.Rglru.Host

open Cert.Kernel2Ideal Cert.Kernel2Ideal.Gen Cert.Rglru Idealize.ShloMosaic
open Idealize.ShloMosaic.TcCoe Idealize.SL.Sem
open Cert.Reference2Ideal.Rglru (gate_coe)

/-- A device's buffers. -/
abbrev Bufs := Valuation τ sig (Elt Ideal)

/-- The arguments hold the real numbers `D`. -/
abbrev Args (W : Bufs) (D : Data) : Prop :=
  Cert.Reference2Ideal.Rglru.Holds (W (Proc.devRef .tc main_arg0)) (W (Proc.devRef .tc main_arg1)) (W (Proc.devRef .tc main_arg2))
    (W (Proc.devRef .tc main_arg3)) (W (Proc.devRef .tc main_arg4)) (W (Proc.devRef .tc main_arg5)) (W (Proc.devRef .tc main_arg6))
    (W (Proc.devRef .tc main_arg7)) (W (Proc.devRef .tc main_arg8)) D

variable {W : Bufs} {D : Data} (H : Args W D)

include H

theorem up_x (t : Fin 4096) (j : Fin 512) :
    (StableHlo.upto hostOps0 W 10 (no_index (Proc.devRef .tc main_v0)) : Vec Ideal S4096x512 .f32) (ix2 t j) = ((D.x t j : ℝ) : EReal) := by
  after_reads_at
  exact H.x t j

omit H in
theorem up_zero (t : Fin 3) (j : Fin 512) :
    (StableHlo.upto hostOps0 W 10 (no_index (Proc.devRef .tc main_v8)) : Vec Ideal S3x512 .f32) (ix2 t j) = ((0 : ℝ) : EReal) := by
  after_reads_at
  exact EReal.coe_zero.symm

theorem conv_at (t : Fin 4096) (j : Fin 512) :
    (StableHlo.after hostOps0 W (Proc.devRef .tc main_v39) : Vec Ideal S4096x512 .f32) (ix2 t j) = ((D.conv t j : ℝ) : EReal) := by
  after_reads_at
  simp only [up_x H, up_zero, dite_eq_ite, ite_coe, H.cw, H.cb, ← EReal.coe_mul, ← EReal.coe_add]
  simp only [Data.conv, Data.tap, Nat.add_comm _ t.val, Nat.add_zero]
  rfl

theorem r_at (t : Fin 4096) (j : Fin 512) :
    (StableHlo.after hostOps0 W (Proc.devRef .tc main_v61) : Vec Ideal S4096x512 .f32) (ix2 t j) = ((D.r t j : ℝ) : EReal) := by
  after_reads_at
  simp only [up_x H, up_zero, dite_eq_ite, ite_coe, H.cw, H.cb, H.wa, H.ba, ← EReal.coe_mul, ← EReal.coe_add, sum_coe, gate_coe]
  simp only [Data.r, Data.blockMap, Data.conv, Data.tap, Nat.add_comm _ t.val, Nat.add_zero]
  exact congrArg (fun z : ℝ => ((Data.gate z (D.ba j) : ℝ) : EReal)) (Finset.sum_congr rfl fun i _ => mul_comm _ _)

theorem ig_at (t : Fin 4096) (j : Fin 512) :
    (StableHlo.after hostOps0 W (Proc.devRef .tc main_v77) : Vec Ideal S4096x512 .f32) (ix2 t j) = ((D.ig t j : ℝ) : EReal) := by
  after_reads_at
  simp only [up_x H, up_zero, dite_eq_ite, ite_coe, H.cw, H.cb, H.wx, H.bx, ← EReal.coe_mul, ← EReal.coe_add, sum_coe, gate_coe]
  simp only [Data.ig, Data.blockMap, Data.conv, Data.tap, Nat.add_comm _ t.val, Nat.add_zero]
  exact congrArg (fun z : ℝ => ((Data.gate z (D.bx j) : ℝ) : EReal)) (Finset.sum_congr rfl fun i _ => mul_comm _ _)

theorem pre_at (t : Fin 4096) (j : Fin 512) :
    (StableHlo.after hostOps0 W (Proc.devRef .tc main_v79) : Vec Ideal S4096x512 .f32) (ix2 t j) = ((-8 * D.r t j : ℝ) : EReal) := by
  after_reads_at
  simp only [up_x H, up_zero, dite_eq_ite, ite_coe, H.cw, H.cb, H.wa, H.ba, ← EReal.coe_mul, ← EReal.coe_add, sum_coe, gate_coe, f32_neg_eight]
  simp only [Data.r, Data.blockMap, Data.conv, Data.tap, Nat.add_comm _ t.val, Nat.add_zero]
  exact congrArg (fun z : ℝ => ((-8 * Data.gate z (D.ba j) : ℝ) : EReal)) (Finset.sum_congr rfl fun i _ => mul_comm _ _)

theorem neg_lam_at (j : Fin 512) :
    (StableHlo.after hostOps0 W (Proc.devRef .tc main_v80) : Vec Ideal S512 .f32) (ix1 j) = ((-D.lam j : ℝ) : EReal) := by
  after_reads_at
  exact congrArg (- ·) (H.lam j)

theorem x_at (t : Fin 4096) (j : Fin 512) :
    (StableHlo.after hostOps0 W (Proc.devRef .tc main_v0) : Vec Ideal S4096x512 .f32) (ix2 t j) = ((D.x t j : ℝ) : EReal) := by
  after_reads_at
  exact H.x t j

theorem ga_at (t : Fin 4096) (j : Fin 512) :
    (StableHlo.after hostOps0 W (Proc.devRef .tc main_v1) : Vec Ideal S4096x512 .f32) (ix2 t j) = ((D.ga t j : ℝ) : EReal) := by
  after_reads_at
  exact H.ga t j

/-- The lines leave the arguments as they are. -/
theorem args_gates : Args (StableHlo.after hostOps0 W) D := by
  refine ⟨?_, ?_, ?_, ?_, ?_, ?_, ?_, ?_, ?_, ?_⟩
  all_goals after_reads_simp
  exacts [H.x, H.ga, H.dy, H.cw, H.cb, H.wa, H.ba, H.wx, H.bx, H.lam]

/-- What later lines read, and what none of them writes: the branch's inputs and the gates. -/
structure Kept (W : Bufs) (D : Data) : Prop where
  args : Args W D
  x : ∀ (t : Fin 4096) (j : Fin 512), (W (Proc.devRef .tc main_v0) : Vec Ideal S4096x512 .f32) (ix2 t j) = ((D.x t j : ℝ) : EReal)
  ga : ∀ (t : Fin 4096) (j : Fin 512), (W (Proc.devRef .tc main_v1) : Vec Ideal S4096x512 .f32) (ix2 t j) = ((D.ga t j : ℝ) : EReal)
  r : ∀ (t : Fin 4096) (j : Fin 512), (W (Proc.devRef .tc main_v61) : Vec Ideal S4096x512 .f32) (ix2 t j) = ((D.r t j : ℝ) : EReal)
  ig : ∀ (t : Fin 4096) (j : Fin 512), (W (Proc.devRef .tc main_v77) : Vec Ideal S4096x512 .f32) (ix2 t j) = ((D.ig t j : ℝ) : EReal)

/-- After the first stretch. -/
structure Gates (W : Bufs) (D : Data) : Prop where
  kept : Kept W D
  conv : ∀ (t : Fin 4096) (j : Fin 512), (W (Proc.devRef .tc main_v39) : Vec Ideal S4096x512 .f32) (ix2 t j) = ((D.conv t j : ℝ) : EReal)
  pre : ∀ (t : Fin 4096) (j : Fin 512), (W (Proc.devRef .tc main_v79) : Vec Ideal S4096x512 .f32) (ix2 t j) = ((-8 * D.r t j : ℝ) : EReal)
  lam : ∀ j : Fin 512, (W (Proc.devRef .tc main_v80) : Vec Ideal S512 .f32) (ix1 j) = ((-D.lam j : ℝ) : EReal)

theorem gates : Gates (StableHlo.after hostOps0 W) D where
  kept := ⟨args_gates H, x_at H, ga_at H, r_at H, ig_at H⟩
  conv := conv_at H
  pre := pre_at H
  lam := neg_lam_at H

end Cert.Rglru.Host

end
-- ==== Proof.Rglru.HostDecay.lean ====
/- What the lines before the kernel compute, second part: the decays and the recurrence's inputs. -/
module

public import proofs.«01_k».proof.Proof.Rglru.HostGates

@[expose] public section

set_option maxRecDepth 16384

noncomputable section

namespace Cert.Rglru.Host

open Cert.Kernel2Ideal Cert.Kernel2Ideal.Gen Cert.Rglru Idealize.ShloMosaic
open Idealize.ShloMosaic.TcCoe Idealize.SL.Sem

variable {W : Bufs} {D : Data}

/-- After the softplus and the decays: the logarithm of the decay, the decay, and the factor of the recurrence's input. -/
structure Decays (W : Bufs) (D : Data) : Prop where
  kept : Kept W D
  conv : ∀ (t : Fin 4096) (j : Fin 512), (W (Proc.devRef .tc main_v39) : Vec Ideal S4096x512 .f32) (ix2 t j) = ((D.conv t j : ℝ) : EReal)
  la : ∀ (t : Fin 4096) (j : Fin 512), (W (Proc.devRef .tc main_v84) : Vec Ideal S4096x512 .f32) (ix2 t j) = ((D.la t j : ℝ) : EReal)
  a : ∀ (t : Fin 4096) (j : Fin 512), (W (Proc.devRef .tc main_v85) : Vec Ideal S4096x512 .f32) (ix2 t j) = ((D.a t j : ℝ) : EReal)
  mult : ∀ (t : Fin 4096) (j : Fin 512), (W (Proc.devRef .tc main_v95) : Vec Ideal S4096x512 .f32) (ix2 t j) = ((D.mult t j : ℝ) : EReal)

theorem softplus_at (G : Gates W D) (j : Fin 512) :
    (StableHlo.after hostOps0_1 W (Proc.devRef .tc main_v81) : Vec Ideal S512 .f32) (ix1 j) = ((D.sp j : ℝ) : EReal) := by
  after_reads_at
  rw [if_neg (not_not.mpr rfl), G.lam]
  have e : FloatOps.absf (F := Ideal) (φ := .f32) ((-D.lam j : ℝ) : EReal) = ((|D.lam j| : ℝ) : EReal) := by
    show max ((-D.lam j : ℝ) : EReal) (-((-D.lam j : ℝ) : EReal)) = _
    rw [← EReal.coe_neg, neg_neg, max_coe, max_comm]; rfl
  rw [e, ← EReal.coe_neg, exp_coe, log1p_coe (by positivity), ← EReal.coe_zero, max_coe, ← EReal.coe_add]
  rfl

theorem kept_of (K : Kept W D) : Kept (StableHlo.after hostOps0_3 (StableHlo.after hostOps0_2 (StableHlo.after hostOps0_1 W))) D := by
  refine ⟨⟨?_, ?_, ?_, ?_, ?_, ?_, ?_, ?_, ?_, ?_⟩, ?_, ?_, ?_, ?_⟩
  all_goals after_reads_simp
  exacts [K.args.x, K.args.ga, K.args.dy, K.args.cw, K.args.cb, K.args.wa, K.args.ba, K.args.wx, K.args.bx, K.args.lam, K.x, K.ga, K.r, K.ig]

structure Softplus (W : Bufs) (D : Data) : Prop where
  pre : ∀ (t : Fin 4096) (j : Fin 512), (W (Proc.devRef .tc main_v79) : Vec Ideal S4096x512 .f32) (ix2 t j) = ((-8 * D.r t j : ℝ) : EReal)
  sp : ∀ j : Fin 512, (W (Proc.devRef .tc main_v81) : Vec Ideal S512 .f32) (ix1 j) = ((D.sp j : ℝ) : EReal)

theorem softplus (G : Gates W D) : Softplus (StableHlo.after hostOps0_1 W) D where
  pre := fun t j => by after_reads_simp; exact G.pre t j
  sp := softplus_at G

theorem la_at (P : Softplus W D) (t : Fin 4096) (j : Fin 512) :
    (StableHlo.after hostOps0_3 (StableHlo.after hostOps0_2 W) (Proc.devRef .tc main_v84) : Vec Ideal S4096x512 .f32) (ix2 t j) = ((D.la t j : ℝ) : EReal) := by
  after_reads_at
  rw [P.pre, P.sp, ← EReal.coe_mul]
  rfl

theorem a_at (P : Softplus W D) (t : Fin 4096) (j : Fin 512) :
    (StableHlo.after hostOps0_3 (StableHlo.after hostOps0_2 W) (Proc.devRef .tc main_v85) : Vec Ideal S4096x512 .f32) (ix2 t j) = ((D.a t j : ℝ) : EReal) := by
  after_reads_at
  rw [P.pre, P.sp, ← EReal.coe_mul, exp_coe]
  rfl

theorem mult_at (P : Softplus W D) (t : Fin 4096) (j : Fin 512) :
    (StableHlo.after hostOps0_3 (StableHlo.after hostOps0_2 W) (Proc.devRef .tc main_v95) : Vec Ideal S4096x512 .f32) (ix2 t j) = ((D.mult t j : ℝ) : EReal) := by
  after_reads_at
  rw [P.pre, P.sp, ← EReal.coe_mul, f32_two, ← EReal.coe_mul, exp_coe, ← EReal.coe_one, ← EReal.coe_sub, ← EReal.coe_neg, sqrt_coe (show (0 : ℝ) ≤ -(Real.exp (2 * (-8 * D.r t j * D.sp j)) - 1) from (D.gap_nonneg t j)), select_first t.isLt]
  show (if _ then Ideal.ofBits .f32 0x3F800000#32 else _) = _
  rw [Cert.Common.f32_one, ite_coe]
  rfl

theorem decays (G : Gates W D) : Decays (StableHlo.after hostOps0_3 (StableHlo.after hostOps0_2 (StableHlo.after hostOps0_1 W))) D where
  kept := kept_of G.kept
  conv := fun t j => by after_reads_simp; exact G.conv t j
  la := la_at (softplus G)
  a := a_at (softplus G)
  mult := mult_at (softplus G)

/-- After the masked sums' terms are laid out: the recurrence's inputs and the logarithms of the decays up to each row. -/
structure Masked (W : Bufs) (D : Data) : Prop where
  kept : Kept W D
  a : ∀ (t : Fin 4096) (j : Fin 512), (W (Proc.devRef .tc main_v85) : Vec Ideal S4096x512 .f32) (ix2 t j) = ((D.a t j : ℝ) : EReal)
  mult : ∀ (t : Fin 4096) (j : Fin 512), (W (Proc.devRef .tc main_v95) : Vec Ideal S4096x512 .f32) (ix2 t j) = ((D.mult t j : ℝ) : EReal)
  u : ∀ (t : Fin 4096) (j : Fin 512), (W (Proc.devRef .tc main_v97) : Vec Ideal S4096x512 .f32) (ix2 t j) = ((D.u t j : ℝ) : EReal)
  mask : ∀ t s : Fin 4096, (W (Proc.devRef .tc main_v104) : Vec Ideal S4096x4096 .i1) (ix2 t s) = IntOp.cmpi .sge (BitVec.ofNat 32 t) (BitVec.ofNat 32 s)
  upTo : ∀ (t s : Fin 4096) (j : Fin 512), (W (Proc.devRef .tc main_v107) : Vec Ideal S4096x4096x512 .f32) (ix3 t s j) = ((if s.val ≤ t.val then D.la s j else 0 : ℝ) : EReal)

theorem kept_of_masked (K : Kept W D) : Kept (StableHlo.after hostOps0_5 (StableHlo.after hostOps0_4 W)) D := by
  refine ⟨⟨?_, ?_, ?_, ?_, ?_, ?_, ?_, ?_, ?_, ?_⟩, ?_, ?_, ?_, ?_⟩
  all_goals after_reads_simp
  exacts [K.args.x, K.args.ga, K.args.dy, K.args.cw, K.args.cb, K.args.wa, K.args.ba, K.args.wx, K.args.bx, K.args.lam, K.x, K.ga, K.r, K.ig]

theorem masked (G : Decays W D) : Masked (StableHlo.after hostOps0_5 (StableHlo.after hostOps0_4 W)) D where
  kept := kept_of_masked G.kept
  a := fun t j => by after_reads_simp; exact G.a t j
  mult := fun t j => by after_reads_simp; exact G.mult t j
  u := fun t j => by
    after_reads_at
    rw [G.mult, G.kept.ig, G.conv, ← EReal.coe_mul, ← EReal.coe_mul]
    rfl
  mask := fun t s => by after_reads_at
  upTo := fun t s j => by
    after_reads_at
    rw [G.la, select_sge t.isLt s.isLt]
    show (if _ then _ else Ideal.ofBits .f32 0x00000000#32) = _
    rw [f32_zero, ite_coe]

/-- After the sums: the differences of the summed logarithms. -/
structure Summed (W : Bufs) (D : Data) : Prop where
  kept : Kept W D
  a : ∀ (t : Fin 4096) (j : Fin 512), (W (Proc.devRef .tc main_v85) : Vec Ideal S4096x512 .f32) (ix2 t j) = ((D.a t j : ℝ) : EReal)
  mult : ∀ (t : Fin 4096) (j : Fin 512), (W (Proc.devRef .tc main_v95) : Vec Ideal S4096x512 .f32) (ix2 t j) = ((D.mult t j : ℝ) : EReal)
  u : ∀ (t : Fin 4096) (j : Fin 512), (W (Proc.devRef .tc main_v97) : Vec Ideal S4096x512 .f32) (ix2 t j) = ((D.u t j : ℝ) : EReal)
  mask : ∀ t s : Fin 4096, (W (Proc.devRef .tc main_v104) : Vec Ideal S4096x4096 .i1) (ix2 t s) = IntOp.cmpi .sge (BitVec.ofNat 32 t) (BitVec.ofNat 32 s)
  mask3 : ∀ t s : Fin 4096, (W (Proc.devRef .tc main_v109) : Vec Ideal S4096x4096x1 .i1) (ix3 t s 0) = IntOp.cmpi .sge (BitVec.ofNat 32 t) (BitVec.ofNat 32 s)
  zero : (W (Proc.devRef .tc main_cst_11) : Vec Ideal S_ .f32) ix0 = ((0 : ℝ) : EReal)
  gap : ∀ (t s : Fin 4096) (j : Fin 512), (W (Proc.devRef .tc main_v114) : Vec Ideal S4096x4096x512 .f32) (ix3 t s j) = ((total (fun t => D.la t j) t - total (fun t => D.la t j) s : ℝ) : EReal)

theorem kept_of_summed (K : Kept W D) : Kept (StableHlo.after hostOps0_6 W) D := by
  refine ⟨⟨?_, ?_, ?_, ?_, ?_, ?_, ?_, ?_, ?_, ?_⟩, ?_, ?_, ?_, ?_⟩
  all_goals after_reads_simp
  exacts [K.args.x, K.args.ga, K.args.dy, K.args.cw, K.args.cb, K.args.wa, K.args.ba, K.args.wx, K.args.bx, K.args.lam, K.x, K.ga, K.r, K.ig]

theorem summed (G : Masked W D) : Summed (StableHlo.after hostOps0_6 W) D where
  kept := kept_of_summed G.kept
  a := fun t j => by after_reads_simp; exact G.a t j
  mult := fun t j => by after_reads_simp; exact G.mult t j
  u := fun t j => by after_reads_simp; exact G.u t j
  mask := fun t s => by after_reads_simp; exact G.mask t s
  mask3 := fun t s => by after_reads_at; exact G.mask t s
  zero := by after_reads_at; exact EReal.coe_zero.symm
  gap := fun t s j => by
    after_reads_at
    simp only [G.upTo]
    rw [sum_rows fun q => if q ≤ t.val then D.la q j else 0, sum_rows fun q => if q ≤ s.val then D.la q j else 0]
    rw [← EReal.coe_sub]
    rfl

end Cert.Rglru.Host

end
-- ==== Proof.Rglru.HostStates.lean ====
/- What the lines before the kernel compute, last part: the states, and the kernel's arrays. -/
module

public import proofs.«01_k».proof.Proof.Rglru.HostDecay
public import Idealize.ShloMosaic.Lib.Pipeline.Frame

@[expose] public section

set_option maxRecDepth 16384

noncomputable section

namespace Cert.Rglru.Host

open Cert.Kernel2Ideal Cert.Kernel2Ideal.Gen Cert.Rglru Idealize.ShloMosaic
open Idealize.ShloMosaic.TcCoe Idealize.SL.Sem

variable {W : Bufs} {D : Data}

/-- After the weights of the states' sums. -/
structure Weighted (W : Bufs) (D : Data) : Prop where
  kept : Kept W D
  a : ∀ (t : Fin 4096) (j : Fin 512), (W (Proc.devRef .tc main_v85) : Vec Ideal S4096x512 .f32) (ix2 t j) = ((D.a t j : ℝ) : EReal)
  mult : ∀ (t : Fin 4096) (j : Fin 512), (W (Proc.devRef .tc main_v95) : Vec Ideal S4096x512 .f32) (ix2 t j) = ((D.mult t j : ℝ) : EReal)
  u : ∀ (t : Fin 4096) (j : Fin 512), (W (Proc.devRef .tc main_v97) : Vec Ideal S4096x512 .f32) (ix2 t j) = ((D.u t j : ℝ) : EReal)
  weight : ∀ (t s : Fin 4096) (j : Fin 512), (W (Proc.devRef .tc main_v118) : Vec Ideal S4096x4096x512 .f32) (ix3 t s j)
    = ((if s.val ≤ t.val then Real.exp (total (fun t => D.la t j) t - total (fun t => D.la t j) s) else 0 : ℝ) : EReal)

theorem kept_of_weighted (K : Kept W D) : Kept (StableHlo.after hostOps0_9 (StableHlo.after hostOps0_8 (StableHlo.after hostOps0_7 W))) D := by
  refine ⟨⟨?_, ?_, ?_, ?_, ?_, ?_, ?_, ?_, ?_, ?_⟩, ?_, ?_, ?_, ?_⟩
  all_goals after_reads_simp
  exacts [K.args.x, K.args.ga, K.args.dy, K.args.cw, K.args.cb, K.args.wa, K.args.ba, K.args.wx, K.args.bx, K.args.lam, K.x, K.ga, K.r, K.ig]

theorem weight_at (G : Summed W D) (t s : Fin 4096) (j : Fin 512) :
    (StableHlo.after hostOps0_9 (StableHlo.after hostOps0_8 (StableHlo.after hostOps0_7 W)) (Proc.devRef .tc main_v118) : Vec Ideal S4096x4096x512 .f32) (ix3 t s j)
      = ((if s.val ≤ t.val then Real.exp (total (fun t => D.la t j) t - total (fun t => D.la t j) s) else 0 : ℝ) : EReal) := by
  after_reads_at
  rw [G.mask, G.mask3, G.gap, select_sge t.isLt s.isLt, select_sge t.isLt s.isLt]
  show (if _ then Ideal.exp (if _ then _ else (W (Proc.devRef .tc main_cst_11) : Vec Ideal S_ .f32) ix0) else Ideal.ofBits .f32 0x00000000#32) = _
  rw [G.zero, f32_zero, ite_coe, exp_coe, ite_coe]
  split_ifs <;> rfl

theorem weighted (G : Summed W D) : Weighted (StableHlo.after hostOps0_9 (StableHlo.after hostOps0_8 (StableHlo.after hostOps0_7 W))) D where
  kept := kept_of_weighted G.kept
  a := fun t j => by after_reads_simp; exact G.a t j
  mult := fun t j => by after_reads_simp; exact G.mult t j
  u := fun t j => by after_reads_simp; exact G.u t j
  weight := weight_at G

/-- The arrays the kernel reads. -/
structure Ready (W : Bufs) (D : Data) : Prop where
  x : ∀ (t : Fin 4096) (j : Fin 512), (W (Proc.devRef .tc main_v123) : Vec Ideal S4096x1024 .f32) (ix2 t ⟨j.val, by omega⟩) = ((D.x t j : ℝ) : EReal)
  ga : ∀ (t : Fin 4096) (j : Fin 512), (W (Proc.devRef .tc main_v125) : Vec Ideal S4096x2048 .bf16) (ix2 t ⟨j.val, by omega⟩) = ((D.ga t j : ℝ) : EReal)
  h : ∀ (t : Fin 4096) (j : Fin 512), (W (Proc.devRef .tc main_v122) : Vec Ideal S4096x512 .f32) (ix2 t j) = ((D.h t j : ℝ) : EReal)
  r : ∀ (t : Fin 4096) (j : Fin 512), (W (Proc.devRef .tc main_v135) : Vec Ideal S4x4096x512 .f32) (ix3 0 t j) = ((D.r t j : ℝ) : EReal)
  ig : ∀ (t : Fin 4096) (j : Fin 512), (W (Proc.devRef .tc main_v135) : Vec Ideal S4x4096x512 .f32) (ix3 1 t j) = ((D.ig t j : ℝ) : EReal)
  a : ∀ (t : Fin 4096) (j : Fin 512), (W (Proc.devRef .tc main_v135) : Vec Ideal S4x4096x512 .f32) (ix3 2 t j) = ((D.a t j : ℝ) : EReal)
  mult : ∀ (t : Fin 4096) (j : Fin 512), (W (Proc.devRef .tc main_v135) : Vec Ideal S4x4096x512 .f32) (ix3 3 t j) = ((D.mult t j : ℝ) : EReal)
  dy : ∀ (t : Fin 4096) (j : Fin 512), (W (Proc.devRef .tc main_arg1) : Vec Ideal S4096x1024 .f32) (ix2 t ⟨j.val, by omega⟩) = ((D.dy t j : ℝ) : EReal)
  cw : ∀ (q s : Fin 4) (l : Fin 128), (W (Proc.devRef .tc main_v128) : Vec Ideal S4x4x128 .f32) (ix3 q s l) = ((D.cw s.val (128 * q.val + l.val) : ℝ) : EReal)
  cb : ∀ j : Fin 512, (W (Proc.devRef .tc main_arg3) : Vec Ideal S1x512 .f32) (ix2 0 j) = ((D.cb j : ℝ) : EReal)
  wa : ∀ (r : Fin 512) (x : Fin 64), (W (Proc.devRef .tc main_v129) : Vec Ideal S512x64 .f32) (ix2 r x) = ((D.wa (r.val / 64) (r.val % 64) x.val : ℝ) : EReal)
  wx : ∀ (r : Fin 512) (x : Fin 64), (W (Proc.devRef .tc main_v130) : Vec Ideal S512x64 .f32) (ix2 r x) = ((D.wx (r.val / 64) (r.val % 64) x.val : ℝ) : EReal)
  lam : ∀ j : Fin 512, (W (Proc.devRef .tc main_arg8) : Vec Ideal S1x512 .f32) (ix2 0 j) = ((D.lam j : ℝ) : EReal)

theorem h_at (G : Weighted W D) (t : Fin 4096) (j : Fin 512) :
    (StableHlo.after hostOps0_10 W (Proc.devRef .tc main_v122) : Vec Ideal S4096x512 .f32) (ix2 t j) = ((D.h t j : ℝ) : EReal) := by
  after_reads_at
  simp only [G.weight, G.u, ← EReal.coe_mul]
  rw [sum_rows fun s => (if s ≤ t.val then Real.exp (total (fun t => D.la t j) t - total (fun t => D.la t j) s) else 0) * D.u s j]
  rfl

theorem cw_at (G : Weighted W D) (q s : Fin 4) (l : Fin 128) :
    (StableHlo.after hostOps0_10 W (Proc.devRef .tc main_v128) : Vec Ideal S4x4x128 .f32) (ix3 q s l) = ((D.cw s.val (128 * q.val + l.val) : ℝ) : EReal) := by
  after_reads_at
  refine (G.kept.args.cw s ⟨q.val * 128 + l.val, by omega⟩).trans ?_
  show ((D.cw s.val (q.val * 128 + l.val) : ℝ) : EReal) = _
  rw [Nat.mul_comm]

theorem wa_at (G : Weighted W D) (r : Fin 512) (x : Fin 64) :
    (StableHlo.after hostOps0_10 W (Proc.devRef .tc main_v129) : Vec Ideal S512x64 .f32) (ix2 r x) = ((D.wa (r.val / 64) (r.val % 64) x.val : ℝ) : EReal) := by
  after_reads_at
  exact G.kept.args.wa ⟨r.val / 64, by omega⟩ ⟨r.val % 64, by omega⟩ x

theorem wx_at (G : Weighted W D) (r : Fin 512) (x : Fin 64) :
    (StableHlo.after hostOps0_10 W (Proc.devRef .tc main_v130) : Vec Ideal S512x64 .f32) (ix2 r x) = ((D.wx (r.val / 64) (r.val % 64) x.val : ℝ) : EReal) := by
  after_reads_at
  exact G.kept.args.wx ⟨r.val / 64, by omega⟩ ⟨r.val % 64, by omega⟩ x

theorem x_col (G : Weighted W D) (t : Fin 4096) (j : Fin 512) :
    (StableHlo.after hostOps0_10 W (Proc.devRef .tc main_v123) : Vec Ideal S4096x1024 .f32) (ix2 t ⟨j.val, by omega⟩) = ((D.x t j : ℝ) : EReal) := by
  after_reads_at
  exact G.kept.x t j

theorem ga_col (G : Weighted W D) (t : Fin 4096) (j : Fin 512) :
    (StableHlo.after hostOps0_10 W (Proc.devRef .tc main_v125) : Vec Ideal S4096x2048 .bf16) (ix2 t ⟨j.val, by omega⟩) = ((D.ga t j : ℝ) : EReal) := by
  after_reads_at
  after_reads_simp
  exact G.kept.ga t j

theorem ready (G : Weighted W D) : Ready (StableHlo.after hostOps0_10 W) D where
  x := x_col G
  ga := ga_col G
  h := h_at G
  r := fun t j => by after_reads_at; rw [StableHlo.unary_result]; after_reads_at; exact G.kept.r t j
  ig := fun t j => by after_reads_at; rw [StableHlo.unary_result]; after_reads_at; exact G.kept.ig t j
  a := fun t j => by after_reads_at; rw [StableHlo.unary_result]; after_reads_at; exact G.a t j
  mult := fun t j => by after_reads_at; rw [StableHlo.unary_result]; after_reads_at; exact G.mult t j
  dy := fun t j => by after_reads_simp; exact G.kept.args.dy t j
  cw := cw_at G
  cb := fun j => by after_reads_simp; exact G.kept.args.cb j
  wa := wa_at G
  wx := wx_at G
  lam := fun j => by after_reads_simp; exact G.kept.args.lam j

/-- From the arguments to the kernel's arrays. -/
theorem prepared (H : Args W D) : Ready (StableHlo.after (List.flatten [hostOps0, hostOps0_1, hostOps0_2, hostOps0_3, hostOps0_4, hostOps0_5, hostOps0_6, hostOps0_7, hostOps0_8, hostOps0_9, hostOps0_10]) W) D := by
  simp only [List.flatten_cons, List.flatten_nil, List.append_nil, StableHlo.after_append]
  exact ready (weighted (summed (masked (decays (gates H)))))

end Cert.Rglru.Host

end
-- ==== Proof.Rglru.Tile.lean ====
/- One tile of the RG-LRU's backward call, as functions of the vectors the body loads: the convolution, the reversed scan (within
   groups of eight rows, then group by group from the last to the first), and the gradients. The runs of the body in its
   three cases leave these. -/
module

public import proofs.«01_k».proof.Proof.Rglru.Frame
public import proofs.«01_k».proof.Proof.Common.Pieces

@[expose] public section

set_option maxRecDepth 16384

noncomputable section

namespace Cert.Rglru

open Cert.Kernel2Ideal Cert.Kernel2Ideal.Gen
open Idealize.ShloMosaic Idealize.ShloMosaic.TcCoe

variable {F : FTy → Type} [FloatOps F]

abbrev V0 : View sig .tc .vmem S512x512 .f32 := scM0_0.view

abbrev V1 : View sig .tc .vmem S512x512 .f32 := scM0_1.view

/-- What the body loads at a point. -/
structure Loads (F : FTy → Type) where
  x : Vec F S512x512 .f32
  ga : Vec F S512x512 .bf16
  xp : Vec F S8x512 .f32
  h : Vec F S512x512 .f32
  hp : Vec F S8x512 .f32
  r : Vec F S1x512x512 .f32
  ig : Vec F S1x512x512 .f32
  a : Vec F S1x512x512 .f32
  mult : Vec F S1x512x512 .f32
  dy : Vec F S512x512 .f32
  cw : Fin 4 → Fin 4 → Vec F S1x1x128 .f32
  cb : Vec F S1x512 .f32
  lam : Vec F S1x512 .f32
  cg : Vec F S1x512 .f32
  nx : Vec F S8x512 .f32
  wa : Vec F S512x512 .bf16
  wx : Vec F S512x512 .bf16

/-- The row numbers of a tile. -/
abbrev rows : IVec S512x512 32 := iota .tc S512x512 32 [0] iota_S512x512_d0_w32

variable (i : grid0.Coords) (P : Loads F)

/-- Whether the tile has one before it. -/
abbrev hasPrev : BitVec 1 := Scalar.cmpi .sgt (Scalar.subi 7#32 (BitVec.ofNat 32 (i 0).val)) 0#32

abbrev cwRow (k : Fin 4) : FVec F S1x512 .f32 := k0_pay26 (P.cw 0 k) (P.cw 1 k) (P.cw 2 k) (P.cw 3 k)

abbrev tap0 : FVec F S512x512 .f32 := k0_pay35 (k0_pay33 (k0_pay24 P.x)) (k0_pay34 rows (k0_pay24 P.x) (k0_pay25 i P.xp))

abbrev tap1 : FVec F S512x512 .f32 := k0_pay36 rows (k0_pay24 P.x) (k0_pay25 i P.xp)

abbrev tap2 : FVec F S512x512 .f32 := k0_pay37 rows (k0_pay24 P.x) (k0_pay25 i P.xp)

abbrev convT : FVec F S512x512 .f32 :=
  k0_pay38 rows (k0_pay24 P.x) (k0_pay25 i P.xp) (cwRow P 0) (cwRow P 1) (cwRow P 2) (cwRow P 3) P.cb
    (k0_pay33 (k0_pay24 P.x)) (k0_pay34 rows (k0_pay24 P.x) (k0_pay25 i P.xp))

abbrev firstRow : IVec S512x512 1 :=
  k0_pay41 (k0_pay40 (Scalar.subi 7#32 (BitVec.ofNat 32 (i 0).val)) rows) 0#32

abbrev hBeforeT : FVec F S512x512 .f32 := k0_pay48 rows (hasPrev i) P.h P.hp

abbrev dgaT : FVec F S512x512 .f32 := k0_pay53 (k0_pay47 P.h) (k0_pay49 P.ga) (k0_pay50 P.ga) k0_pay51 P.dy

/-- The decays and values after the steps within groups of eight rows. -/
abbrev decayT : FVec F S512x512 .f32 :=
  k0_pay63 (k0_pay55 rows) (k0_pay57 rows (k0_pay44 P.a)) (k0_pay58 rows) (k0_pay60 rows (k0_pay44 P.a))

abbrev valueT : FVec F S512x512 .f32 :=
  k0_pay64 (k0_pay55 rows) (k0_pay57 rows (k0_pay44 P.a)) (k0_pay58 rows)
    (k0_pay59 rows (k0_pay44 P.a) (k0_pay49 P.ga) (k0_pay50 P.ga) k0_pay51 P.dy) (k0_pay60 rows (k0_pay44 P.a))

theorem group_inb (n : ℕ) : ∀ x, (![8 * (63 - n), 0] : Fin 2 → Nat) x + (![8, 512] : Fin 2 → Nat) x ≤ S512x512.size x := fun x =>
  match x with
  | ⟨0, _⟩ => show 8 * (63 - n) + 8 ≤ 512 by omega
  | ⟨1, _⟩ => show 0 + 512 ≤ 512 by omega

/-- The rows of the group handled at step `n`, the last group first. -/
abbrev group (n : ℕ) : Rect S512x512 := Rect.unit (s := S512x512) ![8 * (63 - n), 0] ![8, 512] (group_inb n)

/-- The pieces stored and the carry after `n` groups. -/
def groups (v19 v20 : View sig .tc .vmem S512x512 .f32) (A G : List (View.Piece (Elt F) S512x512 .f32)) (c : Vec F S1x512 .f32) :
    ℕ → List (View.Piece (Elt F) S512x512 .f32) × Vec F S1x512 .f32
  | 0 => (G, c)
  | n + 1 =>
    (⟨group n, k0_pay65 (groups v19 v20 A G c n).2 (v19.readCov A (group n).toLoadRect)
        (v20.readCov (groups v19 v20 A G c n).1 (group n).toLoadRect)⟩ :: (groups v19 v20 A G c n).1,
      k0_pay68 (k0_pay66 (v20.readCov (groups v19 v20 A G c n).1 (group n).toLoadRect))
        (k0_pay67 (groups v19 v20 A G c n).2 (v19.readCov A (group n).toLoadRect)))

theorem whole_inb : ∀ x, (![0, 0] : Fin 2 → Nat) x + S512x512.size x ≤ S512x512.size x := fun x =>
  match x with
  | ⟨0, _⟩ => show 0 + 512 ≤ 512 by omega
  | ⟨1, _⟩ => show 0 + 512 ≤ 512 by omega

theorem row_inb (q : Fin 8) : ∀ x, (![q.val, 0] : Fin 2 → Nat) x + S1x512.size x ≤ S8x512.size x := fun x =>
  match x with
  | ⟨0, _⟩ => show q.val + 1 ≤ 8 by omega
  | ⟨1, _⟩ => show 0 + 512 ≤ 512 by omega

theorem cw_inb (k j : Fin 4) : ∀ x, (![k.val, j.val, 0] : Fin 3 → Nat) x + S1x1x128.size x ≤ S4x4x128.size x := fun x =>
  match x with
  | ⟨0, _⟩ => show k.val + 1 ≤ 4 by omega
  | ⟨1, _⟩ => show j.val + 1 ≤ 4 by omega
  | ⟨2, _⟩ => show 0 + 128 ≤ 128 by omega

abbrev whole : Rect S512x512 := Rect.unit (s := S512x512) ![0, 0] S512x512.size whole_inb

abbrev groupsT (v19 v20 : View sig .tc .vmem S512x512 .f32) :=
  groups v19 v20 [⟨whole, decayT P⟩] [⟨whole, valueT P⟩] P.cg 64

/-- The gradient of the recurrence's input on the tile. -/
abbrev gT (v19 v20 : View sig .tc .vmem S512x512 .f32) : FVec F S512x512 .f32 := v20.readCov (groupsT P v19 v20).1 whole.toLoadRect

/-- The gradient of the logarithm of the decay. -/
abbrev dlaT (v19 v20 : View sig .tc .vmem S512x512 .f32) : FVec F S512x512 .f32 :=
  k0_pay209 (convT i P) (firstRow i) (k0_pay43 P.ig) (k0_pay44 P.a) (k0_pay45 P.mult) (k0_pay46 P.a) (hBeforeT i P) (gT P v19 v20)

abbrev dprT (v19 v20 : View sig .tc .vmem S512x512 .f32) : FVec F S512x512 .f32 :=
  k0_pay211 (convT i P) (k0_pay39 P.lam) (firstRow i) (k0_pay42 P.r) (k0_pay43 P.ig) (k0_pay44 P.a) (k0_pay45 P.mult) (k0_pay46 P.a)
    (hBeforeT i P) (gT P v19 v20)

abbrev dpiT (v19 v20 : View sig .tc .vmem S512x512 .f32) : FVec F S512x512 .f32 :=
  k0_pay212 (convT i P) (k0_pay43 P.ig) (k0_pay45 P.mult) (gT P v19 v20)

/-- The gradient of the convolution's result. -/
abbrev dxcT (v19 v20 : View sig .tc .vmem S512x512 .f32) : FVec F S512x512 .f32 :=
  k0_pay220 (k0_pay208 (k0_pay43 P.ig) (k0_pay45 P.mult) (gT P v19 v20)) (dprT i P v19 v20) (dpiT i P v19 v20) P.wa P.wx

abbrev dxaT (v19 v20 : View sig .tc .vmem S512x512 .f32) : FVec F S512x512 .f32 :=
  k0_pay226 rows (cwRow P 0) (cwRow P 1) (cwRow P 2) (cwRow P 3) (dxcT i P v19 v20) P.nx

/-- The carry to the tile before. -/
abbrev cgT (v19 v20 : View sig .tc .vmem S512x512 .f32) : FVec F S1x512 .f32 :=
  mulf (extractStridedSlice S1x512 ![0, 0] (k0_pay44 P.a) slices_S512x512_o0_0_S1x512) (groupsT P v19 v20).2

/-- Row `q` of the eight summed rows, from what it held. -/
def smT (v19 v20 : View sig .tc .vmem S512x512 .f32) (q : Fin 8) (s : Vec F S1x512 .f32) : FVec F S1x512 .f32 :=
  match q with
  | 0 => k0_pay221 (dxcT i P v19 v20) s
  | 1 => k0_pay213 (dprT i P v19 v20) s
  | 2 => k0_pay214 (dpiT i P v19 v20) s
  | 3 => k0_pay210 (convT i P) (firstRow i) (k0_pay42 P.r) (k0_pay43 P.ig) (k0_pay44 P.a) (k0_pay45 P.mult) (k0_pay46 P.a)
    (hBeforeT i P) (gT P v19 v20) s
  | 4 => k0_pay222 (tap0 i P) (dxcT i P v19 v20) s
  | 5 => k0_pay223 (tap1 i P) (dxcT i P v19 v20) s
  | 6 => k0_pay224 (tap2 i P) (dxcT i P v19 v20) s
  | 7 => k0_pay225 (k0_pay24 P.x) (dxcT i P v19 v20) s

abbrev smRect (q : Fin 8) : Rect S8x512 := Rect.unit (s := S8x512) ![q.val, 0] S1x512.size (row_inb q)

/-- The store of summed row `q` over earlier stores that the row is read from. -/
abbrev smStep (v16 : View sig .tc .vmem S8x512 .f32) (q : Fin 8) (L : List (View.Piece (Elt F) S8x512 .f32)) :
    List (View.Piece (Elt F) S8x512 .f32) :=
  ⟨smRect q, smT i P V0 V1 q (v16.readCov L (smRect q).toLoadRect)⟩ :: L

/-- The gradient of the first dense map, over what it held. -/
abbrev dwaT (v19 v20 : View sig .tc .vmem S512x512 .f32) (s : Vec F S512x512 .f32) : FVec F S512x512 .f32 :=
  k0_pay218 (convT i P) (dprT i P v19 v20) s

abbrev dwxT (v19 v20 : View sig .tc .vmem S512x512 .f32) (s : Vec F S512x512 .f32) : FVec F S512x512 .f32 :=
  k0_pay219 (convT i P) (dpiT i P v19 v20) s

/-- The dense map of a packed block-diagonal one. -/
abbrev denseA (W : Vec F S512x64 .f32) : FVec F S512x512 .bf16 :=
  k0_pay16 k0_pay10 (k0_pay13 W) (k0_pay14 W) (k0_pay15 W)

abbrev denseX (W : Vec F S512x64 .f32) : FVec F S512x512 .bf16 :=
  k0_pay23 (k0_pay17 W) (iota .tc S512x512 32 [0] iota_S512x512_d0_w32)

/-- The packed blocks of the two dense gradients. -/
abbrev packT (dwa dwx : Vec F S512x512 .f32) : FVec F S512x128 .f32 :=
  k0_pay3 dwx (iota .tc S512x128 32 [1] iota_S512x128_d1_w32) k0_pay19 k0_pay20 (k0_pay21 dwa) k0_pay22

end Cert.Rglru

end
-- ==== Proof.Rglru.Groups.lean ====
/- The reversed scan of one tile: steps of width one, two and four within groups of eight rows, then the groups from the last
   to the first with a carried row. -/
module

public import proofs.«01_k».proof.Proof.Rglru.Tile
public import proofs.«01_k».proof.Proof.Rglru.Coe
public import Mathlib.Tactic.Ring

@[expose] public section

set_option maxRecDepth 16384

noncomputable section

namespace Cert.Rglru

open Cert.Kernel2Ideal Cert.Kernel2Ideal.Gen Cert.Common
open Idealize.ShloMosaic Idealize.ShloMosaic.TcCoe

/-! ## The steps over the reals -/

/-- One step of width `d` within groups of eight: the decays multiply, -/
def stepA (d : ℕ) (a : ℕ → ℝ) (r : ℕ) : ℝ := a r * if r % 8 < 8 - d then a (r + d) else 1

/-- and the values gather. -/
def stepG (d : ℕ) (g a : ℕ → ℝ) (r : ℕ) : ℝ := g r + a r * if r % 8 < 8 - d then g (r + d) else 0

/-- The sequence `X` is given by `g` and `a` over `w` rows, or up to the end of the group. -/
def Spans (w : ℕ) (X g a : ℕ → ℝ) : Prop := ∀ r, X r = g r + a r * X (min (r + w) (r / 8 * 8 + 8))

theorem Spans.double {d : ℕ} {X g a : ℕ → ℝ} (hd : d < 8) (h : Spans d X g a) : Spans (2 * d) X (stepG d g a) (stepA d a) := by
  intro r
  unfold stepG stepA
  rw [h r]
  by_cases hr : r % 8 < 8 - d
  · have e1 : min (r + d) (r / 8 * 8 + 8) = r + d := by omega
    have e2 : min (r + d + d) ((r + d) / 8 * 8 + 8) = min (r + 2 * d) (r / 8 * 8 + 8) := by omega
    rw [if_pos hr, if_pos hr, e1, h (r + d), e2]
    ring
  · have e1 : min (r + d) (r / 8 * 8 + 8) = r / 8 * 8 + 8 := by omega
    have e2 : min (r + 2 * d) (r / 8 * 8 + 8) = r / 8 * 8 + 8 := by omega
    rw [if_neg hr, if_neg hr, e1, e2]
    ring

/-- After the three steps. -/
def groupA (a : ℕ → ℝ) : ℕ → ℝ := stepA 4 (stepA 2 (stepA 1 a))

def groupG (g a : ℕ → ℝ) : ℕ → ℝ := stepG 4 (stepG 2 (stepG 1 g a) (stepA 1 a)) (stepA 2 (stepA 1 a))

theorem group_spans {X g a : ℕ → ℝ} (h : ∀ r, X r = g r + a r * X (r + 1)) (r : ℕ) :
    X r = groupG g a r + groupA a r * X (r / 8 * 8 + 8) := by
  have h1 : Spans 1 X g a := fun r => by rw [show min (r + 1) (r / 8 * 8 + 8) = r + 1 by omega]; exact h r
  have h8 : Spans 8 X (groupG g a) (groupA a) :=
    Spans.double (by omega) (Spans.double (by omega) (Spans.double (by omega) h1))
  have := h8 r
  rwa [show min (r + 8) (r / 8 * 8 + 8) = r / 8 * 8 + 8 by omega] at this

/-! ## The groups -/

theorem pay65_at (c : Vec Ideal S1x512 .f32) (A G : Vec Ideal S8x512 .f32) (r : Fin 8) (j : Fin 512) :
    k0_pay65 c A G (ix2 r j) = G (ix2 r j) + A (ix2 r j) * c (ix2 0 j) := by
  unfold k0_pay65
  pointwise []

theorem carry_at (c : Vec Ideal S1x512 .f32) (A G : Vec Ideal S8x512 .f32) (j : Fin 512) :
    k0_pay68 (k0_pay66 G) (k0_pay67 c A) (ix2 0 j) = G (ix2 0 j) + A (ix2 0 j) * c (ix2 0 j) := by
  unfold k0_pay68 k0_pay66 k0_pay67
  pointwise []

/-- The scan's result: with the decays and values that the steps within groups leave, the stored rows are the sequence from the
    group handled last on, the values before it, and the carry is the sequence's row there. -/
theorem groups_at (v19 v20 : View sig .tc .vmem S512x512 .f32) (dec val : Vec Ideal S512x512 .f32) (c : Vec Ideal S1x512 .f32)
    (X α γ : ℕ → ℕ → ℝ) (hd : ∀ r j : Fin 512, dec (ix2 r j) = ((α r.val j.val : ℝ) : EReal))
    (hv : ∀ r j : Fin 512, val (ix2 r j) = ((γ r.val j.val : ℝ) : EReal))
    (hc : ∀ j : Fin 512, c (ix2 0 j) = ((X 512 j.val : ℝ) : EReal))
    (hX : ∀ (j : Fin 512) r, X r j.val = γ r j.val + α r j.val * X (r / 8 * 8 + 8) j.val) (n : ℕ) (hn : n ≤ 64) :
    (∀ j : Fin 512, (groups v19 v20 [⟨whole, dec⟩] [⟨whole, val⟩] c n).2 (ix2 0 j) = ((X (512 - 8 * n) j.val : ℝ) : EReal))
    ∧ ∀ r j : Fin 512, View.canon (groups v19 v20 [⟨whole, dec⟩] [⟨whole, val⟩] c n).1 (ix2 r j)
        = (((if 512 - 8 * n ≤ r.val then X r.val j.val else γ r.val j.val : ℝ)) : EReal) := by
  induction n with
  | zero =>
    refine ⟨fun j => hc j, fun r j => ?_⟩
    show View.canon [⟨whole, val⟩] (ix2 r j) = _
    rw [if_neg (by omega), canon_rect2 0 0 512 512, dif_pos (by omega)]
    exact hv r j
  | succ n ih =>
    obtain ⟨ih2, ih1⟩ := ih (by omega)
    have hA : ∀ (r : Fin 8) (j : Fin 512), v19.readCov [⟨whole, dec⟩] (group n).toLoadRect (ix2 r j)
        = ((α (512 - 8 * (n + 1) + r.val) j.val : ℝ) : EReal) := by
      intro r j
      rw [readCov_rect2 v19 _ _ 0 8 512 _ r j (by omega) (by omega), canon_rect2 0 0 512 512, dif_pos (by constructor <;> constructor <;> simp <;> omega)]
      refine (hd _ _).trans ?_
      simp only [Nat.sub_zero, Nat.zero_add]
      rw [show 8 * (63 - n) = 512 - 8 * (n + 1) by omega]
    have hG : ∀ (r : Fin 8) (j : Fin 512), v20.readCov (groups v19 v20 [⟨whole, dec⟩] [⟨whole, val⟩] c n).1 (group n).toLoadRect (ix2 r j)
        = ((γ (512 - 8 * (n + 1) + r.val) j.val : ℝ) : EReal) := by
      intro r j
      rw [readCov_rect2 v20 _ _ 0 8 512 _ r j (by omega) (by omega), ih1, if_neg (by simp; omega)]
      simp only [Nat.zero_add]
      rw [show 8 * (63 - n) = 512 - 8 * (n + 1) by omega]
    constructor
    · intro j
      show k0_pay68 (k0_pay66 _) (k0_pay67 _ _) (ix2 0 j) = _
      rw [carry_at, hG, hA, ih2, hX j (512 - 8 * (n + 1)), ← EReal.coe_mul, ← EReal.coe_add]
      rw [show (512 - 8 * (n + 1)) / 8 * 8 + 8 = 512 - 8 * n by omega]
      rfl
    · intro r j
      show View.canon (⟨group n, _⟩ :: _) (ix2 r j) = _
      rw [canon_rect2 (8 * (63 - n)) 0 8 512]
      split_ifs with h1 h2 h2
      · rw [pay65_at, hG, hA, ih2, hX j r.val, ← EReal.coe_mul, ← EReal.coe_add]
        simp only [Nat.sub_zero]
        rw [show 512 - 8 * (n + 1) + (r.val - 8 * (63 - n)) = r.val by omega, show r.val / 8 * 8 + 8 = 512 - 8 * n by omega]
      · omega
      · rw [ih1, if_pos (by omega)]
      · rw [ih1, if_neg (by omega)]

end Cert.Rglru

end
-- ==== Proof.Rglru.Steps.lean ====
/- The steps of the reversed scan within groups of eight rows, read element by element. -/
module

public import proofs.«01_k».proof.Proof.Rglru.Groups

@[expose] public section

set_option maxRecDepth 16384

noncomputable section

namespace Cert.Rglru

open Cert.Kernel2Ideal Cert.Kernel2Ideal.Gen Cert.Common
open Idealize.ShloMosaic Idealize.ShloMosaic.TcCoe

/-- The comparison of small numbers. -/
theorem select_slt {α : Type} {t s : ℕ} (ht : t < 4096) (hs : s < 4096) (x y : α) :
    Scalar.select (IntOp.cmpi .slt (BitVec.ofNat 32 t) (BitVec.ofNat 32 s)) x y = if t < s then x else y := by
  have h : IntOp.cmpi .slt (BitVec.ofNat 32 t) (BitVec.ofNat 32 s) = BitVec.ofBool (decide (t < s)) := by
    show BitVec.ofBool ((BitVec.ofNat 32 t).slt (BitVec.ofNat 32 s)) = _
    rw [BitVec.slt, toInt_small ht, toInt_small hs]
    congr 1
    exact decide_eq_decide.mpr (by omega)
  rw [h]
  by_cases hle : t < s
  · rw [if_pos hle, decide_eq_true hle]; rfl
  · rw [if_neg hle, decide_eq_false hle]; rfl

theorem select_eq {α : Type} {t s : ℕ} (ht : t < 4096) (hs : s < 4096) (x y : α) :
    Scalar.select (IntOp.cmpi .eq (BitVec.ofNat 32 t) (BitVec.ofNat 32 s)) x y = if t = s then x else y := by
  by_cases h0 : t = s
  · subst h0
    rw [if_pos rfl]
    have h : IntOp.cmpi .eq (BitVec.ofNat 32 t) (BitVec.ofNat 32 t) = 1#1 := by
      show BitVec.ofBool (BitVec.ofNat 32 t == BitVec.ofNat 32 t) = _
      rw [beq_self_eq_true]; rfl
    rw [h]; rfl
  · rw [if_neg h0]
    have h : IntOp.cmpi .eq (BitVec.ofNat 32 t) (BitVec.ofNat 32 s) = 0#1 := by
      show BitVec.ofBool (BitVec.ofNat 32 t == BitVec.ofNat 32 s) = _
      rw [beq_eq_false_iff_ne.mpr]
      · rfl
      · intro e
        have := congrArg BitVec.toNat e
        rw [BitVec.toNat_ofNat, BitVec.toNat_ofNat, Nat.mod_eq_of_lt (by omega), Nat.mod_eq_of_lt (by omega)] at this
        exact h0 this
    rw [h]; rfl

/-- The row's number within its group of eight. -/
theorem andi_seven {t : ℕ} (ht : t < 4096) : IntOp.andi (BitVec.ofNat 32 t) 7#32 = BitVec.ofNat 32 (t % 8) := by
  show BitVec.ofNat 32 t &&& 7#32 = _
  apply BitVec.eq_of_toNat_eq
  rw [BitVec.toNat_and, BitVec.toNat_ofNat, BitVec.toNat_ofNat, BitVec.toNat_ofNat, Nat.mod_eq_of_lt (show t < 2 ^ 32 by omega),
    Nat.mod_eq_of_lt (show t % 8 < 2 ^ 32 by omega)]
  exact Nat.and_two_pow_sub_one_eq_mod t 3

theorem group_mask {α : Type} {t : ℕ} (ht : t < 4096) {w : ℕ} (hw : w ≤ 8) (x y : α) :
    Scalar.select (IntOp.cmpi .slt (IntOp.andi (BitVec.ofNat 32 t) 7#32) (BitVec.ofNat 32 w)) x y = if t % 8 < w then x else y := by
  rw [andi_seven ht, select_slt (by omega) (by omega)]

/-- The row that a turn by `8 - d` brings to row `r` of its group. -/
abbrev turned (w : ℕ) (r : Fin 512) (hw : 0 < w) : Fin 512 := ⟨r.val / 8 * 8 + (r.val % 8 + 8 - w) % 8, by omega⟩

theorem turned_val {w d : ℕ} (hw : 0 < w) (hd : w + d = 8) (r : Fin 512) (h : r.val % 8 < w) : (turned w r hw).val = r.val + d := by
  show r.val / 8 * 8 + (r.val % 8 + 8 - w) % 8 = _
  omega

theorem step_times {w d : ℕ} (hw : 0 < w) (hd : w + d = 8) (f : Fin 512 → EReal) (φ : ℕ → ℝ) (hf : ∀ r, f r = ((φ r.val : ℝ) : EReal))
    (r : Fin 512) (a : ℝ) :
    (a : EReal) * (if r.val % 8 < w then f (turned w r hw) else 1) = ((a * if r.val % 8 < 8 - d then φ (r.val + d) else 1 : ℝ) : EReal) := by
  by_cases h : r.val % 8 < w
  · rw [if_pos h, if_pos (by omega), hf, ← EReal.coe_mul, turned_val hw hd r h]
  · rw [if_neg h, if_neg (by omega), mul_one, mul_one]

theorem step_plus {w d : ℕ} (hw : 0 < w) (hd : w + d = 8) (f : Fin 512 → EReal) (φ : ℕ → ℝ) (hf : ∀ r, f r = ((φ r.val : ℝ) : EReal))
    (r : Fin 512) (a : ℝ) :
    (if r.val % 8 < w then (a : EReal) * f (turned w r hw) else 0) = ((a * if r.val % 8 < 8 - d then φ (r.val + d) else 0 : ℝ) : EReal) := by
  by_cases h : r.val % 8 < w
  · rw [if_pos h, if_pos (by omega), hf, ← EReal.coe_mul, turned_val hw hd r h]
  · rw [if_neg h, if_neg (by omega), mul_zero, EReal.coe_zero]

variable (a : FVec Ideal S512x512 .f32) (j : Fin 512) (a0 : ℕ → ℝ)

/-- Row `r` decays what comes from the row after it; the last row takes the carry as it is. -/
theorem pay54_at (α : ℕ → ℝ) (h : ∀ r : Fin 512, a (ix2 r j) = ((α r.val : ℝ) : EReal)) (r : Fin 512) :
    k0_pay54 rows a (ix2 r j) = ((if r.val = 511 then 1 else α (r.val + 1) : ℝ) : EReal) := by
  unfold k0_pay54
  pointwise []
  rw [select_eq (by omega) (by omega)]
  split_ifs with hr
  · rw [EReal.coe_one]
  · refine (h _).trans (congrArg (fun n => ((α n : ℝ) : EReal)) ?_)
    show (r.val + 512 - 511) % 512 = r.val + 1
    omega

theorem pay57_at (h : ∀ r : Fin 512, k0_pay54 rows a (ix2 r j) = ((a0 r.val : ℝ) : EReal)) (r : Fin 512) :
    k0_pay57 rows a (ix2 r j) = ((stepA 1 a0 r.val : ℝ) : EReal) := by
  unfold k0_pay57 k0_pay56 k0_pay55
  pointwise []
  rw [group_mask (by omega) (by omega), h]
  exact step_times (w := 7) (d := 1) (by omega) rfl (fun r => k0_pay54 rows a (ix2 r j)) a0 h r _

theorem pay61_at (h : ∀ r : Fin 512, k0_pay54 rows a (ix2 r j) = ((a0 r.val : ℝ) : EReal)) (r : Fin 512) :
    k0_pay61 (k0_pay57 rows a) (k0_pay58 rows) (k0_pay60 rows a) (ix2 r j) = ((stepA 2 (stepA 1 a0) r.val : ℝ) : EReal) := by
  unfold k0_pay61 k0_pay60 k0_pay58 k0_pay55
  pointwise []
  rw [group_mask (by omega) (by omega), pay57_at a j a0 h]
  exact step_times (w := 6) (d := 2) (by omega) rfl (fun r => k0_pay57 rows a (ix2 r j)) _ (pay57_at a j a0 h) r _

theorem decay_at (h : ∀ r : Fin 512, k0_pay54 rows a (ix2 r j) = ((a0 r.val : ℝ) : EReal)) (r : Fin 512) :
    k0_pay63 (k0_pay55 rows) (k0_pay57 rows a) (k0_pay58 rows) (k0_pay60 rows a) (ix2 r j) = ((groupA a0 r.val : ℝ) : EReal) := by
  unfold k0_pay63 k0_pay62 k0_pay55
  pointwise []
  rw [group_mask (by omega) (by omega), pay61_at a j a0 h]
  exact step_times (w := 4) (d := 4) (by omega) rfl (fun r => k0_pay61 (k0_pay57 rows a) (k0_pay58 rows) (k0_pay60 rows a) (ix2 r j)) _
    (pay61_at a j a0 h) r _

variable (ga e one : FVec Ideal S512x512 .f32) (dy : Vec Ideal S512x512 .f32) (g0 : ℕ → ℝ)

theorem pay59_at (h : ∀ r : Fin 512, k0_pay54 rows a (ix2 r j) = ((a0 r.val : ℝ) : EReal))
    (hg : ∀ r : Fin 512, dy (ix2 r j) * (ga (ix2 r j) * k0_pay52 e one (ix2 r j)) = ((g0 r.val : ℝ) : EReal)) (r : Fin 512) :
    k0_pay59 rows a ga e one dy (ix2 r j) = ((stepG 2 (stepG 1 g0 a0) (stepA 1 a0) r.val : ℝ) : EReal) := by
  have h1 : ∀ r : Fin 512, (fun r : Fin 512 => (dy (ix2 r j) * (ga (ix2 r j) * k0_pay52 e one (ix2 r j)) : EReal)
        + if r.val % 8 < 7 then k0_pay54 rows a (ix2 r j) * (dy (ix2 (turned 7 r (by omega)) j)
            * (ga (ix2 (turned 7 r (by omega)) j) * k0_pay52 e one (ix2 (turned 7 r (by omega)) j))) else 0) r
      = ((stepG 1 g0 a0 r.val : ℝ) : EReal) := by
    intro r
    show (dy (ix2 r j) * (ga (ix2 r j) * k0_pay52 e one (ix2 r j)) : EReal) + _ = _
    rw [hg, h]
    rw [step_plus (w := 7) (d := 1) (by omega) rfl (fun r => dy (ix2 r j) * (ga (ix2 r j) * k0_pay52 e one (ix2 r j))) g0 hg r, ← EReal.coe_add]
    rfl
  unfold k0_pay59 k0_pay58 k0_pay56 k0_pay55
  pointwise []
  rw [group_mask (by omega) (by omega), group_mask (by omega) (by omega), group_mask (by omega) (by omega), pay57_at a j a0 h]
  have h2 := step_plus (w := 6) (d := 2) (by omega) rfl _ _ h1 r (stepA 1 a0 r.val)
  refine (congrArg₂ (· + ·) (h1 r) h2).trans ?_
  rw [← EReal.coe_add]
  rfl

theorem value_at (h : ∀ r : Fin 512, k0_pay54 rows a (ix2 r j) = ((a0 r.val : ℝ) : EReal))
    (hg : ∀ r : Fin 512, dy (ix2 r j) * (ga (ix2 r j) * k0_pay52 e one (ix2 r j)) = ((g0 r.val : ℝ) : EReal)) (r : Fin 512) :
    k0_pay64 (k0_pay55 rows) (k0_pay57 rows a) (k0_pay58 rows) (k0_pay59 rows a ga e one dy) (k0_pay60 rows a) (ix2 r j)
      = ((groupG g0 a0 r.val : ℝ) : EReal) := by
  unfold k0_pay64 k0_pay62 k0_pay55
  pointwise []
  rw [group_mask (by omega) (by omega), pay61_at a j a0 h]
  rw [step_plus (w := 4) (d := 4) (by omega) rfl (fun r => k0_pay59 rows a ga e one dy (ix2 r j)) _ (pay59_at a j a0 ga e one dy g0 h hg) r,
    pay59_at a j a0 ga e one dy g0 h hg, ← EReal.coe_add]
  rfl

end Cert.Rglru

end
-- ==== Proof.Rglru.Holds.lean ====
/- What a tile's loads hold, and the convolution, the state before each row, and the scanned gradient on the tile. -/
module

public import proofs.«01_k».proof.Proof.Rglru.Steps
public import proofs.«01_k».proof.Proof.Rglru.Real

@[expose] public section

set_option maxRecDepth 16384

noncomputable section

namespace Cert.Rglru

open Cert.Kernel2Ideal Cert.Kernel2Ideal.Gen Cert.Common
open Idealize.ShloMosaic Idealize.ShloMosaic.TcCoe

/-- The loads of tile `k`, the rows from `512 k` on, with what the tiles after it left. -/
structure Tile (i : grid0.Coords) (k : ℕ) (P : Loads Ideal) (D : Data) : Prop where
  lt : k < 8
  point : (i 0).val = 7 - k
  x : ∀ r j : Fin 512, P.x (ix2 r j) = ((D.x (512 * k + r.val) j.val : ℝ) : EReal)
  ga : ∀ r j : Fin 512, P.ga (ix2 r j) = ((D.ga (512 * k + r.val) j.val : ℝ) : EReal)
  xp : 0 < k → ∀ (r : Fin 8) (j : Fin 512), P.xp (ix2 r j) = ((D.x (512 * k - 8 + r.val) j.val : ℝ) : EReal)
  h : ∀ r j : Fin 512, P.h (ix2 r j) = ((D.h (512 * k + r.val) j.val : ℝ) : EReal)
  hp : 0 < k → ∀ (r : Fin 8) (j : Fin 512), P.hp (ix2 r j) = ((D.h (512 * k - 8 + r.val) j.val : ℝ) : EReal)
  r : ∀ r j : Fin 512, P.r (ix3 0 r j) = ((D.r (512 * k + r.val) j.val : ℝ) : EReal)
  ig : ∀ r j : Fin 512, P.ig (ix3 0 r j) = ((D.ig (512 * k + r.val) j.val : ℝ) : EReal)
  a : ∀ r j : Fin 512, P.a (ix3 0 r j) = ((D.a (512 * k + r.val) j.val : ℝ) : EReal)
  mult : ∀ r j : Fin 512, P.mult (ix3 0 r j) = ((D.mult (512 * k + r.val) j.val : ℝ) : EReal)
  dy : ∀ r j : Fin 512, P.dy (ix2 r j) = ((D.dy (512 * k + r.val) j.val : ℝ) : EReal)
  cw : ∀ (q s : Fin 4) (l : Fin 128), P.cw q s (ix3 0 0 l) = ((D.cw s.val (128 * q.val + l.val) : ℝ) : EReal)
  cb : ∀ j : Fin 512, P.cb (ix2 0 j) = ((D.cb j.val : ℝ) : EReal)
  lam : ∀ j : Fin 512, P.lam (ix2 0 j) = ((D.lam j.val : ℝ) : EReal)
  cg : ∀ j : Fin 512, P.cg (ix2 0 j) = ((if k = 7 then 0 else D.a (512 * (k + 1)) j.val * D.g (512 * (k + 1)) j.val : ℝ) : EReal)
  nx : ∀ (r : Fin 8) (j : Fin 512), P.nx (ix2 r j) = ((if k = 7 then 0 else D.dxc (512 * (k + 1) + r.val) j.val : ℝ) : EReal)
  wa : ∀ r j : Fin 512, P.wa (ix2 r j) = ((if r.val / 64 = j.val / 64 then D.wa (r.val / 64) (r.val % 64) (j.val % 64) else 0 : ℝ) : EReal)
  wx : ∀ r j : Fin 512, P.wx (ix2 r j) = ((if r.val / 64 = j.val / 64 then D.wx (r.val / 64) (r.val % 64) (j.val % 64) else 0 : ℝ) : EReal)

variable {i : grid0.Coords} {k : ℕ} {P : Loads Ideal} {D : Data} (T : Tile i k P D)

/-- The tile's number as the body computes it. -/
theorem tile_number {n : ℕ} (hk : k < 8) (hn : n = 7 - k) : Scalar.subi 7#32 (BitVec.ofNat 32 n) = BitVec.ofNat 32 k := by
  subst hn
  interval_cases k <;> rfl

include T

theorem select_hasPrev {α : Type} (x y : α) :
    Scalar.select (Scalar.cmpi .sgt (Scalar.subi 7#32 (BitVec.ofNat 32 (i 0).val)) 0#32) x y = if 0 < k then x else y := by
  rw [tile_number T.lt T.point]
  have hk := T.lt
  clear T
  interval_cases k <;> rfl

/-- Rows shifted down by `s`: the first come from the tile before, and are zero where there is none. -/
theorem shift_down (s : ℕ) (hs : 0 < s ∧ s < 8) (f : Fin 512 → EReal) (p : Fin 8 → EReal) (φ : ℕ → ℝ)
    (hf : ∀ r, f r = ((φ (512 * k + r.val) : ℝ) : EReal)) (hp : 0 < k → ∀ r, p r = ((φ (512 * k - 8 + r.val) : ℝ) : EReal)) (r : Fin 512) :
    (if r.val < 8 then
        (if r.val < s then (if 0 < k then p ⟨(r.val + 8 - s) % 8, Nat.mod_lt _ (by omega)⟩ else 0)
          else f ⟨(r.val + 512 - s) % 512, Nat.mod_lt _ (by omega)⟩)
      else f ⟨(8 + (r.val - 8) + 512 - s) % 512, Nat.mod_lt _ (by omega)⟩)
      = ((if 512 * k + r.val < s then 0 else φ (512 * k + r.val - s) : ℝ) : EReal) := by
  have hr := r.isLt
  clear T
  by_cases h8 : r.val < 8
  · rw [if_pos h8]
    by_cases h1 : r.val < s
    · rw [if_pos h1]
      by_cases hk : 0 < k
      · rw [if_pos hk, if_neg (by omega), hp hk]
        refine congrArg (fun n => ((φ n : ℝ) : EReal)) ?_
        show 512 * k - 8 + (r.val + 8 - s) % 8 = _
        omega
      · rw [if_neg hk, if_pos (by omega), EReal.coe_zero]
    · rw [if_neg h1, if_neg (by omega), hf]
      refine congrArg (fun n => ((φ n : ℝ) : EReal)) ?_
      show 512 * k + (r.val + 512 - s) % 512 = _
      omega
  · rw [if_neg h8, if_neg (by omega), hf]
    refine congrArg (fun n => ((φ n : ℝ) : EReal)) ?_
    show 512 * k + (8 + (r.val - 8) + 512 - s) % 512 = _
    omega

theorem cwRow_at (s : Fin 4) (j : Fin 512) : cwRow P s (ix2 0 j) = ((D.cw s.val j.val : ℝ) : EReal) := by
  unfold cwRow k0_pay26
  pointwise []
  have hj := j.isLt
  have key : ∀ (q : Fin 4) (l : Fin 128), 128 * q.val + l.val = j.val → P.cw q s (ix3 0 0 l) = ((D.cw s.val j.val : ℝ) : EReal) :=
    fun q l e => by rw [T.cw, e]
  by_cases h0 : j.val < 128
  · rw [dif_pos h0]
    exact key 0 ⟨j.val, h0⟩ (by show 128 * 0 + j.val = j.val; omega)
  · rw [dif_neg h0]
    by_cases h1 : j.val - 128 < 128
    · rw [dif_pos h1]
      exact key 1 ⟨j.val - 128, h1⟩ (by show 128 * 1 + (j.val - 128) = j.val; omega)
    · rw [dif_neg h1]
      by_cases h2 : j.val - 128 - 128 < 128
      · rw [dif_pos h2]
        exact key 2 ⟨j.val - 128 - 128, h2⟩ (by show 128 * 2 + (j.val - 128 - 128) = j.val; omega)
      · rw [dif_neg h2]
        exact key 3 ⟨j.val - 128 - 128 - 128, by omega⟩ (by show 128 * 3 + (j.val - 128 - 128 - 128) = j.val; omega)

theorem tap0_at (r j : Fin 512) : tap0 i P (ix2 r j) = ((D.tap 0 (512 * k + r.val) j.val : ℝ) : EReal) := by
  unfold tap0 k0_pay35 k0_pay33 k0_pay34 k0_pay33 k0_pay24 k0_pay25
  pointwise []
  simp only [select_slt (show (r.val : ℕ) < 4096 by omega) (show 3 < 4096 by omega), select_hasPrev T, dite_eq_ite]
  refine (shift_down T 3 (by omega) (fun r => P.x (ix2 r j)) (fun r => P.xp (ix2 r j)) (fun t => D.x t j.val) (fun r => T.x r j)
    (fun h r => T.xp h r j) r).trans ?_
  rfl

theorem tap1_at (r j : Fin 512) : tap1 i P (ix2 r j) = ((D.tap 1 (512 * k + r.val) j.val : ℝ) : EReal) := by
  unfold tap1 k0_pay36 k0_pay24 k0_pay25
  pointwise []
  simp only [select_slt (show (r.val : ℕ) < 4096 by omega) (show 2 < 4096 by omega), select_hasPrev T, dite_eq_ite]
  refine (shift_down T 2 (by omega) (fun r => P.x (ix2 r j)) (fun r => P.xp (ix2 r j)) (fun t => D.x t j.val) (fun r => T.x r j)
    (fun h r => T.xp h r j) r).trans ?_
  unfold Data.tap
  refine congrArg (fun z : ℝ => (z : EReal)) ?_
  split_ifs <;> first | rfl | omega | exact congrArg (fun n => D.x n j.val) (by omega)

theorem tap2_at (r j : Fin 512) : tap2 i P (ix2 r j) = ((D.tap 2 (512 * k + r.val) j.val : ℝ) : EReal) := by
  unfold tap2 k0_pay37 k0_pay24 k0_pay25
  pointwise []
  simp only [select_slt (show (r.val : ℕ) < 4096 by omega) (show 1 < 4096 by omega), select_hasPrev T, dite_eq_ite]
  refine (shift_down T 1 (by omega) (fun r => P.x (ix2 r j)) (fun r => P.xp (ix2 r j)) (fun t => D.x t j.val) (fun r => T.x r j)
    (fun h r => T.xp h r j) r).trans ?_
  unfold Data.tap
  refine congrArg (fun z : ℝ => (z : EReal)) ?_
  split_ifs <;> first | rfl | omega | exact congrArg (fun n => D.x n j.val) (by omega)

theorem tap3_at (r j : Fin 512) : k0_pay24 P.x (ix2 r j) = ((D.tap 3 (512 * k + r.val) j.val : ℝ) : EReal) := by
  unfold k0_pay24
  pointwise []
  rw [T.x]
  unfold Data.tap
  rw [if_neg (by omega), Nat.add_sub_cancel]

theorem conv_at (r j : Fin 512) : convT i P (ix2 r j) = ((D.conv (512 * k + r.val) j.val : ℝ) : EReal) := by
  have h0 := tap0_at T r j
  have h1 := tap1_at T r j
  have h2 := tap2_at T r j
  unfold tap0 at h0
  unfold tap1 at h1
  unfold tap2 at h2
  unfold convT k0_pay38
  pointwise []
  rw [h0, h1, h2, tap3_at T, cwRow_at T, cwRow_at T, cwRow_at T, cwRow_at T, T.cb]
  simp only [← EReal.coe_mul, ← EReal.coe_add]
  rfl

theorem hBefore_at (r j : Fin 512) : hBeforeT i P (ix2 r j) = ((D.hBefore (512 * k + r.val) j.val : ℝ) : EReal) := by
  unfold hBeforeT k0_pay48 k0_pay47
  pointwise []
  simp only [select_slt (show (r.val : ℕ) < 4096 by omega) (show 1 < 4096 by omega), select_hasPrev T, dite_eq_ite]
  refine (shift_down T 1 (by omega) (fun r => P.h (ix2 r j)) (fun r => P.hp (ix2 r j)) (fun t => D.h t j.val) (fun r => T.h r j)
    (fun h r => T.hp h r j) r).trans ?_
  unfold Data.hBefore
  refine congrArg (fun z : ℝ => (z : EReal)) ?_
  split_ifs <;> first | rfl | omega

theorem first_at {α : Type} (r j : Fin 512) (x y : α) :
    Scalar.select (firstRow i (ix2 r j)) x y = if 512 * k + r.val = 0 then x else y := by
  unfold firstRow k0_pay41 k0_pay40
  pointwise []
  rw [tile_number T.lt T.point]
  have e : IntOp.addi (BitVec.ofNat 32 r.val) (Scalar.muli (BitVec.ofNat 32 k) 512#32) = BitVec.ofNat 32 (512 * k + r.val) := by
    show BitVec.ofNat 32 r.val + BitVec.ofNat 32 k * 512#32 = _
    rw [← BitVec.ofNat_mul, ← BitVec.ofNat_add, Nat.mul_comm k 512, Nat.add_comm]
  rw [e, select_eq (by have := T.lt; omega) (by omega)]

omit T in
/-- The logistic function as the body computes it. -/
theorem sig_at (z : ℝ) : Ideal.div 1 (1 + Ideal.exp (0 - (z : EReal))) = ((Data.sig z : ℝ) : EReal) := by
  have h : 1 + Real.exp (-z) ≠ 0 := by positivity
  rw [zero_sub, ← EReal.coe_neg, exp_coe, ← EReal.coe_one, ← EReal.coe_add, div_coe _ h]
  rfl

theorem dga_at (r j : Fin 512) : dgaT P (ix2 r j) = ((D.dga (512 * k + r.val) j.val : ℝ) : EReal) := by
  unfold dgaT k0_pay53 k0_pay49 k0_pay50 k0_pay47 k0_pay51 k0_pay52 k0_pay49
  pointwise []
  rw [T.dy, T.h, T.ga, sig_at]
  simp only [← EReal.coe_one, ← EReal.coe_mul, ← EReal.coe_add, ← EReal.coe_sub]
  rfl

theorem ct_at (r j : Fin 512) :
    P.dy (ix2 r j) * (k0_pay49 P.ga (ix2 r j) * k0_pay52 (k0_pay50 P.ga) k0_pay51 (ix2 r j)) = ((D.ct (512 * k + r.val) j.val : ℝ) : EReal) := by
  unfold k0_pay50 k0_pay51 k0_pay52 k0_pay49
  pointwise []
  rw [T.dy, T.ga, sig_at]
  simp only [← EReal.coe_mul]
  rfl

end Cert.Rglru

end
-- ==== Proof.Rglru.Grads.lean ====
/- The scanned gradient and the gradients computed from it on one tile. -/
module

public import proofs.«01_k».proof.Proof.Rglru.Holds

@[expose] public section

set_option maxRecDepth 16384

noncomputable section

namespace Cert.Rglru

open Cert.Kernel2Ideal Cert.Kernel2Ideal.Gen Cert.Common
open Idealize.ShloMosaic Idealize.ShloMosaic.TcCoe

variable {i : grid0.Coords} {k : ℕ} {P : Loads Ideal} {D : Data} (T : Tile i k P D)

/-- The carry into tile `k` from the tile after it. -/
def carry (D : Data) (k c : ℕ) : ℝ := if k = 7 then 0 else D.a (512 * (k + 1)) c * D.g (512 * (k + 1)) c

/-- The scanned gradient along the rows of tile `k`, then the carry. -/
def scanned (D : Data) (k c r : ℕ) : ℝ := if r < 512 then D.g (512 * k + r) c else carry D k c

def scanA (D : Data) (k c r : ℕ) : ℝ := if r < 511 then D.a (512 * k + r + 1) c else if r = 511 then 1 else 0

def scanG (D : Data) (k c r : ℕ) : ℝ := if r < 512 then D.ct (512 * k + r) c else carry D k c

theorem scanned_step (D : Data) {k : ℕ} (hk : k < 8) (c r : ℕ) :
    scanned D k c r = scanG D k c r + scanA D k c r * scanned D k c (r + 1) := by
  unfold scanned scanA scanG carry
  rcases Nat.lt_trichotomy r 511 with h | h | h
  · rw [if_pos (by omega), if_pos (by omega), if_pos h, if_pos (by omega)]
    exact adj_step _ _ (by omega)
  · rw [if_pos (by omega), if_pos (by omega), if_neg (by omega), if_pos h, if_neg (by omega), one_mul]
    by_cases h7 : k = 7
    · rw [if_pos h7, add_zero, h, h7]
      exact adj_last _ _
    · rw [if_neg h7, h, show 512 * (k + 1) = 512 * k + 511 + 1 by omega]
      exact adj_step _ _ (by omega)
  · simp only [if_neg (show ¬r < 512 by omega), if_neg (show ¬r < 511 by omega), if_neg (show ¬r = 511 by omega), zero_mul, add_zero]

include T

theorem decays_at (r j : Fin 512) : k0_pay54 rows (k0_pay44 P.a) (ix2 r j) = ((scanA D k j.val r.val : ℝ) : EReal) := by
  have h : ∀ r : Fin 512, k0_pay44 P.a (ix2 r j) = ((D.a (512 * k + r.val) j.val : ℝ) : EReal) := fun r => by
    unfold k0_pay44
    pointwise []
    exact T.a r j
  rw [pay54_at (k0_pay44 P.a) j (fun t => D.a (512 * k + t) j.val) h r]
  unfold scanA
  have := r.isLt
  refine congrArg (fun z : ℝ => (z : EReal)) ?_
  by_cases h : r.val = 511
  · rw [if_pos h, if_neg (by omega), if_pos h]
  · rw [if_neg h, if_pos (by omega)]
    rfl

theorem groups_hold :
    (∀ j : Fin 512, (groupsT P V0 V1).2 (ix2 0 j) = ((D.g (512 * k) j.val : ℝ) : EReal))
    ∧ ∀ r j : Fin 512, View.canon (groupsT P V0 V1).1 (ix2 r j) = ((D.g (512 * k + r.val) j.val : ℝ) : EReal) := by
  have h := groups_at V0 V1 (decayT P) (valueT P) P.cg (fun r c => scanned D k c r) (fun r c => groupA (scanA D k c) r)
    (fun r c => groupG (scanG D k c) (scanA D k c) r)
    (fun r j => decay_at (k0_pay44 P.a) j (scanA D k j.val) (fun r => decays_at T r j) r)
    (fun r j => value_at (k0_pay44 P.a) j (scanA D k j.val) (k0_pay49 P.ga) (k0_pay50 P.ga) k0_pay51 P.dy (scanG D k j.val)
      (fun r => decays_at T r j) (fun r => (ct_at T r j).trans (by unfold scanG; rw [if_pos r.isLt])) r)
    (fun j => (T.cg j).trans (by show _ = ((scanned D k j.val 512 : ℝ) : EReal); unfold scanned; rw [if_neg (show ¬512 < 512 by omega)]; rfl))
    (fun j r => group_spans (fun r => scanned_step D T.lt j.val r) r) 64 le_rfl
  refine ⟨fun j => (h.1 j).trans ?_, fun r j => (h.2 r j).trans ?_⟩
  · show ((scanned D k j.val 0 : ℝ) : EReal) = _
    unfold scanned
    rw [if_pos (by omega), Nat.add_zero]
  · rw [if_pos (by omega)]
    show ((scanned D k j.val r.val : ℝ) : EReal) = _
    unfold scanned
    rw [if_pos r.isLt]

theorem g_at (r j : Fin 512) : gT P V0 V1 (ix2 r j) = ((D.g (512 * k + r.val) j.val : ℝ) : EReal) := by
  refine (readCov_rect2 V1 _ 0 0 512 512 whole_inb r j (by omega) (by omega)).trans ?_
  refine Eq.trans ?_ ((groups_hold T).2 r j)
  refine congrArg (View.canon _) ?_
  congr 1 <;> exact Fin.ext (Nat.zero_add _)

theorem cg_at (j : Fin 512) : k0_pay207 (cgT P V0 V1) (ix2 0 j) = ((D.a (512 * k) j.val * D.g (512 * k) j.val : ℝ) : EReal) := by
  unfold cgT k0_pay207 k0_pay44
  pointwise []
  have h := T.a 0 j
  rw [show 512 * k + (0 : Fin 512).val = 512 * k from rfl] at h
  rw [(groups_hold T).1, h, ← EReal.coe_mul]

/-! ## The gradients -/

theorem gates_at (r j : Fin 512) :
    k0_pay42 P.r (ix2 r j) = ((D.r (512 * k + r.val) j.val : ℝ) : EReal)
    ∧ k0_pay43 P.ig (ix2 r j) = ((D.ig (512 * k + r.val) j.val : ℝ) : EReal)
    ∧ k0_pay44 P.a (ix2 r j) = ((D.a (512 * k + r.val) j.val : ℝ) : EReal)
    ∧ k0_pay45 P.mult (ix2 r j) = ((D.mult (512 * k + r.val) j.val : ℝ) : EReal) := by
  unfold k0_pay42 k0_pay43 k0_pay44 k0_pay45
  pointwise []
  exact ⟨T.r r j, T.ig r j, T.a r j, T.mult r j⟩

/-- The gradient of the logarithm of the decay; where the gate is shut the kernel divides by zero, and what it gets is later
    multiplied by zero. -/
theorem dla_at (r j : Fin 512) :
    D.r (512 * k + r.val) j.val = 0 ∨ dlaT i P V0 V1 (ix2 r j) = ((D.dla (512 * k + r.val) j.val : ℝ) : EReal) := by
  obtain ⟨hr, hi, ha, hm⟩ := gates_at T r j
  refine or_iff_not_imp_left.mpr fun h0 => ?_
  have hmp := (D.mult_pos h0).ne'
  unfold dlaT k0_pay209 k0_pay46
  pointwise []
  rw [first_at T, hi, ha, hm, conv_at T, hBefore_at T, g_at T, zero_sub]
  simp only [← EReal.coe_mul, ← EReal.coe_neg]
  rw [div_coe _ hmp, ← EReal.coe_mul, ← EReal.coe_zero, ite_coe, ← EReal.coe_add]
  rfl

theorem dpi_at (r j : Fin 512) : dpiT i P V0 V1 (ix2 r j) = ((D.dpi (512 * k + r.val) j.val : ℝ) : EReal) := by
  obtain ⟨hr, hi, ha, hm⟩ := gates_at T r j
  unfold dpiT k0_pay212
  pointwise []
  rw [hi, hm, conv_at T, g_at T]
  simp only [← EReal.coe_one, ← EReal.coe_mul, ← EReal.coe_sub]
  rfl

omit T in
theorem absf_coe (x : ℝ) : (FloatOps.absf (F := Ideal) (φ := .f32) ((x : ℝ) : EReal) : EReal) = ((|x| : ℝ) : EReal) :=
  (congrArg (max (x : EReal)) (EReal.coe_neg x).symm).trans (max_coe x (-x))

theorem sp_at (j : Fin 512) : k0_pay39 P.lam (ix2 0 j) = ((D.sp j.val : ℝ) : EReal) := by
  have h : 0 < 1 + Real.exp (-|D.lam j.val|) := by positivity
  unfold k0_pay39
  pointwise []
  rw [T.lam]
  simp only [zero_sub, ← EReal.coe_neg]
  rw [absf_coe, abs_neg, ← EReal.coe_neg, exp_coe, log1p_coe h, ← EReal.coe_zero, max_coe, ← EReal.coe_add]
  rfl

theorem dpr_at (r j : Fin 512) : dprT i P V0 V1 (ix2 r j) = ((D.dpr (512 * k + r.val) j.val : ℝ) : EReal) := by
  obtain ⟨hr, hi, ha, hm⟩ := gates_at T r j
  have h := dla_at T r j
  unfold dlaT at h
  unfold dprT k0_pay211
  pointwise []
  rcases h with h | h
  · rw [hr, h, EReal.coe_zero, mul_zero, zero_mul]
    unfold Data.dpr
    rw [h, mul_zero, zero_mul, EReal.coe_zero]
  rw [h, hr, sp_at T, f32_neg_eight]
  simp only [← EReal.coe_one, ← EReal.coe_mul, ← EReal.coe_sub]
  rfl

omit T in
/-- A row of a block-diagonal dense map against `y`. -/
theorem dense_row (w : ℕ → ℕ → ℕ → ℝ) (y : ℕ → ℝ) (c : ℕ) (hc : c < 512) :
    ∑ e : Fin 512, y e.val * (if c / 64 = e.val / 64 then w (c / 64) (c % 64) (e.val % 64) else 0) = Data.blockBack w y c := by
  unfold Data.blockBack
  rw [Fin.sum_univ_eq_sum_range (fun e => y e * (if c / 64 = e / 64 then w (c / 64) (c % 64) (e % 64) else 0)) 512,
    Fin.sum_univ_eq_sum_range (fun e => y (c / 64 * 64 + e) * w (c / 64) (c % 64) e) 64]
  symm
  refine Finset.sum_bij_ne_zero (fun e _ _ => c / 64 * 64 + e) ?_ ?_ ?_ ?_
  · intro e he _
    rw [Finset.mem_range] at he ⊢
    omega
  · intro e _ _ e' _ _ h
    omega
  · intro e he hne
    rw [Finset.mem_range] at he
    have hd : c / 64 = e / 64 := by
      by_contra h
      exact hne (by rw [if_neg h, mul_zero])
    rw [if_pos hd] at hne
    refine ⟨e % 64, Finset.mem_range.mpr (by omega), ?_, by omega⟩
    rwa [show c / 64 * 64 + e % 64 = e by omega]
  · intro e he _
    rw [Finset.mem_range] at he
    rw [if_pos (by omega), show (c / 64 * 64 + e) % 64 = e by omega]

theorem dxc_at (r j : Fin 512) : dxcT i P V0 V1 (ix2 r j) = ((D.dxc (512 * k + r.val) j.val : ℝ) : EReal) := by
  obtain ⟨hr, hi, ha, hm⟩ := gates_at T r j
  unfold dxcT k0_pay220 k0_pay208 k0_pay215 k0_pay216
  pointwise []
  simp only [hi, hm, g_at T, dpr_at T, dpi_at T, T.wa, T.wx, ← EReal.coe_mul, sum_coe, ← EReal.coe_add]
  rw [dense_row D.wa (D.dpr (512 * k + r.val)) j.val j.isLt, dense_row D.wx (D.dpi (512 * k + r.val)) j.val j.isLt]
  rfl

end Cert.Rglru

end
-- ==== Proof.Rglru.Sums.lean ====
/- The summed rows, the gradients of the dense maps, and the gradient of the convolution's input on one tile. -/
module

public import proofs.«01_k».proof.Proof.Rglru.Grads

@[expose] public section

set_option maxRecDepth 16384

noncomputable section

namespace Cert.Rglru

open Cert.Kernel2Ideal Cert.Kernel2Ideal.Gen Cert.Common
open Idealize.ShloMosaic Idealize.ShloMosaic.TcCoe

/-- What row `q` of the eight summed rows sums over the rows `t`. -/
def Data.summand (D : Data) (q t c : ℕ) : ℝ :=
  match q with
  | 0 => D.dxc t c
  | 1 => D.dpr t c
  | 2 => D.dpi t c
  | 3 => D.dla t c * (-8 * D.r t c)
  | q + 4 => D.dxc t c * D.tap q t c

variable {i : grid0.Coords} {k : ℕ} {P : Loads Ideal} {D : Data} (T : Tile i k P D)

/-- A sum over a tile's rows. -/
theorem sum_tile (f : ℕ → ℝ) : ∑ r : Fin 512, ((f r.val : ℝ) : EReal) = ((∑ r ∈ Finset.range 512, f r : ℝ) : EReal) := by
  rw [sum_coe, Fin.sum_univ_eq_sum_range f 512]

include T

theorem sm_at (q : Fin 8) (s : Vec Ideal S1x512 .f32) (j : Fin 512) (z : ℝ) (hs : s (ix2 0 j) = (z : EReal)) :
    smT i P V0 V1 q s (ix2 0 j) = ((z + ∑ r ∈ Finset.range 512, D.summand q.val (512 * k + r) j.val : ℝ) : EReal) := by
  have e : ∀ f : ℕ → ℝ, (z : EReal) + ∑ r : Fin 512, ((f r.val : ℝ) : EReal) = ((z + ∑ r ∈ Finset.range 512, f r : ℝ) : EReal) :=
    fun f => by rw [sum_tile, ← EReal.coe_add]
  fin_cases q
  · show k0_pay221 (dxcT i P V0 V1) s (ix2 0 j) = _
    unfold k0_pay221
    pointwise []
    simp only [hs, dxc_at T]
    exact e (fun r => D.dxc (512 * k + r) j.val)
  · show k0_pay213 (dprT i P V0 V1) s (ix2 0 j) = _
    unfold k0_pay213
    pointwise []
    simp only [hs, dpr_at T]
    exact e (fun r => D.dpr (512 * k + r) j.val)
  · show k0_pay214 (dpiT i P V0 V1) s (ix2 0 j) = _
    unfold k0_pay214
    pointwise []
    simp only [hs, dpi_at T]
    exact e (fun r => D.dpi (512 * k + r) j.val)
  · show k0_pay210 (convT i P) (firstRow i) (k0_pay42 P.r) (k0_pay43 P.ig) (k0_pay44 P.a) (k0_pay45 P.mult) (k0_pay46 P.a)
      (hBeforeT i P) (gT P V0 V1) s (ix2 0 j) = _
    have h : ∀ r : Fin 512, dlaT i P V0 V1 (ix2 r j) * (((-8 : ℝ) : EReal) * ((D.r (512 * k + r.val) j.val : ℝ) : EReal))
        = ((D.dla (512 * k + r.val) j.val * (-8 * D.r (512 * k + r.val) j.val) : ℝ) : EReal) := fun r => by
      rcases dla_at T r j with h | h
      · rw [h, EReal.coe_zero, mul_zero, mul_zero, mul_zero, mul_zero, EReal.coe_zero]
      · rw [h, ← EReal.coe_mul, ← EReal.coe_mul]
    unfold dlaT at h
    unfold k0_pay210
    pointwise []
    simp only [hs, (gates_at T _ _).1, f32_neg_eight, h]
    exact e (fun r => D.dla (512 * k + r) j.val * (-8 * D.r (512 * k + r) j.val))
  · show k0_pay222 (tap0 i P) (dxcT i P V0 V1) s (ix2 0 j) = _
    unfold k0_pay222
    pointwise []
    simp only [hs, dxc_at T, tap0_at T, ← EReal.coe_mul]
    exact e (fun r => D.dxc (512 * k + r) j.val * D.tap 0 (512 * k + r) j.val)
  · show k0_pay223 (tap1 i P) (dxcT i P V0 V1) s (ix2 0 j) = _
    unfold k0_pay223
    pointwise []
    simp only [hs, dxc_at T, tap1_at T, ← EReal.coe_mul]
    exact e (fun r => D.dxc (512 * k + r) j.val * D.tap 1 (512 * k + r) j.val)
  · show k0_pay224 (tap2 i P) (dxcT i P V0 V1) s (ix2 0 j) = _
    unfold k0_pay224
    pointwise []
    simp only [hs, dxc_at T, tap2_at T, ← EReal.coe_mul]
    exact e (fun r => D.dxc (512 * k + r) j.val * D.tap 2 (512 * k + r) j.val)
  · show k0_pay225 (k0_pay24 P.x) (dxcT i P V0 V1) s (ix2 0 j) = _
    unfold k0_pay225
    pointwise []
    simp only [hs, dxc_at T, tap3_at T, ← EReal.coe_mul]
    exact e (fun r => D.dxc (512 * k + r) j.val * D.tap 3 (512 * k + r) j.val)

theorem dwa_at (s : Vec Ideal S512x512 .f32) (r j : Fin 512) (z : ℝ) (hs : s (ix2 r j) = (z : EReal)) :
    dwaT i P V0 V1 s (ix2 r j)
      = ((z + ∑ t ∈ Finset.range 512, D.conv (512 * k + t) r.val * D.dpr (512 * k + t) j.val : ℝ) : EReal) := by
  unfold dwaT k0_pay218 k0_pay215 k0_pay217
  pointwise []
  simp only [hs, conv_at T, dpr_at T, ← EReal.coe_mul]
  rw [sum_tile (fun t => D.conv (512 * k + t) r.val * D.dpr (512 * k + t) j.val), ← EReal.coe_add]

theorem dwx_at (s : Vec Ideal S512x512 .f32) (r j : Fin 512) (z : ℝ) (hs : s (ix2 r j) = (z : EReal)) :
    dwxT i P V0 V1 s (ix2 r j)
      = ((z + ∑ t ∈ Finset.range 512, D.conv (512 * k + t) r.val * D.dpi (512 * k + t) j.val : ℝ) : EReal) := by
  unfold dwxT k0_pay219 k0_pay216 k0_pay217
  pointwise []
  simp only [hs, conv_at T, dpi_at T, ← EReal.coe_mul]
  rw [sum_tile (fun t => D.conv (512 * k + t) r.val * D.dpi (512 * k + t) j.val), ← EReal.coe_add]

theorem nx_at (r : Fin 8) (j : Fin 512) : k0_pay227 (dxcT i P V0 V1) (ix2 r j) = ((D.dxc (512 * k + r.val) j.val : ℝ) : EReal) := by
  unfold k0_pay227
  pointwise []
  exact dxc_at T ⟨r.val, by omega⟩ j

/-- Rows shifted up by `d`: the last come from the tile after, and are zero where there is none. -/
theorem shift_up (d w v : ℕ) (hd : 0 < d ∧ d < 8) (hw : w + d = 512) (hv : v + d = 8) (f : Fin 512 → EReal) (p : Fin 8 → EReal) (φ : ℕ → ℝ)
    (hf : ∀ r, f r = ((φ (512 * k + r.val) : ℝ) : EReal))
    (hp : ∀ r, p r = ((if k = 7 then 0 else φ (512 * (k + 1) + r.val) : ℝ) : EReal)) (r : Fin 512) :
    (if r.val < 504 then f ⟨(r.val + 512 - w) % 512, Nat.mod_lt _ (by omega)⟩
      else if v ≤ r.val - 504 then p ⟨(r.val - 504 + 8 - v) % 8, Nat.mod_lt _ (by omega)⟩
        else f ⟨(504 + (r.val - 504) + 512 - w) % 512, Nat.mod_lt _ (by omega)⟩)
      = ((if 512 * k + r.val + d < 4096 then φ (512 * k + r.val + d) else 0 : ℝ) : EReal) := by
  have hr := r.isLt
  have hk := T.lt
  clear T
  by_cases h1 : r.val < 504
  · rw [if_pos h1, if_pos (by omega), hf]
    refine congrArg (fun n => ((φ n : ℝ) : EReal)) ?_
    show 512 * k + (r.val + 512 - w) % 512 = _
    omega
  · rw [if_neg h1]
    by_cases h2 : v ≤ r.val - 504
    · rw [if_pos h2, hp]
      by_cases h7 : k = 7
      · rw [if_pos h7, if_neg (by omega)]
      · rw [if_neg h7, if_pos (by omega)]
        refine congrArg (fun n => ((φ n : ℝ) : EReal)) ?_
        show 512 * (k + 1) + (r.val - 504 + 8 - v) % 8 = _
        omega
    · rw [if_neg h2, if_pos (by omega), hf]
      refine congrArg (fun n => ((φ n : ℝ) : EReal)) ?_
      show 512 * k + (504 + (r.val - 504) + 512 - w) % 512 = _
      omega

theorem dxa_at (r j : Fin 512) : dxaT i P V0 V1 (ix2 r j) = ((D.dxa (512 * k + r.val) j.val : ℝ) : EReal) := by
  have hr := r.isLt
  have hk := T.lt
  have h := fun (d w v : ℕ) (hd : 0 < d ∧ d < 8) (hw : w + d = 512) (hv : v + d = 8) =>
    shift_up T d w v hd hw hv (fun r => dxcT i P V0 V1 (ix2 r j)) (fun r => P.nx (ix2 r j)) (fun t => D.dxc t j.val)
      (fun r => dxc_at T r j) (fun r => T.nx r j) r
  have h1 := h 1 511 7 (by omega) (by omega) (by omega)
  have h2 := h 2 510 6 (by omega) (by omega) (by omega)
  have h3 := h 3 509 5 (by omega) (by omega) (by omega)
  have hl : ∀ d, (if 512 * k + r.val + d < 4096 then D.dxc (512 * k + r.val + d) j.val else 0) * D.cw (3 - d) j.val
      = D.later d (512 * k + r.val) j.val := fun d => by
    unfold Data.later
    rw [ite_mul, zero_mul]
  unfold dxaT k0_pay226
  pointwise []
  simp only [select_sge (show (r.val - 504 : ℕ) < 4096 by omega) (show 7 < 4096 by omega),
    select_sge (show (r.val - 504 : ℕ) < 4096 by omega) (show 6 < 4096 by omega),
    select_sge (show (r.val - 504 : ℕ) < 4096 by omega) (show 5 < 4096 by omega)]
  refine (congrArg₂ (· + ·) (congrArg₂ (· + ·) (congrArg₂ (· + ·) (congrArg₂ (· * ·) (dxc_at T r j) (cwRow_at T 3 j))
    (congrArg₂ (· * ·) h1 (cwRow_at T 2 j))) (congrArg₂ (· * ·) h2 (cwRow_at T 1 j))) (congrArg₂ (· * ·) h3 (cwRow_at T 0 j))).trans ?_
  simp only [← EReal.coe_mul, ← EReal.coe_add]
  unfold Data.dxa
  rw [← hl 1, ← hl 2, ← hl 3, ← hl 0, if_pos (show 512 * k + r.val + 0 < 4096 by omega)]
  rfl

omit T in
theorem exp_abs_neg (l : ℝ) : Data.sig (-l) = if 0 ≤ l then Real.exp (-|l|) * (1 / (1 + Real.exp (-|l|))) else 1 / (1 + Real.exp (-|l|)) := by
  unfold Data.sig
  rw [neg_neg]
  split_ifs with h
  · rw [abs_of_nonneg h, Real.exp_neg]
    have := Real.exp_pos l
    field_simp
    ring
  · rw [abs_of_neg (by linarith), neg_neg]

omit T in
/-- The last point's factor on the fourth summed row. -/
theorem pay18_at (lam s : Vec Ideal S1x512 .f32) (j : Fin 512) (l z : ℝ) (hl : lam (ix2 0 j) = (l : EReal)) (hs : s (ix2 0 j) = (z : EReal)) :
    k0_pay18 lam s (ix2 0 j) = ((z * -Data.sig (-l) : ℝ) : EReal) := by
  have h : 1 + Real.exp (-|l|) ≠ 0 := by positivity
  unfold k0_pay18
  pointwise []
  rw [hl, hs]
  simp only [zero_sub, absf_coe, ← EReal.coe_neg, exp_coe, ← EReal.coe_one, ← EReal.coe_add, div_coe _ h, ← EReal.coe_mul, EReal.coe_nonneg]
  rw [ite_coe, ← EReal.coe_neg, ← EReal.coe_mul, exp_abs_neg]

end Cert.Rglru

end
-- ==== Proof.Rglru.Dense.lean ====
/- The block-diagonal maps between their packed and dense forms: a packed map spread over its blocks by products with matrices of
   zeros and ones, and the blocks of a dense gradient packed the same way. -/
module

public import proofs.«01_k».proof.Proof.Rglru.Steps
public import proofs.«01_k».proof.Proof.Rglru.Real

@[expose] public section

set_option maxRecDepth 16384

noncomputable section

namespace Cert.Rglru

open Cert.Kernel2Ideal Cert.Kernel2Ideal.Gen Cert.Common
open Idealize.ShloMosaic Idealize.ShloMosaic.TcCoe

theorem andi_63 {t : ℕ} (ht : t < 4096) : IntOp.andi (BitVec.ofNat 32 t) 63#32 = BitVec.ofNat 32 (t % 64) := by
  show BitVec.ofNat 32 t &&& 63#32 = _
  apply BitVec.eq_of_toNat_eq
  rw [BitVec.toNat_and, BitVec.toNat_ofNat, BitVec.toNat_ofNat, BitVec.toNat_ofNat, Nat.mod_eq_of_lt (show t < 2 ^ 32 by omega),
    Nat.mod_eq_of_lt (show t % 64 < 2 ^ 32 by omega)]
  exact Nat.and_two_pow_sub_one_eq_mod t 6

/-- A shift by six is a division by 64. -/
theorem shrsi_six {t : ℕ} (ht : t < 4096) : IntOp.shrsi .vector (BitVec.ofNat 32 t) 6#32 = BitVec.ofNat 32 (t / 64) := by
  have h : IntOp.shrsi .vector (BitVec.ofNat 32 t) 6#32 = (BitVec.ofNat 32 t).sshiftRight 6 := rfl
  rw [h]
  apply BitVec.eq_of_toInt_eq
  rw [BitVec.toInt_sshiftRight, toInt_small ht, toInt_small (by omega), Int.shiftRight_eq_div_pow]
  omega

/-- A flag widened and converted. -/
theorem flag_at (b : BitVec 1) : (FloatOps.sitofp (F := Ideal) .f32 (BitVec.setWidth 32 b) : EReal) = Scalar.select b 1 0 := by
  rcases (show b = 0#1 ∨ b = 1#1 by revert b; decide) with h | h <;> subst h
  · show ((((BitVec.setWidth 32 0#1).toInt : ℤ) : ℝ) : EReal) = (0 : EReal)
    rw [show (BitVec.setWidth 32 0#1).toInt = 0 from rfl, Int.cast_zero, EReal.coe_zero]
  · show ((((BitVec.setWidth 32 1#1).toInt : ℤ) : ℝ) : EReal) = (1 : EReal)
    rw [show (BitVec.setWidth 32 1#1).toInt = 1 from rfl, Int.cast_one, EReal.coe_one]

theorem select_andi {α : Type} (b b' : BitVec 1) (x y : α) :
    Scalar.select (IntOp.andi b b') x y = Scalar.select b (Scalar.select b' x y) y := by
  rcases (show b = 0#1 ∨ b = 1#1 by revert b; decide) with h | h <;> subst h <;>
    rcases (show b' = 0#1 ∨ b' = 1#1 by revert b'; decide) with h | h <;> subst h <;> rfl

theorem sub_self_coe (x : ℝ) : (x : EReal) - (x : EReal) = 0 := by rw [← EReal.coe_sub, sub_self, EReal.coe_zero]

/-- The block mask. -/
theorem select_block {α : Type} (r j : Fin 512) (x y : α) :
    Scalar.select (IntOp.cmpi .eq (IntOp.shrsi .vector (BitVec.ofNat 32 r.val) 6#32) (IntOp.shrsi .vector (BitVec.ofNat 32 j.val) 6#32)) x y
      = if r.val / 64 = j.val / 64 then x else y := by
  rw [shrsi_six (by omega), shrsi_six (by omega), select_eq (by omega) (by omega)]

theorem spread_at (x : Fin 64) (j : Fin 512) :
    (FloatOps.sitofp (F := Ideal) .f32 (BitVec.setWidth 32 (IntOp.cmpi .eq (IntOp.andi (BitVec.ofNat 32 j.val) 63#32) (BitVec.ofNat 32 x.val))) : EReal)
      = if j.val % 64 = x.val then 1 else 0 := by
  rw [flag_at, andi_63 (by omega), select_eq (by omega) (by omega)]

/-- The product with the spreading matrix picks the column. -/
theorem spread_sum (f : Fin 64 → EReal) (j : Fin 512) :
    ∑ x : Fin 64, f x * (if j.val % 64 = x.val then (1 : EReal) else 0) = f ⟨j.val % 64, Nat.mod_lt _ (by omega)⟩ := by
  rw [Finset.sum_eq_single (⟨j.val % 64, Nat.mod_lt _ (by omega)⟩ : Fin 64)]
  · rw [if_pos rfl, mul_one]
  · intro x _ hx
    rw [if_neg (fun h => hx (Fin.ext h.symm)), mul_zero]
  · intro h; exact absurd (Finset.mem_univ _) h

variable (W : Vec Ideal S512x64 .f32) (w : ℕ → ℕ → ℝ) (hW : ∀ (r : Fin 512) (x : Fin 64), W (ix2 r x) = ((w r.val x.val : ℝ) : EReal))

include hW

theorem denseA_at (r j : Fin 512) :
    denseA W (ix2 r j) = ((if r.val / 64 = j.val / 64 then w r.val (j.val % 64) else 0 : ℝ) : EReal) := by
  unfold denseA k0_pay16 k0_pay15 k0_pay14 k0_pay13 k0_pay12 k0_pay11 k0_pay10 k0_pay9
  pointwise []
  rw [select_block]
  simp only [spread_at, hW, sub_self_coe, sub_zero, zero_mul, Finset.sum_const_zero, add_zero]
  rw [spread_sum (fun x => ((w r.val x.val : ℝ) : EReal)) j, ← EReal.coe_zero, ite_coe]

theorem denseX_at (r j : Fin 512) :
    denseX W (ix2 r j) = ((if r.val / 64 = j.val / 64 then w r.val (j.val % 64) else 0 : ℝ) : EReal) := by
  unfold denseX k0_pay23 k0_pay17
  pointwise []
  rw [select_block]
  simp only [spread_at, hW, sub_self_coe, sub_zero, zero_mul, Finset.sum_const_zero, add_zero]
  rw [spread_sum (fun x => ((w r.val x.val : ℝ) : EReal)) j, ← EReal.coe_zero, ite_coe]

omit hW

/-- The product with the packing matrix picks the column within the row's block. -/
theorem pack_sum (f : Fin 512 → EReal) (r : Fin 512) (q : Fin 128) (z : EReal) :
    ∑ x : Fin 512, (if r.val / 64 = x.val / 64 then f x * (if x.val % 64 = q.val % 64 then z else 0) else 0)
      = f ⟨r.val / 64 * 64 + q.val % 64, by omega⟩ * z := by
  rw [Finset.sum_eq_single (⟨r.val / 64 * 64 + q.val % 64, by omega⟩ : Fin 512)]
  · rw [if_pos (by show r.val / 64 = (r.val / 64 * 64 + q.val % 64) / 64; omega),
      if_pos (by show (r.val / 64 * 64 + q.val % 64) % 64 = q.val % 64; omega)]
  · intro x _ hx
    by_cases h1 : r.val / 64 = x.val / 64
    · rw [if_pos h1, if_neg (fun h => hx (Fin.ext (show x.val = r.val / 64 * 64 + q.val % 64 by omega))), mul_zero]
    · rw [if_neg h1]
  · intro h; exact absurd (Finset.mem_univ _) h

theorem masked_sub (p : Prop) [Decidable p] (x : ℝ) : (if p then (x : EReal) else 0) - (if p then (x : EReal) else 0) = 0 := by
  rw [← EReal.coe_zero, ite_coe, sub_self_coe, EReal.coe_zero]

theorem pack_at (d e : Vec Ideal S512x512 .f32) (fd fe : ℕ → ℕ → ℝ) (hd : ∀ r j : Fin 512, d (ix2 r j) = ((fd r.val j.val : ℝ) : EReal))
    (he : ∀ r j : Fin 512, e (ix2 r j) = ((fe r.val j.val : ℝ) : EReal)) (r : Fin 512) (q : Fin 128) :
    packT d e (ix2 r q)
      = ((if q.val < 64 then fd r.val (r.val / 64 * 64 + q.val % 64) else fe r.val (r.val / 64 * 64 + q.val % 64) : ℝ) : EReal) := by
  have hm : ∀ x : Fin 512, (FloatOps.sitofp (F := Ideal) .f32 (k0_pay22 (ix2 x q)) : EReal)
      = if x.val % 64 = q.val % 64 then (if q.val < 64 then 1 else 0) else 0 := by
    intro x
    unfold k0_pay22 k0_pay19
    pointwise []
    rw [flag_at, select_andi, andi_63 (by omega), andi_63 (by omega), select_eq (by omega) (by omega), select_slt (by omega) (by omega)]
  have hs : ∀ x : Fin 512, (FloatOps.sitofp (F := Ideal) .f32 (BitVec.setWidth 32 (IntOp.andi
        (IntOp.cmpi .eq (IntOp.andi (BitVec.ofNat 32 x.val) 63#32) (IntOp.andi (BitVec.ofNat 32 q.val) 63#32))
        (IntOp.cmpi .sge (BitVec.ofNat 32 q.val) 64#32))) : EReal)
      = if x.val % 64 = q.val % 64 then (if 64 ≤ q.val then 1 else 0) else 0 := by
    intro x
    rw [flag_at, select_andi, andi_63 (by omega), andi_63 (by omega), select_eq (by omega) (by omega), select_sge (by omega) (by omega)]
  unfold packT k0_pay3 k0_pay19 k0_pay21 k0_pay20
  pointwise []
  simp only [hm, hs, select_block, hd, he, masked_sub, sub_zero, zero_mul, Finset.sum_const_zero, add_zero]
  rw [pack_sum (fun x => ((fd r.val x.val : ℝ) : EReal)), pack_sum (fun x => ((fe r.val x.val : ℝ) : EReal))]
  by_cases h : q.val < 64
  · rw [if_pos h, if_neg (by omega), if_pos h, mul_one, mul_zero, add_zero]
  · rw [if_neg h, if_pos (by omega), if_neg h, mul_one, mul_zero, zero_add]

end Cert.Rglru

end
-- ==== Proof.Rglru.Pieces.lean ====
/- What the body leaves at a point, in its three cases, as functions of what it loads. -/
module

public import proofs.«01_k».proof.Proof.Rglru.Tile

@[expose] public section

set_option maxRecDepth 16384

noncomputable section

namespace Cert.Rglru

open Cert.Kernel2Ideal Cert.Kernel2Ideal.Gen
open Idealize.ShloMosaic Idealize.ShloMosaic.TcCoe

variable {F : FTy → Type} [FloatOps F]
variable (m : (ℓ : Loc nD τ sig) → Buf (Elt F) ℓ)

/-- What the body loads at point `t` over the carried contents it finds. -/
def loads (c : Dev nD) (t : Fin cfg0.N) (cg : Vec F S1x512 .f32) (nx : Vec F S8x512 .f32) (wa wx : Vec F S512x512 .bf16) : Loads F where
  x := View.readAt (Elt F) (ms0_0 t).view (Rect.unit (s := S512x512) ![0, 0] S512x512.size whole_inb).toLoadRect ((hs0_0 t).unread (iblk m c 0 t))
  ga := View.readAt (Elt F) (ms0_1 t).view (Rect.unit (s := S512x512) ![0, 0] S512x512.size whole_inb).toLoadRect ((hs0_1 t).unread (iblk m c 1 t))
  xp := View.readAt (Elt F) (ms0_2 t).view (Rect.unit (s := S8x512) ![0, 0] S8x512.size inb_S8x512_S8x512_0_0).toLoadRect ((hs0_2 t).unread (iblk m c 2 t))
  h := View.readAt (Elt F) (ms0_3 t).view (Rect.unit (s := S512x512) ![0, 0] S512x512.size whole_inb).toLoadRect ((hs0_3 t).unread (iblk m c 3 t))
  hp := View.readAt (Elt F) (ms0_4 t).view (Rect.unit (s := S8x512) ![0, 0] S8x512.size inb_S8x512_S8x512_0_0).toLoadRect ((hs0_4 t).unread (iblk m c 4 t))
  r := View.readAt (Elt F) (ms0_5 t).view (Rect.unit (s := S4x512x512) ![0, 0, 0] S1x512x512.size inb_S4x512x512_S1x512x512_0_0_0).toLoadRect ((hs0_5 t).unread (iblk m c 5 t))
  ig := View.readAt (Elt F) (ms0_5 t).view (Rect.unit (s := S4x512x512) ![1, 0, 0] S1x512x512.size inb_S4x512x512_S1x512x512_1_0_0).toLoadRect ((hs0_5 t).unread (iblk m c 5 t))
  a := View.readAt (Elt F) (ms0_5 t).view (Rect.unit (s := S4x512x512) ![2, 0, 0] S1x512x512.size inb_S4x512x512_S1x512x512_2_0_0).toLoadRect ((hs0_5 t).unread (iblk m c 5 t))
  mult := View.readAt (Elt F) (ms0_5 t).view (Rect.unit (s := S4x512x512) ![3, 0, 0] S1x512x512.size inb_S4x512x512_S1x512x512_3_0_0).toLoadRect ((hs0_5 t).unread (iblk m c 5 t))
  dy := View.readAt (Elt F) (ms0_6 t).view (Rect.unit (s := S512x512) ![0, 0] S512x512.size whole_inb).toLoadRect ((hs0_6 t).unread (iblk m c 6 t))
  cw k j := View.readAt (Elt F) (ms0_7 t).view (Rect.unit (s := S4x4x128) ![k.val, j.val, 0] S1x1x128.size (cw_inb k j)).toLoadRect ((hs0_7 t).unread (iblk m c 7 t))
  cb := View.readAt (Elt F) (ms0_8 t).view (Rect.unit (s := S1x512) ![0, 0] S1x512.size inb_S1x512_S1x512_0_0).toLoadRect ((hs0_8 t).unread (iblk m c 8 t))
  lam := View.readAt (Elt F) (ms0_13 t).view (Rect.unit (s := S1x512) ![0, 0] S1x512.size inb_S1x512_S1x512_0_0).toLoadRect ((hs0_13 t).unread (iblk m c 13 t))
  cg := cg
  nx := nx
  wa := wa
  wx := wx

/-- A packed map as loaded. -/
abbrev wLoad (v : Memref sig .tc .vmem S512x64 .f32) (hv : v.IsWhole) (W : Vec F S512x64 .f32) : Vec F S512x64 .f32 :=
  View.readAt (Elt F) v.view (Rect.unit (s := S512x64) ![0, 0] S512x64.size inb_S512x64_S512x64_0_0).toLoadRect (hv.unread W)

/-- The carried contents as the body loads them at a point that is not the first. -/
def loadsOf (c : Dev nD) (t : Fin cfg0.N) (p : Left F) : Loads F :=
  loads m c t
    (View.readAt (Elt F) scM0_2.view (Rect.unit (s := S8x512) ![0, 0] S1x512.size inb_S8x512_S1x512_0_0).toLoadRect ((Memref.isWhole_whole cc0_scratch2).unread p.cg))
    (View.readAt (Elt F) scM0_3.view (Rect.unit (s := S8x512) ![0, 0] S8x512.size inb_S8x512_S8x512_0_0).toLoadRect ((Memref.isWhole_whole cc0_scratch3).unread p.nx))
    (View.readAt (Elt F) scM0_4.view (Rect.unit (s := S512x512) ![0, 0] S512x512.size whole_inb).toLoadRect ((Memref.isWhole_whole cc0_scratch4).unread p.wa))
    (View.readAt (Elt F) scM0_5.view (Rect.unit (s := S512x512) ![0, 0] S512x512.size whole_inb).toLoadRect ((Memref.isWhole_whole cc0_scratch5).unread p.wx))

abbrev smRow (t : Fin cfg0.N) (p : Left F) (q : Fin 8) : Vec F S1x512 .f32 :=
  View.readAt (Elt F) (ms0_16 t).view (smRect q).toLoadRect ((hs0_16 t).unread p.sm)

abbrev smPiece (c : Dev nD) (t : Fin cfg0.N) (p : Left F) (q : Fin 8) : View.Piece (Elt F) S8x512 .f32 :=
  ⟨smRect q, smT (grid0.coords t) (loadsOf m c t p) V0 V1 q (smRow t p q)⟩

abbrev smPieces (c : Dev nD) (t : Fin cfg0.N) (p : Left F) : List (View.Piece (Elt F) S8x512 .f32) :=
  [smPiece m c t p 7, smPiece m c t p 6, smPiece m c t p 5, smPiece m c t p 4, smPiece m c t p 0, smPiece m c t p 2,
    smPiece m c t p 1, smPiece m c t p 3]

abbrev outPieces (i : grid0.Coords) (P : Loads F) : List (View.Piece (Elt F) S512x1024 .bf16) :=
  [⟨Rect.unit (s := S512x1024) ![0, 512] ![512, 512] inb_S512x1024_S512x512_0_512, k0_pay2 (dgaT P)⟩,
    ⟨Rect.unit (s := S512x1024) ![0, 0] ![512, 512] inb_S512x1024_S512x512_0_0, k0_pay1 (dxaT i P V0 V1)⟩]

abbrev cgPiece (P : Loads F) : View.Piece (Elt F) S8x512 .f32 :=
  ⟨Rect.unit (s := S8x512) ![0, 0] S1x512.size inb_S8x512_S1x512_0_0, k0_pay207 (cgT P V0 V1)⟩

abbrev nxPiece (i : grid0.Coords) (P : Loads F) : View.Piece (Elt F) S8x512 .f32 :=
  ⟨Rect.unit (s := S8x512) ![0, 0] ![8, 512] inb_S8x512_S8x512_0_0, k0_pay227 (dxcT i P V0 V1)⟩

/-- A whole square buffer as loaded from what the point before left. -/
abbrev dwRead (v : Memref sig .tc .vmem S512x512 .f32) (hv : v.IsWhole) (s : Vec F S512x512 .f32) : Vec F S512x512 .f32 :=
  View.readAt (Elt F) v.view whole.toLoadRect (hv.unread s)

abbrev dwaPiece (i : grid0.Coords) (P : Loads F) (s : Vec F S512x512 .f32) : View.Piece (Elt F) S512x512 .f32 :=
  ⟨whole, dwaT i P V0 V1 s⟩

abbrev dwxPiece (i : grid0.Coords) (P : Loads F) (s : Vec F S512x512 .f32) : View.Piece (Elt F) S512x512 .f32 :=
  ⟨whole, dwxT i P V0 V1 s⟩

section middle

variable (c : Dev nD) (t : Fin cfg0.N) (h0 : ¬t.val % 8 = 0) (h1 : ¬t.val % 8 = 7) (p : Left F)

theorem runB_out : (runB m c t h0 h1 p).1 = outPieces (grid0.coords t) (loadsOf m c t p) := by sl_kernel_rfl

theorem runB_sm : (runB m c t h0 h1 p).2.2.1 = smPieces m c t p := by sl_kernel_rfl

theorem runB_cg : (runB m c t h0 h1 p).2.2.2.1 = [cgPiece (loadsOf m c t p)] := by sl_kernel_rfl

theorem runB_nx : (runB m c t h0 h1 p).2.2.2.2.1 = [nxPiece (grid0.coords t) (loadsOf m c t p)] := by sl_kernel_rfl

theorem runB_dwa : (runB m c t h0 h1 p).2.2.2.2.2.2.2.1
    = [dwaPiece (grid0.coords t) (loadsOf m c t p) (dwRead scM0_6 (Memref.isWhole_whole cc0_scratch6) p.dwa)] := by sl_kernel_rfl

theorem runB_dwx : (runB m c t h0 h1 p).2.2.2.2.2.2.2.2.1
    = [dwxPiece (grid0.coords t) (loadsOf m c t p) (dwRead scM0_7 (Memref.isWhole_whole cc0_scratch7) p.dwx)] := by sl_kernel_rfl

end middle

section last

variable (c : Dev nD) (t : Fin cfg0.N) (h0 : ¬t.val % 8 = 0) (h1 : t.val % 8 = 7) (p : Left F)

theorem runC_out : (runC m c t h0 h1 p).1 = outPieces (grid0.coords t) (loadsOf m c t p) := by sl_kernel_rfl

theorem runC_sm : (runC m c t h0 h1 p).2.2.1
    = ⟨smRect 3, k0_pay18 (loadsOf m c t p).lam ((ms0_16 t).view.readCov (smPieces m c t p) (smRect 3).toLoadRect)⟩ :: smPieces m c t p := by
  sl_kernel_rfl

theorem runC_rg : (runC m c t h0 h1 p).2.1
    = [⟨Rect.unit (s := S512x128) ![0, 0] ![512, 128] inb_S512x128_S512x128_0_0,
        packT (scM0_6.view.readCov [dwaPiece (grid0.coords t) (loadsOf m c t p) (dwRead scM0_6 (Memref.isWhole_whole cc0_scratch6) p.dwa)] whole.toLoadRect)
          (scM0_7.view.readCov [dwxPiece (grid0.coords t) (loadsOf m c t p) (dwRead scM0_7 (Memref.isWhole_whole cc0_scratch7) p.dwx)] whole.toLoadRect)⟩] := by
  sl_kernel_rfl

end last

/-- What the body loads at the first point: the carried buffers as it has just filled them. -/
def loadsFirst (c : Dev nD) (t : Fin cfg0.N) : Loads F :=
  loads m c t
    (scM0_2.view.readCov [⟨Rect.unit (s := S8x512) ![0, 0] ![8, 512] inb_S8x512_S8x512_0_0, k0_pay7⟩] (smRect 0).toLoadRect)
    (scM0_3.view.readCov [⟨Rect.unit (s := S8x512) ![0, 0] ![8, 512] inb_S8x512_S8x512_0_0, k0_pay8⟩]
      (Rect.unit (s := S8x512) ![0, 0] ![8, 512] inb_S8x512_S8x512_0_0).toLoadRect)
    (scM0_4.view.readCov [⟨whole, denseA (wLoad (ms0_9 t) (hs0_9 t) (iblk m c 9 t))⟩] whole.toLoadRect)
    (scM0_5.view.readCov [⟨whole, denseX (wLoad (ms0_11 t) (hs0_11 t) (iblk m c 11 t))⟩] whole.toLoadRect)

abbrev smFirst (c : Dev nD) (t : Fin cfg0.N) : List (View.Piece (Elt F) S8x512 .f32) :=
  smStep (grid0.coords t) (loadsFirst m c t) (ms0_16 t).view 7 <| smStep (grid0.coords t) (loadsFirst m c t) (ms0_16 t).view 6 <|
  smStep (grid0.coords t) (loadsFirst m c t) (ms0_16 t).view 5 <| smStep (grid0.coords t) (loadsFirst m c t) (ms0_16 t).view 4 <|
  smStep (grid0.coords t) (loadsFirst m c t) (ms0_16 t).view 0 <| smStep (grid0.coords t) (loadsFirst m c t) (ms0_16 t).view 2 <|
  smStep (grid0.coords t) (loadsFirst m c t) (ms0_16 t).view 1 <| smStep (grid0.coords t) (loadsFirst m c t) (ms0_16 t).view 3
    [⟨Rect.unit (s := S8x512) ![0, 0] ![8, 512] inb_S8x512_S8x512_0_0, k0_pay6⟩]

section first

variable (c : Dev nD) (t : Fin cfg0.N) (h0 : t.val % 8 = 0) (h1 : ¬t.val % 8 = 7)

theorem runA_out : (runA m c t h0 h1).1 = outPieces (grid0.coords t) (loadsFirst m c t) := by sl_kernel_rfl

theorem runA_sm : (runA m c t h0 h1).2.2.1 = smFirst m c t := by sl_kernel_rfl

theorem runA_cg : (runA m c t h0 h1).2.2.2.1
    = cgPiece (loadsFirst m c t) :: [⟨Rect.unit (s := S8x512) ![0, 0] ![8, 512] inb_S8x512_S8x512_0_0, k0_pay7⟩] := by sl_kernel_rfl

theorem runA_nx : (runA m c t h0 h1).2.2.2.2.1
    = nxPiece (grid0.coords t) (loadsFirst m c t) :: [⟨Rect.unit (s := S8x512) ![0, 0] ![8, 512] inb_S8x512_S8x512_0_0, k0_pay8⟩] := by
  sl_kernel_rfl

theorem runA_wa : (runA m c t h0 h1).2.2.2.2.2.1 = [⟨whole, denseA (wLoad (ms0_9 t) (hs0_9 t) (iblk m c 9 t))⟩] := by sl_kernel_rfl

theorem runA_wx : (runA m c t h0 h1).2.2.2.2.2.2.1 = [⟨whole, denseX (wLoad (ms0_11 t) (hs0_11 t) (iblk m c 11 t))⟩] := by sl_kernel_rfl

theorem runA_dwa : (runA m c t h0 h1).2.2.2.2.2.2.2.1
    = dwaPiece (grid0.coords t) (loadsFirst m c t) (scM0_6.view.readCov [⟨whole, k0_pay4⟩] whole.toLoadRect) :: [⟨whole, k0_pay4⟩] := by
  sl_kernel_rfl

theorem runA_dwx : (runA m c t h0 h1).2.2.2.2.2.2.2.2.1
    = dwxPiece (grid0.coords t) (loadsFirst m c t) (scM0_7.view.readCov [⟨whole, k0_pay5⟩] whole.toLoadRect) :: [⟨whole, k0_pay5⟩] := by
  sl_kernel_rfl

end first

end Cert.Rglru

end
-- ==== Proof.Rglru.Stage.lean ====
/- What the body loads at each point, from the staged blocks and what the point before left. -/
module

public import proofs.«01_k».proof.Proof.Rglru.Sums
public import proofs.«01_k».proof.Proof.Rglru.Dense
public import proofs.«01_k».proof.Proof.Rglru.Pieces

@[expose] public section

set_option maxRecDepth 16384

noncomputable section

namespace Cert.Rglru

open Cert.Kernel2Ideal Cert.Kernel2Ideal.Gen Cert.Common
open Idealize.ShloMosaic Idealize.ShloMosaic.TcCoe

variable (m : (ℓ : Loc nD τ sig) → Buf (Elt Ideal) ℓ)

/-- The blocks staged at each point: point `t` works on tile `7 - t`. -/
structure Staged (c : Dev nD) (D : Data) : Prop where
  x : ∀ (t : Fin cfg0.N) (r j : Fin 512), (iblk m c 0 t : Vec Ideal S512x512 .f32) (ix2 r j) = ((D.x (512 * (7 - t.val) + r.val) j.val : ℝ) : EReal)
  ga : ∀ (t : Fin cfg0.N) (r j : Fin 512), (iblk m c 1 t : Vec Ideal S512x512 .bf16) (ix2 r j) = ((D.ga (512 * (7 - t.val) + r.val) j.val : ℝ) : EReal)
  xp : ∀ t : Fin cfg0.N, t.val < 7 → ∀ (r : Fin 8) (j : Fin 512),
    (iblk m c 2 t : Vec Ideal S8x512 .f32) (ix2 r j) = ((D.x (512 * (7 - t.val) - 8 + r.val) j.val : ℝ) : EReal)
  h : ∀ (t : Fin cfg0.N) (r j : Fin 512), (iblk m c 3 t : Vec Ideal S512x512 .f32) (ix2 r j) = ((D.h (512 * (7 - t.val) + r.val) j.val : ℝ) : EReal)
  hp : ∀ t : Fin cfg0.N, t.val < 7 → ∀ (r : Fin 8) (j : Fin 512),
    (iblk m c 4 t : Vec Ideal S8x512 .f32) (ix2 r j) = ((D.h (512 * (7 - t.val) - 8 + r.val) j.val : ℝ) : EReal)
  r : ∀ (t : Fin cfg0.N) (r j : Fin 512), (iblk m c 5 t : Vec Ideal S4x512x512 .f32) (ix3 0 r j) = ((D.r (512 * (7 - t.val) + r.val) j.val : ℝ) : EReal)
  ig : ∀ (t : Fin cfg0.N) (r j : Fin 512), (iblk m c 5 t : Vec Ideal S4x512x512 .f32) (ix3 1 r j) = ((D.ig (512 * (7 - t.val) + r.val) j.val : ℝ) : EReal)
  a : ∀ (t : Fin cfg0.N) (r j : Fin 512), (iblk m c 5 t : Vec Ideal S4x512x512 .f32) (ix3 2 r j) = ((D.a (512 * (7 - t.val) + r.val) j.val : ℝ) : EReal)
  mult : ∀ (t : Fin cfg0.N) (r j : Fin 512), (iblk m c 5 t : Vec Ideal S4x512x512 .f32) (ix3 3 r j) = ((D.mult (512 * (7 - t.val) + r.val) j.val : ℝ) : EReal)
  dy : ∀ (t : Fin cfg0.N) (r j : Fin 512), (iblk m c 6 t : Vec Ideal S512x512 .f32) (ix2 r j) = ((D.dy (512 * (7 - t.val) + r.val) j.val : ℝ) : EReal)
  cw : ∀ (t : Fin cfg0.N) (q s : Fin 4) (l : Fin 128), (iblk m c 7 t : Vec Ideal S4x4x128 .f32) (ix3 q s l) = ((D.cw s.val (128 * q.val + l.val) : ℝ) : EReal)
  cb : ∀ (t : Fin cfg0.N) (j : Fin 512), (iblk m c 8 t : Vec Ideal S1x512 .f32) (ix2 0 j) = ((D.cb j.val : ℝ) : EReal)
  wa : ∀ (t : Fin cfg0.N) (r : Fin 512) (x : Fin 64), (iblk m c 9 t : Vec Ideal S512x64 .f32) (ix2 r x) = ((D.wa (r.val / 64) (r.val % 64) x.val : ℝ) : EReal)
  wx : ∀ (t : Fin cfg0.N) (r : Fin 512) (x : Fin 64), (iblk m c 11 t : Vec Ideal S512x64 .f32) (ix2 r x) = ((D.wx (r.val / 64) (r.val % 64) x.val : ℝ) : EReal)
  lam : ∀ (t : Fin cfg0.N) (j : Fin 512), (iblk m c 13 t : Vec Ideal S1x512 .f32) (ix2 0 j) = ((D.lam j.val : ℝ) : EReal)

/-- What is carried from the point of tile `k` to the next. -/
structure Carried (k : ℕ) (p : Left Ideal) (D : Data) : Prop where
  cg : ∀ j : Fin 512, p.cg (ix2 0 j) = ((D.a (512 * k) j.val * D.g (512 * k) j.val : ℝ) : EReal)
  nx : ∀ (r : Fin 8) (j : Fin 512), p.nx (ix2 r j) = ((D.dxc (512 * k + r.val) j.val : ℝ) : EReal)
  wa : ∀ r j : Fin 512, p.wa (ix2 r j) = ((if r.val / 64 = j.val / 64 then D.wa (r.val / 64) (r.val % 64) (j.val % 64) else 0 : ℝ) : EReal)
  wx : ∀ r j : Fin 512, p.wx (ix2 r j) = ((if r.val / 64 = j.val / 64 then D.wx (r.val / 64) (r.val % 64) (j.val % 64) else 0 : ℝ) : EReal)

theorem origin2 : (![0, 0] : Fin 2 → Nat) = fun _ => 0 := funext fun a => by fin_cases a <;> rfl

theorem coords_val (t : Fin cfg0.N) : ((grid0.coords t) 0).val = t.val :=
  (by decide +kernel : ∀ t : Fin grid0.N, ((grid0.coords t) 0).val = t.val) t

variable {m} {c : Dev nD} {D : Data}

/-- A tile's loads, over carried contents that hold what they should. -/
theorem tile_of (S : Staged m c D) (t : Fin cfg0.N) (k : ℕ) (hk : k + t.val = 7) (cg : Vec Ideal S1x512 .f32) (nx : Vec Ideal S8x512 .f32)
    (wa wx : Vec Ideal S512x512 .bf16)
    (hcg : ∀ j : Fin 512, cg (ix2 0 j) = ((if k = 7 then 0 else D.a (512 * (k + 1)) j.val * D.g (512 * (k + 1)) j.val : ℝ) : EReal))
    (hnx : ∀ (r : Fin 8) (j : Fin 512), nx (ix2 r j) = ((if k = 7 then 0 else D.dxc (512 * (k + 1) + r.val) j.val : ℝ) : EReal))
    (hwa : ∀ r j : Fin 512, wa (ix2 r j) = ((if r.val / 64 = j.val / 64 then D.wa (r.val / 64) (r.val % 64) (j.val % 64) else 0 : ℝ) : EReal))
    (hwx : ∀ r j : Fin 512, wx (ix2 r j) = ((if r.val / 64 = j.val / 64 then D.wx (r.val / 64) (r.val % 64) (j.val % 64) else 0 : ℝ) : EReal)) :
    Tile (grid0.coords t) k (loads m c t cg nx wa wx) D := by
  have e : 7 - t.val = k := by omega
  refine Tile.mk (by omega) (by rw [coords_val]; omega) ?_ ?_ ?_ ?_ ?_ ?_ ?_ ?_ ?_ ?_ ?_ ?_ ?_ hcg hnx hwa hwx
  · intro r j
    show View.readAt _ _ _ _ _ = _
    rw [View.readAt_eq_ld, (hs0_0 t).read_unread, View.ld_unit_zero (S := S512x512) origin2, S.x, e]
  · intro r j
    show View.readAt _ _ _ _ _ = _
    rw [View.readAt_eq_ld, (hs0_1 t).read_unread, View.ld_unit_zero (S := S512x512) origin2, S.ga, e]
  · intro h0 r j
    show View.readAt _ _ _ _ _ = _
    rw [View.readAt_eq_ld, (hs0_2 t).read_unread, View.ld_unit_zero (S := S8x512) origin2, S.xp t (by omega), e]
  · intro r j
    show View.readAt _ _ _ _ _ = _
    rw [View.readAt_eq_ld, (hs0_3 t).read_unread, View.ld_unit_zero (S := S512x512) origin2, S.h, e]
  · intro h0 r j
    show View.readAt _ _ _ _ _ = _
    rw [View.readAt_eq_ld, (hs0_4 t).read_unread, View.ld_unit_zero (S := S8x512) origin2, S.hp t (by omega), e]
  · intro r j
    show View.readAt _ _ _ _ _ = _
    rw [View.readAt_eq_ld, (hs0_5 t).read_unread]
    refine (ld_slab (iblk m c 5 t : Vec Ideal S4x512x512 .f32) 0 _ (by omega) r j).trans ((S.r t r j).trans ?_)
    rw [e]
  · intro r j
    show View.readAt _ _ _ _ _ = _
    rw [View.readAt_eq_ld, (hs0_5 t).read_unread]
    refine (ld_slab (iblk m c 5 t : Vec Ideal S4x512x512 .f32) 1 _ (by omega) r j).trans ((S.ig t r j).trans ?_)
    rw [e]
  · intro r j
    show View.readAt _ _ _ _ _ = _
    rw [View.readAt_eq_ld, (hs0_5 t).read_unread]
    refine (ld_slab (iblk m c 5 t : Vec Ideal S4x512x512 .f32) 2 _ (by omega) r j).trans ((S.a t r j).trans ?_)
    rw [e]
  · intro r j
    show View.readAt _ _ _ _ _ = _
    rw [View.readAt_eq_ld, (hs0_5 t).read_unread]
    refine (ld_slab (iblk m c 5 t : Vec Ideal S4x512x512 .f32) 3 _ (by omega) r j).trans ((S.mult t r j).trans ?_)
    rw [e]
  · intro r j
    show View.readAt _ _ _ _ _ = _
    rw [View.readAt_eq_ld, (hs0_6 t).read_unread, View.ld_unit_zero (S := S512x512) origin2, S.dy, e]
  · intro q s l
    show View.readAt _ _ _ _ _ = _
    rw [View.readAt_eq_ld, (hs0_7 t).read_unread]
    refine Eq.trans ?_ (S.cw t q s l)
    refine congrArg (iblk m c 7 t : Vec Ideal S4x4x128 .f32) ?_
    funext x
    apply Fin.ext
    match x with
    | ⟨0, _⟩ => show q.val + 1 * 0 = q.val; omega
    | ⟨1, _⟩ => show s.val + 1 * 0 = s.val; omega
    | ⟨2, _⟩ => show 0 + 1 * l.val = l.val; omega
  · intro j
    show View.readAt _ _ _ _ _ = _
    rw [View.readAt_eq_ld, (hs0_8 t).read_unread, View.ld_unit_zero (S := S1x512) origin2, S.cb]
  · intro j
    show View.readAt _ _ _ _ _ = _
    rw [View.readAt_eq_ld, (hs0_13 t).read_unread, View.ld_unit_zero (S := S1x512) origin2, S.lam]

theorem tile_next (S : Staged m c D) (t : Fin cfg0.N) (k : ℕ) (hk : k + t.val = 7) (h7 : k < 7) (p : Left Ideal) (C : Carried (k + 1) p D) :
    Tile (grid0.coords t) k (loadsOf m c t p) D := by
  refine tile_of S t k hk _ _ _ _ ?_ ?_ ?_ ?_
  · intro j
    rw [View.readAt_eq_ld, Memref.IsWhole.read_unread, if_neg (by omega), ← C.cg]
    refine (ld_rect2 p.cg 0 0 1 512 _ 0 j (by omega) (by omega)).trans ?_
    refine congrArg p.cg ?_
    congr 1 <;> exact Fin.ext (Nat.zero_add _)
  · intro r j
    rw [View.readAt_eq_ld, Memref.IsWhole.read_unread, if_neg (by omega), View.ld_unit_zero (S := S8x512) origin2, C.nx]
  · intro r j
    rw [View.readAt_eq_ld, Memref.IsWhole.read_unread, View.ld_unit_zero (S := S512x512) origin2, C.wa]
  · intro r j
    rw [View.readAt_eq_ld, Memref.IsWhole.read_unread, View.ld_unit_zero (S := S512x512) origin2, C.wx]

theorem wLoad_a (S : Staged m c D) (t : Fin cfg0.N) (r : Fin 512) (x : Fin 64) :
    wLoad (ms0_9 t) (hs0_9 t) (iblk m c 9 t) (ix2 r x) = ((D.wa (r.val / 64) (r.val % 64) x.val : ℝ) : EReal) := by
  unfold wLoad
  rw [View.readAt_eq_ld, (hs0_9 t).read_unread, View.ld_unit_zero (S := S512x64) origin2, S.wa]

theorem wLoad_x (S : Staged m c D) (t : Fin cfg0.N) (r : Fin 512) (x : Fin 64) :
    wLoad (ms0_11 t) (hs0_11 t) (iblk m c 11 t) (ix2 r x) = ((D.wx (r.val / 64) (r.val % 64) x.val : ℝ) : EReal) := by
  unfold wLoad
  rw [View.readAt_eq_ld, (hs0_11 t).read_unread, View.ld_unit_zero (S := S512x64) origin2, S.wx]

theorem denseFirst_a (S : Staged m c D) (t : Fin cfg0.N) (r j : Fin 512) :
    denseA (wLoad (ms0_9 t) (hs0_9 t) (iblk m c 9 t)) (ix2 r j)
      = ((if r.val / 64 = j.val / 64 then D.wa (r.val / 64) (r.val % 64) (j.val % 64) else 0 : ℝ) : EReal) :=
  denseA_at _ (fun r x => D.wa (r / 64) (r % 64) x) (wLoad_a S t) r j

theorem denseFirst_x (S : Staged m c D) (t : Fin cfg0.N) (r j : Fin 512) :
    denseX (wLoad (ms0_11 t) (hs0_11 t) (iblk m c 11 t)) (ix2 r j)
      = ((if r.val / 64 = j.val / 64 then D.wx (r.val / 64) (r.val % 64) (j.val % 64) else 0 : ℝ) : EReal) :=
  denseX_at _ (fun r x => D.wx (r / 64) (r % 64) x) (wLoad_x S t) r j

theorem pay7_at (r : Fin 8) (j : Fin 512) : (k0_pay7 : FVec Ideal S8x512 .f32) (ix2 r j) = 0 := by
  unfold k0_pay7
  pointwise []

theorem pay8_at (r : Fin 8) (j : Fin 512) : (k0_pay8 : FVec Ideal S8x512 .f32) (ix2 r j) = 0 := by
  unfold k0_pay8
  pointwise []

theorem pay6_at (r : Fin 8) (j : Fin 512) : (k0_pay6 : FVec Ideal S8x512 .f32) (ix2 r j) = 0 := by
  unfold k0_pay6
  pointwise []

theorem pay4_at (r j : Fin 512) : (k0_pay4 : FVec Ideal S512x512 .f32) (ix2 r j) = 0 := by
  unfold k0_pay4
  pointwise []

theorem pay5_at (r j : Fin 512) : (k0_pay5 : FVec Ideal S512x512 .f32) (ix2 r j) = 0 := by
  unfold k0_pay5
  pointwise []

theorem tile_first (S : Staged m c D) (t : Fin cfg0.N) (h0 : t.val = 0) : Tile (grid0.coords t) 7 (loadsFirst m c t) D := by
  refine tile_of S t 7 (by omega) _ _ _ _ ?_ ?_ ?_ ?_
  · intro j
    rw [if_pos rfl, EReal.coe_zero]
    refine (readCov_rect2 scM0_2.view _ 0 0 1 512 _ 0 j (by omega) (by omega)).trans ?_
    rw [canon_rect2 0 0 8 512, dif_pos (by constructor <;> constructor <;> simp)]
    exact pay7_at _ _
  · intro r j
    rw [if_pos rfl, EReal.coe_zero, View.readCov_cons_toLoadRect]
    exact pay8_at _ _
  · intro r j
    rw [View.readCov_cons_toLoadRect]
    exact denseFirst_a S t r j
  · intro r j
    rw [View.readCov_cons_toLoadRect]
    exact denseFirst_x S t r j

end Cert.Rglru

end
-- ==== Proof.Rglru.Blocks.lean ====
/- The blocks staged at each grid point hold the rows of the point's tile. -/
module

public import proofs.«01_k».proof.Proof.Rglru.HostStates
public import proofs.«01_k».proof.Proof.Rglru.Stage
public import Idealize.ShloMosaic.Lib.Pipeline.ValueKit

@[expose] public section

set_option maxRecDepth 16384

noncomputable section

namespace Cert.Rglru

open Cert.Kernel2Ideal Cert.Kernel2Ideal.Gen
open Idealize.ShloMosaic Idealize.ShloMosaic.TcCoe

variable (m : (ℓ : Loc nD τ sig) → Buf (Elt Ideal) ℓ)

/-- Point `t` works on tile `7 - t`; the eight rows before it are one block of eight. -/
theorem tiled (t : Fin cfg0.N) : win0_0.index t = ![7 - t.val, 0] ∧ win0_1.index t = ![7 - t.val, 0] ∧ win0_2.index t = ![64 * (7 - t.val) - 1, 0] ∧ win0_3.index t = ![7 - t.val, 0] ∧ win0_4.index t = ![64 * (7 - t.val) - 1, 0] ∧ win0_5.index t = ![0, 7 - t.val, 0] ∧ win0_6.index t = ![7 - t.val, 0] ∧ win0_7.index t = ![0, 0, 0] ∧ win0_8.index t = ![0, 0] ∧ win0_9.index t = ![0, 0] ∧ win0_11.index t = ![0, 0] ∧ win0_13.index t = ![0, 0] ∧ win0_14.index t = ![7 - t.val, 0] :=
  (by decide +kernel : ∀ t : Fin grid0.N, win0_0.index t = ![7 - t.val, 0] ∧ win0_1.index t = ![7 - t.val, 0] ∧ win0_2.index t = ![64 * (7 - t.val) - 1, 0] ∧ win0_3.index t = ![7 - t.val, 0] ∧ win0_4.index t = ![64 * (7 - t.val) - 1, 0] ∧ win0_5.index t = ![0, 7 - t.val, 0] ∧ win0_6.index t = ![7 - t.val, 0] ∧ win0_7.index t = ![0, 0, 0] ∧ win0_8.index t = ![0, 0] ∧ win0_9.index t = ![0, 0] ∧ win0_11.index t = ![0, 0] ∧ win0_13.index t = ![0, 0] ∧ win0_14.index t = ![7 - t.val, 0]) t

theorem row_lt (t : Fin cfg0.N) (r : Fin 512) : 512 * (7 - t.val) + r.val < 4096 := by have := r.isLt; omega

theorem before_lt (t : Fin cfg0.N) (h : t.val < 7) (r : Fin 8) : 512 * (7 - t.val) - 8 + r.val < 4096 := by have := r.isLt; omega

variable {m} {c : Dev nD}

theorem blk_x (t : Fin cfg0.N) (r j : Fin 512) :
    (iblk m c 0 t : Vec Ideal S512x512 .f32) (ix2 r j) = (V m c main_v123 : Vec Ideal S4096x1024 .f32) (ix2 ⟨_, row_lt t r⟩ (⟨j.val, by omega⟩ : Fin 1024)) := by
  obtain ⟨e, -⟩ := tiled t
  blk_ext! [iblk, e]

theorem blk_ga (t : Fin cfg0.N) (r j : Fin 512) :
    (iblk m c 1 t : Vec Ideal S512x512 .bf16) (ix2 r j) = (V m c main_v125 : Vec Ideal S4096x2048 .bf16) (ix2 ⟨_, row_lt t r⟩ (⟨j.val, by omega⟩ : Fin 2048)) := by
  obtain ⟨-, e, -⟩ := tiled t
  blk_ext! [iblk, e]

theorem blk_xp (t : Fin cfg0.N) (h : t.val < 7) (r : Fin 8) (j : Fin 512) :
    (iblk m c 2 t : Vec Ideal S8x512 .f32) (ix2 r j) = (V m c main_v123 : Vec Ideal S4096x1024 .f32) (ix2 ⟨_, before_lt t h r⟩ (⟨j.val, by omega⟩ : Fin 1024)) := by
  obtain ⟨-, -, e, -⟩ := tiled t
  blk_ext! [iblk, e]

theorem blk_h (t : Fin cfg0.N) (r j : Fin 512) :
    (iblk m c 3 t : Vec Ideal S512x512 .f32) (ix2 r j) = (V m c main_v122 : Vec Ideal S4096x512 .f32) (ix2 ⟨_, row_lt t r⟩ j) := by
  obtain ⟨-, -, -, e, -⟩ := tiled t
  blk_ext! [iblk, e]

theorem blk_hp (t : Fin cfg0.N) (h : t.val < 7) (r : Fin 8) (j : Fin 512) :
    (iblk m c 4 t : Vec Ideal S8x512 .f32) (ix2 r j) = (V m c main_v122 : Vec Ideal S4096x512 .f32) (ix2 ⟨_, before_lt t h r⟩ j) := by
  obtain ⟨-, -, -, -, e, -⟩ := tiled t
  blk_ext! [iblk, e]

theorem blk_gates (t : Fin cfg0.N) (q : Fin 4) (r j : Fin 512) :
    (iblk m c 5 t : Vec Ideal S4x512x512 .f32) (ix3 q r j) = (V m c main_v135 : Vec Ideal S4x4096x512 .f32) (ix3 q ⟨_, row_lt t r⟩ j) := by
  obtain ⟨-, -, -, -, -, e, -⟩ := tiled t
  blk_ext! [iblk, e]

theorem blk_dy (t : Fin cfg0.N) (r j : Fin 512) :
    (iblk m c 6 t : Vec Ideal S512x512 .f32) (ix2 r j) = (V m c main_arg1 : Vec Ideal S4096x1024 .f32) (ix2 ⟨_, row_lt t r⟩ (⟨j.val, by omega⟩ : Fin 1024)) := by
  obtain ⟨-, -, -, -, -, -, e, -⟩ := tiled t
  blk_ext! [iblk, e]

theorem blk_cw (t : Fin cfg0.N) (q s : Fin 4) (l : Fin 128) :
    (iblk m c 7 t : Vec Ideal S4x4x128 .f32) (ix3 q s l) = (V m c main_v128 : Vec Ideal S4x4x128 .f32) (ix3 q s l) := by
  obtain ⟨-, -, -, -, -, -, -, e, -⟩ := tiled t
  blk_ext! [iblk, e]

theorem blk_cb (t : Fin cfg0.N) (j : Fin 512) :
    (iblk m c 8 t : Vec Ideal S1x512 .f32) (ix2 0 j) = (V m c main_arg3 : Vec Ideal S1x512 .f32) (ix2 0 j) := by
  obtain ⟨-, -, -, -, -, -, -, -, e, -⟩ := tiled t
  blk_ext! [iblk, e]

theorem blk_wa (t : Fin cfg0.N) (r : Fin 512) (x : Fin 64) :
    (iblk m c 9 t : Vec Ideal S512x64 .f32) (ix2 r x) = (V m c main_v129 : Vec Ideal S512x64 .f32) (ix2 r x) := by
  obtain ⟨-, -, -, -, -, -, -, -, -, e, -⟩ := tiled t
  blk_ext! [iblk, e]

theorem blk_wx (t : Fin cfg0.N) (r : Fin 512) (x : Fin 64) :
    (iblk m c 11 t : Vec Ideal S512x64 .f32) (ix2 r x) = (V m c main_v130 : Vec Ideal S512x64 .f32) (ix2 r x) := by
  obtain ⟨-, -, -, -, -, -, -, -, -, -, e, -⟩ := tiled t
  blk_ext! [iblk, e]

theorem blk_lam (t : Fin cfg0.N) (j : Fin 512) :
    (iblk m c 13 t : Vec Ideal S1x512 .f32) (ix2 0 j) = (V m c main_arg8 : Vec Ideal S1x512 .f32) (ix2 0 j) := by
  obtain ⟨-, -, -, -, -, -, -, -, -, -, -, e, -⟩ := tiled t
  blk_ext! [iblk, e]

/-- The staged blocks hold what they should where the arguments do. -/
theorem staged {D : Data} (H : Host.Args (fun b => m (c, b)) D) : Staged m c D where
  x := fun t r j => (blk_x t r j).trans ((Host.prepared H).x _ j)
  ga := fun t r j => (blk_ga t r j).trans ((Host.prepared H).ga _ j)
  xp := fun t h r j => (blk_xp t h r j).trans ((Host.prepared H).x _ j)
  h := fun t r j => (blk_h t r j).trans ((Host.prepared H).h _ j)
  hp := fun t h r j => (blk_hp t h r j).trans ((Host.prepared H).h _ j)
  r := fun t r j => (blk_gates t 0 r j).trans ((Host.prepared H).r _ j)
  ig := fun t r j => (blk_gates t 1 r j).trans ((Host.prepared H).ig _ j)
  a := fun t r j => (blk_gates t 2 r j).trans ((Host.prepared H).a _ j)
  mult := fun t r j => (blk_gates t 3 r j).trans ((Host.prepared H).mult _ j)
  dy := fun t r j => (blk_dy t r j).trans ((Host.prepared H).dy _ j)
  cw := fun t q s l => (blk_cw t q s l).trans ((Host.prepared H).cw q s l)
  cb := fun t j => (blk_cb t j).trans ((Host.prepared H).cb j)
  wa := fun t r x => (blk_wa t r x).trans ((Host.prepared H).wa r x)
  wx := fun t r x => (blk_wx t r x).trans ((Host.prepared H).wx r x)
  lam := fun t j => (blk_lam t j).trans ((Host.prepared H).lam j)

end Cert.Rglru

end
-- ==== Proof.Rglru.Points.lean ====
/- What stands after each point of the grid, as the arithmetic's functions of the rows from the point's tile on. -/
module

public import proofs.«01_k».proof.Proof.Rglru.Stage

@[expose] public section

set_option maxRecDepth 16384

noncomputable section

namespace Cert.Rglru

open Cert.Kernel2Ideal Cert.Kernel2Ideal.Gen Cert.Common
open Idealize.ShloMosaic Idealize.ShloMosaic.TcCoe

attribute [local irreducible] kernelRun0_A kernelRun0_B kernelRun0_C

/-- A sum over the rows from tile `k` on: the tiles after it, and its own rows. -/
theorem sum_from (f : ℕ → ℝ) (k : ℕ) (hk : k < 8) :
    (∑ t ∈ Finset.Ico (512 * (k + 1)) 4096, f t) + ∑ r ∈ Finset.range 512, f (512 * k + r) = ∑ t ∈ Finset.Ico (512 * k) 4096, f t := by
  rw [← Finset.sum_Ico_consecutive f (show 512 * k ≤ 512 * (k + 1) by omega) (show 512 * (k + 1) ≤ 4096 by omega), add_comm,
    Finset.sum_Ico_eq_sum_range f (512 * k) (512 * (k + 1)), show 512 * (k + 1) - 512 * k = 512 by omega]

theorem canon_row_ne {q q' : Fin 8} (X : Vec Ideal S1x512 .f32) (L : List (View.Piece (Elt Ideal) S8x512 .f32)) (j : Fin 512) (h : q ≠ q') :
    View.canon ((⟨smRect q', X⟩ : View.Piece (Elt Ideal) S8x512 .f32) :: L) (ix2 q j) = View.canon L (ix2 q j) := by
  refine (canon_rect2 q'.val 0 1 512 (row_inb q') X L q j).trans (dif_neg fun hc => h (Fin.ext ?_))
  omega

theorem canon_row_eq (q : Fin 8) (X : Vec Ideal S1x512 .f32) (L : List (View.Piece (Elt Ideal) S8x512 .f32)) (j : Fin 512) :
    View.canon ((⟨smRect q, X⟩ : View.Piece (Elt Ideal) S8x512 .f32) :: L) (ix2 q j) = X (ix2 0 j) := by
  refine (canon_rect2 q.val 0 1 512 (row_inb q) X L q j).trans ((dif_pos (by omega)).trans (congrArg X ?_))
  congr 1
  exact Fin.ext (Nat.sub_self _)

theorem readCov_row (v : View sig .tc .vmem S8x512 .f32) (L : List (View.Piece (Elt Ideal) S8x512 .f32)) (q : Fin 8) (j : Fin 512) :
    v.readCov L (smRect q).toLoadRect (ix2 0 j) = View.canon L (ix2 q j) := by
  refine (readCov_rect2 v L q.val 0 1 512 (row_inb q) 0 j (by omega) (by omega)).trans (congrArg (View.canon L) ?_)
  congr 1
  exact Fin.ext (Nat.zero_add _)

/-- The first row stored alone over a buffer. -/
theorem read_row_zero (v : View sig .tc .vmem S8x512 .f32) (f : v.ty.Contents (Elt Ideal)) (X : Vec Ideal S1x512 .f32) (j : Fin 512) :
    v.read (Elt Ideal) (v.writes (Elt Ideal) f [(⟨smRect 0, X⟩ : View.Piece (Elt Ideal) S8x512 .f32)]) (ix2 0 j) = X (ix2 0 j) := by
  refine (read_writes_rect2 v f 0 0 1 512 (row_inb 0) X [] 0 j).trans ((dif_pos (by constructor <;> constructor <;> simp)).trans ?_)
  exact congrArg X (by congr 1)

/-- The buffer of eight rows stored whole. -/
theorem canon_eight (inb) (X : Vec Ideal S8x512 .f32) (L : List (View.Piece (Elt Ideal) S8x512 .f32)) (r : Fin 8) (j : Fin 512) :
    View.canon ((⟨Rect.unit (s := S8x512) ![0, 0] ![8, 512] inb, X⟩ : View.Piece (Elt Ideal) S8x512 .f32) :: L) (ix2 r j) = X (ix2 r j) := by
  refine (canon_rect2 0 0 8 512 inb X L r j).trans ((dif_pos (by omega)).trans (congrArg X ?_))
  congr 1

theorem canon_whole (X : Vec Ideal S512x512 .f32) (L : List (View.Piece (Elt Ideal) S512x512 .f32)) (r j : Fin 512) :
    View.canon ((⟨whole, X⟩ : View.Piece (Elt Ideal) S512x512 .f32) :: L) (ix2 r j) = X (ix2 r j) := by
  refine (canon_rect2 0 0 512 512 whole_inb X L r j).trans ((dif_pos (by omega)).trans (congrArg X ?_))
  congr 1

variable {i : grid0.Coords} {k : ℕ} {P : Loads Ideal} {D : Data}

/-- The block of both gradients a point leaves. -/
theorem outPieces_at (T : Tile i k P D) (r : Fin 512) (j : Fin 1024) :
    View.canon (outPieces i P) (ix2 r j)
      = ((if j.val < 512 then D.dxa (512 * k + r.val) j.val else D.dga (512 * k + r.val) (j.val - 512) : ℝ) : EReal) := by
  refine (canon_rect2 (Val := Elt Ideal) (e := .bf16) 0 512 512 512 inb_S512x1024_S512x512_0_512 (k0_pay2 (dgaT P)) _ r j).trans ?_
  by_cases h : j.val < 512
  · rw [dif_neg (by omega), if_pos h]
    refine (canon_rect2 (Val := Elt Ideal) (e := .bf16) 0 0 512 512 inb_S512x1024_S512x512_0_0 (k0_pay1 (dxaT i P V0 V1)) [] r j).trans ((dif_pos (by omega)).trans ?_)
    exact dxa_at T r ⟨j.val, h⟩
  · rw [dif_pos (by omega), if_neg h]
    exact dga_at T r ⟨j.val - 512, by omega⟩

/-- What stands after the point of tile `k`: what is carried on, and the sums over the rows from the tile on. -/
structure Kept (k : ℕ) (p : Left Ideal) (D : Data) : Prop extends Carried k p D where
  sm : ∀ (q : Fin 8) (j : Fin 512), p.sm (ix2 q j) = ((∑ t ∈ Finset.Ico (512 * k) 4096, D.summand q.val t j.val : ℝ) : EReal)
  dwa : ∀ r j : Fin 512, p.dwa (ix2 r j) = ((∑ t ∈ Finset.Ico (512 * k) 4096, D.conv t r.val * D.dpr t j.val : ℝ) : EReal)
  dwx : ∀ r j : Fin 512, p.dwx (ix2 r j) = ((∑ t ∈ Finset.Ico (512 * k) 4096, D.conv t r.val * D.dpi t j.val : ℝ) : EReal)

variable {m : (ℓ : Loc nD τ sig) → Buf (Elt Ideal) ℓ} {c : Dev nD}

theorem smRow_at (t : Fin cfg0.N) (p : Left Ideal) (q : Fin 8) (j : Fin 512) : smRow t p q (ix2 0 j) = p.sm (ix2 q j) := by
  unfold smRow
  rw [View.readAt_eq_ld, (hs0_16 t).read_unread]
  refine (ld_rect2 p.sm q.val 0 1 512 (row_inb q) 0 j (by omega) (by omega)).trans (congrArg p.sm ?_)
  congr 1
  exact Fin.ext (Nat.zero_add _)

/-- The eight summed rows at a point that is not the first. -/
theorem smPieces_at {t : Fin cfg0.N} {p : Left Ideal} (T : Tile i k (loadsOf m c t p) D) (hi : grid0.coords t = i) (hk : k < 8) (K : Kept (k + 1) p D)
    (q : Fin 8) (j : Fin 512) :
    View.canon (smPieces m c t p) (ix2 q j) = ((∑ s ∈ Finset.Ico (512 * k) 4096, D.summand q.val s j.val : ℝ) : EReal) := by
  subst hi
  have h : ∀ q : Fin 8, smT (grid0.coords t) (loadsOf m c t p) V0 V1 q (smRow t p q) (ix2 0 j)
      = ((∑ s ∈ Finset.Ico (512 * k) 4096, D.summand q.val s j.val : ℝ) : EReal) := fun q =>
    (sm_at T q _ j _ ((smRow_at t p q j).trans (K.sm q j))).trans (congrArg (fun x : ℝ => (x : EReal)) (sum_from _ k hk))
  fin_cases q
  all_goals
    repeat refine (canon_row_ne _ _ _ (by decide)).trans ?_
    exact (canon_row_eq _ _ _ _).trans (h _)

/-- The eight summed rows at the first point. -/
theorem smFirst_at {t : Fin cfg0.N} (T : Tile i 7 (loadsFirst m c t) D) (hi : grid0.coords t = i) (q : Fin 8) (j : Fin 512) :
    View.canon (smFirst m c t) (ix2 q j) = ((∑ s ∈ Finset.Ico (512 * 7) 4096, D.summand q.val s j.val : ℝ) : EReal) := by
  subst hi
  have h : ∀ (q : Fin 8) (s : Vec Ideal S1x512 .f32), s (ix2 0 j) = 0 → smT (grid0.coords t) (loadsFirst m c t) V0 V1 q s (ix2 0 j)
      = ((∑ s ∈ Finset.Ico (512 * 7) 4096, D.summand q.val s j.val : ℝ) : EReal) := fun q s hs =>
    (sm_at T q s j 0 (hs.trans EReal.coe_zero.symm)).trans (congrArg (fun x : ℝ => (x : EReal))
      ((by rw [show 512 * (7 + 1) = 4096 by omega, Finset.Ico_self, Finset.sum_empty] :
        0 + _ = (∑ t ∈ Finset.Ico (512 * (7 + 1)) 4096, D.summand q.val t j.val) + _).trans (sum_from (fun t => D.summand q.val t j.val) 7 (by omega))))
  fin_cases q
  all_goals
    repeat refine (canon_row_ne _ _ _ (by decide)).trans ?_
    refine (canon_row_eq _ _ _ _).trans (h _ _ ?_)
    refine (readCov_row _ _ _ j).trans ?_
    repeat refine (canon_row_ne _ _ _ (by decide)).trans ?_
    exact (canon_eight _ _ _ _ _).trans (pay6_at _ _)

theorem dwRead_at (v : Memref sig .tc .vmem S512x512 .f32) (hv : v.IsWhole) (s : Vec Ideal S512x512 .f32) : dwRead v hv s = s := by
  unfold dwRead
  rw [View.readAt_eq_ld, hv.read_unread, View.ld_unit_zero (S := S512x512) origin2]

theorem sum_last_tile (f : ℕ → ℝ) : 0 + ∑ r ∈ Finset.range 512, f (512 * 7 + r) = ∑ t ∈ Finset.Ico (512 * 7) 4096, f t := by
  have h := sum_from f 7 (by omega)
  rwa [show 512 * (7 + 1) = 4096 by omega, Finset.Ico_self, Finset.sum_empty] at h

theorem kept_first_cg (S : Staged m c D) (t : Fin cfg0.N) (h0 : t.val % 8 = 0) (h1 : ¬t.val % 8 = 7) (ht : t.val = 0) (j : Fin 512) :
    (leaveA m c t h0 h1).cg (ix2 0 j) = ((D.a (512 * 7) j.val * D.g (512 * 7) j.val : ℝ) : EReal) := by
  have T := tile_first S t ht
  dsimp only [leaveA]
  rw [View.read_writes_junk_eq_canon, runA_cg]
  exact (canon_row_eq 0 _ _ j).trans (cg_at T j)

theorem kept_first_nx (S : Staged m c D) (t : Fin cfg0.N) (h0 : t.val % 8 = 0) (h1 : ¬t.val % 8 = 7) (ht : t.val = 0) (r : Fin 8) (j : Fin 512) :
    (leaveA m c t h0 h1).nx (ix2 r j) = ((D.dxc (512 * 7 + r.val) j.val : ℝ) : EReal) := by
  have T := tile_first S t ht
  dsimp only [leaveA]
  rw [View.read_writes_junk_eq_canon, runA_nx]
  exact (canon_eight _ _ _ r j).trans (nx_at T r j)

theorem kept_first_sm (S : Staged m c D) (t : Fin cfg0.N) (h0 : t.val % 8 = 0) (h1 : ¬t.val % 8 = 7) (ht : t.val = 0) (q : Fin 8) (j : Fin 512) :
    (leaveA m c t h0 h1).sm (ix2 q j) = ((∑ t ∈ Finset.Ico (512 * 7) 4096, D.summand q.val t j.val : ℝ) : EReal) := by
  have T := tile_first S t ht
  dsimp only [leaveA]
  rw [View.read_writes_junk_eq_canon, runA_sm]
  exact smFirst_at T rfl q j

theorem kept_first_dwa (S : Staged m c D) (t : Fin cfg0.N) (h0 : t.val % 8 = 0) (h1 : ¬t.val % 8 = 7) (ht : t.val = 0) (r j : Fin 512) :
    (leaveA m c t h0 h1).dwa (ix2 r j) = ((∑ t ∈ Finset.Ico (512 * 7) 4096, D.conv t r.val * D.dpr t j.val : ℝ) : EReal) := by
  have T := tile_first S t ht
  dsimp only [leaveA]
  rw [View.read_writes_junk_eq_canon, runA_dwa, View.readCov_cons_toLoadRect]
  refine (canon_whole _ _ r j).trans ((dwa_at T _ r j 0 ((pay4_at r j).trans EReal.coe_zero.symm)).trans ?_)
  exact congrArg (fun x : ℝ => (x : EReal)) (sum_last_tile fun t => D.conv t r.val * D.dpr t j.val)

theorem kept_first_dwx (S : Staged m c D) (t : Fin cfg0.N) (h0 : t.val % 8 = 0) (h1 : ¬t.val % 8 = 7) (ht : t.val = 0) (r j : Fin 512) :
    (leaveA m c t h0 h1).dwx (ix2 r j) = ((∑ t ∈ Finset.Ico (512 * 7) 4096, D.conv t r.val * D.dpi t j.val : ℝ) : EReal) := by
  have T := tile_first S t ht
  dsimp only [leaveA]
  rw [View.read_writes_junk_eq_canon, runA_dwx, View.readCov_cons_toLoadRect]
  refine (canon_whole _ _ r j).trans ((dwx_at T _ r j 0 ((pay5_at r j).trans EReal.coe_zero.symm)).trans ?_)
  exact congrArg (fun x : ℝ => (x : EReal)) (sum_last_tile fun t => D.conv t r.val * D.dpi t j.val)

/-- The first point: tile `7`. -/
theorem kept_first (S : Staged m c D) (t : Fin cfg0.N) (h0 : t.val % 8 = 0) (h1 : ¬t.val % 8 = 7) (ht : t.val = 0) : Kept 7 (leaveA m c t h0 h1) D where
  cg j := kept_first_cg S t h0 h1 ht j
  nx r j := kept_first_nx S t h0 h1 ht r j
  wa r j := by
    dsimp only [leaveA]
    rw [View.read_writes_junk_eq_canon, runA_wa, View.canon_unit_zero (S := S512x512) origin2]
    exact denseFirst_a S t r j
  wx r j := by
    dsimp only [leaveA]
    rw [View.read_writes_junk_eq_canon, runA_wx, View.canon_unit_zero (S := S512x512) origin2]
    exact denseFirst_x S t r j
  sm q j := kept_first_sm S t h0 h1 ht q j
  dwa r j := kept_first_dwa S t h0 h1 ht r j
  dwx r j := kept_first_dwx S t h0 h1 ht r j

theorem kept_middle_cg (S : Staged m c D) (t : Fin cfg0.N) (h0 : ¬t.val % 8 = 0) (h1 : ¬t.val % 8 = 7) (k : ℕ) (hk : k + t.val = 7) (h7 : k < 7)
    (p : Left Ideal) (K : Kept (k + 1) p D) (j : Fin 512) :
    (leaveB m c t h0 h1 p).cg (ix2 0 j) = ((D.a (512 * k) j.val * D.g (512 * k) j.val : ℝ) : EReal) := by
  have T := tile_next S t k hk h7 p K.toCarried
  dsimp only [leaveB]
  rw [runB_cg]
  exact (read_row_zero _ _ _ j).trans (cg_at T j)

theorem kept_middle_nx (S : Staged m c D) (t : Fin cfg0.N) (h0 : ¬t.val % 8 = 0) (h1 : ¬t.val % 8 = 7) (k : ℕ) (hk : k + t.val = 7) (h7 : k < 7)
    (p : Left Ideal) (K : Kept (k + 1) p D) (r : Fin 8) (j : Fin 512) :
    (leaveB m c t h0 h1 p).nx (ix2 r j) = ((D.dxc (512 * k + r.val) j.val : ℝ) : EReal) := by
  have T := tile_next S t k hk h7 p K.toCarried
  dsimp only [leaveB]
  rw [View.read_writes_junk_eq_canon, runB_nx]
  exact (canon_eight _ _ _ r j).trans (nx_at T r j)

theorem kept_middle_sm (S : Staged m c D) (t : Fin cfg0.N) (h0 : ¬t.val % 8 = 0) (h1 : ¬t.val % 8 = 7) (k : ℕ) (hk : k + t.val = 7) (h7 : k < 7)
    (p : Left Ideal) (K : Kept (k + 1) p D) (q : Fin 8) (j : Fin 512) :
    (leaveB m c t h0 h1 p).sm (ix2 q j) = ((∑ t ∈ Finset.Ico (512 * k) 4096, D.summand q.val t j.val : ℝ) : EReal) := by
  have T := tile_next S t k hk h7 p K.toCarried
  dsimp only [leaveB]
  rw [View.read_writes_junk_eq_canon, runB_sm]
  exact smPieces_at T rfl (by omega) K q j

theorem kept_middle_dwa (S : Staged m c D) (t : Fin cfg0.N) (h0 : ¬t.val % 8 = 0) (h1 : ¬t.val % 8 = 7) (k : ℕ) (hk : k + t.val = 7) (h7 : k < 7)
    (p : Left Ideal) (K : Kept (k + 1) p D) (r j : Fin 512) :
    (leaveB m c t h0 h1 p).dwa (ix2 r j) = ((∑ t ∈ Finset.Ico (512 * k) 4096, D.conv t r.val * D.dpr t j.val : ℝ) : EReal) := by
  have T := tile_next S t k hk h7 p K.toCarried
  dsimp only [leaveB]
  rw [View.read_writes_junk_eq_canon, runB_dwa, dwRead_at]
  refine (canon_whole _ _ r j).trans ((dwa_at T _ r j _ (K.dwa r j)).trans ?_)
  exact congrArg (fun x : ℝ => (x : EReal)) (sum_from (fun t => D.conv t r.val * D.dpr t j.val) k (by omega))

theorem kept_middle_dwx (S : Staged m c D) (t : Fin cfg0.N) (h0 : ¬t.val % 8 = 0) (h1 : ¬t.val % 8 = 7) (k : ℕ) (hk : k + t.val = 7) (h7 : k < 7)
    (p : Left Ideal) (K : Kept (k + 1) p D) (r j : Fin 512) :
    (leaveB m c t h0 h1 p).dwx (ix2 r j) = ((∑ t ∈ Finset.Ico (512 * k) 4096, D.conv t r.val * D.dpi t j.val : ℝ) : EReal) := by
  have T := tile_next S t k hk h7 p K.toCarried
  dsimp only [leaveB]
  rw [View.read_writes_junk_eq_canon, runB_dwx, dwRead_at]
  refine (canon_whole _ _ r j).trans ((dwx_at T _ r j _ (K.dwx r j)).trans ?_)
  exact congrArg (fun x : ℝ => (x : EReal)) (sum_from (fun t => D.conv t r.val * D.dpi t j.val) k (by omega))

/-- A middle point: tile `k`, over what the point of tile `k + 1` left. -/
theorem kept_middle (S : Staged m c D) (t : Fin cfg0.N) (h0 : ¬t.val % 8 = 0) (h1 : ¬t.val % 8 = 7) (k : ℕ) (hk : k + t.val = 7) (h7 : k < 7)
    (p : Left Ideal) (K : Kept (k + 1) p D) : Kept k (leaveB m c t h0 h1 p) D where
  cg j := kept_middle_cg S t h0 h1 k hk h7 p K j
  nx r j := kept_middle_nx S t h0 h1 k hk h7 p K r j
  wa := K.wa
  wx := K.wx
  sm q j := kept_middle_sm S t h0 h1 k hk h7 p K q j
  dwa r j := kept_middle_dwa S t h0 h1 k hk h7 p K r j
  dwx r j := kept_middle_dwx S t h0 h1 k hk h7 p K r j

theorem count : cfg0.N = 8 := N_0

/-- What stands after every point but the last. -/
theorem kept (S : Staged m c D) (n : ℕ) : ∀ t : Fin cfg0.N, t.val = n → n < 7 → Kept (7 - n) (after m c t.val t.isLt) D := by
  induction n with
  | zero =>
    intro t ht _
    rw [after_A m c t (by omega) (by omega)]
    exact kept_first S t _ _ ht
  | succ n ih =>
    intro t ht hn
    rw [after_B m c t (by omega) (by omega)]
    refine kept_middle S t _ _ (7 - (n + 1)) (by omega) (by omega) _ ?_
    rw [show 7 - (n + 1) + 1 = 7 - n by omega]
    exact ih ⟨t.val - 1, Nat.lt_of_le_of_lt (Nat.sub_le _ _) t.isLt⟩ (by dsimp only; omega) (by omega)

theorem kept_before (S : Staged m c D) (t : Fin cfg0.N) (h0 : ¬t.val = 0) : Kept (7 - (t.val - 1)) (before m c t) D := by
  have hN : t.val < 8 := lt_of_lt_of_eq t.isLt count
  exact kept S (t.val - 1) ⟨t.val - 1, Nat.lt_of_le_of_lt (Nat.sub_le _ _) t.isLt⟩ rfl (by omega)

/-- The tile's loads at a point that is not the first. -/
theorem tile_at (S : Staged m c D) (t : Fin cfg0.N) (h0 : ¬t.val % 8 = 0) :
    Tile (grid0.coords t) (7 - t.val) (loadsOf m c t (before m c t)) D := by
  have hN : t.val < 8 := lt_of_lt_of_eq t.isLt count
  refine tile_next S t _ (by omega) (by omega) _ ?_
  rw [show 7 - t.val + 1 = 7 - (t.val - 1) by omega]
  exact (kept_before S t (by omega)).toCarried

/-- The block of [dxa, dga] after each point. -/
theorem out_at (S : Staged m c D) (t : Fin cfg0.N) (r : Fin 512) (j : Fin 1024) :
    (after m c t.val t.isLt).out (ix2 r j)
      = ((if j.val < 512 then D.dxa (512 * (7 - t.val) + r.val) j.val else D.dga (512 * (7 - t.val) + r.val) (j.val - 512) : ℝ) : EReal) := by
  have hN : t.val < 8 := lt_of_lt_of_eq t.isLt count
  by_cases h0 : t.val % 8 = 0
  · have ht : t.val = 0 := by omega
    rw [after_A m c t h0 (by omega)]
    dsimp only [leaveA]
    rw [View.read_writes_junk_eq_canon, runA_out, ht]
    exact outPieces_at (tile_first S t ht) r j
  by_cases h1 : t.val % 8 = 7
  · rw [after_C m c t h0 h1]
    dsimp only [leaveC]
    rw [View.read_writes_junk_eq_canon, runC_out]
    exact outPieces_at (tile_at S t h0) r j
  · rw [after_B m c t h0 h1]
    dsimp only [leaveB]
    rw [View.read_writes_junk_eq_canon, runB_out]
    exact outPieces_at (tile_at S t h0) r j

/-- The last row's factor: the parameter's row takes the softplus's derivative at the end. -/
def Data.total (D : Data) (q j : ℕ) : ℝ :=
  if q = 3 then (∑ t ∈ Finset.range 4096, D.summand 3 t j) * -Data.sig (-D.lam j) else ∑ t ∈ Finset.range 4096, D.summand q t j

section last

variable (S : Staged m c D) (t : Fin cfg0.N) (h1 : t.val % 8 = 7)

include S h1

theorem last_kept : Kept 1 (before m c t) D := by
  have hN : t.val < 8 := lt_of_lt_of_eq t.isLt count
  have h := kept_before S t (by omega)
  rwa [show 7 - (t.val - 1) = 1 by omega] at h

theorem last_tile : Tile (grid0.coords t) 0 (loadsOf m c t (before m c t)) D := by
  have hN : t.val < 8 := lt_of_lt_of_eq t.isLt count
  have h := tile_at S t (by omega)
  rwa [show 7 - t.val = 0 by omega] at h

/-- The eight summed rows after the last point. -/
theorem sm_last (q : Fin 8) (j : Fin 512) : (after m c t.val t.isLt).sm (ix2 q j) = ((D.total q.val j.val : ℝ) : EReal) := by
  have T := last_tile S t h1
  have h := smPieces_at T rfl (by omega) (last_kept S t h1)
  simp only [Nat.mul_zero, ← Finset.range_eq_Ico] at h
  rw [after_C m c t (by omega) h1]
  dsimp only [leaveC]
  rw [View.read_writes_junk_eq_canon, runC_sm]
  unfold Data.total
  by_cases hq : q = 3
  · subst hq
    refine (canon_row_eq 3 _ _ j).trans ?_
    rw [if_pos (by decide)]
    exact pay18_at _ _ j _ _ (T.lam j) ((readCov_row _ _ 3 j).trans (h 3 j))
  · refine (canon_row_ne _ _ j hq).trans ?_
    rw [if_neg (show ¬q.val = 3 from fun e => hq (Fin.ext e))]
    exact h q j

/-- The packed block gradients after the last point. -/
theorem rg_last (r : Fin 512) (q : Fin 128) : (after m c t.val t.isLt).rg (ix2 r q)
    = ((if q.val < 64 then ∑ s ∈ Finset.range 4096, D.conv s r.val * D.dpr s (r.val / 64 * 64 + q.val % 64)
        else ∑ s ∈ Finset.range 4096, D.conv s r.val * D.dpi s (r.val / 64 * 64 + q.val % 64) : ℝ) : EReal) := by
  have T := last_tile S t h1
  have K := last_kept S t h1
  rw [after_C m c t (by omega) h1]
  dsimp only [leaveC]
  rw [View.read_writes_junk_eq_canon, runC_rg, dwRead_at, dwRead_at, View.readCov_cons_toLoadRect, View.readCov_cons_toLoadRect,
    View.canon_unit_zero (S := S512x128) origin2]
  refine pack_at _ _ (fun r j => ∑ s ∈ Finset.range 4096, D.conv s r * D.dpr s j) (fun r j => ∑ s ∈ Finset.range 4096, D.conv s r * D.dpi s j)
    (fun r j => ?_) (fun r j => ?_) r q
  · refine (dwa_at T _ r j _ (K.dwa r j)).trans (congrArg (fun x : ℝ => (x : EReal)) ?_)
    refine (sum_from (fun t => D.conv t r.val * D.dpr t j.val) 0 (by omega)).trans ?_
    rw [Nat.mul_zero, Finset.range_eq_Ico]
  · refine (dwx_at T _ r j _ (K.dwx r j)).trans (congrArg (fun x : ℝ => (x : EReal)) ?_)
    refine (sum_from (fun t => D.conv t r.val * D.dpi t j.val) 0 (by omega)).trans ?_
    rw [Nat.mul_zero, Finset.range_eq_Ico]

end last

end Cert.Rglru

end
-- ==== Proof.Rglru.Arrays.lean ====
/- The three arrays the RG-LRU backward call leaves, and its run, where the arguments hold real numbers. -/
module

public import proofs.«01_k».proof.Proof.Rglru.Blocks
public import proofs.«01_k».proof.Proof.Rglru.Points

@[expose] public section

set_option maxRecDepth 16384

noncomputable section

namespace Cert.Rglru

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

namespace Data

variable (D : Data)

/-- The gradients of the two halves of the projection's first 1024 columns. -/
def outArr : Vec Ideal S4096x1024 .bf16 := fun i =>
  ((if (i 1).val < 512 then D.dxa (i 0).val (i 1).val else D.dga (i 0).val ((i 1).val - 512) : ℝ) : EReal)

/-- The gradients of the two block maps, side by side. -/
def rgArr : Vec Ideal S512x128 .f32 := fun i =>
  ((if (i 1).val < 64 then ∑ s ∈ Finset.range 4096, D.conv s (i 0).val * D.dpr s ((i 0).val / 64 * 64 + (i 1).val % 64)
    else ∑ s ∈ Finset.range 4096, D.conv s (i 0).val * D.dpi s ((i 0).val / 64 * 64 + (i 1).val % 64) : ℝ) : EReal)

/-- The eight summed rows: the gradients of the biases, of `lam` and of the four taps. -/
def smArr : Vec Ideal S8x512 .f32 := fun i => ((D.total (i 0).val (i 1).val : ℝ) : EReal)

end Data

variable {m} {c : Dev nD} {D : Data}

theorem after_out (t : Fin cfg0.N) : (data m 0 c).after 14 t = (after m c t.val t.isLt).out := by dsimp only [data]

theorem after_rg (t : Fin cfg0.N) : (data m 0 c).after 15 t = (after m c t.val t.isLt).rg := by dsimp only [data]

theorem after_sm (t : Fin cfg0.N) : (data m 0 c).after 16 t = (after m c t.val t.isLt).sm := by dsimp only [data]

theorem arr_out (S : Staged m c D) : (data m 0 c).arrAt 14 cfg0.N = D.outArr := by
  refine (data m 0 c).arrAt_eq_of_covers 14 _ (by decide +kernel) fun t hf y => ?_
  obtain ⟨-, -, -, -, -, -, -, -, -, -, -, -, e⟩ := tiled t
  rw [after_out]
  blk_simp [e]
  obtain ⟨r, j, rfl⟩ : ∃ (r : Fin 512) (j : Fin 1024), y = ix2 r j := ⟨y 0, y 1, by funext a; fin_cases a <;> rfl⟩
  refine (out_at S t r j).trans (congrArg D.outArr (a₁ := ix2 ⟨_, row_lt t r⟩ j) ?_)
  blk_ext [e]

theorem arr_rg (S : Staged m c D) : (data m 0 c).arrAt 15 cfg0.N = D.rgArr := by
  refine (data m 0 c).arrAt_eq_of_after_last 15 t0_7 (by decide +kernel) _ fun y => ?_
  rw [after_rg]
  blk_simp []
  obtain ⟨r, j, rfl⟩ : ∃ (r : Fin 512) (j : Fin 128), y = ix2 r j := ⟨y 0, y 1, by funext a; fin_cases a <;> rfl⟩
  exact rg_last S t0_7 rfl r j

theorem arr_sm (S : Staged m c D) : (data m 0 c).arrAt 16 cfg0.N = D.smArr := by
  refine (data m 0 c).arrAt_eq_of_after_last 16 t0_7 (by decide +kernel) _ fun y => ?_
  rw [after_sm]
  blk_simp []
  obtain ⟨r, j, rfl⟩ : ∃ (r : Fin 8) (j : Fin 512), y = ix2 r j := ⟨y 0, y 1, by funext a; fin_cases a <;> rfl⟩
  exact sm_last S t0_7 rfl r j

variable (m)

/-- The run, where every device's arguments hold real numbers: the three results, and the arguments unchanged. -/
theorem run (E : Dev nD → Data) (H : ∀ c : Dev nD, Host.Args (fun b => m (c, b)) (E c)) :
    θ_run defs (onTc (τ := τ) (main (F := Ideal))) ⟨m, fun _ => 0, ρ⟩ fun r => ∀ c : Dev nD,
      r.2.mem ((c.tc : Thread nD τ).loc main_v137_0) = (E c).outArr
      ∧ r.2.mem ((c.tc : Thread nD τ).loc main_v137_1) = (E c).rgArr
      ∧ r.2.mem ((c.tc : Thread nD τ).loc main_v137_2) = (E c).smArr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  have S := fun c => staged (m := m) (H c)
  have h1 : θ_run defs (onTc (τ := τ) (main (F := Ideal))) ⟨m, fun _ => 0, ρ⟩ fun r => ∀ c : Dev nD,
      r.2.mem ((c.tc : Thread nD τ).loc main_v137_0) = (E c).outArr
      ∧ r.2.mem ((c.tc : Thread nD τ).loc main_v137_1) = (E c).rgArr
      ∧ r.2.mem ((c.tc : Thread nD τ).loc main_v137_2) = (E c).smArr :=
    (θ_run defs _ _).mono (fun _ h c => ⟨((h.1 c).1 14).trans (arr_out (S c)), ((h.1 c).1 15).trans (arr_rg (S c)), ((h.1 c).1 16).trans (arr_sm (S c))⟩) (launch m ρ)
  refine (θ_run defs _ _).mono (fun _ h c => ⟨(h.1 c).1, (h.1 c).2.1, (h.1 c).2.2, (h.2.1 c)⟩) (θ_run_and h1 (kernel_run m ρ))

end Cert.Rglru

end
-- ==== Proof.Rglru.Results.lean ====
/- The reference's three results, as the arrays the kernel leaves. -/
module

public import proofs.«01_k».proof.Proof.Rglru.RefBackward
public import proofs.«01_k».proof.Proof.Rglru.Arrays

@[expose] public section

noncomputable section

namespace Cert.Rglru

open Cert.Reference2Ideal Cert.Reference2Ideal.Read Cert.Reference2Ideal.Rglru
open Idealize.ShloMosaic Idealize.ShloMosaic.TcCoe

variable {x0 : Vec Ideal S4096x3072 .f32} {x1 : Vec Ideal S4096x1024 .f32} {x2 : Vec Ideal S1x4x512 .f32}
  {x3 : Vec Ideal S1x512 .f32} {x4 : Vec Ideal S1x8x64x64 .f32} {x5 : Vec Ideal S1x512 .f32} {x6 : Vec Ideal S1x8x64x64 .f32}
  {x7 x8 : Vec Ideal S1x512 .f32} {D : Data} (H : Holds x0 x1 x2 x3 x4 x5 x6 x7 x8 D)

include H

theorem out_eq : val_main_v242 (F := Ideal) x0 x1 x2 x3 x4 x5 x6 x7 x8 = D.outArr := by
  funext i
  obtain ⟨t, j, rfl⟩ : ∃ (t : Fin 4096) (j : Fin 1024), i = ix2 t j := ⟨i 0, i 1, by funext a; fin_cases a <;> rfl⟩
  obtain ⟨j, hj⟩ := j
  show _ = ((if j < 512 then D.dxa t.val j else D.dga t.val (j - 512) : ℝ) : EReal)
  by_cases h : j < 512
  · rw [if_pos h]
    exact Cert.Reference2Ideal.Rglru.dxa_at H t ⟨j, h⟩
  · rw [if_neg h]
    obtain ⟨e, rfl⟩ := Nat.exists_eq_add_of_le (not_lt.mp h)
    rw [Nat.add_sub_cancel_left]
    exact v126r_at H t ⟨e, by omega⟩

theorem rg_eq : val_main_v240 (F := Ideal) x0 x1 x2 x3 x4 x5 x6 x7 x8 = D.rgArr := by
  funext i
  obtain ⟨q, j, rfl⟩ : ∃ (q : Fin 512) (j : Fin 128), i = ix2 q j := ⟨i 0, i 1, by funext a; fin_cases a <;> rfl⟩
  obtain ⟨b, e, rfl⟩ : ∃ (b : Fin 8) (e : Fin 64), q = ⟨b.val * 64 + e.val, by have := b.isLt; have := e.isLt; omega⟩ :=
    ⟨⟨q.val / 64, by have := q.isLt; omega⟩, ⟨q.val % 64, by omega⟩, Fin.ext (by show q.val = q.val / 64 * 64 + q.val % 64; omega)⟩
  obtain ⟨j, hj⟩ := j
  show _ = ((if j < 64 then ∑ s ∈ Finset.range 4096, D.conv s (b.val * 64 + e.val) * D.dpr s ((b.val * 64 + e.val) / 64 * 64 + j % 64)
    else ∑ s ∈ Finset.range 4096, D.conv s (b.val * 64 + e.val) * D.dpi s ((b.val * 64 + e.val) / 64 * 64 + j % 64) : ℝ) : EReal)
  have hb : (b.val * 64 + e.val) / 64 = b.val := by have := e.isLt; omega
  rw [hb, ← Fin.sum_univ_eq_sum_range (fun s => D.conv s (b.val * 64 + e.val) * D.dpr s (b.val * 64 + j % 64)) 4096,
    ← Fin.sum_univ_eq_sum_range (fun s => D.conv s (b.val * 64 + e.val) * D.dpi s (b.val * 64 + j % 64)) 4096]
  by_cases h : j < 64
  · rw [if_pos h, Nat.mod_eq_of_lt h]
    exact rga_at H b e ⟨j, h⟩
  · rw [if_neg h]
    obtain ⟨l, rfl⟩ := Nat.exists_eq_add_of_le (not_lt.mp h)
    rw [Nat.add_mod_left, Nat.mod_eq_of_lt (by omega)]
    exact rgx_at H b e ⟨l, by omega⟩

theorem sm_eq : val_main_v248 (F := Ideal) x0 x1 x2 x3 x4 x5 x6 x7 x8 = D.smArr := by
  funext i
  obtain ⟨q, j, rfl⟩ : ∃ (q : Fin 8) (j : Fin 512), i = ix2 q j := ⟨i 0, i 1, by funext a; fin_cases a <;> rfl⟩
  show _ = ((D.total q.val j.val : ℝ) : EReal)
  have e : ∀ p : ℕ, p ≠ 3 → D.total p j.val = ∑ t : Fin 4096, D.summand p t.val j.val := fun p hp => by
    unfold Data.total
    rw [if_neg hp, Fin.sum_univ_eq_sum_range (fun t => D.summand p t j.val) 4096]
  fin_cases q
  · exact (sm0_at H j).trans (congrArg _ (e 0 (by decide)).symm)
  · exact (sm1_at H j).trans (congrArg _ (e 1 (by decide)).symm)
  · exact (sm2_at H j).trans (congrArg _ (e 2 (by decide)).symm)
  · refine (sm3_at H j).trans (congrArg _ ?_)
    unfold Data.dlam Data.total
    rw [if_pos rfl, Fin.sum_univ_eq_sum_range (fun t => D.dla t j.val * (-8 * D.r t j.val)) 4096]
    rfl
  · exact (smk_at H 0 j).trans (congrArg _ (e 4 (by decide)).symm)
  · exact (smk_at H 1 j).trans (congrArg _ (e 5 (by decide)).symm)
  · exact (smk_at H 2 j).trans (congrArg _ (e 6 (by decide)).symm)
  · exact (smk_at H 3 j).trans (congrArg _ (e 7 (by decide)).symm)

end Cert.Rglru

end
-- ==== Proof.Rglru.Finite.lean ====
/- The precondition read at an index: where it is all ones, the arguments hold real numbers, the biases aside. -/
module

public import proofs.«01_k».proof.Proof.Gen.Pre_finite_inputs
public import proofs.«01_k».proof.Proof.Rglru.RefForward

@[expose] public section

noncomputable section

namespace Cert.Rglru

open Cert.Reference2Ideal Cert.Pre_finite_inputs.Gen
open Idealize.ShloMosaic Idealize.ShloMosaic.TcCoe

/-- A number whose absolute value is below infinity is real. -/
theorem real_of_lt {x : EReal} (h : Ideal.cmp .olt (max x (-x)) ⊤ = 1#1) : x = ((x.toReal : ℝ) : EReal) := by
  have h' : max x (-x) < ⊤ := by
    by_contra hn
    have e : Ideal.cmp .olt (max x (-x)) ⊤ = BitVec.ofBool (decide (max x (-x) < ⊤)) := rfl
    rw [e, decide_eq_false hn] at h
    exact absurd h (by decide)
  refine (EReal.coe_toReal ?_ ?_).symm
  · rintro rfl
    exact absurd h' (by simp)
  · rintro rfl
    exact absurd h' (by simp)

/-- A matrix of extended reals as real numbers, zero outside. -/
def real2 {n m : ℕ} (x : Fin n → Fin m → EReal) (t c : ℕ) : ℝ := if h : t < n ∧ c < m then (x ⟨t, h.1⟩ ⟨c, h.2⟩).toReal else 0

/-- A stack of square matrices as real numbers, zero outside. -/
def real3 {n m : ℕ} (x : Fin n → Fin m → Fin m → EReal) (b i j : ℕ) : ℝ :=
  if h : b < n ∧ i < m ∧ j < m then (x ⟨b, h.1⟩ ⟨i, h.2.1⟩ ⟨j, h.2.2⟩).toReal else 0

theorem real2_at {n m : ℕ} {x : Fin n → Fin m → EReal} (h : ∀ t c, x t c = (((x t c).toReal : ℝ) : EReal)) (t : Fin n) (c : Fin m) :
    x t c = ((real2 x t c : ℝ) : EReal) := by
  unfold real2
  rw [dif_pos ⟨t.isLt, c.isLt⟩]
  exact h t c

theorem real3_at {n m : ℕ} {x : Fin n → Fin m → Fin m → EReal} (h : ∀ b i j, x b i j = (((x b i j).toReal : ℝ) : EReal))
    (b : Fin n) (i j : Fin m) : x b i j = ((real3 x b i j : ℝ) : EReal) := by
  unfold real3
  rw [dif_pos ⟨b.isLt, i.isLt, j.isLt⟩]
  exact h b i j

/-- A vector of extended reals, zero outside. -/
def upTo {n : ℕ} (x : Fin n → EReal) (c : ℕ) : EReal := if h : c < n then x ⟨c, h⟩ else 0

theorem upTo_at {n : ℕ} (x : Fin n → EReal) (c : Fin n) : x c = upTo x c := by
  unfold upTo
  rw [dif_pos c.isLt]

variable (x0 : Vec Ideal S4096x3072 .f32) (x1 : Vec Ideal S4096x1024 .f32) (x2 : Vec Ideal S1x4x512 .f32)
  (x3 : Vec Ideal S1x512 .f32) (x4 : Vec Ideal S1x8x64x64 .f32) (x5 : Vec Ideal S1x512 .f32) (x6 : Vec Ideal S1x8x64x64 .f32)
  (x7 x8 : Vec Ideal S1x512 .f32)

/-- The numbers the arguments hold. -/
def dataOf : Data where
  x := real2 fun (t : Fin 4096) (c : Fin 512) => x0 (ix2 t ⟨c.val, by have := c.isLt; omega⟩)
  ga := real2 fun (t : Fin 4096) (c : Fin 512) => x0 (ix2 t ⟨512 + c.val, by have := c.isLt; omega⟩)
  dy := real2 fun (t : Fin 4096) (c : Fin 512) => x1 (ix2 t ⟨c.val, by have := c.isLt; omega⟩)
  cw := real2 fun (k : Fin 4) (c : Fin 512) => x2 (ix3 0 k c)
  cb := real2 (fun (_ : Fin 1) (c : Fin 512) => x3 (ix2 0 c)) (0 : Fin 1)
  wa := real3 fun (b : Fin 8) (i j : Fin 64) => x4 (ix4 0 b i j)
  ba := upTo fun c : Fin 512 => x5 (ix2 0 c)
  wx := real3 fun (b : Fin 8) (i j : Fin 64) => x6 (ix4 0 b i j)
  bx := upTo fun c : Fin 512 => x7 (ix2 0 c)
  lam := real2 (fun (_ : Fin 1) (c : Fin 512) => x8 (ix2 0 c)) (0 : Fin 1)

/-- The precondition is all ones. -/
abbrev Ones : Prop :=
  (Cert.Pre_finite_inputs.fn (F := Ideal) x0 x1 x2 x3 x4 x5 x6 x7 x8).1 = (fun _ => 1#1)
  ∧ (Cert.Pre_finite_inputs.fn (F := Ideal) x0 x1 x2 x3 x4 x5 x6 x7 x8).2.1 = (fun _ => 1#1)
  ∧ (Cert.Pre_finite_inputs.fn (F := Ideal) x0 x1 x2 x3 x4 x5 x6 x7 x8).2.2.1 = (fun _ => 1#1)
  ∧ (Cert.Pre_finite_inputs.fn (F := Ideal) x0 x1 x2 x3 x4 x5 x6 x7 x8).2.2.2.1 = (fun _ => 1#1)
  ∧ (Cert.Pre_finite_inputs.fn (F := Ideal) x0 x1 x2 x3 x4 x5 x6 x7 x8).2.2.2.2.1 = (fun _ => 1#1)
  ∧ (Cert.Pre_finite_inputs.fn (F := Ideal) x0 x1 x2 x3 x4 x5 x6 x7 x8).2.2.2.2.2.1 = (fun _ => 1#1)
  ∧ (Cert.Pre_finite_inputs.fn (F := Ideal) x0 x1 x2 x3 x4 x5 x6 x7 x8).2.2.2.2.2.2 = (fun _ => 1#1)

variable {x0 x1 x2 x3 x4 x5 x6 x7 x8}

theorem holds_of_ones (p : Ones x0 x1 x2 x3 x4 x5 x6 x7 x8) :
    Cert.Reference2Ideal.Rglru.Holds x0 x1 x2 x3 x4 x5 x6 x7 x8 (dataOf x0 x1 x2 x3 x4 x5 x6 x7 x8) := by
  obtain ⟨p0, p1, p2, p3, p4, p6, p8⟩ := p
  have h0 : ∀ (t : Fin 4096) (c : Fin 1024), x0 (ix2 t ⟨c.val, by have := c.isLt; omega⟩)
      = (((x0 (ix2 t ⟨c.val, by have := c.isLt; omega⟩)).toReal : ℝ) : EReal) := fun t c => by
    refine real_of_lt ((congrFun p0 (ix2 t c)).symm.trans ?_).symm
    unfold Cert.Pre_finite_inputs.fn Cert.Pre_finite_inputs.fn_part1
    pointwise []
    rw [f32_top]
    rfl
  have h1 : ∀ (t : Fin 4096) (c : Fin 512), x1 (ix2 t ⟨c.val, by have := c.isLt; omega⟩)
      = (((x1 (ix2 t ⟨c.val, by have := c.isLt; omega⟩)).toReal : ℝ) : EReal) := fun t c => by
    refine real_of_lt ((congrFun p1 (ix2 t c)).symm.trans ?_).symm
    unfold Cert.Pre_finite_inputs.fn Cert.Pre_finite_inputs.fn_part1
    pointwise []
    rw [f32_top]
    rfl
  have h2 : ∀ (k : Fin 4) (c : Fin 512), x2 (ix3 0 k c) = (((x2 (ix3 0 k c)).toReal : ℝ) : EReal) := fun k c => by
    refine real_of_lt ((congrFun p2 (ix3 0 k c)).symm.trans ?_).symm
    unfold Cert.Pre_finite_inputs.fn Cert.Pre_finite_inputs.fn_part1
    pointwise []
    rw [f32_top]
    rfl
  have h3 : ∀ c : Fin 512, x3 (ix2 0 c) = (((x3 (ix2 0 c)).toReal : ℝ) : EReal) := fun c => by
    refine real_of_lt ((congrFun p3 (ix2 0 c)).symm.trans ?_).symm
    unfold Cert.Pre_finite_inputs.fn Cert.Pre_finite_inputs.fn_part1
    pointwise []
    rw [f32_top]
    rfl
  have h4 : ∀ (b : Fin 8) (i j : Fin 64), x4 (ix4 0 b i j) = (((x4 (ix4 0 b i j)).toReal : ℝ) : EReal) := fun b i j => by
    refine real_of_lt ((congrFun p4 (ix4 0 b i j)).symm.trans ?_).symm
    unfold Cert.Pre_finite_inputs.fn Cert.Pre_finite_inputs.fn_part1
    pointwise []
    rw [f32_top]
    rfl
  have h6 : ∀ (b : Fin 8) (i j : Fin 64), x6 (ix4 0 b i j) = (((x6 (ix4 0 b i j)).toReal : ℝ) : EReal) := fun b i j => by
    refine real_of_lt ((congrFun p6 (ix4 0 b i j)).symm.trans ?_).symm
    unfold Cert.Pre_finite_inputs.fn Cert.Pre_finite_inputs.fn_part1
    pointwise []
    rw [f32_top]
    rfl
  have h8 : ∀ c : Fin 512, x8 (ix2 0 c) = (((x8 (ix2 0 c)).toReal : ℝ) : EReal) := fun c => by
    refine real_of_lt ((congrFun p8 (ix2 0 c)).symm.trans ?_).symm
    unfold Cert.Pre_finite_inputs.fn Cert.Pre_finite_inputs.fn_part1
    pointwise []
    rw [f32_top]
    rfl
  exact {
    x := real2_at fun t c => h0 t ⟨c.val, by have := c.isLt; omega⟩
    ga := real2_at fun t c => h0 t ⟨512 + c.val, by have := c.isLt; omega⟩
    dy := real2_at h1
    cw := real2_at h2
    cb := real2_at (fun _ c => h3 c) 0
    wa := real3_at h4
    ba := upTo_at fun c : Fin 512 => x5 (ix2 0 c)
    wx := real3_at h6
    bx := upTo_at fun c : Fin 512 => x7 (ix2 0 c)
    lam := real2_at (fun _ c => h8 c) 0 }

end Cert.Rglru

end
-- ==== Proof.Rglru.Agree.lean ====
/- The claim about the RG-LRU's values: where the inputs are finite, the biases aside, the kernel's three results are the
   reference's. -/
module

public import proofs.«01_k».proof.Defs
public import proofs.«01_k».proof.Proof.Rglru.Claims
public import proofs.«01_k».proof.Proof.Rglru.Results
public import proofs.«01_k».proof.Proof.Rglru.Finite

@[expose] public section

noncomputable section

namespace Cert.Rglru

open Idealize.ShloMosaic Idealize.ShloMosaic.TcCoe Idealize.SL.Sem
open Cert.Reference2Ideal.Read

theorem frame_kernel2Ideal_finite : Cert.quiescent_Kernel2Ideal_pre_finite_inputs := fun m ρ _ => kernel_run m ρ

theorem frame_reference2Ideal_finite : Cert.quiescent_Reference2Ideal_pre_finite_inputs := fun m ρ _ =>
  frame_reference2Ideal m ρ trivial

theorem agree : Cert.algebraic_Kernel2Ideal_Reference2Ideal_pre_finite_inputs := by
  intro m ρ m' ρ' hpre hag
  have H := fun c => holds_of_ones (hpre c)
  refine ⟨_, _, _, run m ρ _ H, (θ_run Cert.Reference2Ideal.defs _ _).mono (fun r h c => ?_)
    (Cert.Reference2Ideal.Value.run (F := Ideal) m' ρ')⟩
  obtain ⟨h1, h2, h3, hkept⟩ := h c
  obtain ⟨e0, e1, e2, e3, e4, e5, e6, e7, e8⟩ := hag c
  have a0 : StableHlo.launchContents m' c (Proc.tc.devRef Cert.Reference2Ideal.main_arg0) = m (c.tc.loc Cert.Kernel2Ideal.main_arg0) := e0
  have a1 : StableHlo.launchContents m' c (Proc.tc.devRef Cert.Reference2Ideal.main_arg1) = m (c.tc.loc Cert.Kernel2Ideal.main_arg1) := e1
  have a2 : StableHlo.launchContents m' c (Proc.tc.devRef Cert.Reference2Ideal.main_arg2) = m (c.tc.loc Cert.Kernel2Ideal.main_arg2) := e2
  have a3 : StableHlo.launchContents m' c (Proc.tc.devRef Cert.Reference2Ideal.main_arg3) = m (c.tc.loc Cert.Kernel2Ideal.main_arg3) := e3
  have a4 : StableHlo.launchContents m' c (Proc.tc.devRef Cert.Reference2Ideal.main_arg4) = m (c.tc.loc Cert.Kernel2Ideal.main_arg4) := e4
  have a5 : StableHlo.launchContents m' c (Proc.tc.devRef Cert.Reference2Ideal.main_arg5) = m (c.tc.loc Cert.Kernel2Ideal.main_arg5) := e5
  have a6 : StableHlo.launchContents m' c (Proc.tc.devRef Cert.Reference2Ideal.main_arg6) = m (c.tc.loc Cert.Kernel2Ideal.main_arg6) := e6
  have a7 : StableHlo.launchContents m' c (Proc.tc.devRef Cert.Reference2Ideal.main_arg7) = m (c.tc.loc Cert.Kernel2Ideal.main_arg7) := e7
  have a8 : StableHlo.launchContents m' c (Proc.tc.devRef Cert.Reference2Ideal.main_arg8) = m (c.tc.loc Cert.Kernel2Ideal.main_arg8) := e8
  refine ⟨h1.trans ?_, h2.trans ?_, h3.trans ?_, hkept⟩
  · rw [val_main_v242_eq, a0, a1, a2, a3, a4, a5, a6, a7, a8]
    exact out_eq (H c)
  · rw [val_main_v240_eq, a0, a1, a2, a3, a4, a5, a6, a7, a8]
    exact rg_eq (H c)
  · rw [val_main_v248_eq, a0, a1, a2, a3, a4, a5, a6, a7, a8]
    exact sm_eq (H c)

end Cert.Rglru

end
-- ==== Proof.Hgrn2.Body.lean ====
/- One point of HGRN2's backward kernel: from its input blocks and any contents of its outputs and scratch buffers, the body
   runs to the end, the input blocks as they were. -/
module

public import proofs.«01_k».proof.Proof.Gen.Kernel4.Skeleton
public import proofs.«01_k».proof.Proof.Gen.Kernel4.Frame

@[expose] public section

set_option maxRecDepth 16384

noncomputable section

namespace Cert.Hgrn2

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition: the point is the grid's first. -/
abbrev First (i : grid0.Coords) : Prop :=
  (Scalar.cmpi .ne (Scalar.extui (Scalar.cmpi .eq (BitVec.ofNat 32 (i 0).val) 0#32)) 0#32) = 1#1

/-- The body's second condition: the point is the grid's last. -/
abbrev Last (i : grid0.Coords) : Prop :=
  (Scalar.cmpi .ne (Scalar.extui (Scalar.cmpi .eq (BitVec.ofNat 32 (i 0).val) 7#32)) 0#32) = 1#1

set_option maxHeartbeats 12000000 in
/-- The body at the first point, at a middle one, and at the last: the two outputs and the twenty scratch buffers begin and
    end with contents of which nothing is said. -/
theorem body_run (c : Dev nD) (i : grid0.Coords)
    (a0 : Memref sig .tc .vmem S512x512 .bf16) (a1 : Memref sig .tc .vmem S512x512 .f32)
    (a2 : Memref sig .tc .vmem S512x512 .bf16) (a3 : Memref sig .tc .vmem S512x512 .bf16)
    (a4 : Memref sig .tc .vmem S512x512 .f32) (a5 : Memref sig .tc .vmem S4x8x128x128 .f32)
    (a6 : Memref sig .tc .vmem S512x512 .f32) (a7 : Memref sig .tc .vmem S2x512 .f32) (a8 : Memref sig .tc .vmem S1x128 .f32)
    (b0 : Memref sig .tc .vmem S512x2048 .bf16) (b1 : Memref sig .tc .vmem S8x512 .f32)
    (s0 : Memref sig .tc .vmem S4x128x128 .f32) (s1 : Memref sig .tc .vmem S512x512 .f32)
    (s2 : Memref sig .tc .vmem S512x512 .f32) (s3 : Memref sig .tc .vmem S512x512 .f32)
    (s4 : Memref sig .tc .vmem S512x512 .bf16) (s5 : Memref sig .tc .vmem S512x512 .bf16)
    (s6 : Memref sig .tc .vmem S512x512 .bf16) (s7 : Memref sig .tc .vmem S512x512 .bf16)
    (s8 : Memref sig .tc .vmem S512x512 .bf16) (s9 : Memref sig .tc .vmem S8x512 .f32) (s10 : Memref sig .tc .vmem S8x512 .f32)
    (s11 : Memref sig .tc .vmem S32x64x64 .bf16) (s12 : Memref sig .tc .vmem S32x64x64 .bf16)
    (s13 : Memref sig .tc .vmem S32x128x128 .f32) (s14 : Memref sig .tc .vmem S32x128x128 .f32)
    (s15 : Memref sig .tc .vmem S512x512 .f32) (s16 : Memref sig .tc .vmem S512x512 .f32)
    (s17 : Memref sig .tc .vmem S512x512 .f32) (s18 : Memref sig .tc .vmem S512x512 .f32)
    (s19 : Memref sig .tc .vmem S512x512 .f32)
    (ha0 : a0.IsWhole) (ha1 : a1.IsWhole) (ha2 : a2.IsWhole) (ha3 : a3.IsWhole) (ha4 : a4.IsWhole) (ha5 : a5.IsWhole)
    (ha6 : a6.IsWhole) (ha7 : a7.IsWhole) (ha8 : a8.IsWhole) (hb0 : b0.IsWhole) (hb1 : b1.IsWhole) (hs0 : s0.IsWhole)
    (hs1 : s1.IsWhole) (hs2 : s2.IsWhole) (hs3 : s3.IsWhole) (hs4 : s4.IsWhole) (hs5 : s5.IsWhole) (hs6 : s6.IsWhole)
    (hs7 : s7.IsWhole) (hs8 : s8.IsWhole) (hs9 : s9.IsWhole) (hs10 : s10.IsWhole) (hs11 : s11.IsWhole) (hs12 : s12.IsWhole)
    (hs13 : s13.IsWhole) (hs14 : s14.IsWhole) (hs15 : s15.IsWhole) (hs16 : s16.IsWhole) (hs17 : s17.IsWhole)
    (hs18 : s18.IsWhole) (hs19 : s19.IsWhole)
    (hi : (First i ∧ ¬Last i) ∨ (¬First i ∧ ¬Last i) ∨ (¬First i ∧ Last i))
    (x0 : Vec F S512x512 .bf16) (x1 : Vec F S512x512 .f32) (x2 : Vec F S512x512 .bf16) (x3 : Vec F S512x512 .bf16)
    (x4 : Vec F S512x512 .f32) (x5 : Vec F S4x8x128x128 .f32) (x6 : Vec F S512x512 .f32) (x7 : Vec F S2x512 .f32)
    (x8 : Vec F S1x128 .f32) (K : PUnit → sProp 𝕄) :
    iprop(
      owns (c : Thread nD τ) a0 fullShare x0 ∗ owns (c : Thread nD τ) a1 fullShare x1 ∗
      owns (c : Thread nD τ) a2 fullShare x2 ∗ owns (c : Thread nD τ) a3 fullShare x3 ∗
      owns (c : Thread nD τ) a4 fullShare x4 ∗ owns (c : Thread nD τ) a5 fullShare x5 ∗
      owns (c : Thread nD τ) a6 fullShare x6 ∗ owns (c : Thread nD τ) a7 fullShare x7 ∗
      owns (c : Thread nD τ) a8 fullShare x8 ∗ (∃ d, owns (c : Thread nD τ) b0 fullShare d) ∗
      (∃ d, owns (c : Thread nD τ) b1 fullShare d) ∗ (∃ d, owns (c : Thread nD τ) s0 fullShare d) ∗
      (∃ d, owns (c : Thread nD τ) s1 fullShare d) ∗ (∃ d, owns (c : Thread nD τ) s2 fullShare d) ∗
      (∃ d, owns (c : Thread nD τ) s3 fullShare d) ∗ (∃ d, owns (c : Thread nD τ) s4 fullShare d) ∗
      (∃ d, owns (c : Thread nD τ) s5 fullShare d) ∗ (∃ d, owns (c : Thread nD τ) s6 fullShare d) ∗
      (∃ d, owns (c : Thread nD τ) s7 fullShare d) ∗ (∃ d, owns (c : Thread nD τ) s8 fullShare d) ∗
      (∃ d, owns (c : Thread nD τ) s9 fullShare d) ∗ (∃ d, owns (c : Thread nD τ) s10 fullShare d) ∗
      (∃ d, owns (c : Thread nD τ) s11 fullShare d) ∗ (∃ d, owns (c : Thread nD τ) s12 fullShare d) ∗
      (∃ d, owns (c : Thread nD τ) s13 fullShare d) ∗ (∃ d, owns (c : Thread nD τ) s14 fullShare d) ∗
      (∃ d, owns (c : Thread nD τ) s15 fullShare d) ∗ (∃ d, owns (c : Thread nD τ) s16 fullShare d) ∗
      (∃ d, owns (c : Thread nD τ) s17 fullShare d) ∗ (∃ d, owns (c : Thread nD τ) s18 fullShare d) ∗
      (∃ d, owns (c : Thread nD τ) s19 fullShare d)
      ∗ (iprop(
        owns (c : Thread nD τ) a0 fullShare x0 ∗ owns (c : Thread nD τ) a1 fullShare x1 ∗
        owns (c : Thread nD τ) a2 fullShare x2 ∗ owns (c : Thread nD τ) a3 fullShare x3 ∗
        owns (c : Thread nD τ) a4 fullShare x4 ∗ owns (c : Thread nD τ) a5 fullShare x5 ∗
        owns (c : Thread nD τ) a6 fullShare x6 ∗ owns (c : Thread nD τ) a7 fullShare x7 ∗
        owns (c : Thread nD τ) a8 fullShare x8 ∗ (∃ d, owns (c : Thread nD τ) b0 fullShare d) ∗
        (∃ d, owns (c : Thread nD τ) b1 fullShare d) ∗ (∃ d, owns (c : Thread nD τ) s0 fullShare d) ∗
        (∃ d, owns (c : Thread nD τ) s1 fullShare d) ∗ (∃ d, owns (c : Thread nD τ) s2 fullShare d) ∗
        (∃ d, owns (c : Thread nD τ) s3 fullShare d) ∗ (∃ d, owns (c : Thread nD τ) s4 fullShare d) ∗
        (∃ d, owns (c : Thread nD τ) s5 fullShare d) ∗ (∃ d, owns (c : Thread nD τ) s6 fullShare d) ∗
        (∃ d, owns (c : Thread nD τ) s7 fullShare d) ∗ (∃ d, owns (c : Thread nD τ) s8 fullShare d) ∗
        (∃ d, owns (c : Thread nD τ) s9 fullShare d) ∗ (∃ d, owns (c : Thread nD τ) s10 fullShare d) ∗
        (∃ d, owns (c : Thread nD τ) s11 fullShare d) ∗ (∃ d, owns (c : Thread nD τ) s12 fullShare d) ∗
        (∃ d, owns (c : Thread nD τ) s13 fullShare d) ∗ (∃ d, owns (c : Thread nD τ) s14 fullShare d) ∗
        (∃ d, owns (c : Thread nD τ) s15 fullShare d) ∗ (∃ d, owns (c : Thread nD τ) s16 fullShare d) ∗
        (∃ d, owns (c : Thread nD τ) s17 fullShare d) ∗ (∃ d, owns (c : Thread nD τ) s18 fullShare d) ∗
        (∃ d, owns (c : Thread nD τ) s19 fullShare d)) -∗ K ⟨⟩))
    ⊢ wp frame (wpE (defs₀ (F := F)) Variants.none c none) Set.univ (cc0_bwd_hgrn2 i
      a0 ha0 a1 ha1 a2 ha2 a3 ha3 a4 ha4 a5 ha5 a6 ha6 a7 ha7 a8 ha8 (Memref.whole main_v114) (Memref.isWhole_whole _) b0 hb0
      b1 hb1 s0 hs0 s1 hs1 s2 hs2 s3 hs3 s4 hs4 s5 hs5 s6 hs6 s7 hs7 s8 hs8 s9 hs9 s10 hs10 s11 hs11 s12 hs12 s13 hs13 s14 hs14
      s15 hs15 s16 hs16 s17 hs17 s18 hs18 s19 hs19) K := by
  simp only [cc0_bwd_hgrn2_eq_skeleton]; unfold cc0_bwd_hgrn2_skel
  simp only [
    k0_part130_eq_skeleton, k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton, k0_part14_eq_skeleton,
    k0_part15_eq_skeleton, k0_part16_eq_skeleton, k0_part17_eq_skeleton, k0_part18_eq_skeleton, k0_part19_eq_skeleton,
    k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton,
    k0_part30_eq_skeleton, k0_part31_eq_skeleton, k0_part32_eq_skeleton, k0_part33_eq_skeleton, k0_part34_eq_skeleton,
    k0_part35_eq_skeleton, k0_part36_eq_skeleton, k0_part37_eq_skeleton, k0_part38_eq_skeleton, k0_part39_eq_skeleton,
    k0_part40_eq_skeleton, k0_part41_eq_skeleton, k0_part42_eq_skeleton, k0_part43_eq_skeleton, k0_part44_eq_skeleton,
    k0_part45_eq_skeleton, k0_part46_eq_skeleton, k0_part47_eq_skeleton, k0_part48_eq_skeleton, k0_part49_eq_skeleton,
    k0_part50_eq_skeleton, k0_part51_eq_skeleton, k0_part52_eq_skeleton, k0_part53_eq_skeleton, k0_part54_eq_skeleton,
    k0_part55_eq_skeleton, k0_part56_eq_skeleton, k0_part57_eq_skeleton, k0_part58_eq_skeleton, k0_part59_eq_skeleton,
    k0_part60_eq_skeleton, k0_part131_eq_skeleton, k0_part61_eq_skeleton, k0_part62_eq_skeleton, k0_part63_eq_skeleton,
    k0_part64_eq_skeleton, k0_part65_eq_skeleton, k0_part66_eq_skeleton, k0_part67_eq_skeleton, k0_part68_eq_skeleton,
    k0_part69_eq_skeleton, k0_part70_eq_skeleton, k0_part71_eq_skeleton, k0_part72_eq_skeleton, k0_part73_eq_skeleton,
    k0_part74_eq_skeleton, k0_part75_eq_skeleton, k0_part76_eq_skeleton, k0_part77_eq_skeleton, k0_part78_eq_skeleton,
    k0_part79_eq_skeleton, k0_part80_eq_skeleton, k0_part81_eq_skeleton, k0_part82_eq_skeleton, k0_part83_eq_skeleton,
    k0_part84_eq_skeleton, k0_part85_eq_skeleton, k0_part86_eq_skeleton, k0_part87_eq_skeleton, k0_part88_eq_skeleton,
    k0_part89_eq_skeleton, k0_part90_eq_skeleton, k0_part91_eq_skeleton, k0_part92_eq_skeleton, k0_part93_eq_skeleton,
    k0_part94_eq_skeleton, k0_part95_eq_skeleton, k0_part96_eq_skeleton, k0_part97_eq_skeleton, k0_part98_eq_skeleton,
    k0_part99_eq_skeleton, k0_part100_eq_skeleton, k0_part101_eq_skeleton, k0_part102_eq_skeleton, k0_part103_eq_skeleton,
    k0_part104_eq_skeleton, k0_part105_eq_skeleton, k0_part106_eq_skeleton, k0_part107_eq_skeleton, k0_part108_eq_skeleton,
    k0_part109_eq_skeleton, k0_part110_eq_skeleton, k0_part111_eq_skeleton, k0_part112_eq_skeleton, k0_part113_eq_skeleton,
    k0_part114_eq_skeleton, k0_part115_eq_skeleton, k0_part116_eq_skeleton, k0_part117_eq_skeleton, k0_part118_eq_skeleton,
    k0_part119_eq_skeleton, k0_part120_eq_skeleton, k0_part121_eq_skeleton, k0_part122_eq_skeleton, k0_part123_eq_skeleton,
    k0_part124_eq_skeleton, k0_part125_eq_skeleton, k0_part126_eq_skeleton, k0_part127_eq_skeleton, k0_part128_eq_skeleton,
    k0_part129_eq_skeleton]
  unfold owns
  iintro ⟨
    ⟨%fa0, %ea0, Ha0⟩, ⟨%fa1, %ea1, Ha1⟩, ⟨%fa2, %ea2, Ha2⟩, ⟨%fa3, %ea3, Ha3⟩, ⟨%fa4, %ea4, Ha4⟩, ⟨%fa5, %ea5, Ha5⟩,
    ⟨%fa6, %ea6, Ha6⟩, ⟨%fa7, %ea7, Ha7⟩, ⟨%fa8, %ea8, Ha8⟩, ⟨%db0, %fb0, -, Hb0⟩, ⟨%db1, %fb1, -, Hb1⟩, ⟨%ds0, %fs0, -, Hs0⟩,
    ⟨%ds1, %fs1, -, Hs1⟩, ⟨%ds2, %fs2, -, Hs2⟩, ⟨%ds3, %fs3, -, Hs3⟩, ⟨%ds4, %fs4, -, Hs4⟩, ⟨%ds5, %fs5, -, Hs5⟩,
    ⟨%ds6, %fs6, -, Hs6⟩, ⟨%ds7, %fs7, -, Hs7⟩, ⟨%ds8, %fs8, -, Hs8⟩, ⟨%ds9, %fs9, -, Hs9⟩, ⟨%ds10, %fs10, -, Hs10⟩,
    ⟨%ds11, %fs11, -, Hs11⟩, ⟨%ds12, %fs12, -, Hs12⟩, ⟨%ds13, %fs13, -, Hs13⟩, ⟨%ds14, %fs14, -, Hs14⟩,
    ⟨%ds15, %fs15, -, Hs15⟩, ⟨%ds16, %fs16, -, Hs16⟩, ⟨%ds17, %fs17, -, Hs17⟩, ⟨%ds18, %fs18, -, Hs18⟩,
    ⟨%ds19, %fs19, -, Hs19⟩, Hk⟩
  obtain rfl := ha0.eq_unread ea0; obtain rfl := ha1.eq_unread ea1; obtain rfl := ha2.eq_unread ea2
  obtain rfl := ha3.eq_unread ea3; obtain rfl := ha4.eq_unread ea4; obtain rfl := ha5.eq_unread ea5
  obtain rfl := ha6.eq_unread ea6; obtain rfl := ha7.eq_unread ea7; obtain rfl := ha8.eq_unread ea8
  rcases hi with hi | hi | hi
  all_goals
    obtain ⟨hfirst, hlast⟩ := hi
    sl_exec (disch := first | sl_exact hfirst | sl_exact hlast)
    sl_step
    iapply Hk
    isplitl [Ha0]; · iexists _; isplitr; (· ipureintro; exact ha0.read_unread _); iexact Ha0
    isplitl [Ha1]; · iexists _; isplitr; (· ipureintro; exact ha1.read_unread _); iexact Ha1
    isplitl [Ha2]; · iexists _; isplitr; (· ipureintro; exact ha2.read_unread _); iexact Ha2
    isplitl [Ha3]; · iexists _; isplitr; (· ipureintro; exact ha3.read_unread _); iexact Ha3
    isplitl [Ha4]; · iexists _; isplitr; (· ipureintro; exact ha4.read_unread _); iexact Ha4
    isplitl [Ha5]; · iexists _; isplitr; (· ipureintro; exact ha5.read_unread _); iexact Ha5
    isplitl [Ha6]; · iexists _; isplitr; (· ipureintro; exact ha6.read_unread _); iexact Ha6
    isplitl [Ha7]; · iexists _; isplitr; (· ipureintro; exact ha7.read_unread _); iexact Ha7
    isplitl [Ha8]; · iexists _; isplitr; (· ipureintro; exact ha8.read_unread _); iexact Ha8
    isplitl [Hb0]; · iexists _, _; isplitr; swap; (· iexact Hb0); ipureintro; rfl
    isplitl [Hb1]; · iexists _, _; isplitr; swap; (· iexact Hb1); ipureintro; rfl
    isplitl [Hs0]; · iexists _, _; isplitr; swap; (· iexact Hs0); ipureintro; rfl
    isplitl [Hs1]; · iexists _, _; isplitr; swap; (· iexact Hs1); ipureintro; rfl
    isplitl [Hs2]; · iexists _, _; isplitr; swap; (· iexact Hs2); ipureintro; rfl
    isplitl [Hs3]; · iexists _, _; isplitr; swap; (· iexact Hs3); ipureintro; rfl
    isplitl [Hs4]; · iexists _, _; isplitr; swap; (· iexact Hs4); ipureintro; rfl
    isplitl [Hs5]; · iexists _, _; isplitr; swap; (· iexact Hs5); ipureintro; rfl
    isplitl [Hs6]; · iexists _, _; isplitr; swap; (· iexact Hs6); ipureintro; rfl
    isplitl [Hs7]; · iexists _, _; isplitr; swap; (· iexact Hs7); ipureintro; rfl
    isplitl [Hs8]; · iexists _, _; isplitr; swap; (· iexact Hs8); ipureintro; rfl
    isplitl [Hs9]; · iexists _, _; isplitr; swap; (· iexact Hs9); ipureintro; rfl
    isplitl [Hs10]; · iexists _, _; isplitr; swap; (· iexact Hs10); ipureintro; rfl
    isplitl [Hs11]; · iexists _, _; isplitr; swap; (· iexact Hs11); ipureintro; rfl
    isplitl [Hs12]; · iexists _, _; isplitr; swap; (· iexact Hs12); ipureintro; rfl
    isplitl [Hs13]; · iexists _, _; isplitr; swap; (· iexact Hs13); ipureintro; rfl
    isplitl [Hs14]; · iexists _, _; isplitr; swap; (· iexact Hs14); ipureintro; rfl
    isplitl [Hs15]; · iexists _, _; isplitr; swap; (· iexact Hs15); ipureintro; rfl
    isplitl [Hs16]; · iexists _, _; isplitr; swap; (· iexact Hs16); ipureintro; rfl
    isplitl [Hs17]; · iexists _, _; isplitr; swap; (· iexact Hs17); ipureintro; rfl
    isplitl [Hs18]; · iexists _, _; isplitr; swap; (· iexact Hs18); ipureintro; rfl
    iexists _, _; isplitr; swap; (· iexact Hs19); ipureintro; rfl

end Cert.Hgrn2

end
-- ==== Proof.Hgrn2.Frame.lean ====
/- The frame of HGRN2's backward call, by hand over the body's run: every point keeps its input blocks, so the launch ends with
   the arguments as they were and no semaphore raised. Nothing is said of the two outputs. -/
module

public import proofs.«01_k».proof.Proof.Hgrn2.Body

@[expose] public section

set_option maxRecDepth 16384

noncomputable section

namespace Cert.Hgrn2

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem first_iff : ∀ t : Fin cfg0.N, First (grid0.coords t) ↔ t.val = 0 :=
  (by decide +kernel : ∀ t : Fin grid0.N, First (grid0.coords t) ↔ t.val = 0)

theorem last_iff : ∀ t : Fin cfg0.N, Last (grid0.coords t) ↔ t.val = 7 :=
  (by decide +kernel : ∀ t : Fin grid0.N, Last (grid0.coords t) ↔ t.val = 7)

/-- A point is the first, a middle one or the last. -/
theorem point_cases (t : Fin cfg0.N) : (First (grid0.coords t) ∧ ¬Last (grid0.coords t))
    ∨ (¬First (grid0.coords t) ∧ ¬Last (grid0.coords t)) ∨ (¬First (grid0.coords t) ∧ Last (grid0.coords t)) := by
  rw [first_iff t, last_iff t]; omega

/-- Between two points every scratch buffer holds something: the buffers one by one. -/
theorem between (c : Dev nD) :
    (Pipeline.ΦA spec0 c : sProp 𝕄) = iprop(iprop(
      (∃ d, owns (c : Thread nD τ) (Memref.whole cc0_scratch0) fullShare d) ∗
      (∃ d, owns (c : Thread nD τ) (Memref.whole cc0_scratch1) fullShare d) ∗
      (∃ d, owns (c : Thread nD τ) (Memref.whole cc0_scratch2) fullShare d) ∗
      (∃ d, owns (c : Thread nD τ) (Memref.whole cc0_scratch3) fullShare d) ∗
      (∃ d, owns (c : Thread nD τ) (Memref.whole cc0_scratch4) fullShare d) ∗
      (∃ d, owns (c : Thread nD τ) (Memref.whole cc0_scratch5) fullShare d) ∗
      (∃ d, owns (c : Thread nD τ) (Memref.whole cc0_scratch6) fullShare d) ∗
      (∃ d, owns (c : Thread nD τ) (Memref.whole cc0_scratch7) fullShare d) ∗
      (∃ d, owns (c : Thread nD τ) (Memref.whole cc0_scratch8) fullShare d) ∗
      (∃ d, owns (c : Thread nD τ) (Memref.whole cc0_scratch9) fullShare d) ∗
      (∃ d, owns (c : Thread nD τ) (Memref.whole cc0_scratch10) fullShare d) ∗
      (∃ d, owns (c : Thread nD τ) (Memref.whole cc0_scratch11) fullShare d) ∗
      (∃ d, owns (c : Thread nD τ) (Memref.whole cc0_scratch12) fullShare d) ∗
      (∃ d, owns (c : Thread nD τ) (Memref.whole cc0_scratch13) fullShare d) ∗
      (∃ d, owns (c : Thread nD τ) (Memref.whole cc0_scratch14) fullShare d) ∗
      (∃ d, owns (c : Thread nD τ) (Memref.whole cc0_scratch15) fullShare d) ∗
      (∃ d, owns (c : Thread nD τ) (Memref.whole cc0_scratch16) fullShare d) ∗
      (∃ d, owns (c : Thread nD τ) (Memref.whole cc0_scratch17) fullShare d) ∗
      (∃ d, owns (c : Thread nD τ) (Memref.whole cc0_scratch18) fullShare d) ∗
      (∃ d, owns (c : Thread nD τ) (Memref.whole cc0_scratch19) fullShare d)) ∗ (∃ r, prngReg c r)) := by
  unfold Pipeline.ΦA; rw [scopedRest0_eq]; simp only [owns_whole]; try rfl

/-- The two outputs are left unnamed. -/
def unnamed : Fin 11 → Bool := fun w => w.val == 9 || w.val == 10

/-- The proof data of the pipeline: every input's buffer stays at its block, the scratch buffers hold anything. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q w := Pipeline.shareOf spec0 w
  owed _ := 0

theorem data_A (c : Dev nD) (w : Fin cfg0.W) : (data m 0 c).A w = V m c (Pipeline.arrRef spec0 w) := by
  dsimp only [data]

theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = iblk m c 3 t := by dsimp only [data]
theorem after_4 (c : Dev nD) (t : Fin cfg0.N) : (data m 0 c).after 4 t = iblk m c 4 t := by dsimp only [data]
theorem after_5 (c : Dev nD) (t : Fin cfg0.N) : (data m 0 c).after 5 t = iblk m c 5 t := by dsimp only [data]
theorem after_6 (c : Dev nD) (t : Fin cfg0.N) : (data m 0 c).after 6 t = iblk m c 6 t := by dsimp only [data]
theorem after_7 (c : Dev nD) (t : Fin cfg0.N) : (data m 0 c).after 7 t = iblk m c 7 t := by dsimp only [data]
theorem after_8 (c : Dev nD) (t : Fin cfg0.N) : (data m 0 c).after 8 t = iblk m c 8 t := by dsimp only [data]

theorem before_0 (c : Dev nD) (t : Fin cfg0.N) (d) : (data m 0 c).before 0 t d = iblk m c 0 t :=
  before0_0_of m (data m 0 c) (data_A m c 0) (after_0 m c) t d
theorem before_1 (c : Dev nD) (t : Fin cfg0.N) (d) : (data m 0 c).before 1 t d = iblk m c 1 t :=
  before0_1_of m (data m 0 c) (data_A m c 1) (after_1 m c) t d
theorem before_2 (c : Dev nD) (t : Fin cfg0.N) (d) : (data m 0 c).before 2 t d = iblk m c 2 t :=
  before0_2_of m (data m 0 c) (data_A m c 2) (after_2 m c) t d
theorem before_3 (c : Dev nD) (t : Fin cfg0.N) (d) : (data m 0 c).before 3 t d = iblk m c 3 t :=
  before0_3_of m (data m 0 c) (data_A m c 3) (after_3 m c) t d
theorem before_4 (c : Dev nD) (t : Fin cfg0.N) (d) : (data m 0 c).before 4 t d = iblk m c 4 t :=
  before0_4_of m (data m 0 c) (data_A m c 4) (after_4 m c) t d
theorem before_5 (c : Dev nD) (t : Fin cfg0.N) (d) : (data m 0 c).before 5 t d = iblk m c 5 t :=
  before0_5_of m (data m 0 c) (data_A m c 5) (after_5 m c) t d
theorem before_6 (c : Dev nD) (t : Fin cfg0.N) (d) : (data m 0 c).before 6 t d = iblk m c 6 t :=
  before0_6_of m (data m 0 c) (data_A m c 6) (after_6 m c) t d
theorem before_7 (c : Dev nD) (t : Fin cfg0.N) (d) : (data m 0 c).before 7 t d = iblk m c 7 t :=
  before0_7_of m (data m 0 c) (data_A m c 7) (after_7 m c) t d
theorem before_8 (c : Dev nD) (t : Fin cfg0.N) (d) : (data m 0 c).before 8 t d = iblk m c 8 t :=
  before0_8_of m (data m 0 c) (data_A m c 8) (after_8 m c) t d

set_option maxHeartbeats 8000000 in
/-- The body at any point of the grid. -/
theorem point (c : Dev nD) (t : Fin cfg0.N) :
    iprop((data m 0 c).Φ t.castSucc ∗ (data m 0 c).owesAt () t.castSucc
      ∗
      (∃ d, owns (c : Thread nD τ) (st0_0 t) fullShare ((data m 0 c).before 0 t d)) ∗
      (∃ d, owns (c : Thread nD τ) (st0_1 t) fullShare ((data m 0 c).before 1 t d)) ∗
      (∃ d, owns (c : Thread nD τ) (st0_2 t) fullShare ((data m 0 c).before 2 t d)) ∗
      (∃ d, owns (c : Thread nD τ) (st0_3 t) fullShare ((data m 0 c).before 3 t d)) ∗
      (∃ d, owns (c : Thread nD τ) (st0_4 t) fullShare ((data m 0 c).before 4 t d)) ∗
      (∃ d, owns (c : Thread nD τ) (st0_5 t) fullShare ((data m 0 c).before 5 t d)) ∗
      (∃ d, owns (c : Thread nD τ) (st0_6 t) fullShare ((data m 0 c).before 6 t d)) ∗
      (∃ d, owns (c : Thread nD τ) (st0_7 t) fullShare ((data m 0 c).before 7 t d)) ∗
      (∃ d, owns (c : Thread nD τ) (st0_8 t) fullShare ((data m 0 c).before 8 t d)) ∗
      (∃ d, owns (c : Thread nD τ) (st0_9 t) fullShare d) ∗ (∃ d, owns (c : Thread nD τ) (st0_10 t) fullShare d))
    ⊢ wp frame (wpE (defs₀ (F := F)) Variants.none c none) Set.univ (bodyAt0 t) (fun _ =>
      iprop((data m 0 c).Φ t.succ ∗ (data m 0 c).owesAt () t.succ
      ∗
      owns (c : Thread nD τ) (st0_0 t) fullShare ((data m 0 c).after 0 t) ∗
      owns (c : Thread nD τ) (st0_1 t) fullShare ((data m 0 c).after 1 t) ∗
      owns (c : Thread nD τ) (st0_2 t) fullShare ((data m 0 c).after 2 t) ∗
      owns (c : Thread nD τ) (st0_3 t) fullShare ((data m 0 c).after 3 t) ∗
      owns (c : Thread nD τ) (st0_4 t) fullShare ((data m 0 c).after 4 t) ∗
      owns (c : Thread nD τ) (st0_5 t) fullShare ((data m 0 c).after 5 t) ∗
      owns (c : Thread nD τ) (st0_6 t) fullShare ((data m 0 c).after 6 t) ∗
      owns (c : Thread nD τ) (st0_7 t) fullShare ((data m 0 c).after 7 t) ∗
      owns (c : Thread nD τ) (st0_8 t) fullShare ((data m 0 c).after 8 t) ∗
      (∃ d, owns (c : Thread nD τ) (st0_9 t) fullShare d) ∗ (∃ d, owns (c : Thread nD τ) (st0_10 t) fullShare d))) := by
  unfold bodyAt0
  simp only [before_0, before_1, before_2, before_3, before_4, before_5, before_6, before_7, before_8]
  rw [show (data m 0 c).owesAt () t.succ = (data m 0 c).owesAt () t.castSucc from rfl,
    after_0 m c, after_1 m c, after_2 m c, after_3 m c,
    after_4 m c, after_5 m c, after_6 m c, after_7 m c,
    after_8 m c,
    show (data m 0 c).Φ t.succ = Pipeline.ΦA spec0 c from rfl, show (data m 0 c).Φ t.castSucc = Pipeline.ΦA spec0 c from rfl, between]
  iintro ⟨⟨⟨Hs0, Hs1, Hs2, Hs3, Hs4, Hs5, Hs6, Hs7, Hs8, Hs9, Hs10, Hs11, Hs12, Hs13, Hs14, Hs15, Hs16, Hs17, Hs18, Hs19⟩, Hg⟩, Ho,
    ⟨%d0, Ha0⟩, ⟨%d1, Ha1⟩, ⟨%d2, Ha2⟩, ⟨%d3, Ha3⟩, ⟨%d4, Ha4⟩, ⟨%d5, Ha5⟩, ⟨%d6, Ha6⟩, ⟨%d7, Ha7⟩, ⟨%d8, Ha8⟩, Hb0, Hb1⟩
  iapply (body_run c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (point_cases t)
    (iblk m c 0 t) (iblk m c 1 t) (iblk m c 2 t) (iblk m c 3 t) (iblk m c 4 t) (iblk m c 5 t) (iblk m c 6 t) (iblk m c 7 t) (iblk m c 8 t) _)
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  isplitl [Ha8]; · iexact Ha8
  isplitl [Hb0]; · iexact Hb0
  isplitl [Hb1]; · iexact Hb1
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  isplitl [Hs19]; · iexact Hs19
  iintro ⟨Ha0, Ha1, Ha2, Ha3, Ha4, Ha5, Ha6, Ha7, Ha8, Hb0, Hb1, Hs0, Hs1, Hs2, Hs3, Hs4, Hs5, Hs6, Hs7, Hs8, Hs9, Hs10, Hs11, Hs12, Hs13, Hs14, Hs15, Hs16, Hs17, Hs18, Hs19⟩
  isplitl [Hs0 Hs1 Hs2 Hs3 Hs4 Hs5 Hs6 Hs7 Hs8 Hs9 Hs10 Hs11 Hs12 Hs13 Hs14 Hs15 Hs16 Hs17 Hs18 Hs19 Hg]
  · isplitl [Hs0 Hs1 Hs2 Hs3 Hs4 Hs5 Hs6 Hs7 Hs8 Hs9 Hs10 Hs11 Hs12 Hs13 Hs14 Hs15 Hs16 Hs17 Hs18 Hs19]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      isplitl [Hs15]; · iexact Hs15
      isplitl [Hs16]; · iexact Hs16
      isplitl [Hs17]; · iexact Hs17
      isplitl [Hs18]; · iexact Hs18
      iexact Hs19
    iexact Hg
  isplitl [Ho]; · iexact Ho
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  isplitl [Ha8]; · iexact Ha8
  isplitl [Hb0]; · iexact Hb0
  iexact Hb1

/-- What the pipeline runs at a point is the body there. -/
theorem row_at (t : Fin cfg0.N) :
    defs₀ (F := F) .tc cfg0.body (cfg0.bodyArgs t (cfg0.slots t)) = bodyAt0 t := by
  unfold defs₀; rw [Defs.onTc_tc]

theorem points (c : Dev nD) : BodyObligation (data (F := F) m 0 c) (defs₀ (F := F)) Variants.none () Set.univ unnamed := fun t => by
  rw [bigSep_W0, bigSep_W0, row_at]
  exact triple_restated (point m c t) rfl .rfl fun _ => .rfl

set_option backward.isDefEq.respectTransparency.types false in
theorem launch : θ_run defs (onTc (τ := τ) (main (F := F))) (s₀ m ρ) (fun r =>
    Pipeline.RDat.FramePost (cfgs 0) (fun c => (data m 0 c).toRForget unnamed) (V m) r ∧ r.2.sem = fun _ => 0) :=
  Pipeline.θ_run_frame_track_forget_shared (Q' := _) cfgs (data m) (0 : Fin 1) launch₀0 defs₀ Variants.none unnamed m ρ main
    (hbody := fun c => (points m c).loose) (hq := fun _ _ _ => rfl) (howed := fun _ _ => rfl) (V := V m)
    (hmain := hmain m Variants.none) (hA := data_A m) (hin := fun _ => .rfl) (hout := fun _ => .rfl)

set_option maxHeartbeats 4000000 in
/-- The call runs to the end, leaves its arguments as they were and no semaphore raised. -/
theorem kernel_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h =>
    ⟨fun c => ⟨((h.1 c).2 main_arg0 (Pipeline.mem_restRefs_of main_arg0 (by decide) (by decide))).trans (V_main_arg0 m c),
      (Pipeline.RDat.FramePost.arr_in h.1 c 6 rfl).trans ((data_A m c 6).trans (V_main_arg1 m c)),
      (Pipeline.RDat.FramePost.arr_in h.1 c 7 rfl).trans ((data_A m c 7).trans (V_main_arg2 m c)),
      (Pipeline.RDat.FramePost.arr_in h.1 c 8 rfl).trans ((data_A m c 8).trans (V_main_arg3 m c))⟩, h.2⟩) (launch m ρ)

end Cert.Hgrn2

end
-- ==== Proof.Hgrn2.Claims.lean ====
/- The three frames of HGRN2's backward call: the kernel over bits and over the extended reals, and the reference. -/
module

public import proofs.«01_k».proof.Defs
public import proofs.«01_k».proof.Proof.Gen.Kernel4
public import proofs.«01_k».proof.Proof.Gen.Kernel4Ideal
public import proofs.«01_k».proof.Proof.Hgrn2.Frame
public import proofs.«01_k».proof.Proof.Gen.Reference4Ideal.Run

@[expose] public section

noncomputable section

namespace Cert.Hgrn2

open Idealize.ShloMosaic Idealize.ShloMosaic.TcCoe Idealize.SL.Sem

theorem frame_kernel4 : Cert.quiescent_Kernel4 := fun m ρ _ => kernel_run m ρ

/-- The kernel's text is the same over bits and over the extended reals, and so is its run. -/
theorem frame_kernel4Ideal : Cert.quiescent_Kernel4Ideal := fun m ρ _ =>
  cast (by sl_kernel_rfl) (kernel_run (F := Ideal) m ρ)

/-- Of the reference's run, that its arguments are kept and no semaphore is left raised. -/
theorem frame_reference4Ideal : Cert.quiescent_Reference4Ideal := fun m ρ _ =>
  (θ_run Cert.Reference4Ideal.defs _ _).mono
    (fun r h => ⟨fun c => (h c).2.2, sem_eq_zero_of_no_sems (by decide) r.2⟩)
    (Cert.Reference4Ideal.Value.run (F := Ideal) m ρ)

end Cert.Hgrn2

end
-- ==== Proof.Tail.Row.lean ====
/- The tail of the training step on one row of the residual stream, over the extended reals: the output projection, the
   gated per-layer embedding, the final norm, and the gradients of the loss back to the residual stream.

   The loss is half the sum, over the rows, of the mean square error of the final norm's output. -/
module

public import proofs.«01_k».proof.Proof.Norm.Row

@[expose] public section

noncomputable section

namespace Cert.Tail

open Idealize.ShloMosaic Cert.Norm

/-- What one row of the tail reads: the residual stream, the target, the per-layer embedding, the outputs of the two
    head groups. -/
structure Row where
  x : Fin 1024 → EReal
  t : Fin 1024 → EReal
  p : Fin 256 → EReal
  ya : Fin 512 → EReal
  yb : Fin 512 → EReal

/-- The weights of the tail: output projection, gate, embedding projection, the norm in front of the gate, the gate's
    bias, the final norm. -/
structure Weights where
  wo : Fin 1024 → Fin 1024 → EReal
  wg : Fin 1024 → Fin 1024 → EReal
  wp : Fin 256 → Fin 1024 → EReal
  pw : Fin 1024 → EReal
  b : Fin 1024 → EReal
  fw : Fin 1024 → EReal

/-- The program's constant 1/1024. -/
abbrev invLen : EReal := Ideal.ofBits .f32 0x3A800000#32

variable (q : Row) (w : Weights)

/-- The outputs of the two head groups side by side. -/
def yab (k : Fin 1024) : EReal := if h : k.val < 512 then q.ya ⟨k, h⟩ else q.yb ⟨k - 512, by omega⟩

/-- The residual stream behind the output projection. -/
def h1 (j : Fin 1024) : EReal :=
  q.x j + ∑ k : Fin 512, q.ya k * w.wo ⟨k, by omega⟩ j + ∑ k : Fin 512, q.yb k * w.wo ⟨512 + k, by omega⟩ j

/-- `h1` scaled by the norm, before its weights. -/
def n2h (k : Fin 1024) : EReal := h1 q w k * scale (h1 q w)

/-- The norm in front of the gate. -/
def n2 (k : Fin 1024) : EReal := n2h q w k * w.pw k

/-- The sigmoid gate. -/
def gate (j : Fin 1024) : EReal := Ideal.div 1 (1 + Ideal.exp (0 - (∑ k, n2 q w k * w.wg k j + w.b j)))

/-- The projected per-layer embedding. -/
def pp (j : Fin 1024) : EReal := ∑ k, q.p k * w.wp k j

/-- The residual stream behind the gated embedding. -/
def h2 (j : Fin 1024) : EReal := h1 q w j + gate q w j * pp q w j

/-- `h2` scaled by the final norm, before its weights. -/
def hn (j : Fin 1024) : EReal := h2 q w j * scale (h2 q w)

/-- The error of the final norm's output. -/
def err (j : Fin 1024) : EReal := hn q w j * w.fw j - q.t j

/-- The gradient of the final norm's output. -/
def dy (j : Fin 1024) : EReal := err q w j * invLen

/-- The gradient of `h2`. -/
def dh2 (j : Fin 1024) : EReal := rowGrad (h2 q w) (dy q w) w.fw 0 j

/-- The gradient of the projected embedding. -/
def dpp (j : Fin 1024) : EReal := dh2 q w j * gate q w j

/-- The gradient of the gate's argument. -/
def dz (j : Fin 1024) : EReal := dh2 q w j * pp q w j * gate q w j * (1 - gate q w j)

/-- The gradient of the norm in front of the gate. -/
def dn2 (k : Fin 1024) : EReal := ∑ j, dz q w j * w.wg k j

/-- The gradient of `h1`. -/
def dh1 (j : Fin 1024) : EReal := rowGrad (h1 q w) (dn2 q w) w.pw (dh2 q w j) j

/-- The gradient of the outputs of the two head groups. -/
def dyab (k : Fin 1024) : EReal := ∑ j, dh1 q w j * w.wo k j

/-- Row `r` of the tail's arrays. -/
def rowOf (x : Vec Ideal ⟨2, ![4096, 1024]⟩ .f32) (p : Vec Ideal ⟨2, ![4096, 256]⟩ .f32)
    (t y : Vec Ideal ⟨2, ![4096, 1024]⟩ .f32) (r : Fin 4096) : Row :=
  ⟨fun k => x (ix2 r k), fun k => t (ix2 r k), fun k => p (ix2 r k), fun k => y (ix2 r ⟨k, by omega⟩),
    fun k => y (ix2 r ⟨512 + k, by omega⟩)⟩

/-- The tail's weights as the arrays hold them. -/
def weightsOf (wo : Vec Ideal ⟨3, ![1, 1024, 1024]⟩ .f32) (pw : Vec Ideal ⟨2, ![1, 1024]⟩ .f32)
    (wg : Vec Ideal ⟨3, ![1, 1024, 1024]⟩ .f32) (b : Vec Ideal ⟨2, ![1, 1024]⟩ .f32)
    (wp : Vec Ideal ⟨3, ![1, 256, 1024]⟩ .f32) (fw : Vec Ideal ⟨1, ![1024]⟩ .f32) : Weights :=
  ⟨fun k j => wo (ix3 0 k j), fun k j => wg (ix3 0 k j), fun k j => wp (ix3 0 k j), fun k => pw (ix2 0 k),
    fun k => b (ix2 0 k), fun k => fw (ix1 k)⟩

/-- The small gradients and the loss: the squared errors per column, the gradients of the final norm, of the gate's bias
    and of the norm in front of the gate, the loss in every column, three rows of zeros. -/
def small (q : Fin 4096 → Row) (w : Weights) (i : Fin 8) (j : Fin 1024) : EReal :=
  if i.val = 0 then ∑ r, err (q r) w j * err (q r) w j
  else if i.val = 1 then ∑ r, dy (q r) w j * hn (q r) w j
  else if i.val = 2 then ∑ r, dz (q r) w j
  else if i.val = 3 then ∑ r, dn2 (q r) w j * n2h (q r) w j
  else if i.val = 4 then (∑ k, ∑ r, err (q r) w k * err (q r) w k) * Ideal.ofBits .f32 0x3A000000#32
  else 0

end Cert.Tail

end
-- ==== Proof.Tail.Stage.lean ====
/- What one grid point of the tail computes from its blocks, row by row: every value is the row's value of the same name in
   `Tail.Row`. A point holds 512 rows; the weights are whole, the embedding's projection in four groups of columns. -/
module

public import proofs.«01_k».proof.Proof.Gen.Kernel3Ideal.Skeleton
public import proofs.«01_k».proof.Proof.Tail.Row
public import Idealize.ShloMosaic.Lib.Pipeline.Value
public import Idealize.ShloMosaic.Lib.Pointwise

@[expose] public section

set_option maxRecDepth 16384

noncomputable section

namespace Cert.Kernel3Ideal.Tail

open Cert.Kernel3Ideal Cert.Kernel3Ideal.Gen Cert.Norm Cert.Tail Idealize.ShloMosaic Idealize.ShloMosaic.TcCoe Idealize.SL.Sem

/-- The blocks a grid point reads. -/
structure Blk where
  x : Vec Ideal S512x1024 .f32
  p : Vec Ideal S512x256 .f32
  t : Vec Ideal S512x1024 .f32
  ya : Vec Ideal S512x512 .bf16
  yb : Vec Ideal S512x512 .bf16
  wo : Vec Ideal S1024x1024 .bf16
  wg : Vec Ideal S1024x1024 .bf16
  wp : Vec Ideal S4x256x256 .bf16
  pw : Vec Ideal S1x1024 .f32
  b : Vec Ideal S1x1024 .f32
  fw : Vec Ideal S1x1024 .f32

namespace Blk

variable (B : Blk)

/-- Row `r` of the point's blocks. -/
def row (r : Fin 512) : Row :=
  ⟨fun k => B.x (ix2 r k), fun k => B.t (ix2 r k), fun k => B.p (ix2 r k), fun k => B.ya (ix2 r k), fun k => B.yb (ix2 r k)⟩

/-- The weights the point reads. -/
def weights : Weights :=
  ⟨fun k j => B.wo (ix2 k j), fun k j => B.wg (ix2 k j),
    fun k j => B.wp (ix3 (⟨j.val / 256, by omega⟩ : Fin 4) k (⟨j.val % 256, by omega⟩ : Fin 256)),
    fun k => B.pw (ix2 0 k), fun k => B.b (ix2 0 k), fun k => B.fw (ix2 0 k)⟩

/-- The first half of the output projection's rows. -/
def woLo : Vec Ideal S512x1024 .bf16 :=
  View.ld B.wo (Rect.unit (s := S1024x1024) ![0, 0] S512x1024.size inb_S1024x1024_S512x1024_0_0)
/-- The second half of the output projection's rows. -/
def woHi : Vec Ideal S512x1024 .bf16 :=
  View.ld B.wo (Rect.unit (s := S1024x1024) ![512, 0] S512x1024.size inb_S1024x1024_S512x1024_512_0)
/-- The four groups of columns of the embedding's projection. -/
def wp0 : Vec Ideal S1x256x256 .bf16 := View.ld B.wp (Rect.unit (s := S4x256x256) ![0, 0, 0] S1x256x256.size inb_S4x256x256_S1x256x256_0_0_0)
def wp1 : Vec Ideal S1x256x256 .bf16 := View.ld B.wp (Rect.unit (s := S4x256x256) ![1, 0, 0] S1x256x256.size inb_S4x256x256_S1x256x256_1_0_0)
def wp2 : Vec Ideal S1x256x256 .bf16 := View.ld B.wp (Rect.unit (s := S4x256x256) ![2, 0, 0] S1x256x256.size inb_S4x256x256_S1x256x256_2_0_0)
def wp3 : Vec Ideal S1x256x256 .bf16 := View.ld B.wp (Rect.unit (s := S4x256x256) ![3, 0, 0] S1x256x256.size inb_S4x256x256_S1x256x256_3_0_0)

def h1v : FVec Ideal S512x1024 .f32 := k0_pay28 B.ya B.yb B.x B.woLo B.woHi
def scale1v : FVec Ideal S512x1 .f32 := k0_pay29 B.ya B.yb B.x B.woLo B.woHi
def n2hv : FVec Ideal S512x1024 .f32 := k0_pay30 B.ya B.yb B.x B.woLo B.woHi
def n2v : FVec Ideal S512x1024 .bf16 := k0_pay31 B.ya B.yb B.pw B.x B.woLo B.woHi
def gatev : FVec Ideal S512x1024 .f32 := k0_pay32 B.n2v B.wg B.b
def ppv : FVec Ideal S512x1024 .f32 := k0_pay33 (k0_pay26 B.p) B.wp0 B.wp1 B.wp2 B.wp3
def h2v : FVec Ideal S512x1024 .f32 := k0_pay34 (k0_pay26 B.p) B.h1v B.n2v B.wg B.b B.wp0 B.wp1 B.wp2 B.wp3
def mean2v : FVec Ideal S512x1 .f32 := k0_pay35 (k0_pay26 B.p) B.h1v B.n2v B.wg B.b B.wp0 B.wp1 B.wp2 B.wp3
def scale2v : FVec Ideal S512x1 .f32 := k0_pay37 B.mean2v k0_pay36
def hnv : FVec Ideal S512x1024 .f32 := k0_pay38 B.h2v B.mean2v k0_pay36
def errv : FVec Ideal S512x1024 .f32 := k0_pay39 (k0_pay27 B.fw) B.h2v B.mean2v k0_pay36 B.t
def dyv : FVec Ideal S512x1024 .f32 := k0_pay41 (k0_pay27 B.fw) B.h2v B.mean2v k0_pay36 B.t
def dh2v : FVec Ideal S512x1024 .f32 := k0_pay43 (k0_pay27 B.fw) B.h2v B.mean2v k0_pay36 B.t
def dppv : FVec Ideal S512x1024 .bf16 := k0_pay44 (k0_pay27 B.fw) B.gatev B.h2v B.mean2v k0_pay36 B.t
def dz1v : FVec Ideal S512x1024 .f32 := k0_pay45 (k0_pay27 B.fw) B.gatev B.ppv B.h2v B.mean2v k0_pay36 B.t
def dz2v : FVec Ideal S512x1024 .f32 := k0_pay46 B.gatev
def dzv : FVec Ideal S512x1024 .f32 := k0_pay47 B.dz1v B.dz2v
def dn2v : FVec Ideal S512x1024 .f32 := k0_pay51 B.dz1v B.dz2v B.wg
def u1v : FVec Ideal S512x1024 .f32 := k0_pay58 B.pw B.dn2v
def c1v : FVec Ideal S512x1024 .f32 := k0_pay59 B.pw B.n2hv B.dn2v
def dh1v : FVec Ideal S512x1024 .f32 := k0_pay1 B.scale1v B.dh2v B.u1v B.c1v
def dyabv : FVec Ideal S512x1024 .f32 := k0_pay3 B.scale1v B.dh2v B.u1v B.c1v B.wo

theorem h1v_at (r : Fin 512) (j : Fin 1024) : B.h1v (ix2 r j) = h1 (B.row r) B.weights j := by
  unfold h1v k0_pay28 k0_pay24 k0_pay25 woLo woHi
  pointwise []
  rfl

theorem scale1v_at (r : Fin 512) : B.scale1v (ix2 r 0) = scale (h1 (B.row r) B.weights) := by
  unfold scale1v k0_pay29
  pointwise []
  change Ideal.rsqrt (Ideal.div (∑ k, B.h1v (ix2 r k) * B.h1v (ix2 r k)) len + eps) = _
  simp only [h1v_at]
  rfl

theorem n2hv_at (r : Fin 512) (j : Fin 1024) : B.n2hv (ix2 r j) = n2h (B.row r) B.weights j := by
  unfold n2hv k0_pay30
  pointwise []
  change B.h1v (ix2 r j) * B.scale1v (ix2 r 0) = _
  rw [h1v_at, scale1v_at]
  rfl

theorem n2v_at (r : Fin 512) (j : Fin 1024) : B.n2v (ix2 r j) = n2 (B.row r) B.weights j := by
  unfold n2v k0_pay31
  pointwise []
  change B.n2hv (ix2 r j) * B.pw (ix2 0 j) = _
  rw [n2hv_at]
  rfl

theorem gatev_at (r : Fin 512) (j : Fin 1024) : B.gatev (ix2 r j) = gate (B.row r) B.weights j := by
  unfold gatev k0_pay32
  pointwise []
  simp only [n2v_at]
  rfl

theorem ppv_at (r : Fin 512) (j : Fin 1024) : B.ppv (ix2 r j) = pp (B.row r) B.weights j := by
  unfold ppv k0_pay33 k0_pay26 wp0 wp1 wp2 wp3
  pointwise []
  unfold pp row weights
  dsimp only
  have h (s : Fin 4) (c : Fin 256) (hj : j.val = s.val * 256 + c.val) :
      ∑ k, B.p (ix2 r k) * B.wp (ix3 s k c)
        = ∑ k, B.p (ix2 r k) * B.wp (ix3 (⟨j.val / 256, by omega⟩ : Fin 4) k (⟨j.val % 256, by omega⟩ : Fin 256)) := by
    rw [show (⟨j.val / 256, by omega⟩ : Fin 4) = s from Fin.ext (by dsimp only; omega),
      show (⟨j.val % 256, by omega⟩ : Fin 256) = c from Fin.ext (by dsimp only; omega)]
  by_cases h0 : j.val < 256
  · rw [dif_pos h0]
    exact h 0 ⟨j.val, h0⟩ (by show j.val = 0 * 256 + j.val; omega)
  by_cases h1 : j.val - 256 < 256
  · rw [dif_neg h0, dif_pos h1]
    exact h 1 ⟨j.val - 256, h1⟩ (by show j.val = 1 * 256 + (j.val - 256); omega)
  by_cases h2 : j.val - 256 - 256 < 256
  · rw [dif_neg h0, dif_neg h1, dif_pos h2]
    exact h 2 ⟨j.val - 256 - 256, h2⟩ (by show j.val = 2 * 256 + (j.val - 256 - 256); omega)
  · rw [dif_neg h0, dif_neg h1, dif_neg h2]
    exact h 3 ⟨j.val - 256 - 256 - 256, by omega⟩ (by show j.val = 3 * 256 + (j.val - 256 - 256 - 256); omega)

theorem h2v_at (r : Fin 512) (j : Fin 1024) : B.h2v (ix2 r j) = h2 (B.row r) B.weights j := by
  unfold h2v k0_pay34
  pointwise []
  change B.h1v (ix2 r j) + B.gatev (ix2 r j) * B.ppv (ix2 r j) = _
  rw [h1v_at, gatev_at, ppv_at]
  rfl

theorem scale2v_at (r : Fin 512) : B.scale2v (ix2 r 0) = scale (h2 (B.row r) B.weights) := by
  unfold scale2v k0_pay37 mean2v k0_pay35 k0_pay36
  pointwise []
  change Ideal.rsqrt (Ideal.div (∑ k, B.h2v (ix2 r k) * B.h2v (ix2 r k)) len + eps) = _
  simp only [h2v_at]
  rfl

theorem hnv_at (r : Fin 512) (j : Fin 1024) : B.hnv (ix2 r j) = hn (B.row r) B.weights j := by
  unfold hnv k0_pay38
  pointwise []
  change B.h2v (ix2 r j) * B.scale2v (ix2 r 0) = _
  rw [h2v_at, scale2v_at]
  rfl

theorem errv_at (r : Fin 512) (j : Fin 1024) : B.errv (ix2 r j) = err (B.row r) B.weights j := by
  unfold errv k0_pay39 k0_pay27
  pointwise []
  change B.hnv (ix2 r j) * B.fw (ix2 0 j) - B.t (ix2 r j) = _
  rw [hnv_at]
  rfl

theorem dyv_at (r : Fin 512) (j : Fin 1024) : B.dyv (ix2 r j) = dy (B.row r) B.weights j := by
  unfold dyv k0_pay41
  pointwise []
  change B.errv (ix2 r j) * invLen = _
  rw [errv_at]
  rfl

theorem dh2v_at (r : Fin 512) (j : Fin 1024) : B.dh2v (ix2 r j) = dh2 (B.row r) B.weights j := by
  unfold dh2 rowGrad
  refine Eq.trans ?_ (zero_add _).symm
  unfold dh2v k0_pay43
  pointwise []
  change B.scale2v (ix2 r 0) * (B.dyv (ix2 r j) * k0_pay27 B.fw (ix2 0 j) - B.hnv (ix2 r j)
    * Ideal.div (∑ k, B.dyv (ix2 r k) * k0_pay27 B.fw (ix2 0 k) * B.hnv (ix2 r k)) len) = _
  simp only [dyv_at, hnv_at, scale2v_at]
  unfold k0_pay27
  pointwise []
  rfl

theorem dppv_at (r : Fin 512) (j : Fin 1024) : B.dppv (ix2 r j) = dpp (B.row r) B.weights j := by
  unfold dppv k0_pay44
  pointwise []
  change B.dh2v (ix2 r j) * B.gatev (ix2 r j) = _
  rw [dh2v_at, gatev_at]
  rfl

theorem dzv_at (r : Fin 512) (j : Fin 1024) : B.dzv (ix2 r j) = dz (B.row r) B.weights j := by
  unfold dzv k0_pay47 dz1v k0_pay45 dz2v k0_pay46
  pointwise []
  change B.dh2v (ix2 r j) * B.ppv (ix2 r j) * B.gatev (ix2 r j) * (1 - B.gatev (ix2 r j)) = _
  rw [dh2v_at, gatev_at, ppv_at]
  rfl

theorem dn2v_at (r : Fin 512) (j : Fin 1024) : B.dn2v (ix2 r j) = dn2 (B.row r) B.weights j := by
  unfold dn2v k0_pay51 k0_pay49
  pointwise []
  change ∑ k, B.dzv (ix2 r k) * B.wg (ix2 j k) = _
  simp only [dzv_at]
  rfl

theorem dh1v_at (r : Fin 512) (j : Fin 1024) : B.dh1v (ix2 r j) = dh1 (B.row r) B.weights j := by
  unfold dh1v k0_pay1 u1v c1v k0_pay59 k0_pay58
  pointwise []
  simp only [dh2v_at, scale1v_at, dn2v_at, n2hv_at]
  rfl

theorem dyabv_at (r : Fin 512) (k : Fin 1024) : B.dyabv (ix2 r k) = dyab (B.row r) B.weights k := by
  unfold dyabv k0_pay3 k0_pay2
  pointwise []
  change ∑ j, B.dh1v (ix2 r j) * B.wo (ix2 k j) = _
  simp only [dh1v_at]
  rfl

/-! ## What the point adds to the running sums -/

theorem sum0_at (acc : Vec Ideal S1x1024 .f32) (j : Fin 1024) :
    k0_pay40 (k0_pay27 B.fw) B.h2v B.mean2v k0_pay36 B.t acc (ix2 0 j)
      = acc (ix2 0 j) + ∑ r, err (B.row r) B.weights j * err (B.row r) B.weights j := by
  unfold k0_pay40
  pointwise []
  change acc (ix2 0 j) + ∑ r, B.errv (ix2 r j) * B.errv (ix2 r j) = _
  simp only [errv_at]

theorem sum1_at (acc : Vec Ideal S1x1024 .f32) (j : Fin 1024) :
    k0_pay42 (k0_pay27 B.fw) B.h2v B.mean2v k0_pay36 B.t acc (ix2 0 j)
      = acc (ix2 0 j) + ∑ r, dy (B.row r) B.weights j * hn (B.row r) B.weights j := by
  unfold k0_pay42
  pointwise []
  change acc (ix2 0 j) + ∑ r, B.dyv (ix2 r j) * B.hnv (ix2 r j) = _
  simp only [dyv_at, hnv_at]

theorem sum2_at (acc : Vec Ideal S1x1024 .f32) (j : Fin 1024) :
    k0_pay48 B.dz1v B.dz2v acc (ix2 0 j) = acc (ix2 0 j) + ∑ r, dz (B.row r) B.weights j := by
  unfold k0_pay48
  pointwise []
  change acc (ix2 0 j) + ∑ r, B.dzv (ix2 r j) = _
  simp only [dzv_at]

theorem sum3_at (acc : Vec Ideal S1x1024 .f32) (j : Fin 1024) :
    k0_pay57 B.n2hv B.dn2v acc (ix2 0 j)
      = acc (ix2 0 j) + ∑ r, dn2 (B.row r) B.weights j * n2h (B.row r) B.weights j := by
  unfold k0_pay57
  pointwise []
  simp only [dn2v_at, n2hv_at]

theorem sumLo_at (acc : Vec Ideal S512x1024 .f32) (k : Fin 512) (j : Fin 1024) :
    k0_pay4 (k0_pay24 B.ya) B.scale1v B.dh2v B.u1v B.c1v acc (ix2 k j)
      = acc (ix2 k j) + ∑ r, (B.row r).ya k * dh1 (B.row r) B.weights j := by
  unfold k0_pay4 k0_pay24 k0_pay2
  pointwise []
  change acc (ix2 k j) + ∑ r, B.ya (ix2 r k) * B.dh1v (ix2 r j) = _
  simp only [dh1v_at]
  rfl

theorem sumHi_at (acc : Vec Ideal S512x1024 .f32) (k : Fin 512) (j : Fin 1024) :
    k0_pay5 (k0_pay25 B.yb) B.scale1v B.dh2v B.u1v B.c1v acc (ix2 k j)
      = acc (ix2 k j) + ∑ r, (B.row r).yb k * dh1 (B.row r) B.weights j := by
  unfold k0_pay5 k0_pay25 k0_pay2
  pointwise []
  change acc (ix2 k j) + ∑ r, B.yb (ix2 r k) * B.dh1v (ix2 r j) = _
  simp only [dh1v_at]
  rfl

theorem sumGate_at (acc : Vec Ideal S1024x1024 .f32) (k j : Fin 1024) :
    k0_pay50 B.n2v B.dz1v B.dz2v acc (ix2 k j)
      = acc (ix2 k j) + ∑ r, n2 (B.row r) B.weights k * dz (B.row r) B.weights j := by
  unfold k0_pay50 k0_pay49
  pointwise []
  change acc (ix2 k j) + ∑ r, B.n2v (ix2 r k) * B.dzv (ix2 r j) = _
  simp only [dzv_at, n2v_at]

theorem sumPle0_at (acc : Vec Ideal S1x256x256 .f32) (k j : Fin 256) :
    k0_pay52 (k0_pay26 B.p) B.dppv acc (ix3 0 k j)
      = acc (ix3 0 k j) + ∑ r, (B.row r).p k * dpp (B.row r) B.weights ⟨0 * 256 + j.val, by omega⟩ := by
  unfold k0_pay52 k0_pay26
  pointwise []
  simp only [dppv_at]
  rfl

theorem sumPle1_at (acc : Vec Ideal S1x256x256 .f32) (k j : Fin 256) :
    k0_pay54 (k0_pay53 (k0_pay26 B.p) B.dppv acc) (ix3 0 k j)
      = acc (ix3 0 k j) + ∑ r, (B.row r).p k * dpp (B.row r) B.weights ⟨1 * 256 + j.val, by omega⟩ := by
  unfold k0_pay54 k0_pay53 k0_pay26
  pointwise []
  simp only [dppv_at]
  rfl

theorem sumPle2_at (acc : Vec Ideal S1x256x256 .f32) (k j : Fin 256) :
    k0_pay55 (k0_pay26 B.p) B.dppv acc (ix3 0 k j)
      = acc (ix3 0 k j) + ∑ r, (B.row r).p k * dpp (B.row r) B.weights ⟨2 * 256 + j.val, by omega⟩ := by
  unfold k0_pay55 k0_pay26
  pointwise []
  simp only [dppv_at]
  rfl

theorem sumPle3_at (acc : Vec Ideal S1x256x256 .f32) (k j : Fin 256) :
    k0_pay56 (k0_pay26 B.p) B.dppv acc (ix3 0 k j)
      = acc (ix3 0 k j) + ∑ r, (B.row r).p k * dpp (B.row r) B.weights ⟨3 * 256 + j.val, by omega⟩ := by
  unfold k0_pay56 k0_pay26
  pointwise []
  simp only [dppv_at]
  rfl

end Blk

end Cert.Kernel3Ideal.Tail

end
-- ==== Proof.Tail.Sums.lean ====
/- What a grid point of the tail leaves in a running sum: the sum before it, and what its 512 rows add. Each sum lies in a
   buffer that the point writes piece by piece: the output projection's gradient in two halves of rows, the embedding's
   projection's in four groups of columns, the sums per column one row each. -/
module

public import proofs.«01_k».proof.Proof.Common.Pieces
public import proofs.«01_k».proof.Proof.Tail.Stage

@[expose] public section

set_option maxRecDepth 16384

noncomputable section

namespace Cert.Kernel3Ideal.Tail.Blk

open Cert.Kernel3Ideal Cert.Kernel3Ideal.Gen Cert.Norm Cert.Tail Cert.Common Idealize.ShloMosaic Idealize.ShloMosaic.TcCoe
open Idealize.SL.Sem

variable (B : Blk)

/-- What the point adds to the gradient of the output projection. -/
def addOut (k j : Fin 1024) : EReal := ∑ r, yab (B.row r) k * dh1 (B.row r) B.weights j

/-- What the point adds to the gradient of the gate's weights. -/
def addGate (k j : Fin 1024) : EReal := ∑ r, n2 (B.row r) B.weights k * dz (B.row r) B.weights j

/-- What the point adds to the gradient of the embedding's projection, group `s` of its columns. -/
def addPle (s : Fin 4) (k j : Fin 256) : EReal := ∑ r, (B.row r).p k * dpp (B.row r) B.weights ⟨s.val * 256 + j.val, by omega⟩

/-- What the point adds to the sums per column. -/
def addSmall (i : Fin 8) (j : Fin 1024) : EReal :=
  if i.val = 0 then ∑ r, err (B.row r) B.weights j * err (B.row r) B.weights j
  else if i.val = 1 then ∑ r, dy (B.row r) B.weights j * hn (B.row r) B.weights j
  else if i.val = 2 then ∑ r, dz (B.row r) B.weights j
  else if i.val = 3 then ∑ r, dn2 (B.row r) B.weights j * n2h (B.row r) B.weights j
  else 0

theorem canon_out (z : Fin 1024 → Fin 1024 → EReal) (lo hi : Vec Ideal S512x1024 .f32)
    (hlo : ∀ (k : Fin 512) (j : Fin 1024), lo (ix2 k j) = z ⟨k.val, by omega⟩ j)
    (hhi : ∀ (k : Fin 512) (j : Fin 1024), hi (ix2 k j) = z ⟨512 + k.val, by omega⟩ j)
    (L : List (View.Piece (Elt Ideal) S1024x1024 .f32)) (k j : Fin 1024) :
    View.canon ((⟨Rect.unit (s := S1024x1024) ![512, 0] ![512, 1024] inb_S1024x1024_S512x1024_512_0,
          k0_pay5 (k0_pay25 B.yb) B.scale1v B.dh2v B.u1v B.c1v hi⟩ : View.Piece (Elt Ideal) S1024x1024 .f32)
        :: ⟨Rect.unit (s := S1024x1024) ![0, 0] ![512, 1024] inb_S1024x1024_S512x1024_0_0,
          k0_pay4 (k0_pay24 B.ya) B.scale1v B.dh2v B.u1v B.c1v lo⟩ :: L) (ix2 k j)
      = z k j + B.addOut k j := by
  unfold addOut yab
  rw [canon_rect2]
  by_cases hk : k.val < 512
  · rw [dif_neg (by omega), canon_rect2, dif_pos (by omega), sumLo_at, hlo]
    simp only [dif_pos hk]
    rfl
  · rw [dif_pos (by omega), sumHi_at, hhi]
    simp only [dif_neg hk]
    congr 2
    exact Fin.ext (by dsimp only; omega)

theorem canon_ple (z : Fin 4 → Fin 256 → Fin 256 → EReal) (a0 a1 a2 a3 : Vec Ideal S1x256x256 .f32)
    (h0 : ∀ k j, a0 (ix3 0 k j) = z 0 k j) (h1 : ∀ k j, a1 (ix3 0 k j) = z 1 k j)
    (h2 : ∀ k j, a2 (ix3 0 k j) = z 2 k j) (h3 : ∀ k j, a3 (ix3 0 k j) = z 3 k j)
    (L : List (View.Piece (Elt Ideal) S4x256x256 .f32)) (s : Fin 4) (k j : Fin 256) :
    View.canon ((⟨Rect.unit (s := S4x256x256) ![3, 0, 0] ![1, 256, 256] inb_S4x256x256_S1x256x256_3_0_0,
          k0_pay56 (k0_pay26 B.p) B.dppv a3⟩ : View.Piece (Elt Ideal) S4x256x256 .f32)
        :: ⟨Rect.unit (s := S4x256x256) ![2, 0, 0] ![1, 256, 256] inb_S4x256x256_S1x256x256_2_0_0,
          k0_pay55 (k0_pay26 B.p) B.dppv a2⟩
        :: ⟨Rect.unit (s := S4x256x256) ![1, 0, 0] ![1, 256, 256] inb_S4x256x256_S1x256x256_1_0_0,
          k0_pay54 (k0_pay53 (k0_pay26 B.p) B.dppv a1)⟩
        :: ⟨Rect.unit (s := S4x256x256) ![0, 0, 0] ![1, 256, 256] inb_S4x256x256_S1x256x256_0_0_0,
          k0_pay52 (k0_pay26 B.p) B.dppv a0⟩ :: L) (ix3 s k j)
      = z s k j + B.addPle s k j := by
  simp only [canon_slab]
  match s with
  | 0 => exact (B.sumPle0_at a0 k j).trans (congrArg (· + _) (h0 k j))
  | 1 => exact (B.sumPle1_at a1 k j).trans (congrArg (· + _) (h1 k j))
  | 2 => exact (B.sumPle2_at a2 k j).trans (congrArg (· + _) (h2 k j))
  | 3 => exact (B.sumPle3_at a3 k j).trans (congrArg (· + _) (h3 k j))

/-- A way to read a buffer of 8 rows after stores: the last store's payload inside its rectangle, the earlier ones' outside. -/
def Reads (rd : List (View.Piece (Elt Ideal) S8x1024 .f32) → Vec Ideal S8x1024 .f32) : Prop :=
  ∀ (a : Nat) (inb : ∀ x, (![a, 0] : Fin 2 → Nat) x + (![1, 1024] : Fin 2 → Nat) x ≤ S8x1024.size x) (P : Vec Ideal S1x1024 .f32)
    (L : List (View.Piece (Elt Ideal) S8x1024 .f32)) (r : Fin 8) (j : Fin 1024),
    rd ((⟨Rect.unit (s := S8x1024) ![a, 0] ![1, 1024] inb, P⟩ : View.Piece (Elt Ideal) S8x1024 .f32) :: L) (ix2 r j)
      = if r.val = a then P (ix2 0 j) else rd L (ix2 r j)

theorem reads_canon : Reads View.canon := by
  intro a inb P L r j
  rw [canon_rect2]
  by_cases hr : r.val = a
  · rw [dif_pos (by omega), if_pos hr]
    congr 2
    exact Fin.ext (by dsimp only; omega)
  · rw [dif_neg (by omega), if_neg hr]

theorem reads_writes {sig : RefSig} {κ : Kind} {sp : Space} (v : View sig κ sp S8x1024 .f32) (f : v.ty.Contents (Elt Ideal)) :
    Reads fun L => v.read (Elt Ideal) (v.writes (Elt Ideal) f L) := by
  intro a inb P L r j
  dsimp only
  rw [read_writes_rect2]
  by_cases hr : r.val = a
  · rw [dif_pos (by omega), if_pos hr]
    congr 2
    exact Fin.ext (by dsimp only; omega)
  · rw [dif_neg (by omega), if_neg hr]

theorem rows_small {rd : List (View.Piece (Elt Ideal) S8x1024 .f32) → Vec Ideal S8x1024 .f32} (hrd : Reads rd)
    (z : Fin 8 → Fin 1024 → EReal) (a0 a1 a2 a3 : Vec Ideal S1x1024 .f32)
    (h0 : ∀ j, a0 (ix2 0 j) = z 0 j) (h1 : ∀ j, a1 (ix2 0 j) = z 1 j) (h2 : ∀ j, a2 (ix2 0 j) = z 2 j)
    (h3 : ∀ j, a3 (ix2 0 j) = z 3 j) (L : List (View.Piece (Elt Ideal) S8x1024 .f32))
    (hL : ∀ i j, rd L (ix2 i j) = z i j) (i : Fin 8) (j : Fin 1024) :
    rd ((⟨Rect.unit (s := S8x1024) ![3, 0] ![1, 1024] inb_S8x1024_S1x1024_3_0,
          k0_pay57 B.n2hv B.dn2v a3⟩ : View.Piece (Elt Ideal) S8x1024 .f32)
        :: ⟨Rect.unit (s := S8x1024) ![2, 0] ![1, 1024] inb_S8x1024_S1x1024_2_0, k0_pay48 B.dz1v B.dz2v a2⟩
        :: ⟨Rect.unit (s := S8x1024) ![1, 0] ![1, 1024] inb_S8x1024_S1x1024_1_0,
          k0_pay42 (k0_pay27 B.fw) B.h2v B.mean2v k0_pay36 B.t a1⟩
        :: ⟨Rect.unit (s := S8x1024) ![0, 0] ![1, 1024] inb_S8x1024_S1x1024_0_0,
          k0_pay40 (k0_pay27 B.fw) B.h2v B.mean2v k0_pay36 B.t a0⟩ :: L) (ix2 i j)
      = z i j + B.addSmall i j := by
  unfold addSmall
  rw [hrd]
  by_cases i3 : i.val = 3
  · rw [if_pos i3, sum3_at, h3]
    obtain rfl : i = 3 := Fin.ext i3
    rfl
  rw [if_neg i3, hrd]
  by_cases i2 : i.val = 2
  · rw [if_pos i2, sum2_at, h2]
    obtain rfl : i = 2 := Fin.ext i2
    rfl
  rw [if_neg i2, hrd]
  by_cases i1 : i.val = 1
  · rw [if_pos i1, sum1_at, h1]
    obtain rfl : i = 1 := Fin.ext i1
    rfl
  rw [if_neg i1, hrd]
  by_cases i0 : i.val = 0
  · rw [if_pos i0, sum0_at, h0]
    obtain rfl : i = 0 := Fin.ext i0
    rfl
  rw [if_neg i0, hL]
  simp only [i0, i1, i2, i3, if_false, add_zero]

/-- The output projection's gradient goes out in four quarters of rows. -/
theorem quarters_out {sig : RefSig} {κ : Kind} {sp : Space} (v : View sig κ sp S1024x1024 .f32)
    (L : List (View.Piece (Elt Ideal) S1024x1024 .f32)) (s : Fin 4) (k : Fin 256) (j : Fin 1024) :
    View.canon ([⟨Rect.unit (s := S4x256x1024) ![3, 0, 0] ![1, 256, 1024] inb_S4x256x1024_S1x256x1024_3_0_0,
          k0_pay6 (v.readCov L (Rect.unit (s := S1024x1024) ![768, 0] ![256, 1024] inb_S1024x1024_S256x1024_768_0).toLoadRect)⟩,
        ⟨Rect.unit (s := S4x256x1024) ![2, 0, 0] ![1, 256, 1024] inb_S4x256x1024_S1x256x1024_2_0_0,
          k0_pay17 (v.readCov L (Rect.unit (s := S1024x1024) ![512, 0] ![256, 1024] inb_S1024x1024_S256x1024_512_0).toLoadRect)⟩,
        ⟨Rect.unit (s := S4x256x1024) ![1, 0, 0] ![1, 256, 1024] inb_S4x256x1024_S1x256x1024_1_0_0,
          k0_pay14 (k0_pay13 (v.readCov L (Rect.unit (s := S1024x1024) ![256, 0] ![256, 1024] inb_S1024x1024_S256x1024_256_0).toLoadRect))⟩,
        ⟨Rect.unit (s := S4x256x1024) ![0, 0, 0] ![1, 256, 1024] inb_S4x256x1024_S1x256x1024_0_0_0,
          k0_pay10 (v.readCov L (Rect.unit (s := S1024x1024) ![0, 0] ![256, 1024] inb_S1024x1024_S256x1024_0_0).toLoadRect)⟩] : List (View.Piece (Elt Ideal) S4x256x1024 .bf16)) (ix3 s k j)
      = View.canon L (ix2 ⟨s.val * 256 + k.val, by omega⟩ j) := by
  match s with
  | 0 =>
    rw [canon_slab, if_neg (by decide), canon_slab, if_neg (by decide), canon_slab, if_neg (by decide), canon_slab, if_pos (by decide)]
    unfold k0_pay10
    pointwise []
    rw [readCov_rect2 _ _ _ _ _ _ _ k j (by omega) (by omega)]
    simp only [Nat.zero_add]
  | 1 =>
    rw [canon_slab, if_neg (by decide), canon_slab, if_neg (by decide), canon_slab, if_pos (by decide)]
    unfold k0_pay14 k0_pay13
    pointwise []
    rw [readCov_rect2 _ _ _ _ _ _ _ k j (by omega) (by omega)]
    simp only [Nat.zero_add]
  | 2 =>
    rw [canon_slab, if_neg (by decide), canon_slab, if_pos (by decide)]
    unfold k0_pay17
    pointwise []
    rw [readCov_rect2 _ _ _ _ _ _ _ k j (by omega) (by omega)]
    simp only [Nat.zero_add]
  | 3 =>
    rw [canon_slab, if_pos (by decide)]
    unfold k0_pay6
    pointwise []
    rw [readCov_rect2 _ _ _ _ _ _ _ k j (by omega) (by omega)]
    simp only [Nat.zero_add]

/-- So does the gradient of the gate's weights. -/
theorem quarters_gate {sig : RefSig} {κ : Kind} {sp : Space} (v : View sig κ sp S1024x1024 .f32)
    (L : List (View.Piece (Elt Ideal) S1024x1024 .f32)) (s : Fin 4) (k : Fin 256) (j : Fin 1024) :
    View.canon ([⟨Rect.unit (s := S4x256x1024) ![3, 0, 0] ![1, 256, 1024] inb_S4x256x1024_S1x256x1024_3_0_0,
          k0_pay7 (v.readCov L (Rect.unit (s := S1024x1024) ![768, 0] ![256, 1024] inb_S1024x1024_S256x1024_768_0).toLoadRect)⟩,
        ⟨Rect.unit (s := S4x256x1024) ![2, 0, 0] ![1, 256, 1024] inb_S4x256x1024_S1x256x1024_2_0_0,
          k0_pay18 (v.readCov L (Rect.unit (s := S1024x1024) ![512, 0] ![256, 1024] inb_S1024x1024_S256x1024_512_0).toLoadRect)⟩,
        ⟨Rect.unit (s := S4x256x1024) ![1, 0, 0] ![1, 256, 1024] inb_S4x256x1024_S1x256x1024_1_0_0,
          k0_pay15 (v.readCov L (Rect.unit (s := S1024x1024) ![256, 0] ![256, 1024] inb_S1024x1024_S256x1024_256_0).toLoadRect)⟩,
        ⟨Rect.unit (s := S4x256x1024) ![0, 0, 0] ![1, 256, 1024] inb_S4x256x1024_S1x256x1024_0_0_0,
          k0_pay11 (v.readCov L (Rect.unit (s := S1024x1024) ![0, 0] ![256, 1024] inb_S1024x1024_S256x1024_0_0).toLoadRect)⟩] : List (View.Piece (Elt Ideal) S4x256x1024 .bf16)) (ix3 s k j)
      = View.canon L (ix2 ⟨s.val * 256 + k.val, by omega⟩ j) := by
  match s with
  | 0 =>
    rw [canon_slab, if_neg (by decide), canon_slab, if_neg (by decide), canon_slab, if_neg (by decide), canon_slab, if_pos (by decide)]
    unfold k0_pay11
    pointwise []
    rw [readCov_rect2 _ _ _ _ _ _ _ k j (by omega) (by omega)]
    simp only [Nat.zero_add]
  | 1 =>
    rw [canon_slab, if_neg (by decide), canon_slab, if_neg (by decide), canon_slab, if_pos (by decide)]
    unfold k0_pay15
    pointwise []
    rw [readCov_rect2 _ _ _ _ _ _ _ k j (by omega) (by omega)]
    simp only [Nat.zero_add]
  | 2 =>
    rw [canon_slab, if_neg (by decide), canon_slab, if_pos (by decide)]
    unfold k0_pay18
    pointwise []
    rw [readCov_rect2 _ _ _ _ _ _ _ k j (by omega) (by omega)]
    simp only [Nat.zero_add]
  | 3 =>
    rw [canon_slab, if_pos (by decide)]
    unfold k0_pay7
    pointwise []
    rw [readCov_rect2 _ _ _ _ _ _ _ k j (by omega) (by omega)]
    simp only [Nat.zero_add]

/-- The embedding's projection's gradient goes out group by group. -/
theorem groups_ple {sig : RefSig} {κ : Kind} {sp : Space} (v : View sig κ sp S4x256x256 .f32)
    (L : List (View.Piece (Elt Ideal) S4x256x256 .f32)) (s : Fin 4) (k j : Fin 256) :
    View.canon ([⟨Rect.unit (s := S4x256x256) ![3, 0, 0] ![1, 256, 256] inb_S4x256x256_S1x256x256_3_0_0,
          k0_pay8 (v.readCov L (Rect.unit (s := S4x256x256) ![3, 0, 0] ![1, 256, 256] inb_S4x256x256_S1x256x256_3_0_0).toLoadRect)⟩,
        ⟨Rect.unit (s := S4x256x256) ![2, 0, 0] ![1, 256, 256] inb_S4x256x256_S1x256x256_2_0_0,
          k0_pay19 (v.readCov L (Rect.unit (s := S4x256x256) ![2, 0, 0] ![1, 256, 256] inb_S4x256x256_S1x256x256_2_0_0).toLoadRect)⟩,
        ⟨Rect.unit (s := S4x256x256) ![1, 0, 0] ![1, 256, 256] inb_S4x256x256_S1x256x256_1_0_0,
          k0_pay16 (v.readCov L (Rect.unit (s := S4x256x256) ![1, 0, 0] ![1, 256, 256] inb_S4x256x256_S1x256x256_1_0_0).toLoadRect)⟩,
        ⟨Rect.unit (s := S4x256x256) ![0, 0, 0] ![1, 256, 256] inb_S4x256x256_S1x256x256_0_0_0,
          k0_pay12 (v.readCov L (Rect.unit (s := S4x256x256) ![0, 0, 0] ![1, 256, 256] inb_S4x256x256_S1x256x256_0_0_0).toLoadRect)⟩] : List (View.Piece (Elt Ideal) S4x256x256 .bf16)) (ix3 s k j)
      = View.canon L (ix3 s k j) := by
  match s with
  | 0 =>
    rw [canon_slab, if_neg (by decide), canon_slab, if_neg (by decide), canon_slab, if_neg (by decide), canon_slab, if_pos (by decide)]
    unfold k0_pay12
    pointwise []
    exact readCov_slab _ _ _ _ (by decide) k j
  | 1 =>
    rw [canon_slab, if_neg (by decide), canon_slab, if_neg (by decide), canon_slab, if_pos (by decide)]
    unfold k0_pay16
    pointwise []
    exact readCov_slab _ _ _ _ (by decide) k j
  | 2 =>
    rw [canon_slab, if_neg (by decide), canon_slab, if_pos (by decide)]
    unfold k0_pay19
    pointwise []
    exact readCov_slab _ _ _ _ (by decide) k j
  | 3 =>
    rw [canon_slab, if_pos (by decide)]
    unfold k0_pay8
    pointwise []
    exact readCov_slab _ _ _ _ (by decide) k j

end Cert.Kernel3Ideal.Tail.Blk

end
-- ==== Proof.Tail.Body.lean ====
/- What one grid point of the tail leaves in its output blocks and in the running sums it keeps, element by element. -/
module

public import proofs.«01_k».proof.Proof.Gen.Kernel3Ideal.Value
public import proofs.«01_k».proof.Proof.Common.Pieces
public import proofs.«01_k».proof.Proof.Tail.Sums

@[expose] public section

set_option maxRecDepth 16384

noncomputable section

namespace Cert.Kernel3Ideal.Tail

open Cert.Kernel3Ideal Cert.Kernel3Ideal.Gen Idealize.ShloMosaic Idealize.ShloMosaic.TcCoe Idealize.SL.Sem
open Cert.Norm Cert.Tail Cert.Common

theorem origin2 : (![0, 0] : Fin 2 → Nat) = fun _ => 0 := funext fun a => by fin_cases a <;> rfl
theorem origin3 : (![0, 0, 0] : Fin 3 → Nat) = fun _ => 0 := funext fun a => by fin_cases a <;> rfl

section

variable (B : Blk) (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S4x256x1024 .bf16) (harg14 : arg14.IsWhole) (arg15 : Memref sig .tc .vmem S4x256x1024 .bf16) (harg15 : arg15.IsWhole) (arg16 : Memref sig .tc .vmem S4x256x256 .bf16) (harg16 : arg16.IsWhole) (arg17 : Memref sig .tc .vmem S8x1024 .f32) (harg17 : arg17.IsWhole) (arg18 : Memref sig .tc .vmem S1024x1024 .f32) (harg18 : arg18.IsWhole) (arg19 : Memref sig .tc .vmem S1024x1024 .f32) (harg19 : arg19.IsWhole) (arg20 : Memref sig .tc .vmem S4x256x256 .f32) (harg20 : arg20.IsWhole)

/-! ## Case A: the first point, which clears the running sums -/

theorem out_A_11 (hc0 : cond0_0 i) (hc1 : ¬cond0_1 i) (r : Fin 512) (j : Fin 1024) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 B.x B.p B.t B.ya B.yb B.wo B.wg B.wp B.pw B.b B.fw (ix2 r j)
      = dh1 (B.row r) B.weights j := by
  unfold out0_A_11
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, View.ld_unit_zero (S := S512x1024) origin2, View.ld_unit_zero (S := S512x512) origin2, View.ld_unit_zero (S := S512x256) origin2, View.ld_unit_zero (S := S1x1024) origin2, View.ld_unit_zero (S := S1024x1024) origin2]
  rw [View.canon_unit_zero origin2]
  exact B.dh1v_at r j

theorem out_A_12 (hc0 : cond0_0 i) (hc1 : ¬cond0_1 i) (r : Fin 512) (j : Fin 1024) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 B.x B.p B.t B.ya B.yb B.wo B.wg B.wp B.pw B.b B.fw (ix2 r j)
      = dyab (B.row r) B.weights j := by
  unfold out0_A_12
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, View.ld_unit_zero (S := S512x1024) origin2, View.ld_unit_zero (S := S512x512) origin2, View.ld_unit_zero (S := S512x256) origin2, View.ld_unit_zero (S := S1x1024) origin2, View.ld_unit_zero (S := S1024x1024) origin2]
  rw [View.canon_unit_zero origin2]
  exact B.dyabv_at r j

theorem sout_A_0 (hc0 : cond0_0 i) (hc1 : ¬cond0_1 i) (k j : Fin 1024) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 B.x B.p B.t B.ya B.yb B.wo B.wg B.wp B.pw B.b B.fw (ix2 k j)
      = B.addOut k j := by
  unfold sout0_A_0
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, View.ld_unit_zero (S := S512x1024) origin2, View.ld_unit_zero (S := S512x512) origin2, View.ld_unit_zero (S := S512x256) origin2, View.ld_unit_zero (S := S1x1024) origin2, View.ld_unit_zero (S := S1024x1024) origin2]
  have hz (k j : Fin 1024) : View.canon [(⟨Rect.unit (s := S1024x1024) ![0, 0] ![1024, 1024] inb_S1024x1024_S1024x1024_0_0, k0_pay20 (F := Ideal)⟩ : View.Piece (Elt Ideal) S1024x1024 .f32)] (ix2 k j) = 0 := by
    rw [View.canon_unit_zero origin2]
    unfold k0_pay20
    pointwise []
  refine (B.canon_out (fun _ _ => 0) _ _ ?_ ?_ _ k j).trans (zero_add _)
  · intro k j
    rw [readCov_rect2 _ _ _ _ _ _ _ k j (by omega) (by omega)]
    exact hz _ _
  · intro k j
    rw [readCov_rect2 _ _ _ _ _ _ _ k j (by omega) (by omega), canon_rect2, dif_neg (by dsimp only; omega)]
    exact hz _ _

theorem sout_A_1 (hc0 : cond0_0 i) (hc1 : ¬cond0_1 i) (k j : Fin 1024) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 B.x B.p B.t B.ya B.yb B.wo B.wg B.wp B.pw B.b B.fw (ix2 k j)
      = B.addGate k j := by
  unfold sout0_A_1
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, View.ld_unit_zero (S := S512x1024) origin2, View.ld_unit_zero (S := S512x512) origin2, View.ld_unit_zero (S := S512x256) origin2, View.ld_unit_zero (S := S1x1024) origin2, View.ld_unit_zero (S := S1024x1024) origin2]
  have hz (k j : Fin 1024) : View.canon [(⟨Rect.unit (s := S1024x1024) ![0, 0] ![1024, 1024] inb_S1024x1024_S1024x1024_0_0, k0_pay21 (F := Ideal)⟩ : View.Piece (Elt Ideal) S1024x1024 .f32)] (ix2 k j) = 0 := by
    rw [View.canon_unit_zero origin2]
    unfold k0_pay21
    pointwise []
  rw [View.canon_cons_unit_zero origin2]
  refine (B.sumGate_at _ k j).trans ?_
  rw [readCov_rect2 _ _ _ _ _ _ _ k j (by omega) (by omega)]
  exact (congrArg (· + _) (hz _ _)).trans (zero_add _)

theorem sout_A_2 (hc0 : cond0_0 i) (hc1 : ¬cond0_1 i) (s : Fin 4) (k j : Fin 256) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 B.x B.p B.t B.ya B.yb B.wo B.wg B.wp B.pw B.b B.fw (ix3 s k j)
      = B.addPle s k j := by
  unfold sout0_A_2
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, View.ld_unit_zero (S := S512x1024) origin2, View.ld_unit_zero (S := S512x512) origin2, View.ld_unit_zero (S := S512x256) origin2, View.ld_unit_zero (S := S1x1024) origin2, View.ld_unit_zero (S := S1024x1024) origin2]
  have hz (s : Fin 4) (k j : Fin 256) : View.canon [(⟨Rect.unit (s := S4x256x256) ![0, 0, 0] ![4, 256, 256] inb_S4x256x256_S4x256x256_0_0_0, k0_pay22 (F := Ideal)⟩ : View.Piece (Elt Ideal) S4x256x256 .f32)] (ix3 s k j) = 0 := by
    rw [View.canon_unit_zero origin3]
    unfold k0_pay22
    pointwise []
  refine (B.canon_ple (fun _ _ _ => 0) _ _ _ _ ?_ ?_ ?_ ?_ _ s k j).trans (zero_add _)
  · intro k j
    rw [readCov_slab _ _ _ _ (by decide) k j]
    exact hz _ k j
  · intro k j
    rw [readCov_slab _ _ _ _ (by decide) k j, canon_slab, if_neg (by decide)]
    exact hz _ k j
  · intro k j
    rw [readCov_slab _ _ _ _ (by decide) k j, canon_slab, if_neg (by decide), canon_slab, if_neg (by decide)]
    exact hz _ k j
  · intro k j
    rw [readCov_slab _ _ _ _ (by decide) k j, canon_slab, if_neg (by decide), canon_slab, if_neg (by decide), canon_slab,
      if_neg (by decide)]
    exact hz _ k j

theorem out_A_16 (hc0 : cond0_0 i) (hc1 : ¬cond0_1 i) (r : Fin 8) (j : Fin 1024) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 B.x B.p B.t B.ya B.yb B.wo B.wg B.wp B.pw B.b B.fw (ix2 r j)
      = B.addSmall r j := by
  unfold out0_A_16
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, View.ld_unit_zero (S := S512x1024) origin2, View.ld_unit_zero (S := S512x512) origin2, View.ld_unit_zero (S := S512x256) origin2, View.ld_unit_zero (S := S1x1024) origin2, View.ld_unit_zero (S := S1024x1024) origin2]
  have hz (r : Fin 8) (j : Fin 1024) : View.canon [(⟨Rect.unit (s := S8x1024) ![0, 0] ![8, 1024] inb_S8x1024_S8x1024_0_0, k0_pay23 (F := Ideal)⟩ : View.Piece (Elt Ideal) S8x1024 .f32)] (ix2 r j) = 0 := by
    rw [View.canon_unit_zero origin2]
    unfold k0_pay23
    pointwise []
  refine (B.rows_small Blk.reads_canon (fun _ _ => 0) _ _ _ _ ?_ ?_ ?_ ?_ _ ?_ r j).trans (zero_add _)
  · intro j
    rw [readCov_rect2 _ _ _ _ _ _ _ 0 j (by decide) (by omega)]
    exact hz _ _
  · intro j
    rw [readCov_rect2 _ _ _ _ _ _ _ 0 j (by decide) (by omega), Blk.reads_canon, if_neg (by decide)]
    exact hz _ _
  · intro j
    rw [readCov_rect2 _ _ _ _ _ _ _ 0 j (by decide) (by omega), Blk.reads_canon, if_neg (by decide), Blk.reads_canon,
      if_neg (by decide)]
    exact hz _ _
  · intro j
    rw [readCov_rect2 _ _ _ _ _ _ _ 0 j (by decide) (by omega), Blk.reads_canon, if_neg (by decide), Blk.reads_canon,
      if_neg (by decide), Blk.reads_canon, if_neg (by decide)]
    exact hz _ _
  · exact hz

/-! ## Case B: a point between -/

theorem out_B_11 (hc0 : ¬cond0_0 i) (hc1 : ¬cond0_1 i) (x16 : Vec Ideal S8x1024 .f32) (s0 : Vec Ideal S1024x1024 .f32) (s1 : Vec Ideal S1024x1024 .f32) (s2 : Vec Ideal S4x256x256 .f32) (r : Fin 512) (j : Fin 1024) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 B.x B.p B.t B.ya B.yb B.wo B.wg B.wp B.pw B.b B.fw x16 s0 s1 s2 (ix2 r j)
      = dh1 (B.row r) B.weights j := by
  unfold out0_B_11
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, View.ld_unit_zero (S := S512x1024) origin2, View.ld_unit_zero (S := S512x512) origin2, View.ld_unit_zero (S := S512x256) origin2, View.ld_unit_zero (S := S1x1024) origin2, View.ld_unit_zero (S := S1024x1024) origin2]
  rw [View.canon_unit_zero origin2]
  exact B.dh1v_at r j

theorem out_B_12 (hc0 : ¬cond0_0 i) (hc1 : ¬cond0_1 i) (x16 : Vec Ideal S8x1024 .f32) (s0 : Vec Ideal S1024x1024 .f32) (s1 : Vec Ideal S1024x1024 .f32) (s2 : Vec Ideal S4x256x256 .f32) (r : Fin 512) (j : Fin 1024) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 B.x B.p B.t B.ya B.yb B.wo B.wg B.wp B.pw B.b B.fw x16 s0 s1 s2 (ix2 r j)
      = dyab (B.row r) B.weights j := by
  unfold out0_B_12
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, View.ld_unit_zero (S := S512x1024) origin2, View.ld_unit_zero (S := S512x512) origin2, View.ld_unit_zero (S := S512x256) origin2, View.ld_unit_zero (S := S1x1024) origin2, View.ld_unit_zero (S := S1024x1024) origin2]
  rw [View.canon_unit_zero origin2]
  exact B.dyabv_at r j

theorem sout_B_0 (hc0 : ¬cond0_0 i) (hc1 : ¬cond0_1 i) (x16 : Vec Ideal S8x1024 .f32) (s0 : Vec Ideal S1024x1024 .f32) (s1 : Vec Ideal S1024x1024 .f32) (s2 : Vec Ideal S4x256x256 .f32) (k j : Fin 1024) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 B.x B.p B.t B.ya B.yb B.wo B.wg B.wp B.pw B.b B.fw x16 s0 s1 s2 (ix2 k j)
      = s0 (ix2 k j) + B.addOut k j := by
  unfold sout0_B_0
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, View.ld_unit_zero (S := S512x1024) origin2, View.ld_unit_zero (S := S512x512) origin2, View.ld_unit_zero (S := S512x256) origin2, View.ld_unit_zero (S := S1x1024) origin2, View.ld_unit_zero (S := S1024x1024) origin2]
  refine B.canon_out (fun k j => s0 (ix2 k j)) _ _ ?_ ?_ _ k j
  all_goals
    intro k j
    rw [ld_rect2 _ _ _ _ _ _ k j (by omega) (by omega)]
    simp only [Nat.zero_add]

theorem sout_B_1 (hc0 : ¬cond0_0 i) (hc1 : ¬cond0_1 i) (x16 : Vec Ideal S8x1024 .f32) (s0 : Vec Ideal S1024x1024 .f32) (s1 : Vec Ideal S1024x1024 .f32) (s2 : Vec Ideal S4x256x256 .f32) (k j : Fin 1024) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 B.x B.p B.t B.ya B.yb B.wo B.wg B.wp B.pw B.b B.fw x16 s0 s1 s2 (ix2 k j)
      = s1 (ix2 k j) + B.addGate k j := by
  unfold sout0_B_1
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, View.ld_unit_zero (S := S512x1024) origin2, View.ld_unit_zero (S := S512x512) origin2, View.ld_unit_zero (S := S512x256) origin2, View.ld_unit_zero (S := S1x1024) origin2, View.ld_unit_zero (S := S1024x1024) origin2]
  rw [View.canon_unit_zero origin2]
  exact B.sumGate_at _ k j

theorem sout_B_2 (hc0 : ¬cond0_0 i) (hc1 : ¬cond0_1 i) (x16 : Vec Ideal S8x1024 .f32) (s0 : Vec Ideal S1024x1024 .f32) (s1 : Vec Ideal S1024x1024 .f32) (s2 : Vec Ideal S4x256x256 .f32) (s : Fin 4) (k j : Fin 256) :
    sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 B.x B.p B.t B.ya B.yb B.wo B.wg B.wp B.pw B.b B.fw x16 s0 s1 s2 (ix3 s k j)
      = s2 (ix3 s k j) + B.addPle s k j := by
  unfold sout0_B_2
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, View.ld_unit_zero (S := S512x1024) origin2, View.ld_unit_zero (S := S512x512) origin2, View.ld_unit_zero (S := S512x256) origin2, View.ld_unit_zero (S := S1x1024) origin2, View.ld_unit_zero (S := S1024x1024) origin2]
  refine B.canon_ple (fun s k j => s2 (ix3 s k j)) _ _ _ _ ?_ ?_ ?_ ?_ _ s k j
  all_goals
    intro k j
    rw [ld_slab _ _ _ (by decide) k j]
    rfl

theorem out_B_16 (hc0 : ¬cond0_0 i) (hc1 : ¬cond0_1 i) (x16 : Vec Ideal S8x1024 .f32) (s0 : Vec Ideal S1024x1024 .f32) (s1 : Vec Ideal S1024x1024 .f32) (s2 : Vec Ideal S4x256x256 .f32) (r : Fin 8) (j : Fin 1024) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 B.x B.p B.t B.ya B.yb B.wo B.wg B.wp B.pw B.b B.fw x16 s0 s1 s2 (ix2 r j)
      = x16 (ix2 r j) + B.addSmall r j := by
  unfold out0_B_16
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, View.ld_unit_zero (S := S512x1024) origin2, View.ld_unit_zero (S := S512x512) origin2, View.ld_unit_zero (S := S512x256) origin2, View.ld_unit_zero (S := S1x1024) origin2, View.ld_unit_zero (S := S1024x1024) origin2]
  refine B.rows_small (Blk.reads_writes _ _) (fun r j => x16 (ix2 r j)) _ _ _ _ ?_ ?_ ?_ ?_ _ ?_ r j
  · exact fun j => (ld_rect2 x16 0 0 1 1024 _ 0 j (by decide) (by omega)).trans (by simp only [Nat.zero_add]; rfl)
  · exact fun j => (ld_rect2 x16 1 0 1 1024 _ 0 j (by decide) (by omega)).trans (by simp only [Nat.zero_add]; rfl)
  · exact fun j => (ld_rect2 x16 2 0 1 1024 _ 0 j (by decide) (by omega)).trans (by simp only [Nat.zero_add]; rfl)
  · exact fun j => (ld_rect2 x16 3 0 1 1024 _ 0 j (by decide) (by omega)).trans (by simp only [Nat.zero_add]; rfl)
  · intro r j
    rw [View.writes_nil, harg17.read_unread]

/-! ## Case C: the last point, which copies the running sums out -/

theorem out_C_11 (hc0 : ¬cond0_0 i) (hc1 : cond0_1 i) (x16 : Vec Ideal S8x1024 .f32) (s0 : Vec Ideal S1024x1024 .f32) (s1 : Vec Ideal S1024x1024 .f32) (s2 : Vec Ideal S4x256x256 .f32) (r : Fin 512) (j : Fin 1024) :
    out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 B.x B.p B.t B.ya B.yb B.wo B.wg B.wp B.pw B.b B.fw x16 s0 s1 s2 (ix2 r j)
      = dh1 (B.row r) B.weights j := by
  unfold out0_C_11
  rw [View.read_writes_junk_eq_canon]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, View.ld_unit_zero (S := S512x1024) origin2, View.ld_unit_zero (S := S512x512) origin2, View.ld_unit_zero (S := S512x256) origin2, View.ld_unit_zero (S := S1x1024) origin2, View.ld_unit_zero (S := S1024x1024) origin2]
  rw [View.canon_unit_zero origin2]
  exact B.dh1v_at r j

theorem out_C_12 (hc0 : ¬cond0_0 i) (hc1 : cond0_1 i) (x16 : Vec Ideal S8x1024 .f32) (s0 : Vec Ideal S1024x1024 .f32) (s1 : Vec Ideal S1024x1024 .f32) (s2 : Vec Ideal S4x256x256 .f32) (r : Fin 512) (j : Fin 1024) :
    out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 B.x B.p B.t B.ya B.yb B.wo B.wg B.wp B.pw B.b B.fw x16 s0 s1 s2 (ix2 r j)
      = dyab (B.row r) B.weights j := by
  unfold out0_C_12
  rw [View.read_writes_junk_eq_canon]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, View.ld_unit_zero (S := S512x1024) origin2, View.ld_unit_zero (S := S512x512) origin2, View.ld_unit_zero (S := S512x256) origin2, View.ld_unit_zero (S := S1x1024) origin2, View.ld_unit_zero (S := S1024x1024) origin2]
  rw [View.canon_unit_zero origin2]
  exact B.dyabv_at r j

theorem sout_C_0 (hc0 : ¬cond0_0 i) (hc1 : cond0_1 i) (x16 : Vec Ideal S8x1024 .f32) (s0 : Vec Ideal S1024x1024 .f32) (s1 : Vec Ideal S1024x1024 .f32) (s2 : Vec Ideal S4x256x256 .f32) (k j : Fin 1024) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 B.x B.p B.t B.ya B.yb B.wo B.wg B.wp B.pw B.b B.fw x16 s0 s1 s2 (ix2 k j)
      = s0 (ix2 k j) + B.addOut k j := by
  unfold sout0_C_0
  rw [View.read_writes_junk_eq_canon]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, View.ld_unit_zero (S := S512x1024) origin2, View.ld_unit_zero (S := S512x512) origin2, View.ld_unit_zero (S := S512x256) origin2, View.ld_unit_zero (S := S1x1024) origin2, View.ld_unit_zero (S := S1024x1024) origin2]
  refine B.canon_out (fun k j => s0 (ix2 k j)) _ _ ?_ ?_ _ k j
  all_goals
    intro k j
    rw [ld_rect2 _ _ _ _ _ _ k j (by omega) (by omega)]
    simp only [Nat.zero_add]

theorem sout_C_1 (hc0 : ¬cond0_0 i) (hc1 : cond0_1 i) (x16 : Vec Ideal S8x1024 .f32) (s0 : Vec Ideal S1024x1024 .f32) (s1 : Vec Ideal S1024x1024 .f32) (s2 : Vec Ideal S4x256x256 .f32) (k j : Fin 1024) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 B.x B.p B.t B.ya B.yb B.wo B.wg B.wp B.pw B.b B.fw x16 s0 s1 s2 (ix2 k j)
      = s1 (ix2 k j) + B.addGate k j := by
  unfold sout0_C_1
  rw [View.read_writes_junk_eq_canon]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, View.ld_unit_zero (S := S512x1024) origin2, View.ld_unit_zero (S := S512x512) origin2, View.ld_unit_zero (S := S512x256) origin2, View.ld_unit_zero (S := S1x1024) origin2, View.ld_unit_zero (S := S1024x1024) origin2]
  rw [View.canon_unit_zero origin2]
  exact B.sumGate_at _ k j

theorem sout_C_2 (hc0 : ¬cond0_0 i) (hc1 : cond0_1 i) (x16 : Vec Ideal S8x1024 .f32) (s0 : Vec Ideal S1024x1024 .f32) (s1 : Vec Ideal S1024x1024 .f32) (s2 : Vec Ideal S4x256x256 .f32) (s : Fin 4) (k j : Fin 256) :
    sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 B.x B.p B.t B.ya B.yb B.wo B.wg B.wp B.pw B.b B.fw x16 s0 s1 s2 (ix3 s k j)
      = s2 (ix3 s k j) + B.addPle s k j := by
  unfold sout0_C_2
  rw [View.read_writes_junk_eq_canon]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, View.ld_unit_zero (S := S512x1024) origin2, View.ld_unit_zero (S := S512x512) origin2, View.ld_unit_zero (S := S512x256) origin2, View.ld_unit_zero (S := S1x1024) origin2, View.ld_unit_zero (S := S1024x1024) origin2]
  refine B.canon_ple (fun s k j => s2 (ix3 s k j)) _ _ _ _ ?_ ?_ ?_ ?_ _ s k j
  all_goals
    intro k j
    rw [ld_slab _ _ _ (by decide) k j]
    rfl

theorem out_C_16 (hc0 : ¬cond0_0 i) (hc1 : cond0_1 i) (x16 : Vec Ideal S8x1024 .f32) (s0 : Vec Ideal S1024x1024 .f32) (s1 : Vec Ideal S1024x1024 .f32) (s2 : Vec Ideal S4x256x256 .f32) (r : Fin 8) (j : Fin 1024) :
    out0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 B.x B.p B.t B.ya B.yb B.wo B.wg B.wp B.pw B.b B.fw x16 s0 s1 s2 (ix2 r j)
      = if r.val = 4 then (∑ l, (x16 (ix2 0 l) + B.addSmall 0 l)) * Ideal.ofBits .f32 0x3A000000#32
        else x16 (ix2 r j) + B.addSmall r j := by
  unfold out0_C_16
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, View.ld_unit_zero (S := S512x1024) origin2, View.ld_unit_zero (S := S512x512) origin2, View.ld_unit_zero (S := S512x256) origin2, View.ld_unit_zero (S := S1x1024) origin2, View.ld_unit_zero (S := S1024x1024) origin2]
  have hx (a : Nat) (ha : a < 8) (inb) (l : Fin 1024) :
      View.ld x16 (Rect.unit (s := S8x1024) ![a, 0] ![1, 1024] inb) (ix2 0 l) = x16 (ix2 ⟨a, ha⟩ l) :=
    (ld_rect2 x16 a 0 1 1024 inb 0 l (by simpa using ha) (by omega)).trans (by simp only [Nat.zero_add]; rfl)
  refine (Blk.reads_writes _ _ _ _ _ _ r j).trans ?_
  by_cases hr : r.val = 4
  · rw [if_pos hr, if_pos hr]
    unfold k0_pay9
    pointwise []
    refine congrArg (· * _) (Finset.sum_congr rfl fun l _ => ?_)
    rw [readCov_rect2 _ _ _ _ _ _ _ 0 l (by decide) (by omega)]
    rw [Blk.reads_canon, if_neg (by decide), Blk.reads_canon, if_neg (by decide), Blk.reads_canon, if_neg (by decide),
      Blk.reads_canon, if_pos (by decide)]
    simp only [Nat.zero_add]
    exact (B.sum0_at _ l).trans (congrArg (· + _) (hx 0 (by decide) _ l))
  · rw [if_neg hr, if_neg hr]
    refine B.rows_small (Blk.reads_writes _ _) (fun r j => x16 (ix2 r j)) _ _ _ _ (hx 0 (by decide) _) (hx 1 (by decide) _)
      (hx 2 (by decide) _) (hx 3 (by decide) _) _ (fun r j => ?_) r j
    rw [View.writes_nil, harg17.read_unread]

theorem out_C_13 (hc0 : ¬cond0_0 i) (hc1 : cond0_1 i) (x16 : Vec Ideal S8x1024 .f32) (s0 : Vec Ideal S1024x1024 .f32) (s1 : Vec Ideal S1024x1024 .f32) (s2 : Vec Ideal S4x256x256 .f32) (s : Fin 4) (k : Fin 256) (j : Fin 1024) :
    out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 B.x B.p B.t B.ya B.yb B.wo B.wg B.wp B.pw B.b B.fw x16 s0 s1 s2 (ix3 s k j)
      = s0 (ix2 ⟨s.val * 256 + k.val, by omega⟩ j) + B.addOut ⟨s.val * 256 + k.val, by omega⟩ j := by
  unfold out0_C_13
  rw [View.read_writes_junk_eq_canon]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, View.ld_unit_zero (S := S512x1024) origin2, View.ld_unit_zero (S := S512x512) origin2, View.ld_unit_zero (S := S512x256) origin2, View.ld_unit_zero (S := S1x1024) origin2, View.ld_unit_zero (S := S1024x1024) origin2]
  refine (Blk.quarters_out _ _ s k j).trans (B.canon_out (fun k j => s0 (ix2 k j)) _ _ ?_ ?_ _ _ j)
  all_goals
    intro k j
    rw [ld_rect2 _ _ _ _ _ _ k j (by omega) (by omega)]
    simp only [Nat.zero_add]

theorem out_C_14 (hc0 : ¬cond0_0 i) (hc1 : cond0_1 i) (x16 : Vec Ideal S8x1024 .f32) (s0 : Vec Ideal S1024x1024 .f32) (s1 : Vec Ideal S1024x1024 .f32) (s2 : Vec Ideal S4x256x256 .f32) (s : Fin 4) (k : Fin 256) (j : Fin 1024) :
    out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 B.x B.p B.t B.ya B.yb B.wo B.wg B.wp B.pw B.b B.fw x16 s0 s1 s2 (ix3 s k j)
      = s1 (ix2 ⟨s.val * 256 + k.val, by omega⟩ j) + B.addGate ⟨s.val * 256 + k.val, by omega⟩ j := by
  unfold out0_C_14
  rw [View.read_writes_junk_eq_canon]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, View.ld_unit_zero (S := S512x1024) origin2, View.ld_unit_zero (S := S512x512) origin2, View.ld_unit_zero (S := S512x256) origin2, View.ld_unit_zero (S := S1x1024) origin2, View.ld_unit_zero (S := S1024x1024) origin2]
  refine (Blk.quarters_gate _ _ s k j).trans ?_
  rw [View.canon_unit_zero origin2]
  exact B.sumGate_at _ _ _

theorem out_C_15 (hc0 : ¬cond0_0 i) (hc1 : cond0_1 i) (x16 : Vec Ideal S8x1024 .f32) (s0 : Vec Ideal S1024x1024 .f32) (s1 : Vec Ideal S1024x1024 .f32) (s2 : Vec Ideal S4x256x256 .f32) (s : Fin 4) (k j : Fin 256) :
    out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 B.x B.p B.t B.ya B.yb B.wo B.wg B.wp B.pw B.b B.fw x16 s0 s1 s2 (ix3 s k j)
      = s2 (ix3 s k j) + B.addPle s k j := by
  unfold out0_C_15
  rw [View.read_writes_junk_eq_canon]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, View.ld_unit_zero (S := S512x1024) origin2, View.ld_unit_zero (S := S512x512) origin2, View.ld_unit_zero (S := S512x256) origin2, View.ld_unit_zero (S := S1x1024) origin2, View.ld_unit_zero (S := S1024x1024) origin2]
  refine (Blk.groups_ple _ _ s k j).trans (B.canon_ple (fun s k j => s2 (ix3 s k j)) _ _ _ _ ?_ ?_ ?_ ?_ _ s k j)
  all_goals
    intro k j
    rw [ld_slab _ _ _ (by decide) k j]
    rfl

end

end Cert.Kernel3Ideal.Tail

end
-- ==== Proof.Tail.Arrays.lean ====
/- What the tail's kernel leaves in its six result arrays, as functions of its arguments.

   A grid point `t` works on rows `512 t … 512 t + 511`. The gradients of the weights and the sums per column are running
   sums over the eight points; the last point copies the weights' gradients out. -/
module

public import proofs.«01_k».proof.Proof.Tail.Body
public import proofs.«01_k».proof.Proof.Gen.Kernel3Ideal.Value
public import Idealize.ShloMosaic.Lib.Pipeline.ValueKit

@[expose] public section

noncomputable section

namespace Cert.Kernel3Ideal.Tail

open Cert.Kernel3Ideal Cert.Kernel3Ideal.Gen Cert.Norm Cert.Tail Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Point `t`'s block of a row-tiled window is block `(t, 0)`; the weights are whole at every point. -/
theorem tiled (t : Fin cfg0.N) : win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0, 0] ∧ win0_8.index t = ![0, 0] ∧ win0_9.index t = ![0, 0] ∧ win0_10.index t = ![0, 0] ∧ win0_11.index t = ![t.val, 0] ∧ win0_12.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0, 0] ∧ win0_8.index t = ![0, 0] ∧ win0_9.index t = ![0, 0] ∧ win0_10.index t = ![0, 0] ∧ win0_11.index t = ![t.val, 0] ∧ win0_12.index t = ![t.val, 0]) t

/-- Row `r` of point `t`'s tile. -/
def tileRow (t : Fin cfg0.N) (r : Fin 512) : Fin 4096 := ⟨512 * t.val + r.val, by have := t.isLt; have : cfg0.N = 8 := N_0; omega⟩

/-- The rows and the weights as the argument arrays hold them. -/
def rows (c : Dev nD) : Fin 4096 → Row := rowOf (m ((c : Thread nD τ).loc main_arg0)) (m ((c : Thread nD τ).loc main_arg1)) (m ((c : Thread nD τ).loc main_arg2)) (m ((c : Thread nD τ).loc main_arg3))
def ws (c : Dev nD) : Weights := weightsOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The blocks of point `t`. -/
def blkOf (c : Dev nD) (t : Fin cfg0.N) : Blk :=
  ⟨iblk m c 0 t, iblk m c 1 t, iblk m c 2 t, iblk m c 3 t, iblk m c 4 t, iblk m c 5 t, iblk m c 6 t, iblk m c 7 t, iblk m c 8 t,
    iblk m c 9 t, iblk m c 10 t⟩

theorem blk_x (c : Dev nD) (t : Fin cfg0.N) (r : Fin 512) (j : Fin 1024) :
    (iblk m c 0 t : Vec Ideal S512x1024 .f32) (ix2 r j) = m ((c : Thread nD τ).loc main_arg0) (ix2 (tileRow t r) j) := by
  obtain ⟨e, -⟩ := tiled t
  unfold tileRow
  blk_ext! [iblk, V, e]

theorem blk_p (c : Dev nD) (t : Fin cfg0.N) (r : Fin 512) (j : Fin 256) :
    (iblk m c 1 t : Vec Ideal S512x256 .f32) (ix2 r j) = m ((c : Thread nD τ).loc main_arg1) (ix2 (tileRow t r) j) := by
  obtain ⟨-, e, -⟩ := tiled t
  unfold tileRow
  blk_ext! [iblk, V, e]

theorem blk_t (c : Dev nD) (t : Fin cfg0.N) (r : Fin 512) (j : Fin 1024) :
    (iblk m c 2 t : Vec Ideal S512x1024 .f32) (ix2 r j) = m ((c : Thread nD τ).loc main_arg2) (ix2 (tileRow t r) j) := by
  obtain ⟨-, -, e, -⟩ := tiled t
  unfold tileRow
  blk_ext! [iblk, V, e]

theorem blk_ya (c : Dev nD) (t : Fin cfg0.N) (r : Fin 512) (j : Fin 512) :
    (iblk m c 3 t : Vec Ideal S512x512 .bf16) (ix2 r j) = m ((c : Thread nD τ).loc main_arg3) (ix2 (tileRow t r) (⟨j.val, by omega⟩ : Fin 1024)) := by
  obtain ⟨-, -, -, e, -⟩ := tiled t
  unfold tileRow
  blk_ext! [iblk, V, e]

theorem blk_yb (c : Dev nD) (t : Fin cfg0.N) (r : Fin 512) (j : Fin 512) :
    (iblk m c 4 t : Vec Ideal S512x512 .bf16) (ix2 r j) = m ((c : Thread nD τ).loc main_arg3) (ix2 (tileRow t r) (⟨512 + j.val, by omega⟩ : Fin 1024)) := by
  obtain ⟨-, -, -, -, e, -⟩ := tiled t
  unfold tileRow
  blk_ext! [iblk, V, e]

theorem blk_wo (c : Dev nD) (t : Fin cfg0.N) (k j : Fin 1024) :
    (iblk m c 5 t : Vec Ideal S1024x1024 .bf16) (ix2 k j) = m ((c : Thread nD τ).loc main_arg4) (ix3 (0 : Fin 1) k j) := by
  obtain ⟨-, -, -, -, -, e, -⟩ := tiled t
  blk_ext! [iblk, V, e]

theorem blk_wg (c : Dev nD) (t : Fin cfg0.N) (k j : Fin 1024) :
    (iblk m c 6 t : Vec Ideal S1024x1024 .bf16) (ix2 k j) = m ((c : Thread nD τ).loc main_arg6) (ix3 (0 : Fin 1) k j) := by
  obtain ⟨-, -, -, -, -, -, e, -⟩ := tiled t
  blk_ext! [iblk, V, e]

theorem blk_wp (c : Dev nD) (t : Fin cfg0.N) (s : Fin 4) (k j : Fin 256) :
    (iblk m c 7 t : Vec Ideal S4x256x256 .bf16) (ix3 s k j) = m ((c : Thread nD τ).loc main_arg8) (ix3 (0 : Fin 1) k (⟨256 * s.val + j.val, by omega⟩ : Fin 1024)) := by
  obtain ⟨-, -, -, -, -, -, -, e, -⟩ := tiled t
  blk_ext! [iblk, V, e]

theorem blk_pw (c : Dev nD) (t : Fin cfg0.N) (k : Fin 1024) :
    (iblk m c 8 t : Vec Ideal S1x1024 .f32) (ix2 0 k) = m ((c : Thread nD τ).loc main_arg5) (ix2 0 k) := by
  obtain ⟨-, -, -, -, -, -, -, -, e, -⟩ := tiled t
  blk_ext! [iblk, V, e]

theorem blk_b (c : Dev nD) (t : Fin cfg0.N) (k : Fin 1024) :
    (iblk m c 9 t : Vec Ideal S1x1024 .f32) (ix2 0 k) = m ((c : Thread nD τ).loc main_arg7) (ix2 0 k) := by
  obtain ⟨-, -, -, -, -, -, -, -, -, e, -⟩ := tiled t
  blk_ext! [iblk, V, e]

theorem blk_fw (c : Dev nD) (t : Fin cfg0.N) (k : Fin 1024) :
    (iblk m c 10 t : Vec Ideal S1x1024 .f32) (ix2 0 k) = m ((c : Thread nD τ).loc main_arg9) (ix1 k) := by
  obtain ⟨-, -, -, -, -, -, -, -, -, -, e, -⟩ := tiled t
  blk_ext! [iblk, V, e]

theorem row_eq (c : Dev nD) (t : Fin cfg0.N) (r : Fin 512) : (blkOf m c t).row r = rows m c (tileRow t r) := by
  show (⟨fun k => (iblk m c 0 t : Vec Ideal S512x1024 .f32) (ix2 r k), fun k => (iblk m c 2 t : Vec Ideal S512x1024 .f32) (ix2 r k),
    fun k => (iblk m c 1 t : Vec Ideal S512x256 .f32) (ix2 r k), fun k => (iblk m c 3 t : Vec Ideal S512x512 .bf16) (ix2 r k),
    fun k => (iblk m c 4 t : Vec Ideal S512x512 .bf16) (ix2 r k)⟩ : Row) = _
  simp only [blk_x, blk_t, blk_p, blk_ya, blk_yb]
  rfl

theorem weights_eq (c : Dev nD) (t : Fin cfg0.N) : (blkOf m c t).weights = ws m c := by
  show (⟨fun k j => (iblk m c 5 t : Vec Ideal S1024x1024 .bf16) (ix2 k j), fun k j => (iblk m c 6 t : Vec Ideal S1024x1024 .bf16) (ix2 k j),
    fun k j => (iblk m c 7 t : Vec Ideal S4x256x256 .bf16) (ix3 (⟨j.val / 256, by omega⟩ : Fin 4) k (⟨j.val % 256, by omega⟩ : Fin 256)),
    fun k => (iblk m c 8 t : Vec Ideal S1x1024 .f32) (ix2 0 k), fun k => (iblk m c 9 t : Vec Ideal S1x1024 .f32) (ix2 0 k),
    fun k => (iblk m c 10 t : Vec Ideal S1x1024 .f32) (ix2 0 k)⟩ : Weights) = _
  simp only [blk_wo, blk_wg, blk_wp, blk_pw, blk_b, blk_fw, Nat.div_add_mod]
  rfl

/-- A quantity that starts with point 0's term and grows by each later point's term is their sum. -/
theorem running (M : ℕ) (P : (n : ℕ) → n < cfg0.N → EReal) (a : Fin cfg0.N → EReal) (h0 : ∀ h, P 0 h = a ⟨0, h⟩)
    (hs : ∀ (n : ℕ) (h : n + 1 < cfg0.N), n + 1 ≤ M → P (n + 1) h = P n (by omega) + a ⟨n + 1, h⟩) :
    ∀ (n : ℕ) (h : n < cfg0.N), n ≤ M → P n h = ∑ s : Fin (n + 1), a ⟨s, by omega⟩
  | 0, h, _ => (h0 h).trans (by simp)
  | n + 1, h, hM => by
    rw [hs n h hM, running M P a h0 hs n (by omega) (by omega), Fin.sum_univ_castSucc (n := n + 1)]
    rfl

/-- The terms of the eight points are the terms of the 4096 rows. -/
theorem sum_points (g : Fin 4096 → EReal) : ∑ s : Fin 8, ∑ r : Fin 512, g (tileRow ⟨s, by have : cfg0.N = 8 := N_0; omega⟩ r) = ∑ q, g q := by
  refine Eq.trans ?_ (Fin.sum_mul_add_fin 8 (n := 512) g)
  refine Finset.sum_congr rfl fun s _ => Finset.sum_congr rfl fun l _ => congrArg g (Fin.ext ?_)
  show 512 * s.val + l.val = s.val * 512 + l.val
  omega

theorem outs_11_A (c : Dev nD) (t : Fin cfg0.N) (h0 : t.val % 8 = 0) (h1 : ¬t.val % 8 = 7) (r : Fin 512) (j : Fin 1024) :
    (outsAt0 m c t.val t.isLt).1 (ix2 r j) = dh1 ((blkOf m c t).row r) (blkOf m c t).weights j := by
  rw [outsAt0_A m c t h0 h1]
  dsimp only
  exact out_A_11 (blkOf m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) _ _ _ _

theorem outs_11_B (c : Dev nD) (t : Fin cfg0.N) (h0 : ¬t.val % 8 = 0) (h1 : ¬t.val % 8 = 7) (r : Fin 512) (j : Fin 1024) :
    (outsAt0 m c t.val t.isLt).1 (ix2 r j) = dh1 ((blkOf m c t).row r) (blkOf m c t).weights j := by
  rw [outsAt0_B m c t h0 h1]
  dsimp only
  exact out_B_11 (blkOf m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) _ _ _ _ _ _ _ _

theorem outs_11_C (c : Dev nD) (t : Fin cfg0.N) (h0 : ¬t.val % 8 = 0) (h1 : t.val % 8 = 7) (r : Fin 512) (j : Fin 1024) :
    (outsAt0 m c t.val t.isLt).1 (ix2 r j) = dh1 ((blkOf m c t).row r) (blkOf m c t).weights j := by
  rw [outsAt0_C m c t h0 h1]
  dsimp only
  exact out_C_11 (blkOf m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) _ _ _ _ _ _ _ _

theorem outs_11 (c : Dev nD) (t : Fin cfg0.N) (r : Fin 512) (j : Fin 1024) :
    (outsAt0 m c t.val t.isLt).1 (ix2 r j) = dh1 (rows m c (tileRow t r)) (ws m c) j := by
  rw [← row_eq, ← weights_eq m c t]
  by_cases h0 : t.val % 8 = 0
  · exact outs_11_A m c t h0 (by omega) r j
  by_cases h1 : t.val % 8 = 7
  · exact outs_11_C m c t h0 h1 r j
  · exact outs_11_B m c t h0 h1 r j

theorem outs_12_A (c : Dev nD) (t : Fin cfg0.N) (h0 : t.val % 8 = 0) (h1 : ¬t.val % 8 = 7) (r : Fin 512) (j : Fin 1024) :
    (outsAt0 m c t.val t.isLt).2.1 (ix2 r j) = dyab ((blkOf m c t).row r) (blkOf m c t).weights j := by
  rw [outsAt0_A m c t h0 h1]
  dsimp only
  exact out_A_12 (blkOf m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) _ _ _ _

theorem outs_12_B (c : Dev nD) (t : Fin cfg0.N) (h0 : ¬t.val % 8 = 0) (h1 : ¬t.val % 8 = 7) (r : Fin 512) (j : Fin 1024) :
    (outsAt0 m c t.val t.isLt).2.1 (ix2 r j) = dyab ((blkOf m c t).row r) (blkOf m c t).weights j := by
  rw [outsAt0_B m c t h0 h1]
  dsimp only
  exact out_B_12 (blkOf m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) _ _ _ _ _ _ _ _

theorem outs_12_C (c : Dev nD) (t : Fin cfg0.N) (h0 : ¬t.val % 8 = 0) (h1 : t.val % 8 = 7) (r : Fin 512) (j : Fin 1024) :
    (outsAt0 m c t.val t.isLt).2.1 (ix2 r j) = dyab ((blkOf m c t).row r) (blkOf m c t).weights j := by
  rw [outsAt0_C m c t h0 h1]
  dsimp only
  exact out_C_12 (blkOf m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) _ _ _ _ _ _ _ _

theorem outs_12 (c : Dev nD) (t : Fin cfg0.N) (r : Fin 512) (j : Fin 1024) :
    (outsAt0 m c t.val t.isLt).2.1 (ix2 r j) = dyab (rows m c (tileRow t r)) (ws m c) j := by
  rw [← row_eq, ← weights_eq m c t]
  by_cases h0 : t.val % 8 = 0
  · exact outs_12_A m c t h0 (by omega) r j
  by_cases h1 : t.val % 8 = 7
  · exact outs_12_C m c t h0 h1 r j
  · exact outs_12_B m c t h0 h1 r j

theorem sumOut_A (c : Dev nD) (t : Fin cfg0.N) (h0 : t.val % 8 = 0) (h1 : ¬t.val % 8 = 7) (k j : Fin 1024) :
    (outsAt0 m c t.val t.isLt).2.2.2.2.2.2.1 (ix2 k j) = (blkOf m c t).addOut k j := by
  rw [outsAt0_A m c t h0 h1]
  dsimp only
  exact sout_A_0 (blkOf m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) _ _ _ _

theorem sumOut_B (c : Dev nD) (t : Fin cfg0.N) (h0 : ¬t.val % 8 = 0) (h1 : ¬t.val % 8 = 7) (k j : Fin 1024) :
    (outsAt0 m c t.val t.isLt).2.2.2.2.2.2.1 (ix2 k j) = (outsAt0 m c (t.val - 1) (Nat.lt_of_le_of_lt (Nat.sub_le _ _) t.isLt)).2.2.2.2.2.2.1 (ix2 k j)
      + (blkOf m c t).addOut k j := by
  rw [outsAt0_B m c t h0 h1]
  dsimp only
  exact sout_B_0 (blkOf m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) _ _ _ _ _ _ _ _

theorem sumOut_C (c : Dev nD) (t : Fin cfg0.N) (h0 : ¬t.val % 8 = 0) (h1 : t.val % 8 = 7) (k j : Fin 1024) :
    (outsAt0 m c t.val t.isLt).2.2.2.2.2.2.1 (ix2 k j) = (outsAt0 m c (t.val - 1) (Nat.lt_of_le_of_lt (Nat.sub_le _ _) t.isLt)).2.2.2.2.2.2.1 (ix2 k j)
      + (blkOf m c t).addOut k j := by
  rw [outsAt0_C m c t h0 h1]
  dsimp only
  exact sout_C_0 (blkOf m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) _ _ _ _ _ _ _ _

theorem sumOut_succ (c : Dev nD) (n : ℕ) (h : n + 1 < cfg0.N) (k j : Fin 1024) :
    (outsAt0 m c (n + 1) h).2.2.2.2.2.2.1 (ix2 k j)
      = (outsAt0 m c n (by omega)).2.2.2.2.2.2.1 (ix2 k j) + (blkOf m c ⟨n + 1, h⟩).addOut k j := by
  have hN : cfg0.N = 8 := N_0
  by_cases h1 : (n + 1) % 8 = 7
  · exact sumOut_C m c ⟨n + 1, h⟩ (by dsimp only; omega) h1 k j
  · exact sumOut_B m c ⟨n + 1, h⟩ (by dsimp only; omega) h1 k j

theorem sumGate_A (c : Dev nD) (t : Fin cfg0.N) (h0 : t.val % 8 = 0) (h1 : ¬t.val % 8 = 7) (k j : Fin 1024) :
    (outsAt0 m c t.val t.isLt).2.2.2.2.2.2.2.1 (ix2 k j) = (blkOf m c t).addGate k j := by
  rw [outsAt0_A m c t h0 h1]
  dsimp only
  exact sout_A_1 (blkOf m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) _ _ _ _

theorem sumGate_B (c : Dev nD) (t : Fin cfg0.N) (h0 : ¬t.val % 8 = 0) (h1 : ¬t.val % 8 = 7) (k j : Fin 1024) :
    (outsAt0 m c t.val t.isLt).2.2.2.2.2.2.2.1 (ix2 k j) = (outsAt0 m c (t.val - 1) (Nat.lt_of_le_of_lt (Nat.sub_le _ _) t.isLt)).2.2.2.2.2.2.2.1 (ix2 k j)
      + (blkOf m c t).addGate k j := by
  rw [outsAt0_B m c t h0 h1]
  dsimp only
  exact sout_B_1 (blkOf m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) _ _ _ _ _ _ _ _

theorem sumGate_C (c : Dev nD) (t : Fin cfg0.N) (h0 : ¬t.val % 8 = 0) (h1 : t.val % 8 = 7) (k j : Fin 1024) :
    (outsAt0 m c t.val t.isLt).2.2.2.2.2.2.2.1 (ix2 k j) = (outsAt0 m c (t.val - 1) (Nat.lt_of_le_of_lt (Nat.sub_le _ _) t.isLt)).2.2.2.2.2.2.2.1 (ix2 k j)
      + (blkOf m c t).addGate k j := by
  rw [outsAt0_C m c t h0 h1]
  dsimp only
  exact sout_C_1 (blkOf m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) _ _ _ _ _ _ _ _

theorem sumGate_succ (c : Dev nD) (n : ℕ) (h : n + 1 < cfg0.N) (k j : Fin 1024) :
    (outsAt0 m c (n + 1) h).2.2.2.2.2.2.2.1 (ix2 k j)
      = (outsAt0 m c n (by omega)).2.2.2.2.2.2.2.1 (ix2 k j) + (blkOf m c ⟨n + 1, h⟩).addGate k j := by
  have hN : cfg0.N = 8 := N_0
  by_cases h1 : (n + 1) % 8 = 7
  · exact sumGate_C m c ⟨n + 1, h⟩ (by dsimp only; omega) h1 k j
  · exact sumGate_B m c ⟨n + 1, h⟩ (by dsimp only; omega) h1 k j

theorem sumPle_A (c : Dev nD) (t : Fin cfg0.N) (h0 : t.val % 8 = 0) (h1 : ¬t.val % 8 = 7) (s : Fin 4) (k j : Fin 256) :
    (outsAt0 m c t.val t.isLt).2.2.2.2.2.2.2.2 (ix3 s k j) = (blkOf m c t).addPle s k j := by
  rw [outsAt0_A m c t h0 h1]
  dsimp only
  exact sout_A_2 (blkOf m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) _ _ _ _ _

theorem sumPle_B (c : Dev nD) (t : Fin cfg0.N) (h0 : ¬t.val % 8 = 0) (h1 : ¬t.val % 8 = 7) (s : Fin 4) (k j : Fin 256) :
    (outsAt0 m c t.val t.isLt).2.2.2.2.2.2.2.2 (ix3 s k j) = (outsAt0 m c (t.val - 1) (Nat.lt_of_le_of_lt (Nat.sub_le _ _) t.isLt)).2.2.2.2.2.2.2.2 (ix3 s k j)
      + (blkOf m c t).addPle s k j := by
  rw [outsAt0_B m c t h0 h1]
  dsimp only
  exact sout_B_2 (blkOf m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) _ _ _ _ _ _ _ _ _

theorem sumPle_C (c : Dev nD) (t : Fin cfg0.N) (h0 : ¬t.val % 8 = 0) (h1 : t.val % 8 = 7) (s : Fin 4) (k j : Fin 256) :
    (outsAt0 m c t.val t.isLt).2.2.2.2.2.2.2.2 (ix3 s k j) = (outsAt0 m c (t.val - 1) (Nat.lt_of_le_of_lt (Nat.sub_le _ _) t.isLt)).2.2.2.2.2.2.2.2 (ix3 s k j)
      + (blkOf m c t).addPle s k j := by
  rw [outsAt0_C m c t h0 h1]
  dsimp only
  exact sout_C_2 (blkOf m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) _ _ _ _ _ _ _ _ _

theorem sumPle_succ (c : Dev nD) (n : ℕ) (h : n + 1 < cfg0.N) (s : Fin 4) (k j : Fin 256) :
    (outsAt0 m c (n + 1) h).2.2.2.2.2.2.2.2 (ix3 s k j)
      = (outsAt0 m c n (by omega)).2.2.2.2.2.2.2.2 (ix3 s k j) + (blkOf m c ⟨n + 1, h⟩).addPle s k j := by
  have hN : cfg0.N = 8 := N_0
  by_cases h1 : (n + 1) % 8 = 7
  · exact sumPle_C m c ⟨n + 1, h⟩ (by dsimp only; omega) h1 s k j
  · exact sumPle_B m c ⟨n + 1, h⟩ (by dsimp only; omega) h1 s k j

theorem outs_13_C (c : Dev nD) (t : Fin cfg0.N) (h0 : ¬t.val % 8 = 0) (h1 : t.val % 8 = 7) (s : Fin 4) (k : Fin 256) (j : Fin 1024) :
    (outsAt0 m c t.val t.isLt).2.2.1 (ix3 s k j) = (outsAt0 m c (t.val - 1) (Nat.lt_of_le_of_lt (Nat.sub_le _ _) t.isLt)).2.2.2.2.2.2.1 (ix2 (⟨s.val * 256 + k.val, by omega⟩ : Fin 1024) j)
      + (blkOf m c t).addOut (⟨s.val * 256 + k.val, by omega⟩ : Fin 1024) j := by
  rw [outsAt0_C m c t h0 h1]
  dsimp only
  exact out_C_13 (blkOf m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) _ _ _ _ _ _ _ _ _

theorem outs_13 (c : Dev nD) (s : Fin 4) (k : Fin 256) (j : Fin 1024) : (outsAt0 m c t0_7.val t0_7.isLt).2.2.1 (ix3 s k j) = ∑ r, yab (rows m c r) (⟨s.val * 256 + k.val, by omega⟩ : Fin 1024) * dh1 (rows m c r) (ws m c) j := by
  have hr := running 7 (fun n h => (outsAt0 m c n h).2.2.2.2.2.2.1 (ix2 (⟨s.val * 256 + k.val, by omega⟩ : Fin 1024) j)) (fun t => (blkOf m c t).addOut (⟨s.val * 256 + k.val, by omega⟩ : Fin 1024) j)
    (fun h => sumOut_A m c ⟨0, h⟩ rfl (show ¬0 % 8 = 7 by decide) _ _) (fun n h _ => sumOut_succ m c n h _ _) 7 t0_7.isLt le_rfl
  refine ((outs_13_C m c t0_7 (by decide) (by decide) s k j).trans (sumOut_succ m c 6 t0_7.isLt _ _).symm).trans (hr.trans ?_)
  unfold Blk.addOut
  simp only [row_eq, weights_eq]
  exact sum_points fun r => yab (rows m c r) (⟨s.val * 256 + k.val, by omega⟩ : Fin 1024) * dh1 (rows m c r) (ws m c) j

theorem outs_14_C (c : Dev nD) (t : Fin cfg0.N) (h0 : ¬t.val % 8 = 0) (h1 : t.val % 8 = 7) (s : Fin 4) (k : Fin 256) (j : Fin 1024) :
    (outsAt0 m c t.val t.isLt).2.2.2.1 (ix3 s k j) = (outsAt0 m c (t.val - 1) (Nat.lt_of_le_of_lt (Nat.sub_le _ _) t.isLt)).2.2.2.2.2.2.2.1 (ix2 (⟨s.val * 256 + k.val, by omega⟩ : Fin 1024) j)
      + (blkOf m c t).addGate (⟨s.val * 256 + k.val, by omega⟩ : Fin 1024) j := by
  rw [outsAt0_C m c t h0 h1]
  dsimp only
  exact out_C_14 (blkOf m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) _ _ _ _ _ _ _ _ _

theorem outs_14 (c : Dev nD) (s : Fin 4) (k : Fin 256) (j : Fin 1024) : (outsAt0 m c t0_7.val t0_7.isLt).2.2.2.1 (ix3 s k j) = ∑ r, n2 (rows m c r) (ws m c) (⟨s.val * 256 + k.val, by omega⟩ : Fin 1024) * dz (rows m c r) (ws m c) j := by
  have hr := running 7 (fun n h => (outsAt0 m c n h).2.2.2.2.2.2.2.1 (ix2 (⟨s.val * 256 + k.val, by omega⟩ : Fin 1024) j)) (fun t => (blkOf m c t).addGate (⟨s.val * 256 + k.val, by omega⟩ : Fin 1024) j)
    (fun h => sumGate_A m c ⟨0, h⟩ rfl (show ¬0 % 8 = 7 by decide) _ _) (fun n h _ => sumGate_succ m c n h _ _) 7 t0_7.isLt le_rfl
  refine ((outs_14_C m c t0_7 (by decide) (by decide) s k j).trans (sumGate_succ m c 6 t0_7.isLt _ _).symm).trans (hr.trans ?_)
  unfold Blk.addGate
  simp only [row_eq, weights_eq]
  exact sum_points fun r => n2 (rows m c r) (ws m c) (⟨s.val * 256 + k.val, by omega⟩ : Fin 1024) * dz (rows m c r) (ws m c) j

theorem outs_15_C (c : Dev nD) (t : Fin cfg0.N) (h0 : ¬t.val % 8 = 0) (h1 : t.val % 8 = 7) (s : Fin 4) (k j : Fin 256) :
    (outsAt0 m c t.val t.isLt).2.2.2.2.1 (ix3 s k j) = (outsAt0 m c (t.val - 1) (Nat.lt_of_le_of_lt (Nat.sub_le _ _) t.isLt)).2.2.2.2.2.2.2.2 (ix3 s k j)
      + (blkOf m c t).addPle s k j := by
  rw [outsAt0_C m c t h0 h1]
  dsimp only
  exact out_C_15 (blkOf m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) _ _ _ _ _ _ _ _ _

theorem outs_15 (c : Dev nD) (s : Fin 4) (k j : Fin 256) : (outsAt0 m c t0_7.val t0_7.isLt).2.2.2.2.1 (ix3 s k j) = ∑ r, (rows m c r).p k * dpp (rows m c r) (ws m c) (⟨s.val * 256 + j.val, by omega⟩ : Fin 1024) := by
  have hr := running 7 (fun n h => (outsAt0 m c n h).2.2.2.2.2.2.2.2 (ix3 s k j)) (fun t => (blkOf m c t).addPle s k j)
    (fun h => sumPle_A m c ⟨0, h⟩ rfl (show ¬0 % 8 = 7 by decide) _ _ _) (fun n h _ => sumPle_succ m c n h _ _ _) 7 t0_7.isLt le_rfl
  refine ((outs_15_C m c t0_7 (by decide) (by decide) s k j).trans (sumPle_succ m c 6 t0_7.isLt _ _ _).symm).trans (hr.trans ?_)
  unfold Blk.addPle
  simp only [row_eq, weights_eq]
  exact sum_points fun r => (rows m c r).p k * dpp (rows m c r) (ws m c) (⟨s.val * 256 + j.val, by omega⟩ : Fin 1024)

theorem sums_A (c : Dev nD) (t : Fin cfg0.N) (h0 : t.val % 8 = 0) (h1 : ¬t.val % 8 = 7) (i : Fin 8) (j : Fin 1024) :
    (outsAt0 m c t.val t.isLt).2.2.2.2.2.1 (ix2 i j) = (blkOf m c t).addSmall i j := by
  rw [outsAt0_A m c t h0 h1]
  dsimp only
  exact out_A_16 (blkOf m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) _ _ _ _

theorem sums_B (c : Dev nD) (t : Fin cfg0.N) (h0 : ¬t.val % 8 = 0) (h1 : ¬t.val % 8 = 7) (i : Fin 8) (j : Fin 1024) :
    (outsAt0 m c t.val t.isLt).2.2.2.2.2.1 (ix2 i j) = (outsAt0 m c (t.val - 1) (Nat.lt_of_le_of_lt (Nat.sub_le _ _) t.isLt)).2.2.2.2.2.1 (ix2 i j)
      + (blkOf m c t).addSmall i j := by
  rw [outsAt0_B m c t h0 h1]
  dsimp only
  exact out_B_16 (blkOf m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) _ _ _ _ _ _ _ _

theorem sums_C (c : Dev nD) (t : Fin cfg0.N) (h0 : ¬t.val % 8 = 0) (h1 : t.val % 8 = 7) (i : Fin 8) (j : Fin 1024) :
    (outsAt0 m c t.val t.isLt).2.2.2.2.2.1 (ix2 i j) = if i.val = 4 then (∑ l, ((outsAt0 m c (t.val - 1) (Nat.lt_of_le_of_lt (Nat.sub_le _ _) t.isLt)).2.2.2.2.2.1 (ix2 0 l)
        + (blkOf m c t).addSmall 0 l)) * Ideal.ofBits .f32 0x3A000000#32
      else (outsAt0 m c (t.val - 1) (Nat.lt_of_le_of_lt (Nat.sub_le _ _) t.isLt)).2.2.2.2.2.1 (ix2 i j) + (blkOf m c t).addSmall i j := by
  rw [outsAt0_C m c t h0 h1]
  dsimp only
  exact out_C_16 (blkOf m c t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) _ _ _ _ _ _ _ _

/-- The terms of the first seven points and the last one's. -/
theorem sum_last (f : Fin cfg0.N → EReal) : (∑ s : Fin 7, f ⟨s, by have : cfg0.N = 8 := N_0; omega⟩) + f t0_7
    = ∑ s : Fin 8, f ⟨s, by have : cfg0.N = 8 := N_0; omega⟩ :=
  (Fin.sum_univ_castSucc (n := 7) fun s : Fin 8 => f ⟨s, by have : cfg0.N = 8 := N_0; omega⟩).symm

/-- The sums per column after all points. -/
theorem sums_all (c : Dev nD) (i : Fin 8) (j : Fin 1024) :
    (outsAt0 m c 6 (by have : cfg0.N = 8 := N_0; omega)).2.2.2.2.2.1 (ix2 i j) + (blkOf m c t0_7).addSmall i j
      = if i.val = 0 then ∑ r, err (rows m c r) (ws m c) j * err (rows m c r) (ws m c) j
        else if i.val = 1 then ∑ r, dy (rows m c r) (ws m c) j * hn (rows m c r) (ws m c) j
        else if i.val = 2 then ∑ r, dz (rows m c r) (ws m c) j
        else if i.val = 3 then ∑ r, dn2 (rows m c r) (ws m c) j * n2h (rows m c r) (ws m c) j
        else 0 := by
  have hN : cfg0.N = 8 := N_0
  have hr := running 6 (fun n h => (outsAt0 m c n h).2.2.2.2.2.1 (ix2 i j)) (fun t => (blkOf m c t).addSmall i j)
    (fun h => sums_A m c ⟨0, h⟩ rfl (show ¬0 % 8 = 7 by decide) i j)
    (fun n h hn => sums_B m c ⟨n + 1, h⟩ (by dsimp only; omega) (by dsimp only; omega) i j) 6 (by omega) le_rfl
  have ha : (outsAt0 m c 6 (by omega)).2.2.2.2.2.1 (ix2 i j) + (blkOf m c t0_7).addSmall i j
      = ∑ s : Fin 8, (blkOf m c ⟨s, by omega⟩).addSmall i j :=
    (congrArg (· + (blkOf m c t0_7).addSmall i j) hr).trans (sum_last fun t => (blkOf m c t).addSmall i j)
  rw [ha]
  unfold Blk.addSmall
  simp only [row_eq, weights_eq]
  by_cases h0 : i.val = 0
  · simp only [if_pos h0]
    exact sum_points fun q => err (rows m c q) (ws m c) j * err (rows m c q) (ws m c) j
  by_cases h1 : i.val = 1
  · simp only [if_neg h0, if_pos h1]
    exact sum_points fun q => dy (rows m c q) (ws m c) j * hn (rows m c q) (ws m c) j
  by_cases h2 : i.val = 2
  · simp only [if_neg h0, if_neg h1, if_pos h2]
    exact sum_points fun q => dz (rows m c q) (ws m c) j
  by_cases h3 : i.val = 3
  · simp only [if_neg h0, if_neg h1, if_neg h2, if_pos h3]
    exact sum_points fun q => dn2 (rows m c q) (ws m c) j * n2h (rows m c q) (ws m c) j
  · simp only [if_neg h0, if_neg h1, if_neg h2, if_neg h3, Finset.sum_const_zero]

theorem outs_16 (c : Dev nD) (i : Fin 8) (j : Fin 1024) :
    (outsAt0 m c t0_7.val t0_7.isLt).2.2.2.2.2.1 (ix2 i j) = small (rows m c) (ws m c) i j := by
  refine (sums_C m c t0_7 (by decide) (by decide) i j).trans ((if_congr Iff.rfl (congrArg (· * Ideal.ofBits .f32 0x3A000000#32)
    (Finset.sum_congr rfl fun l _ => sums_all m c 0 l)) (sums_all m c i j)).trans ?_)
  unfold small
  by_cases h4 : i.val = 4
  · have h0 : ¬i.val = 0 := by omega
    have h1 : ¬i.val = 1 := by omega
    have h2 : ¬i.val = 2 := by omega
    have h3 : ¬i.val = 3 := by omega
    rw [if_pos h4, if_neg h0, if_neg h1, if_neg h2, if_neg h3, if_pos h4]
    exact congrArg (· * Ideal.ofBits .f32 0x3A000000#32) (Finset.sum_congr rfl fun l _ => if_pos rfl)
  · rw [if_neg h4, if_neg h4]

/-! ## The arrays -/

theorem hi4 (s : Fin 4) (k : Fin 256) : s.val * 256 + k.val < 1024 := by omega

/-- The six results, as functions of the arguments. -/
def gradH1 (c : Dev nD) : Vec Ideal S4096x1024 .f32 := fun i => dh1 (rows m c (i 0)) (ws m c) (i 1)
def gradY (c : Dev nD) : Vec Ideal S4096x1024 .f32 := fun i => dyab (rows m c (i 0)) (ws m c) (i 1)
def gradOut (c : Dev nD) : Vec Ideal S4x256x1024 .bf16 := fun i =>
  ∑ r, yab (rows m c r) (⟨(i 0).val * 256 + (i 1).val, hi4 (i 0) (i 1)⟩ : Fin 1024) * dh1 (rows m c r) (ws m c) (i 2)
def gradGate (c : Dev nD) : Vec Ideal S4x256x1024 .bf16 := fun i =>
  ∑ r, n2 (rows m c r) (ws m c) (⟨(i 0).val * 256 + (i 1).val, hi4 (i 0) (i 1)⟩ : Fin 1024) * dz (rows m c r) (ws m c) (i 2)
def gradPle (c : Dev nD) : Vec Ideal S4x256x256 .bf16 := fun i =>
  ∑ r, (rows m c r).p (i 1) * dpp (rows m c r) (ws m c) (⟨(i 0).val * 256 + (i 2).val, hi4 (i 0) (i 2)⟩ : Fin 1024)
def sums (c : Dev nD) : Vec Ideal S8x1024 .f32 := fun i => small (rows m c) (ws m c) (i 0) (i 1)

theorem arr_11 (c : Dev nD) : (dats m 0 c).arrAt 11 cfg0.N = gradH1 m c := by
  refine (dats m 0 c).arrAt_eq_of_covers 11 _ (by decide +kernel) fun t hf y => ?_
  obtain ⟨-, -, -, -, -, -, -, -, -, -, -, e, -⟩ := tiled t
  rw [after0_11]
  blk_simp [e]
  obtain ⟨r, j, rfl⟩ : ∃ (r : Fin 512) (j : Fin 1024), y = ix2 r j := ⟨y 0, y 1, by funext a; fin_cases a <;> rfl⟩
  refine (outs_11 m c t r j).trans (congrArg (gradH1 m c) (a₁ := ix2 (tileRow t r) j) ?_)
  unfold tileRow
  blk_ext [e]

theorem arr_12 (c : Dev nD) : (dats m 0 c).arrAt 12 cfg0.N = gradY m c := by
  refine (dats m 0 c).arrAt_eq_of_covers 12 _ (by decide +kernel) fun t hf y => ?_
  obtain ⟨-, -, -, -, -, -, -, -, -, -, -, -, e⟩ := tiled t
  rw [after0_12]
  blk_simp [e]
  obtain ⟨r, j, rfl⟩ : ∃ (r : Fin 512) (j : Fin 1024), y = ix2 r j := ⟨y 0, y 1, by funext a; fin_cases a <;> rfl⟩
  refine (outs_12 m c t r j).trans (congrArg (gradY m c) (a₁ := ix2 (tileRow t r) j) ?_)
  unfold tileRow
  blk_ext [e]

theorem arr_13 (c : Dev nD) : (dats m 0 c).arrAt 13 cfg0.N = gradOut m c := by
  refine (dats m 0 c).arrAt_eq_of_after_last 13 t0_7 (by decide +kernel) _ fun y => ?_
  rw [after0_13]
  blk_simp []
  obtain ⟨s, k, j, rfl⟩ : ∃ (s : Fin 4) (k : Fin 256) (j : Fin 1024), y = ix3 s k j :=
    ⟨y 0, y 1, y 2, by funext a; fin_cases a <;> rfl⟩
  exact outs_13 m c s k j

theorem arr_14 (c : Dev nD) : (dats m 0 c).arrAt 14 cfg0.N = gradGate m c := by
  refine (dats m 0 c).arrAt_eq_of_after_last 14 t0_7 (by decide +kernel) _ fun y => ?_
  rw [after0_14]
  blk_simp []
  obtain ⟨s, k, j, rfl⟩ : ∃ (s : Fin 4) (k : Fin 256) (j : Fin 1024), y = ix3 s k j :=
    ⟨y 0, y 1, y 2, by funext a; fin_cases a <;> rfl⟩
  exact outs_14 m c s k j

theorem arr_15 (c : Dev nD) : (dats m 0 c).arrAt 15 cfg0.N = gradPle m c := by
  refine (dats m 0 c).arrAt_eq_of_after_last 15 t0_7 (by decide +kernel) _ fun y => ?_
  rw [after0_15]
  blk_simp []
  obtain ⟨s, k, j, rfl⟩ : ∃ (s : Fin 4) (k : Fin 256) (j : Fin 256), y = ix3 s k j :=
    ⟨y 0, y 1, y 2, by funext a; fin_cases a <;> rfl⟩
  exact outs_15 m c s k j

theorem arr_16 (c : Dev nD) : (dats m 0 c).arrAt 16 cfg0.N = sums m c := by
  refine (dats m 0 c).arrAt_eq_of_after_last 16 t0_7 (by decide +kernel) _ fun y => ?_
  rw [after0_16]
  blk_simp []
  obtain ⟨r, j, rfl⟩ : ∃ (r : Fin 8) (j : Fin 1024), y = ix2 r j := ⟨y 0, y 1, by funext a; fin_cases a <;> rfl⟩
  exact outs_16 m c r j

/-- The run: the six results as functions of the arguments, the arguments unchanged. -/
theorem run : θ_run defs (onTc (τ := τ) (main (F := Ideal))) ⟨m, fun _ => 0, ρ⟩ fun r => ∀ c : Dev nD,
      r.2.mem ((c : Thread nD τ).loc main_v13_0) = gradH1 m c
      ∧ r.2.mem ((c : Thread nD τ).loc main_v13_1) = gradY m c
      ∧ r.2.mem ((c : Thread nD τ).loc main_v13_2) = gradOut m c
      ∧ r.2.mem ((c : Thread nD τ).loc main_v13_3) = gradGate m c
      ∧ r.2.mem ((c : Thread nD τ).loc main_v13_4) = gradPle m c
      ∧ r.2.mem ((c : Thread nD τ).loc main_v13_5) = sums m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) := by
  simp only [← arr_11 m, ← arr_12 m, ← arr_13 m, ← arr_14 m, ← arr_15 m, ← arr_16 m]
  exact Value.run_blocks m ρ

end Cert.Kernel3Ideal.Tail

end
-- ==== Proof.Tail.Ref.lean ====
/- The reference of the tail, read at an index, stage by stage: every stage is the row's value of the same name in
   `Tail.Row`. -/
module

public import proofs.«01_k».proof.Proof.Tail.Row
public import proofs.«01_k».proof.Proof.Gen.Reference3Ideal.Read
public import Idealize.ShloMosaic.Lib.Pointwise

@[expose] public section

noncomputable section

namespace Cert.Reference3Ideal.Tail

open Cert.Reference3Ideal Cert.Reference3Ideal.Gen Cert.Reference3Ideal.Read Cert.Norm Cert.Tail Idealize.ShloMosaic
open Idealize.ShloMosaic.TcCoe Idealize.SL.Sem

variable (x0 : Vec Ideal S4096x1024 .f32) (x1 : Vec Ideal S4096x256 .f32) (x2 x3 : Vec Ideal S4096x1024 .f32)
  (x4 : Vec Ideal S1x1024x1024 .f32) (x5 : Vec Ideal S1x1024 .f32) (x6 : Vec Ideal S1x1024x1024 .f32)
  (x7 : Vec Ideal S1x1024 .f32) (x8 : Vec Ideal S1x256x1024 .f32) (x9 : Vec Ideal S1024 .f32)

/-- The two head groups' outputs side by side are the row of their array. -/
theorem yab_row (r : Fin 4096) (k : Fin 1024) : yab (rowOf x0 x1 x2 x3 r) k = x3 (ix2 r k) := by
  unfold yab rowOf
  by_cases h : k.val < 512
  · rw [dif_pos h]
  · rw [dif_neg h]
    exact congrArg (fun i => x3 (ix2 r i)) (Fin.ext (by show 512 + (k.val - 512) = k.val; omega))

theorem v6_at (r : Fin 4096) (j : Fin 1024) :
    val_main_v6 x0 x3 x4 (ix2 r j)
      = h1 (rowOf x0 x1 x2 x3 r) (weightsOf x4 x5 x6 x7 x8 x9) j := by
  pointwise [val_main_v0, val_main_v5, val_main_v6]
  unfold h1 rowOf weightsOf
  rw [add_assoc]
  refine congrArg (x0 (ix2 r j) + ·) ?_
  exact Fin.sum_univ_add (a := 512) (b := 512) fun k : Fin (512 + 512) => x3 (ix2 r k) * x4 (ix3 0 k j)

theorem v13_at (r : Fin 4096) :
    val_main_v13 x0 x3 x4 (ix2 r 0) = meanSq (h1 (rowOf x0 x1 x2 x3 r) (weightsOf x4 x5 x6 x7 x8 x9)) := by
  pointwise [val_main_v7, val_main_cst, val_main_v8, val_main_v9, val_main_cst_0, val_main_v10, val_main_v11, val_main_cst_1,
    val_main_v12, val_main_v13]
  simp only [v6_at x0 x1 x2 x3 x4 x5 x6 x7 x8 x9]
  rfl

theorem v19_at (r : Fin 4096) (j : Fin 1024) :
    val_main_v19 x0 x3 x4 (ix2 r j)
      = n2h (rowOf x0 x1 x2 x3 r) (weightsOf x4 x5 x6 x7 x8 x9) j := by
  pointwise [val_main_v14, val_main_v18, val_main_v19]
  simp only [v6_at x0 x1 x2 x3 x4 x5 x6 x7 x8 x9, v13_at x0 x1 x2 x3 x4 x5 x6 x7 x8 x9]
  rfl

theorem v22_at (r : Fin 4096) (j : Fin 1024) :
    val_main_v22 x0 x3 x4 x5 (ix2 r j)
      = n2 (rowOf x0 x1 x2 x3 r) (weightsOf x4 x5 x6 x7 x8 x9) j := by
  pointwise [val_main_v1, val_main_v20, val_main_v21, val_main_v22]
  simp only [v19_at x0 x1 x2 x3 x4 x5 x6 x7 x8 x9]
  rfl

theorem v32_at (r : Fin 4096) (j : Fin 1024) :
    val_main_v32 x0 x3 x4 x5 x6 x7 (ix2 r j)
      = gate (rowOf x0 x1 x2 x3 r) (weightsOf x4 x5 x6 x7 x8 x9) j := by
  pointwise [val_main_v2, val_main_v3, val_main_v23, val_main_v24, val_main_v25, val_main_v26, val_main_v27, val_main_v28,
    val_main_cst_3, val_main_v29, val_main_v30, val_main_cst_4, val_main_v31, val_main_v32]
  simp only [v22_at x0 x1 x2 x3 x4 x5 x6 x7 x8 x9]
  unfold gate
  rw [sub_eq_add_neg, zero_add]
  rfl

theorem v36_at (r : Fin 4096) (j : Fin 1024) :
    val_main_v36 x1 x8 (ix2 r j)
      = pp (rowOf x0 x1 x2 x3 r) (weightsOf x4 x5 x6 x7 x8 x9) j := by
  pointwise [val_main_v4, val_main_v36]
  rfl

theorem v38_at (r : Fin 4096) (j : Fin 1024) :
    val_main_v38 x0 x1 x3 x4 x5 x6 x7 x8 (ix2 r j)
      = h2 (rowOf x0 x1 x2 x3 r) (weightsOf x4 x5 x6 x7 x8 x9) j := by
  pointwise [val_main_v37, val_main_v38]
  rw [v6_at x0 x1 x2 x3 x4 x5 x6 x7 x8 x9, v32_at x0 x1 x2 x3 x4 x5 x6 x7 x8 x9, v36_at x0 x1 x2 x3 x4 x5 x6 x7 x8 x9]
  rfl

theorem v45_at (r : Fin 4096) :
    val_main_v45 x0 x1 x3 x4 x5 x6 x7 x8 (ix2 r 0) = meanSq (h2 (rowOf x0 x1 x2 x3 r) (weightsOf x4 x5 x6 x7 x8 x9)) := by
  pointwise [val_main_v39, val_main_cst_6, val_main_v40, val_main_v41, val_main_cst_7, val_main_v42, val_main_v43,
    val_main_cst_8, val_main_v44, val_main_v45]
  simp only [v38_at x0 x1 x2 x3 x4 x5 x6 x7 x8 x9]
  rfl

theorem v51_at (r : Fin 4096) (j : Fin 1024) :
    val_main_v51 x0 x1 x3 x4 x5 x6 x7 x8 (ix2 r j)
      = hn (rowOf x0 x1 x2 x3 r) (weightsOf x4 x5 x6 x7 x8 x9) j := by
  pointwise [val_main_v46, val_main_v50, val_main_v51]
  rw [v38_at x0 x1 x2 x3 x4 x5 x6 x7 x8 x9, v45_at x0 x1 x2 x3 x4 x5 x6 x7 x8 x9]
  rfl

theorem v55_at (r : Fin 4096) (j : Fin 1024) :
    val_main_v55 x0 x1 x2 x3 x4 x5 x6 x7 x8 x9 (ix2 r j)
      = err (rowOf x0 x1 x2 x3 r) (weightsOf x4 x5 x6 x7 x8 x9) j := by
  pointwise [val_main_v52, val_main_v53, val_main_v54, val_main_v55]
  rw [v51_at x0 x1 x2 x3 x4 x5 x6 x7 x8 x9]
  rfl

/-- Half the derivative of a square, divided by the length, is multiplication with 1/1024. -/
theorem half_two (e : EReal) : Ideal.div (Ideal.ofBits .f32 0x3F000000#32) len * (Ideal.ofBits .f32 0x40000000#32 * e)
    = e * invLen := by
  rw [div_len, Common.f32_half, Common.f32_two, show invLen = _ from Common.f32_inv_1024, ← mul_assoc, mul_comm]
  norm_cast
  norm_num

theorem v70_at (r : Fin 4096) (j : Fin 1024) :
    val_main_v70 x0 x1 x2 x3 x4 x5 x6 x7 x8 x9 (ix2 r j)
      = dy (rowOf x0 x1 x2 x3 r) (weightsOf x4 x5 x6 x7 x8 x9) j := by
  pointwise [val_main_cst_10, val_main_v57, val_main_v58, val_main_cst_16, val_main_cst_17, val_main_v65, val_main_v66,
    val_main_cst_18, val_main_v67, val_main_v68, val_main_v69, val_main_v70]
  rw [v55_at x0 x1 x2 x3 x4 x5 x6 x7 x8 x9]
  exact half_two _

theorem v90_at (r : Fin 4096) (j : Fin 1024) :
    val_main_v90 x0 x1 x2 x3 x4 x5 x6 x7 x8 x9 (ix2 r j)
      = dh2 (rowOf x0 x1 x2 x3 r) (weightsOf x4 x5 x6 x7 x8 x9) j := by
  unfold dh2
  rw [rowGrad_eq, zero_add]
  pointwise [val_main_v52, val_main_v46, val_main_v47, val_main_cst_9, val_main_v48, val_main_v49, val_main_v74, val_main_v75,
    val_main_v77, val_main_cst_21, val_main_v78, val_main_v79, val_main_v80, val_main_v81, val_main_v82, val_main_cst_22,
    val_main_v83, val_main_v84, val_main_cst_23, val_main_v85, val_main_v86, val_main_v87, val_main_v88, val_main_v89,
    val_main_v90]
  simp only [Fin.sum_univ_one, v38_at x0 x1 x2 x3 x4 x5 x6 x7 x8 x9, v45_at x0 x1 x2 x3 x4 x5 x6 x7 x8 x9,
    v70_at x0 x1 x2 x3 x4 x5 x6 x7 x8 x9]
  rfl

theorem v91_at (r : Fin 4096) (j : Fin 1024) :
    val_main_v91 x0 x1 x2 x3 x4 x5 x6 x7 x8 x9 (ix2 r j)
      = dpp (rowOf x0 x1 x2 x3 r) (weightsOf x4 x5 x6 x7 x8 x9) j := by
  pointwise [val_main_v91]
  rw [v90_at x0 x1 x2 x3 x4 x5 x6 x7 x8 x9, v32_at x0 x1 x2 x3 x4 x5 x6 x7 x8 x9]
  exact mul_comm _ _

theorem v95_at (r : Fin 4096) (j : Fin 1024) :
    val_main_v95 x0 x1 x2 x3 x4 x5 x6 x7 x8 x9 (ix2 r j)
      = dz (rowOf x0 x1 x2 x3 r) (weightsOf x4 x5 x6 x7 x8 x9) j := by
  pointwise [val_main_cst_5, val_main_v33, val_main_v34, val_main_v35, val_main_v92, val_main_v95]
  rw [v90_at x0 x1 x2 x3 x4 x5 x6 x7 x8 x9, v32_at x0 x1 x2 x3 x4 x5 x6 x7 x8 x9, v36_at x0 x1 x2 x3 x4 x5 x6 x7 x8 x9]
  exact (mul_assoc (_ * _ : EReal) _ _).symm

theorem v101_at (r : Fin 4096) (j : Fin 1024) :
    val_main_v101 x0 x1 x2 x3 x4 x5 x6 x7 x8 x9 (ix2 r j)
      = dn2 (rowOf x0 x1 x2 x3 r) (weightsOf x4 x5 x6 x7 x8 x9) j := by
  pointwise [val_main_v2, val_main_v101]
  simp only [v95_at x0 x1 x2 x3 x4 x5 x6 x7 x8 x9]
  rfl

/-- The first result: the gradient of the residual stream. -/
theorem v122_at (r : Fin 4096) (j : Fin 1024) :
    val_main_v122 x0 x1 x2 x3 x4 x5 x6 x7 x8 x9 (ix2 r j)
      = dh1 (rowOf x0 x1 x2 x3 r) (weightsOf x4 x5 x6 x7 x8 x9) j := by
  unfold dh1
  rw [rowGrad_eq]
  pointwise [val_main_v1, val_main_v14, val_main_v15, val_main_cst_2, val_main_v16, val_main_v17, val_main_v20, val_main_v105,
    val_main_v106, val_main_v108, val_main_cst_28, val_main_v109, val_main_v110, val_main_v111, val_main_v112, val_main_v113,
    val_main_v114, val_main_cst_29, val_main_v115, val_main_v116, val_main_cst_30, val_main_v117, val_main_v118,
    val_main_v119, val_main_v120, val_main_v121, val_main_v122]
  simp only [Fin.sum_univ_one, v6_at x0 x1 x2 x3 x4 x5 x6 x7 x8 x9, v13_at x0 x1 x2 x3 x4 x5 x6 x7 x8 x9,
    v90_at x0 x1 x2 x3 x4 x5 x6 x7 x8 x9, v101_at x0 x1 x2 x3 x4 x5 x6 x7 x8 x9]
  rfl

/-- The second result: the gradient of the outputs of the two head groups. -/
theorem v125_at (r : Fin 4096) (k : Fin 1024) :
    val_main_v125 x0 x1 x2 x3 x4 x5 x6 x7 x8 x9 (ix2 r k)
      = dyab (rowOf x0 x1 x2 x3 r) (weightsOf x4 x5 x6 x7 x8 x9) k := by
  pointwise [val_main_v0, val_main_v125]
  simp only [v122_at x0 x1 x2 x3 x4 x5 x6 x7 x8 x9]
  rfl

/-- The third result: the gradient of the output projection, its rows in four groups. -/
theorem v127_at (s : Fin 4) (k : Fin 256) (j : Fin 1024) :
    val_main_v127 x0 x1 x2 x3 x4 x5 x6 x7 x8 x9 (ix3 s k j)
      = ∑ r, yab (rowOf x0 x1 x2 x3 r) ⟨s.val * 256 + k.val, by omega⟩ * dh1 (rowOf x0 x1 x2 x3 r) (weightsOf x4 x5 x6 x7 x8 x9) j := by
  pointwise [val_main_v123, val_main_v124, val_main_v126, val_main_v127]
  simp only [v122_at x0 x1 x2 x3 x4 x5 x6 x7 x8 x9, yab_row]
  exact Finset.sum_congr rfl fun r _ => mul_comm _ _

/-- The fourth result: the gradient of the gate's weights, their rows in four groups. -/
theorem v129_at (s : Fin 4) (k : Fin 256) (j : Fin 1024) :
    val_main_v129 x0 x1 x2 x3 x4 x5 x6 x7 x8 x9 (ix3 s k j)
      = ∑ r, n2 (rowOf x0 x1 x2 x3 r) (weightsOf x4 x5 x6 x7 x8 x9) ⟨s.val * 256 + k.val, by omega⟩ * dz (rowOf x0 x1 x2 x3 r) (weightsOf x4 x5 x6 x7 x8 x9) j := by
  pointwise [val_main_v99, val_main_v100, val_main_v128, val_main_v129]
  simp only [v95_at x0 x1 x2 x3 x4 x5 x6 x7 x8 x9, v22_at x0 x1 x2 x3 x4 x5 x6 x7 x8 x9]
  exact Finset.sum_congr rfl fun r _ => mul_comm _ _

/-- The fifth result: the gradient of the embedding's projection, its columns in four groups. -/
theorem v132_at (s : Fin 4) (k : Fin 256) (j : Fin 256) :
    val_main_v132 x0 x1 x2 x3 x4 x5 x6 x7 x8 x9 (ix3 s k j)
      = ∑ r, (rowOf x0 x1 x2 x3 r).p k * dpp (rowOf x0 x1 x2 x3 r) (weightsOf x4 x5 x6 x7 x8 x9) ⟨s.val * 256 + j.val, by omega⟩ := by
  pointwise [val_main_v93, val_main_v94, val_main_v130, val_main_v131, val_main_v132]
  simp only [v91_at x0 x1 x2 x3 x4 x5 x6 x7 x8 x9]
  exact Finset.sum_congr rfl fun r _ => mul_comm _ _

/-- Half the sum of the rows' mean square errors, as the sum over the columns times 1/2048. -/
theorem loss_eq (e : Fin 4096 → Fin 1024 → EReal) :
    Ideal.ofBits .f32 0x3F000000#32 * ∑ r, Ideal.div (∑ j, e r j) len
      = (∑ j, ∑ r, e r j) * Ideal.ofBits .f32 0x3A000000#32 := by
  simp only [div_len]
  rw [Finset.sum_comm, Common.f32_half, Common.f32_inv_2048]
  simp only [mul_comm _ ((1 / 1024 : ℝ) : EReal)]
  rw [← coe_mul_sum (by norm_num), ← mul_assoc, mul_comm (∑ r, _)]
  norm_cast
  norm_num

/-- The sixth result: the small gradients and the loss. -/
theorem v141_at (i : Fin 8) (j : Fin 1024) :
    val_main_v141 x0 x1 x2 x3 x4 x5 x6 x7 x8 x9 (ix2 i j) = small (rowOf x0 x1 x2 x3) (weightsOf x4 x5 x6 x7 x8 x9) i j := by
  pointwise [val_main_v56, val_main_cst_11, val_main_v59, val_main_cst_12, val_main_v60, val_main_v61, val_main_cst_13,
    val_main_v62, val_main_cst_14, val_main_v63, val_main_cst_15, val_main_v64, val_main_v71, val_main_cst_19, val_main_v72,
    val_main_v73, val_main_cst_20, val_main_v76, val_main_cst_24, val_main_v96, val_main_v97, val_main_cst_25, val_main_v98,
    val_main_v102, val_main_cst_26, val_main_v103, val_main_v104, val_main_cst_27, val_main_v107, val_main_v133,
    val_main_v134, val_main_v135, val_main_v136, val_main_v137, val_main_v138, val_main_v139, val_main_cst_31, val_main_v140,
    val_main_v141]
  simp only [Fin.sum_univ_one, v55_at x0 x1 x2 x3 x4 x5 x6 x7 x8 x9, v51_at x0 x1 x2 x3 x4 x5 x6 x7 x8 x9,
    v70_at x0 x1 x2 x3 x4 x5 x6 x7 x8 x9, v95_at x0 x1 x2 x3 x4 x5 x6 x7 x8 x9, v19_at x0 x1 x2 x3 x4 x5 x6 x7 x8 x9,
    v101_at x0 x1 x2 x3 x4 x5 x6 x7 x8 x9]
  unfold small
  split_ifs with h5 h0 h1 h2 h3 h4
  all_goals first | rfl | omega | exact Finset.sum_congr rfl fun r _ => mul_comm _ _ | exact loss_eq _

end Cert.Reference3Ideal.Tail

end
-- ==== Proof.Tail.Agree.lean ====
/- The claims about the tail: the three frames, and the kernel's six results equal to the reference's over the extended
   reals. -/
module

public import proofs.«01_k».proof.Defs
public import proofs.«01_k».proof.Proof.Gen.Kernel3
public import proofs.«01_k».proof.Proof.Tail.Arrays
public import proofs.«01_k».proof.Proof.Tail.Ref

@[expose] public section

noncomputable section

namespace Cert.Tail

open Idealize.ShloMosaic Idealize.ShloMosaic.TcCoe Idealize.SL.Sem
open Cert.Kernel3Ideal (S4096x1024 S4096x256 S1x1024x1024 S1x1024 S1x256x1024 S1024 S4x256x1024 S4x256x256 S8x1024)
open Cert.Kernel3Ideal.Tail (hi4)
open Cert.Reference3Ideal.Read

/-- The kernel's text is the same over bits and over the extended reals, and so is its run. -/
theorem frame_kernel3 : Cert.quiescent_Kernel3 := fun m ρ _ =>
  cast (by sl_kernel_rfl) (Cert.Kernel3Ideal.Gen.frame (F := Bits) m ρ)

theorem frame_kernel3Ideal : Cert.quiescent_Kernel3Ideal := fun m ρ _ => Cert.Kernel3Ideal.Gen.frame m ρ

theorem frame_reference3Ideal : Cert.quiescent_Reference3Ideal := fun m ρ _ =>
  (θ_run Cert.Reference3Ideal.defs _ _).mono
    (fun r h => ⟨fun c => (h c).2.2.2.2.2.2, sem_eq_zero_of_no_sems (by decide) r.2⟩)
    (Cert.Reference3Ideal.Value.run (F := Ideal) m ρ)

variable (x0 : Vec Ideal S4096x1024 .f32) (x1 : Vec Ideal S4096x256 .f32) (x2 : Vec Ideal S4096x1024 .f32)
  (x3 : Vec Ideal S4096x1024 .f32) (x4 : Vec Ideal S1x1024x1024 .f32) (x5 : Vec Ideal S1x1024 .f32)
  (x6 : Vec Ideal S1x1024x1024 .f32) (x7 : Vec Ideal S1x1024 .f32) (x8 : Vec Ideal S1x256x1024 .f32) (x9 : Vec Ideal S1024 .f32)

/-! ## The reference's results, as arrays -/

theorem v122_eq : val_main_v122 (F := Ideal) x0 x1 x2 x3 x4 x5 x6 x7 x8 x9 = (fun i => dh1 (rowOf x0 x1 x2 x3 (i 0)) (weightsOf x4 x5 x6 x7 x8 x9) (i 1) : Vec Ideal S4096x1024 .f32) := by
  funext i
  obtain ⟨r, j, rfl⟩ : ∃ (r : Fin 4096) (j : Fin 1024), i = ix2 r j := ⟨i 0, i 1, by funext a; fin_cases a <;> rfl⟩
  exact Cert.Reference3Ideal.Tail.v122_at x0 x1 x2 x3 x4 x5 x6 x7 x8 x9 r j

theorem v125_eq : val_main_v125 (F := Ideal) x0 x1 x2 x3 x4 x5 x6 x7 x8 x9 = (fun i => dyab (rowOf x0 x1 x2 x3 (i 0)) (weightsOf x4 x5 x6 x7 x8 x9) (i 1) : Vec Ideal S4096x1024 .f32) := by
  funext i
  obtain ⟨r, j, rfl⟩ : ∃ (r : Fin 4096) (j : Fin 1024), i = ix2 r j := ⟨i 0, i 1, by funext a; fin_cases a <;> rfl⟩
  exact Cert.Reference3Ideal.Tail.v125_at x0 x1 x2 x3 x4 x5 x6 x7 x8 x9 r j

theorem v127_eq : val_main_v127 (F := Ideal) x0 x1 x2 x3 x4 x5 x6 x7 x8 x9 = (fun i => ∑ r, yab (rowOf x0 x1 x2 x3 r) (⟨(i 0).val * 256 + (i 1).val, hi4 (i 0) (i 1)⟩ : Fin 1024) * dh1 (rowOf x0 x1 x2 x3 r) (weightsOf x4 x5 x6 x7 x8 x9) (i 2) : Vec Ideal S4x256x1024 .bf16) := by
  funext i
  obtain ⟨s, k, j, rfl⟩ : ∃ (s : Fin 4) (k : Fin 256) (j : Fin 1024), i = ix3 s k j := ⟨i 0, i 1, i 2, by funext a; fin_cases a <;> rfl⟩
  exact Cert.Reference3Ideal.Tail.v127_at x0 x1 x2 x3 x4 x5 x6 x7 x8 x9 s k j

theorem v129_eq : val_main_v129 (F := Ideal) x0 x1 x2 x3 x4 x5 x6 x7 x8 x9 = (fun i => ∑ r, n2 (rowOf x0 x1 x2 x3 r) (weightsOf x4 x5 x6 x7 x8 x9) (⟨(i 0).val * 256 + (i 1).val, hi4 (i 0) (i 1)⟩ : Fin 1024) * dz (rowOf x0 x1 x2 x3 r) (weightsOf x4 x5 x6 x7 x8 x9) (i 2) : Vec Ideal S4x256x1024 .bf16) := by
  funext i
  obtain ⟨s, k, j, rfl⟩ : ∃ (s : Fin 4) (k : Fin 256) (j : Fin 1024), i = ix3 s k j := ⟨i 0, i 1, i 2, by funext a; fin_cases a <;> rfl⟩
  exact Cert.Reference3Ideal.Tail.v129_at x0 x1 x2 x3 x4 x5 x6 x7 x8 x9 s k j

theorem v132_eq : val_main_v132 (F := Ideal) x0 x1 x2 x3 x4 x5 x6 x7 x8 x9 = (fun i => ∑ r, (rowOf x0 x1 x2 x3 r).p (i 1) * dpp (rowOf x0 x1 x2 x3 r) (weightsOf x4 x5 x6 x7 x8 x9) (⟨(i 0).val * 256 + (i 2).val, hi4 (i 0) (i 2)⟩ : Fin 1024) : Vec Ideal S4x256x256 .bf16) := by
  funext i
  obtain ⟨s, k, j, rfl⟩ : ∃ (s : Fin 4) (k : Fin 256) (j : Fin 256), i = ix3 s k j := ⟨i 0, i 1, i 2, by funext a; fin_cases a <;> rfl⟩
  exact Cert.Reference3Ideal.Tail.v132_at x0 x1 x2 x3 x4 x5 x6 x7 x8 x9 s k j

theorem v141_eq : val_main_v141 (F := Ideal) x0 x1 x2 x3 x4 x5 x6 x7 x8 x9 = (fun i => small (rowOf x0 x1 x2 x3) (weightsOf x4 x5 x6 x7 x8 x9) (i 0) (i 1) : Vec Ideal S8x1024 .f32) := by
  funext i
  obtain ⟨r, j, rfl⟩ : ∃ (r : Fin 8) (j : Fin 1024), i = ix2 r j := ⟨i 0, i 1, by funext a; fin_cases a <;> rfl⟩
  exact Cert.Reference3Ideal.Tail.v141_at x0 x1 x2 x3 x4 x5 x6 x7 x8 x9 r j

theorem agree : Cert.algebraic_Kernel3Ideal_Reference3Ideal := by
  intro m ρ m' ρ' _ hag
  refine ⟨_, _, _, _, _, _, Cert.Kernel3Ideal.Tail.run m ρ, (θ_run Cert.Reference3Ideal.defs _ _).mono (fun r h c => ?_)
    (Cert.Reference3Ideal.Value.run (F := Ideal) m' ρ')⟩
  obtain ⟨h1, h2, h3, h4, h5, h6, hkept⟩ := h c
  obtain ⟨e0, e1, e2, e3, e4, e5, e6, e7, e8, e9⟩ := hag c
  have a0 : StableHlo.launchContents m' c (Proc.tc.devRef Cert.Reference3Ideal.main_arg0) = m (c.tc.loc Cert.Kernel3Ideal.main_arg0) := e0
  have a1 : StableHlo.launchContents m' c (Proc.tc.devRef Cert.Reference3Ideal.main_arg1) = m (c.tc.loc Cert.Kernel3Ideal.main_arg1) := e1
  have a2 : StableHlo.launchContents m' c (Proc.tc.devRef Cert.Reference3Ideal.main_arg2) = m (c.tc.loc Cert.Kernel3Ideal.main_arg2) := e2
  have a3 : StableHlo.launchContents m' c (Proc.tc.devRef Cert.Reference3Ideal.main_arg3) = m (c.tc.loc Cert.Kernel3Ideal.main_arg3) := e3
  have a4 : StableHlo.launchContents m' c (Proc.tc.devRef Cert.Reference3Ideal.main_arg4) = m (c.tc.loc Cert.Kernel3Ideal.main_arg4) := e4
  have a5 : StableHlo.launchContents m' c (Proc.tc.devRef Cert.Reference3Ideal.main_arg5) = m (c.tc.loc Cert.Kernel3Ideal.main_arg5) := e5
  have a6 : StableHlo.launchContents m' c (Proc.tc.devRef Cert.Reference3Ideal.main_arg6) = m (c.tc.loc Cert.Kernel3Ideal.main_arg6) := e6
  have a7 : StableHlo.launchContents m' c (Proc.tc.devRef Cert.Reference3Ideal.main_arg7) = m (c.tc.loc Cert.Kernel3Ideal.main_arg7) := e7
  have a8 : StableHlo.launchContents m' c (Proc.tc.devRef Cert.Reference3Ideal.main_arg8) = m (c.tc.loc Cert.Kernel3Ideal.main_arg8) := e8
  have a9 : StableHlo.launchContents m' c (Proc.tc.devRef Cert.Reference3Ideal.main_arg9) = m (c.tc.loc Cert.Kernel3Ideal.main_arg9) := e9
  refine ⟨h1.trans ?_, h2.trans ?_, h3.trans ?_, h4.trans ?_, h5.trans ?_, h6.trans ?_, hkept⟩
  · rw [val_main_v122_eq, a0, a1, a2, a3, a4, a5, a6, a7, a8, a9, v122_eq]
    rfl
  · rw [val_main_v125_eq, a0, a1, a2, a3, a4, a5, a6, a7, a8, a9, v125_eq]
    rfl
  · rw [val_main_v127_eq, a0, a1, a2, a3, a4, a5, a6, a7, a8, a9, v127_eq]
    rfl
  · rw [val_main_v129_eq, a0, a1, a2, a3, a4, a5, a6, a7, a8, a9, v129_eq]
    rfl
  · rw [val_main_v132_eq, a0, a1, a2, a3, a4, a5, a6, a7, a8, a9, v132_eq]
    rfl
  · rw [val_main_v141_eq, a0, a1, a2, a3, a4, a5, a6, a7, a8, a9, v141_eq]
    rfl

end Cert.Tail

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4.Skeleton
public import proofs.«01_k».proof.Proof.Gen.Kernel4Ideal
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.RglruForward.Claims
public import proofs.«01_k».proof.Proof.Hgrn2Forward.Claims
public import proofs.«01_k».proof.Proof.Norm.Agree
public import proofs.«01_k».proof.Proof.Gen.Pre_finite_inputs
public import proofs.«01_k».proof.Proof.Rglru.Claims
public import proofs.«01_k».proof.Proof.Rglru.Agree
public import proofs.«01_k».proof.Proof.Hgrn2.Claims
public import proofs.«01_k».proof.Proof.Tail.Agree

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite_inputs.Gen.facts,
  Cert.Norm.frame_kernel, Cert.Norm.frame_kernelIdeal, Cert.Norm.frame_referenceIdeal,
  Cert.Rglru.frame_kernel2, Cert.Rglru.frame_kernel2Ideal, Cert.Rglru.frame_kernel2Ideal_finite, Cert.Rglru.frame_reference2Ideal,
  Cert.Rglru.frame_reference2Ideal_finite,
  Cert.Tail.frame_kernel3, Cert.Tail.frame_kernel3Ideal, Cert.Tail.frame_reference3Ideal,
  Cert.Hgrn2.frame_kernel4, Cert.Hgrn2.frame_kernel4Ideal, Cert.Hgrn2.frame_reference4Ideal,
  Cert.RglruForward.frame_kernel5, Cert.RglruForward.frame_kernel5Ideal, Cert.RglruForward.frame_reference5Ideal,
  Cert.Hgrn2Forward.frame_kernel6, Cert.Hgrn2Forward.frame_kernel6Ideal, Cert.Hgrn2Forward.frame_reference6Ideal,
  trivial, Cert.Norm.agree, trivial, Cert.Rglru.agree, trivial, Cert.Tail.agree, trivial, trivial, trivial⟩

end Cert.Proof

end
